-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v27) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v62_15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x128 : Shape := ⟨3, ![16, 1024, 128]⟩
abbrev S16x1024x1024 : Shape := ⟨3, ![16, 1024, 1024]⟩
abbrev S16x1024 : Shape := ⟨2, ![16, 1024]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S384x128 : Shape := ⟨2, ![384, 128]⟩
abbrev S384 : Shape := ⟨1, ![384]⟩
abbrev S_ : Shape := ⟨0, ![]⟩

class Facts : Prop where
  bcast_S_S16x1024x128 : S_.BroadcastsInDim S16x1024x128 (![] : Fin 0 → Fin S16x1024x128.rank)
  reducesTo_S16x1024x128_S_d0_1_2 : S16x1024x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S1 .f32) (main_arg7 : FVec F S128x128 .f32) (main_arg8 : FVec F S128 .f32) (main_v3 : IVec S_ 1) (main_v7 : IVec S_ 1) (main_v11 : IVec S_ 1) (main_v15 : IVec S_ 1) : IVec S_ 1 :=
  let main_v16 : FVec F S1 .f32 := Host.absf main_arg6
  let main_cst_6 : FVec F S_ .f32 := constant S_ .f32 0x7F800000#32
  let main_v17 : FVec F S1 .f32 := broadcastInDim S1 ![] bcast_S_S1 main_cst_6
  let main_v18 : IVec S1 1 := cmpf .olt main_v16 main_v17
  let main_c_7 : IVec S_ 1 := constantI S_ 1 1#1
  let main_v19 : IVec S_ 1 := (fun x v => Host.reduce IntOp.andi x v reducesTo_S1_S_d0 h_S_) main_v18 main_c_7
  let main_v20 : FVec F S128x128 .f32 := Host.absf main_arg7
  let main_cst_8 : FVec F S_ .f32 := constant S_ .f32 0x7F800000#32
  let main_v21 : FVec F S128x128 .f32 := broadcastInDim S128x128 ![] bcast_S_S128x128 main_cst_8
  let main_v22 : IVec S128x128 1 := cmpf .olt main_v20 main_v21
  let main_c_9 : IVec S_ 1 := constantI S_ 1 1#1
  let main_v23 : IVec S_ 1 := (fun x v => Host.reduce IntOp.andi x v reducesTo_S128x128_S_d0_1 h_S_) main_v22 main_c_9
  let main_v24 : FVec F S128 .f32 := Host.absf main_arg8
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S16x1024x128 .f32) (main_arg1 : FVec F S16x1024x1024 .f32) (main_arg2 : IVec S16x1024 1) (main_arg3 : FVec F S256x128 .f32) (main_arg4 : FVec F S128 .f32) (main_arg5 : FVec F S128x1 .f32) (main_arg6 : FVec F S1 .f32) (main_arg7 : FVec F S128x128 .f32) (main_arg8 : FVec F S128 .f32) (main_arg9 : FVec F S384x128 .f32) (main_arg10 : FVec F S384x128 .f32) (main_arg11 : FVec F S384 .f32) (main_arg12 : FVec F S384 .f32) : IVec S_ 1 :=
  let main_v0 : FVec F S16x1024x128 .f32 := Host.absf main_arg0
  let main_cst : FVec F S_ .f32 := constant S_ .f32 0x7F800000#32
  let main_v1 : FVec F S16x1024x128 .f32 := broadcastInDim S16x1024x128 ![] bcast_S_S16x1024x128 main_cst
  let main_v2 : IVec S16x1024x128 1 := cmpf .olt main_v0 main_v1
  let main_c : IVec S_ 1 := constantI S_ 1 1#1
  let main_v3 : IVec S_ 1 := (fun x v => Host.reduce IntOp.andi x v reducesTo_S16x1024x128_S_d0_1_2 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : FVec F S128 .f32 := Host.absf main_arg4
  let main_cst_2 : FVec F S_ .f32 := constant S_ .f32 0x7F800000#32
  let main_v9 : FVec F S128 .f32 := broadcastInDim S128 ![] bcast_S_S128 main_cst_2
  let main_v10 : IVec S128 1 := cmpf .olt main_v8 main_v9
  let main_c_3 : IVec S_ 1 := constantI S_ 1 1#1
  let main_v11 : IVec S_ 1 := (fun x v => Host.reduce IntOp.andi x v reducesTo_S128_S_d0 h_S_) main_v10 main_c_3
  let main_v12 : FVec F S128x1 .f32 := Host.absf main_arg5
  let main_cst_4 : FVec F S_ .f32 := constant S_ .f32 0x7F800000#32
  let main_v13 : FVec F S128x1 .f32 := broadcastInDim S128x1 ![] bcast_S_S128x1 main_cst_4
  let main_v14 : IVec S128x1 1 := cmpf .olt main_v12 main_v13
  let main_c_5 : IVec S_ 1 := constantI S_ 1 1#1
  let main_v15 : IVec S_ 1 := (fun x v => Host.reduce IntOp.andi x v reducesTo_S128x1_S_d0_1 h_S_) main_v14 main_c_5
  fn_part1 (F := F) main_arg6 main_arg7 main_arg8 main_v3 main_v7 main_v11 main_v15
-- ==== Kernel.lean ====
abbrev S16x1024x128 : Shape := ⟨3, ![16, 1024, 128]⟩
abbrev S16x1024x1024 : Shape := ⟨3, ![16, 1024, 1024]⟩
abbrev S16x1024 : Shape := ⟨2, ![16, 1024]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S384x128 : Shape := ⟨2, ![384, 128]⟩
abbrev S384 : Shape := ⟨1, ![384]⟩
abbrev S_ : Shape := ⟨0, ![]⟩
abbrev S2 : Shape := ⟨1, ![2]⟩
abbrev S1x1x1 : Shape := ⟨3, ![1, 1, 1]⟩
abbrev S16x16x1024 : Shape := ⟨3, ![16, 16, 1024]⟩
abbrev S1x128 : Shape := ⟨2, ![1, 128]⟩
abbrev S128x384 : Shape := ⟨2, ![128, 384]⟩
abbrev S1x384 : Shape := ⟨2, ![1, 384]⟩
abbrev S16x16x128 : Shape := ⟨3, ![16, 16, 128]⟩
abbrev S16384x128 : Shape := ⟨2, ![16384, 128]⟩
abbrev S16x128 : Shape := ⟨2, ![16, 128]⟩
abbrev S16x1x128 : Shape := ⟨3, ![16, 1, 128]⟩
abbrev S16384x1 : Shape := ⟨2, ![16384, 1]⟩
abbrev S1x16x1024 : Shape := ⟨3, ![1, 16, 1024]⟩
abbrev S16x512 : Shape := ⟨2, ![16, 512]⟩
abbrev S16x256 : Shape := ⟨2, ![16, 256]⟩
abbrev S128x16 : Shape := ⟨2, ![128, 16]⟩
abbrev S64x16 : Shape := ⟨2, ![64, 16]⟩
abbrev S32x16 : Shape := ⟨2, ![32, 16]⟩
abbrev S16x16 : Shape := ⟨2, ![16, 16]⟩
abbrev S8x16 : Shape := ⟨2, ![8, 16]⟩
abbrev S4x16 : Shape := ⟨2, ![4, 16]⟩
abbrev S2x16 : Shape := ⟨2, ![2, 16]⟩
abbrev S1x16 : Shape := ⟨2, ![1, 16]⟩
abbrev S16 : Shape := ⟨1, ![16]⟩
abbrev S16x1 : Shape := ⟨2, ![16, 1]⟩
abbrev S1x1 : Shape := ⟨2, ![1, 1]⟩
abbrev S1x1x128 : Shape := ⟨3, ![1, 1, 128]⟩
abbrev S16x384 : Shape := ⟨2, ![16, 384]⟩
abbrev S1x16x128 : Shape := ⟨3, ![1, 16, 128]⟩
abbrev S16x1024x16 : Shape := ⟨3, ![16, 1024, 16]⟩
abbrev S16x16x16 : Shape := ⟨3, ![16, 16, 16]⟩
abbrev S1x16x16 : Shape := ⟨3, ![1, 16, 16]⟩

abbrev nBuf : Space → Nat
  | .hbm => 327
  | .vmem => 16
  | .smem => 0
  | _ => 0

abbrev hbmTy0_0 (i : Nat) : BufTy := match i % 128 with
  | 0 => ⟨S16x1024x128, .f32⟩
  | 1 => ⟨S16x1024x1024, .f32⟩
  | 2 => ⟨S16x1024, .i1⟩
  | 3 => ⟨S256x128, .f32⟩
  | 4 => ⟨S128, .f32⟩
  | 5 => ⟨S128x1, .f32⟩
  | 6 => ⟨S1, .f32⟩
  | 7 => ⟨S128x128, .f32⟩
  | 8 => ⟨S128, .f32⟩
  | 9 => ⟨S384x128, .f32⟩
  | 10 => ⟨S384x128, .f32⟩
  | 11 => ⟨S384, .f32⟩
  | 12 => ⟨S384, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S_, .f32⟩
  | 24 => ⟨S_, .f32⟩
  | 25 => ⟨S_, .f32⟩
  | 26 => ⟨S_, .f32⟩
  | 27 => ⟨S1x1x1, .f32⟩
  | 28 => ⟨S1x1x1, .f32⟩
  | 29 => ⟨S1, .i32⟩
  | 30 => ⟨S_, .i32⟩
  | 31 => ⟨S1, .i32⟩
  | 32 => ⟨S_, .i32⟩
  | 33 => ⟨S16x16x1024, .i64⟩
  | 34 => ⟨S16x16x1024, .i64⟩
  | 35 => ⟨S16x16x1024, .i64⟩
  | 36 => ⟨S_, .i64⟩
  | 37 => ⟨S16x16x1024, .i64⟩
  | 38 => ⟨S16x16x1024, .i64⟩
  | 39 => ⟨S_, .i64⟩
  | 40 => ⟨S16x16x1024, .i64⟩
  | 41 => ⟨S16x16x1024, .i64⟩
  | 42 => ⟨S_, .i64⟩
  | 43 => ⟨S16x16x1024, .i64⟩
  | 44 => ⟨S16x16x1024, .i64⟩
  | 45 => ⟨S16x16x1024, .i64⟩
  | 46 => ⟨S16x16x1024, .i64⟩
  | 47 => ⟨S_, .i64⟩
  | 48 => ⟨S16x16x1024, .i64⟩
  | 49 => ⟨S16x16x1024, .i64⟩
  | 50 => ⟨S16x16x1024, .i32⟩
  | 51 => ⟨S16x16x1024, .i32⟩
  | 52 => ⟨S_, .i32⟩
  | 53 => ⟨S_, .i32⟩
  | 54 => ⟨S_, .i32⟩
  | 55 => ⟨S16x16x1024, .i32⟩
  | 56 => ⟨S16x16x1024, .i32⟩
  | 57 => ⟨S16x16x1024, .i32⟩
  | 58 => ⟨S16x16x1024, .i32⟩
  | 59 => ⟨S16x16x1024, .i32⟩
  | 60 => ⟨S_, .i32⟩
  | 61 => ⟨S16x16x1024, .i32⟩
  | 62 => ⟨S16x16x1024, .i32⟩
  | 63 => ⟨S_, .i32⟩
  | 64 => ⟨S16x16x1024, .i32⟩
  | 65 => ⟨S16x16x1024, .i32⟩
  | 66 => ⟨S16x16x1024, .i32⟩
  | 67 => ⟨S16x16x1024, .i32⟩
  | 68 => ⟨S16x16x1024, .i32⟩
  | 69 => ⟨S_, .i32⟩
  | 70 => ⟨S16x16x1024, .i32⟩
  | 71 => ⟨S16x16x1024, .i32⟩
  | 72 => ⟨S_, .i32⟩
  | 73 => ⟨S16x16x1024, .i32⟩
  | 74 => ⟨S16x16x1024, .i32⟩
  | 75 => ⟨S16x16x1024, .i32⟩
  | 76 => ⟨S16x16x1024, .i32⟩
  | 77 => ⟨S16x16x1024, .i32⟩
  | 78 => ⟨S_, .i32⟩
  | 79 => ⟨S16x16x1024, .i32⟩
  | 80 => ⟨S16x16x1024, .i32⟩
  | 81 => ⟨S_, .i32⟩
  | 82 => ⟨S16x16x1024, .i32⟩
  | 83 => ⟨S16x16x1024, .i32⟩
  | 84 => ⟨S16x16x1024, .i32⟩
  | 85 => ⟨S16x16x1024, .i32⟩
  | 86 => ⟨S16x16x1024, .i32⟩
  | 87 => ⟨S_, .i32⟩
  | 88 => ⟨S16x16x1024, .i32⟩
  | 89 => ⟨S16x16x1024, .i32⟩
  | 90 => ⟨S_, .i32⟩
  | 91 => ⟨S16x16x1024, .i32⟩
  | 92 => ⟨S16x16x1024, .i32⟩
  | 93 => ⟨S16x16x1024, .i32⟩
  | 94 => ⟨S16x16x1024, .i32⟩
  | 95 => ⟨S16x16x1024, .i32⟩
  | 96 => ⟨S16x16x1024, .i32⟩
  | 97 => ⟨S16x16x1024, .i32⟩
  | 98 => ⟨S16x16x1024, .i32⟩
  | 99 => ⟨S_, .i32⟩
  | 100 => ⟨S16x16x1024, .i32⟩
  | 101 => ⟨S16x16x1024, .i32⟩
  | 102 => ⟨S16x16x1024, .i32⟩
  | 103 => ⟨S_, .i32⟩
  | 104 => ⟨S16x16x1024, .i32⟩
  | 105 => ⟨S16x16x1024, .i32⟩
  | 106 => ⟨S_, .i32⟩
  | 107 => ⟨S16x16x1024, .i32⟩
  | 108 => ⟨S16x16x1024, .i32⟩
  | 109 => ⟨S16x16x1024, .i32⟩
  | 110 => ⟨S16x16x1024, .i32⟩
  | 111 => ⟨S16x16x1024, .i32⟩
  | 112 => ⟨S_, .i32⟩
  | 113 => ⟨S16x16x1024, .i32⟩
  | 114 => ⟨S16x16x1024, .i32⟩
  | 115 => ⟨S_, .i32⟩
  | 116 => ⟨S16x16x1024, .i32⟩
  | 117 => ⟨S16x16x1024, .i32⟩
  | 118 => ⟨S16x16x1024, .i32⟩
  | 119 => ⟨S16x16x1024, .i32⟩
  | 120 => ⟨S16x16x1024, .i32⟩
  | 121 => ⟨S_, .i32⟩
  | 122 => ⟨S16x16x1024, .i32⟩
  | 123 => ⟨S16x16x1024, .i32⟩
  | 124 => ⟨S_, .i32⟩
  | 125 => ⟨S16x16x1024, .i32⟩
  | 126 => ⟨S16x16x1024, .i32⟩
  | 127 => ⟨S16x16x1024, .i32⟩
  | _ => ⟨S16x1024x128, .f32⟩

abbrev hbmTy0_1 (i : Nat) : BufTy := match i % 128 with
  | 0 => ⟨S16x16x1024, .i32⟩
  | 1 => ⟨S16x16x1024, .i32⟩
  | 2 => ⟨S_, .i32⟩
  | 3 => ⟨S16x16x1024, .i32⟩
  | 4 => ⟨S16x16x1024, .i32⟩
  | 5 => ⟨S_, .i32⟩
  | 6 => ⟨S16x16x1024, .i32⟩
  | 7 => ⟨S16x16x1024, .i32⟩
  | 8 => ⟨S16x16x1024, .i32⟩
  | 9 => ⟨S16x16x1024, .i32⟩
  | 10 => ⟨S16x16x1024, .i32⟩
  | 11 => ⟨S16x16x1024, .i32⟩
  | 12 => ⟨S16x16x1024, .i32⟩
  | 13 => ⟨S16x16x1024, .i32⟩
  | 14 => ⟨S_, .i32⟩
  | 15 => ⟨S16x16x1024, .i32⟩
  | 16 => ⟨S16x16x1024, .i32⟩
  | 17 => ⟨S16x16x1024, .i32⟩
  | 18 => ⟨S_, .i32⟩
  | 19 => ⟨S16x16x1024, .i32⟩
  | 20 => ⟨S16x16x1024, .i32⟩
  | 21 => ⟨S_, .i32⟩
  | 22 => ⟨S16x16x1024, .i32⟩
  | 23 => ⟨S16x16x1024, .i32⟩
  | 24 => ⟨S16x16x1024, .i32⟩
  | 25 => ⟨S16x16x1024, .i32⟩
  | 26 => ⟨S16x16x1024, .i32⟩
  | 27 => ⟨S_, .i32⟩
  | 28 => ⟨S16x16x1024, .i32⟩
  | 29 => ⟨S16x16x1024, .i32⟩
  | 30 => ⟨S_, .i32⟩
  | 31 => ⟨S16x16x1024, .i32⟩
  | 32 => ⟨S16x16x1024, .i32⟩
  | 33 => ⟨S16x16x1024, .i32⟩
  | 34 => ⟨S16x16x1024, .i32⟩
  | 35 => ⟨S16x16x1024, .i32⟩
  | 36 => ⟨S_, .i32⟩
  | 37 => ⟨S16x16x1024, .i32⟩
  | 38 => ⟨S16x16x1024, .i32⟩
  | 39 => ⟨S_, .i32⟩
  | 40 => ⟨S16x16x1024, .i32⟩
  | 41 => ⟨S16x16x1024, .i32⟩
  | 42 => ⟨S16x16x1024, .i32⟩
  | 43 => ⟨S16x16x1024, .i32⟩
  | 44 => ⟨S16x16x1024, .i32⟩
  | 45 => ⟨S_, .i32⟩
  | 46 => ⟨S16x16x1024, .i32⟩
  | 47 => ⟨S16x16x1024, .i32⟩
  | 48 => ⟨S_, .i32⟩
  | 49 => ⟨S16x16x1024, .i32⟩
  | 50 => ⟨S16x16x1024, .i32⟩
  | 51 => ⟨S16x16x1024, .i32⟩
  | 52 => ⟨S16x16x1024, .i32⟩
  | 53 => ⟨S16x16x1024, .i32⟩
  | 54 => ⟨S16x16x1024, .i32⟩
  | 55 => ⟨S16x16x1024, .i32⟩
  | 56 => ⟨S16x16x1024, .i32⟩
  | 57 => ⟨S_, .i32⟩
  | 58 => ⟨S16x16x1024, .i32⟩
  | 59 => ⟨S16x16x1024, .i32⟩
  | 60 => ⟨S16x16x1024, .i32⟩
  | 61 => ⟨S_, .i32⟩
  | 62 => ⟨S16x16x1024, .i32⟩
  | 63 => ⟨S16x16x1024, .i32⟩
  | 64 => ⟨S_, .i32⟩
  | 65 => ⟨S16x16x1024, .i32⟩
  | 66 => ⟨S16x16x1024, .i32⟩
  | 67 => ⟨S16x16x1024, .i32⟩
  | 68 => ⟨S16x16x1024, .i32⟩
  | 69 => ⟨S16x16x1024, .i32⟩
  | 70 => ⟨S_, .i32⟩
  | 71 => ⟨S16x16x1024, .i32⟩
  | 72 => ⟨S16x16x1024, .i32⟩
  | 73 => ⟨S_, .i32⟩
  | 74 => ⟨S16x16x1024, .i32⟩
  | 75 => ⟨S16x16x1024, .i32⟩
  | 76 => ⟨S16x16x1024, .i32⟩
  | 77 => ⟨S16x16x1024, .i32⟩
  | 78 => ⟨S16x16x1024, .i32⟩
  | 79 => ⟨S_, .i32⟩
  | 80 => ⟨S16x16x1024, .i32⟩
  | 81 => ⟨S16x16x1024, .i32⟩
  | 82 => ⟨S_, .i32⟩
  | 83 => ⟨S16x16x1024, .i32⟩
  | 84 => ⟨S16x16x1024, .i32⟩
  | 85 => ⟨S16x16x1024, .i32⟩
  | 86 => ⟨S16x16x1024, .i32⟩
  | 87 => ⟨S16x16x1024, .i32⟩
  | 88 => ⟨S_, .i32⟩
  | 89 => ⟨S16x16x1024, .i32⟩
  | 90 => ⟨S16x16x1024, .i32⟩
  | 91 => ⟨S_, .i32⟩
  | 92 => ⟨S16x16x1024, .i32⟩
  | 93 => ⟨S16x16x1024, .i32⟩
  | 94 => ⟨S16x16x1024, .i32⟩
  | 95 => ⟨S16x16x1024, .i32⟩
  | 96 => ⟨S16x16x1024, .i32⟩
  | 97 => ⟨S16x16x1024, .i32⟩
  | 98 => ⟨S16x16x1024, .i32⟩
  | 99 => ⟨S16x16x1024, .i32⟩
  | 100 => ⟨S_, .i32⟩
  | 101 => ⟨S16x16x1024, .i32⟩
  | 102 => ⟨S16x16x1024, .i32⟩
  | 103 => ⟨S16x16x1024, .i32⟩
  | 104 => ⟨S_, .i32⟩
  | 105 => ⟨S16x16x1024, .i32⟩
  | 106 => ⟨S16x16x1024, .i32⟩
  | 107 => ⟨S_, .i32⟩
  | 108 => ⟨S16x16x1024, .i32⟩
  | 109 => ⟨S16x16x1024, .i32⟩
  | 110 => ⟨S16x16x1024, .i32⟩
  | 111 => ⟨S16x16x1024, .i32⟩
  | 112 => ⟨S16x16x1024, .i32⟩
  | 113 => ⟨S_, .i32⟩
  | 114 => ⟨S16x16x1024, .i32⟩
  | 115 => ⟨S16x16x1024, .i32⟩
  | 116 => ⟨S_, .i32⟩
  | 117 => ⟨S16x16x1024, .i32⟩
  | 118 => ⟨S16x16x1024, .i32⟩
  | 119 => ⟨S16x16x1024, .i32⟩
  | 120 => ⟨S16x16x1024, .i32⟩
  | 121 => ⟨S16x16x1024, .i32⟩
  | 122 => ⟨S_, .i32⟩
  | 123 => ⟨S16x16x1024, .i32⟩
  | 124 => ⟨S16x16x1024, .i32⟩
  | 125 => ⟨S_, .i32⟩
  | 126 => ⟨S16x16x1024, .i32⟩
  | 127 => ⟨S16x16x1024, .i32⟩
  | _ => ⟨S16x1024x128, .f32⟩

abbrev hbmTy0_2 (i : Nat) : BufTy := match i % 128 with
  | 0 => ⟨S16x16x1024, .i32⟩
  | 1 => ⟨S16x16x1024, .i32⟩
  | 2 => ⟨S16x16x1024, .i32⟩
  | 3 => ⟨S_, .i32⟩
  | 4 => ⟨S16x16x1024, .i32⟩
  | 5 => ⟨S16x16x1024, .i32⟩
  | 6 => ⟨S_, .i32⟩
  | 7 => ⟨S16x16x1024, .i32⟩
  | 8 => ⟨S16x16x1024, .i32⟩
  | 9 => ⟨S16x16x1024, .i32⟩
  | 10 => ⟨S16x16x1024, .i32⟩
  | 11 => ⟨S16x16x1024, .i32⟩
  | 12 => ⟨S16x16x1024, .i32⟩
  | 13 => ⟨S16x16x1024, .i32⟩
  | 14 => ⟨S16x16x1024, .i32⟩
  | 15 => ⟨S_, .i32⟩
  | 16 => ⟨S16x16x1024, .i32⟩
  | 17 => ⟨S16x16x1024, .i32⟩
  | 18 => ⟨S16x16x1024, .i32⟩
  | 19 => ⟨S_, .i32⟩
  | 20 => ⟨S16x16x1024, .i32⟩
  | 21 => ⟨S16x16x1024, .i32⟩
  | 22 => ⟨S_, .i32⟩
  | 23 => ⟨S16x16x1024, .i32⟩
  | 24 => ⟨S16x16x1024, .i32⟩
  | 25 => ⟨S16x16x1024, .f32⟩
  | 26 => ⟨S_, .f32⟩
  | 27 => ⟨S16x16x1024, .f32⟩
  | 28 => ⟨S16x16x1024, .f32⟩
  | 29 => ⟨S1x1x1, .f32⟩
  | 30 => ⟨S16x16x1024, .f32⟩
  | 31 => ⟨S16x16x1024, .f32⟩
  | 32 => ⟨S16x16x1024, .f32⟩
  | 33 => ⟨S16x16x1024, .f32⟩
  | 34 => ⟨S16x16x1024, .f32⟩
  | 35 => ⟨S16x16x1024, .f32⟩
  | 36 => ⟨S_, .f32⟩
  | 37 => ⟨S16x16x1024, .f32⟩
  | 38 => ⟨S16x16x1024, .f32⟩
  | 39 => ⟨S16x16x1024, .f32⟩
  | 40 => ⟨S16x16x1024, .f32⟩
  | 41 => ⟨S_, .f32⟩
  | 42 => ⟨S16x16x1024, .f32⟩
  | 43 => ⟨S16x16x1024, .f32⟩
  | 44 => ⟨S16x16x1024, .f32⟩
  | 45 => ⟨S16x16x1024, .f32⟩
  | 46 => ⟨S16x1024, .f32⟩
  | 47 => ⟨S128x128, .f32⟩
  | 48 => ⟨S128x128, .f32⟩
  | 49 => ⟨S1x128, .f32⟩
  | 50 => ⟨S1x128, .f32⟩
  | 51 => ⟨S128x384, .f32⟩
  | 52 => ⟨S128x384, .f32⟩
  | 53 => ⟨S1x384, .f32⟩
  | 54 => ⟨S1x384, .f32⟩
  | 55 => ⟨S16x16x128, .f32⟩
  | 56 => ⟨S16x16x1024, .f32⟩
  | 57 => ⟨S16x16x128, .f32⟩
  | 58 => ⟨S16x1024x16, .f32⟩
  | 59 => ⟨S_, .f32⟩
  | 60 => ⟨S16x16x16, .f32⟩
  | 61 => ⟨S16x16, .i32⟩
  | 62 => ⟨S16x16, .i32⟩
  | 63 => ⟨S_, .i32⟩
  | 64 => ⟨S16x16, .i32⟩
  | 65 => ⟨S16x16, .i32⟩
  | 66 => ⟨S16x16, .i1⟩
  | 67 => ⟨S16x16, .f32⟩
  | 68 => ⟨S1x16x16, .f32⟩
  | 69 => ⟨S16x16x16, .f32⟩
  | 70 => ⟨S16x16x16, .f32⟩
  | _ => ⟨S16x1024x128, .f32⟩

abbrev hbmTy (i : Nat) : BufTy := match i / 128 with
  | 0 => hbmTy0_0 i
  | 1 => hbmTy0_1 i
  | 2 => hbmTy0_2 i
  | _ => ⟨S16x1024x128, .f32⟩

abbrev bufTy : (tb : Table) → Fin (tcTables nBuf tb) → BufTy
  | .hbm, ⟨i, _⟩ => hbmTy i
  | .local _ .vmem, ⟨0, _⟩ => ⟨S16x1024x128, .f32⟩
  | .local _ .vmem, ⟨1, _⟩ => ⟨S16x16x1024, .f32⟩
  | .local _ .vmem, ⟨2, _⟩ => ⟨S16x1024, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S128x1, .f32⟩
  | .local _ .vmem, ⟨7, _⟩ => ⟨S128x128, .f32⟩
  | .local _ .vmem, ⟨8, _⟩ => ⟨S1x128, .f32⟩
  | .local _ .vmem, ⟨9, _⟩ => ⟨S128x384, .f32⟩
  | .local _ .vmem, ⟨10, _⟩ => ⟨S128x384, .f32⟩
  | .local _ .vmem, ⟨11, _⟩ => ⟨S1x384, .f32⟩
  | .local _ .vmem, ⟨12, _⟩ => ⟨S1x384, .f32⟩
  | .local _ .vmem, ⟨13, _⟩ => ⟨S16x16x128, .f32⟩
  | .local _ .vmem, ⟨14, _⟩ => ⟨S16x16x1024, .f32⟩
  | .local _ .vmem, ⟨15, _⟩ => ⟨S16x1024x128, .f32⟩
  | _, _ => ⟨S16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_c : Ref sig .tc := ⟨.hbm, 36, rfl⟩
abbrev main_call0_v11 : Ref sig .tc := ⟨.hbm, 37, rfl⟩
abbrev main_call0_v12 : Ref sig .tc := ⟨.hbm, 38, rfl⟩
abbrev main_call0_c_0 : Ref sig .tc := ⟨.hbm, 39, rfl⟩
abbrev main_call0_v13 : Ref sig .tc := ⟨.hbm, 40, rfl⟩
abbrev main_call0_v14 : Ref sig .tc := ⟨.hbm, 41, rfl⟩
abbrev main_call0_c_1 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_c_2 : Ref sig .tc := ⟨.hbm, 47, rfl⟩
abbrev main_call0_v19 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_call0_call0_v0 : Ref sig .tc := ⟨.hbm, 52, rfl⟩
abbrev main_call0_call0_c : Ref sig .tc := ⟨.hbm, 53, rfl⟩
abbrev main_call0_call0_v1 : Ref sig .tc := ⟨.hbm, 54, rfl⟩
abbrev main_call0_call0_v2 : Ref sig .tc := ⟨.hbm, 55, rfl⟩
abbrev main_call0_call0_v3 : Ref sig .tc := ⟨.hbm, 56, rfl⟩
abbrev main_call0_call0_v4 : Ref sig .tc := ⟨.hbm, 57, rfl⟩
abbrev main_call0_call0_v5 : Ref sig .tc := ⟨.hbm, 58, rfl⟩
abbrev main_call0_call0_v6 : Ref sig .tc := ⟨.hbm, 59, rfl⟩
abbrev main_call0_call0_c_0 : Ref sig .tc := ⟨.hbm, 60, rfl⟩
abbrev main_call0_call0_v7 : Ref sig .tc := ⟨.hbm, 61, rfl⟩
abbrev main_call0_call0_v8 : Ref sig .tc := ⟨.hbm, 62, rfl⟩
abbrev main_call0_call0_c_1 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_call0_v12 : Ref sig .tc := ⟨.hbm, 67, rfl⟩
abbrev main_call0_call0_v13 : Ref sig .tc := ⟨.hbm, 68, rfl⟩
abbrev main_call0_call0_c_2 : Ref sig .tc := ⟨.hbm, 69, rfl⟩
abbrev main_call0_call0_v14 : Ref sig .tc := ⟨.hbm, 70, rfl⟩
abbrev main_call0_call0_v15 : Ref sig .tc := ⟨.hbm, 71, rfl⟩
abbrev main_call0_call0_c_3 : Ref sig .tc := ⟨.hbm, 72, rfl⟩
abbrev main_call0_call0_v16 : Ref sig .tc := ⟨.hbm, 73, rfl⟩
abbrev main_call0_call0_v17 : Ref sig .tc := ⟨.hbm, 74, rfl⟩
abbrev main_call0_call0_v18 : Ref sig .tc := ⟨.hbm, 75, rfl⟩
abbrev main_call0_call0_v19 : Ref sig .tc := ⟨.hbm, 76, rfl⟩
abbrev main_call0_call0_v20 : Ref sig .tc := ⟨.hbm, 77, rfl⟩
abbrev main_call0_call0_c_4 : Ref sig .tc := ⟨.hbm, 78, rfl⟩
abbrev main_call0_call0_v21 : Ref sig .tc := ⟨.hbm, 79, rfl⟩
abbrev main_call0_call0_v22 : Ref sig .tc := ⟨.hbm, 80, rfl⟩
abbrev main_call0_call0_c_5 : Ref sig .tc := ⟨.hbm, 81, rfl⟩
abbrev main_call0_call0_v23 : Ref sig .tc := ⟨.hbm, 82, rfl⟩
abbrev main_call0_call0_v24 : Ref sig .tc := ⟨.hbm, 83, rfl⟩
abbrev main_call0_call0_v25 : Ref sig .tc := ⟨.hbm, 84, rfl⟩
abbrev main_call0_call0_v26 : Ref sig .tc := ⟨.hbm, 85, rfl⟩
abbrev main_call0_call0_v27 : Ref sig .tc := ⟨.hbm, 86, rfl⟩
abbrev main_call0_call0_c_6 : Ref sig .tc := ⟨.hbm, 87, rfl⟩
abbrev main_call0_call0_v28 : Ref sig .tc := ⟨.hbm, 88, rfl⟩
abbrev main_call0_call0_v29 : Ref sig .tc := ⟨.hbm, 89, rfl⟩
abbrev main_call0_call0_c_7 : Ref sig .tc := ⟨.hbm, 90, rfl⟩
abbrev main_call0_call0_v30 : Ref sig .tc := ⟨.hbm, 91, rfl⟩
abbrev main_call0_call0_v31 : Ref sig .tc := ⟨.hbm, 92, rfl⟩
abbrev main_call0_call0_v32 : Ref sig .tc := ⟨.hbm, 93, rfl⟩
abbrev main_call0_call0_v33 : Ref sig .tc := ⟨.hbm, 94, rfl⟩
abbrev main_call0_call0_v34 : Ref sig .tc := ⟨.hbm, 95, rfl⟩
abbrev main_call0_call0_v35 : Ref sig .tc := ⟨.hbm, 96, rfl⟩
abbrev main_call0_call0_v36 : Ref sig .tc := ⟨.hbm, 97, rfl⟩
abbrev main_call0_call0_v37 : Ref sig .tc := ⟨.hbm, 98, rfl⟩
abbrev main_call0_call0_c_8 : Ref sig .tc := ⟨.hbm, 99, rfl⟩
abbrev main_call0_call0_v38 : Ref sig .tc := ⟨.hbm, 100, rfl⟩
abbrev main_call0_call0_v39 : Ref sig .tc := ⟨.hbm, 101, rfl⟩
abbrev main_call0_call0_v40 : Ref sig .tc := ⟨.hbm, 102, rfl⟩
abbrev main_call0_call0_c_9 : Ref sig .tc := ⟨.hbm, 103, rfl⟩
abbrev main_call0_call0_v41 : Ref sig .tc := ⟨.hbm, 104, rfl⟩
abbrev main_call0_call0_v42 : Ref sig .tc := ⟨.hbm, 105, rfl⟩
abbrev main_call0_call0_c_10 : Ref sig .tc := ⟨.hbm, 106, rfl⟩
abbrev main_call0_call0_v43 : Ref sig .tc := ⟨.hbm, 107, rfl⟩
abbrev main_call0_call0_v44 : Ref sig .tc := ⟨.hbm, 108, rfl⟩
abbrev main_call0_call0_v45 : Ref sig .tc := ⟨.hbm, 109, rfl⟩
abbrev main_call0_call0_v46 : Ref sig .tc := ⟨.hbm, 110, rfl⟩
abbrev main_call0_call0_v47 : Ref sig .tc := ⟨.hbm, 111, rfl⟩
abbrev main_call0_call0_c_11 : Ref sig .tc := ⟨.hbm, 112, rfl⟩
abbrev main_call0_call0_v48 : Ref sig .tc := ⟨.hbm, 113, rfl⟩
abbrev main_call0_call0_v49 : Ref sig .tc := ⟨.hbm, 114, rfl⟩
abbrev main_call0_call0_c_12 : Ref sig .tc := ⟨.hbm, 115, rfl⟩
abbrev main_call0_call0_v50 : Ref sig .tc := ⟨.hbm, 116, rfl⟩
abbrev main_call0_call0_v51 : Ref sig .tc := ⟨.hbm, 117, rfl⟩
abbrev main_call0_call0_v52 : Ref sig .tc := ⟨.hbm, 118, rfl⟩
abbrev main_call0_call0_v53 : Ref sig .tc := ⟨.hbm, 119, rfl⟩
abbrev main_call0_call0_v54 : Ref sig .tc := ⟨.hbm, 120, rfl⟩
abbrev main_call0_call0_c_13 : Ref sig .tc := ⟨.hbm, 121, rfl⟩
abbrev main_call0_call0_v55 : Ref sig .tc := ⟨.hbm, 122, rfl⟩
abbrev main_call0_call0_v56 : Ref sig .tc := ⟨.hbm, 123, rfl⟩
abbrev main_call0_call0_c_14 : Ref sig .tc := ⟨.hbm, 124, rfl⟩
abbrev main_call0_call0_v57 : Ref sig .tc := ⟨.hbm, 125, rfl⟩
abbrev main_call0_call0_v58 : Ref sig .tc := ⟨.hbm, 126, rfl⟩
abbrev main_call0_call0_v59 : Ref sig .tc := ⟨.hbm, 127, rfl⟩
abbrev main_call0_call0_v60 : Ref sig .tc := ⟨.hbm, 128, rfl⟩
abbrev main_call0_call0_v61 : Ref sig .tc := ⟨.hbm, 129, rfl⟩
abbrev main_call0_call0_c_15 : Ref sig .tc := ⟨.hbm, 130, rfl⟩
abbrev main_call0_call0_v62 : Ref sig .tc := ⟨.hbm, 131, rfl⟩
abbrev main_call0_call0_v63 : Ref sig .tc := ⟨.hbm, 132, rfl⟩
abbrev main_call0_call0_c_16 : Ref sig .tc := ⟨.hbm, 133, rfl⟩
abbrev main_call0_call0_v64 : Ref sig .tc := ⟨.hbm, 134, rfl⟩
abbrev main_call0_call0_v65 : Ref sig .tc := ⟨.hbm, 135, rfl⟩
abbrev main_call0_call0_v66 : Ref sig .tc := ⟨.hbm, 136, rfl⟩
abbrev main_call0_call0_v67 : Ref sig .tc := ⟨.hbm, 137, rfl⟩
abbrev main_call0_call0_v68 : Ref sig .tc := ⟨.hbm, 138, rfl⟩
abbrev main_call0_call0_v69 : Ref sig .tc := ⟨.hbm, 139, rfl⟩
abbrev main_call0_call0_v70 : Ref sig .tc := ⟨.hbm, 140, rfl⟩
abbrev main_call0_call0_v71 : Ref sig .tc := ⟨.hbm, 141, rfl⟩
abbrev main_call0_call0_c_17 : Ref sig .tc := ⟨.hbm, 142, rfl⟩
abbrev main_call0_call0_v72 : Ref sig .tc := ⟨.hbm, 143, rfl⟩
abbrev main_call0_call0_v73 : Ref sig .tc := ⟨.hbm, 144, rfl⟩
abbrev main_call0_call0_v74 : Ref sig .tc := ⟨.hbm, 145, rfl⟩
abbrev main_call0_call0_c_18 : Ref sig .tc := ⟨.hbm, 146, rfl⟩
abbrev main_call0_call0_v75 : Ref sig .tc := ⟨.hbm, 147, rfl⟩
abbrev main_call0_call0_v76 : Ref sig .tc := ⟨.hbm, 148, rfl⟩
abbrev main_call0_call0_c_19 : Ref sig .tc := ⟨.hbm, 149, rfl⟩
abbrev main_call0_call0_v77 : Ref sig .tc := ⟨.hbm, 150, rfl⟩
abbrev main_call0_call0_v78 : Ref sig .tc := ⟨.hbm, 151, rfl⟩
abbrev main_call0_call0_v79 : Ref sig .tc := ⟨.hbm, 152, rfl⟩
abbrev main_call0_call0_v80 : Ref sig .tc := ⟨.hbm, 153, rfl⟩
abbrev main_call0_call0_v81 : Ref sig .tc := ⟨.hbm, 154, rfl⟩
abbrev main_call0_call0_c_20 : Ref sig .tc := ⟨.hbm, 155, rfl⟩
abbrev main_call0_call0_v82 : Ref sig .tc := ⟨.hbm, 156, rfl⟩
abbrev main_call0_call0_v83 : Ref sig .tc := ⟨.hbm, 157, rfl⟩
abbrev main_call0_call0_c_21 : Ref sig .tc := ⟨.hbm, 158, rfl⟩
abbrev main_call0_call0_v84 : Ref sig .tc := ⟨.hbm, 159, rfl⟩
abbrev main_call0_call0_v85 : Ref sig .tc := ⟨.hbm, 160, rfl⟩
abbrev main_call0_call0_v86 : Ref sig .tc := ⟨.hbm, 161, rfl⟩
abbrev main_call0_call0_v87 : Ref sig .tc := ⟨.hbm, 162, rfl⟩
abbrev main_call0_call0_v88 : Ref sig .tc := ⟨.hbm, 163, rfl⟩
abbrev main_call0_call0_c_22 : Ref sig .tc := ⟨.hbm, 164, rfl⟩
abbrev main_call0_call0_v89 : Ref sig .tc := ⟨.hbm, 165, rfl⟩
abbrev main_call0_call0_v90 : Ref sig .tc := ⟨.hbm, 166, rfl⟩
abbrev main_call0_call0_c_23 : Ref sig .tc := ⟨.hbm, 167, rfl⟩
abbrev main_call0_call0_v91 : Ref sig .tc := ⟨.hbm, 168, rfl⟩
abbrev main_call0_call0_v92 : Ref sig .tc := ⟨.hbm, 169, rfl⟩
abbrev main_call0_call0_v93 : Ref sig .tc := ⟨.hbm, 170, rfl⟩
abbrev main_call0_call0_v94 : Ref sig .tc := ⟨.hbm, 171, rfl⟩
abbrev main_call0_call0_v95 : Ref sig .tc := ⟨.hbm, 172, rfl⟩
abbrev main_call0_call0_c_24 : Ref sig .tc := ⟨.hbm, 173, rfl⟩
abbrev main_call0_call0_v96 : Ref sig .tc := ⟨.hbm, 174, rfl⟩
abbrev main_call0_call0_v97 : Ref sig .tc := ⟨.hbm, 175, rfl⟩
abbrev main_call0_call0_c_25 : Ref sig .tc := ⟨.hbm, 176, rfl⟩
abbrev main_call0_call0_v98 : Ref sig .tc := ⟨.hbm, 177, rfl⟩
abbrev main_call0_call0_v99 : Ref sig .tc := ⟨.hbm, 178, rfl⟩
abbrev main_call0_call0_v100 : Ref sig .tc := ⟨.hbm, 179, rfl⟩
abbrev main_call0_call0_v101 : Ref sig .tc := ⟨.hbm, 180, rfl⟩
abbrev main_call0_call0_v102 : Ref sig .tc := ⟨.hbm, 181, rfl⟩
abbrev main_call0_call0_v103 : Ref sig .tc := ⟨.hbm, 182, rfl⟩
abbrev main_call0_call0_v104 : Ref sig .tc := ⟨.hbm, 183, rfl⟩
abbrev main_call0_call0_v105 : Ref sig .tc := ⟨.hbm, 184, rfl⟩
abbrev main_call0_call0_c_26 : Ref sig .tc := ⟨.hbm, 185, rfl⟩
abbrev main_call0_call0_v106 : Ref sig .tc := ⟨.hbm, 186, rfl⟩
abbrev main_call0_call0_v107 : Ref sig .tc := ⟨.hbm, 187, rfl⟩
abbrev main_call0_call0_v108 : Ref sig .tc := ⟨.hbm, 188, rfl⟩
abbrev main_call0_call0_c_27 : Ref sig .tc := ⟨.hbm, 189, rfl⟩
abbrev main_call0_call0_v109 : Ref sig .tc := ⟨.hbm, 190, rfl⟩
abbrev main_call0_call0_v110 : Ref sig .tc := ⟨.hbm, 191, rfl⟩
abbrev main_call0_call0_c_28 : Ref sig .tc := ⟨.hbm, 192, rfl⟩
abbrev main_call0_call0_v111 : Ref sig .tc := ⟨.hbm, 193, rfl⟩
abbrev main_call0_call0_v112 : Ref sig .tc := ⟨.hbm, 194, rfl⟩
abbrev main_call0_call0_v113 : Ref sig .tc := ⟨.hbm, 195, rfl⟩
abbrev main_call0_call0_v114 : Ref sig .tc := ⟨.hbm, 196, rfl⟩
abbrev main_call0_call0_v115 : Ref sig .tc := ⟨.hbm, 197, rfl⟩
abbrev main_call0_call0_c_29 : Ref sig .tc := ⟨.hbm, 198, rfl⟩
abbrev main_call0_call0_v116 : Ref sig .tc := ⟨.hbm, 199, rfl⟩
abbrev main_call0_call0_v117 : Ref sig .tc := ⟨.hbm, 200, rfl⟩
abbrev main_call0_call0_c_30 : Ref sig .tc := ⟨.hbm, 201, rfl⟩
abbrev main_call0_call0_v118 : Ref sig .tc := ⟨.hbm, 202, rfl⟩
abbrev main_call0_call0_v119 : Ref sig .tc := ⟨.hbm, 203, rfl⟩
abbrev main_call0_call0_v120 : Ref sig .tc := ⟨.hbm, 204, rfl⟩
abbrev main_call0_call0_v121 : Ref sig .tc := ⟨.hbm, 205, rfl⟩
abbrev main_call0_call0_v122 : Ref sig .tc := ⟨.hbm, 206, rfl⟩
abbrev main_call0_call0_c_31 : Ref sig .tc := ⟨.hbm, 207, rfl⟩
abbrev main_call0_call0_v123 : Ref sig .tc := ⟨.hbm, 208, rfl⟩
abbrev main_call0_call0_v124 : Ref sig .tc := ⟨.hbm, 209, rfl⟩
abbrev main_call0_call0_c_32 : Ref sig .tc := ⟨.hbm, 210, rfl⟩
abbrev main_call0_call0_v125 : Ref sig .tc := ⟨.hbm, 211, rfl⟩
abbrev main_call0_call0_v126 : Ref sig .tc := ⟨.hbm, 212, rfl⟩
abbrev main_call0_call0_v127 : Ref sig .tc := ⟨.hbm, 213, rfl⟩
abbrev main_call0_call0_v128 : Ref sig .tc := ⟨.hbm, 214, rfl⟩
abbrev main_call0_call0_v129 : Ref sig .tc := ⟨.hbm, 215, rfl⟩
abbrev main_call0_call0_c_33 : Ref sig .tc := ⟨.hbm, 216, rfl⟩
abbrev main_call0_call0_v130 : Ref sig .tc := ⟨.hbm, 217, rfl⟩
abbrev main_call0_call0_v131 : Ref sig .tc := ⟨.hbm, 218, rfl⟩
abbrev main_call0_call0_c_34 : Ref sig .tc := ⟨.hbm, 219, rfl⟩
abbrev main_call0_call0_v132 : Ref sig .tc := ⟨.hbm, 220, rfl⟩
abbrev main_call0_call0_v133 : Ref sig .tc := ⟨.hbm, 221, rfl⟩
abbrev main_call0_call0_v134 : Ref sig .tc := ⟨.hbm, 222, rfl⟩
abbrev main_call0_call0_v135 : Ref sig .tc := ⟨.hbm, 223, rfl⟩
abbrev main_call0_call0_v136 : Ref sig .tc := ⟨.hbm, 224, rfl⟩
abbrev main_call0_call0_v137 : Ref sig .tc := ⟨.hbm, 225, rfl⟩
abbrev main_call0_call0_v138 : Ref sig .tc := ⟨.hbm, 226, rfl⟩
abbrev main_call0_call0_v139 : Ref sig .tc := ⟨.hbm, 227, rfl⟩
abbrev main_call0_call0_c_35 : Ref sig .tc := ⟨.hbm, 228, rfl⟩
abbrev main_call0_call0_v140 : Ref sig .tc := ⟨.hbm, 229, rfl⟩
abbrev main_call0_call0_v141 : Ref sig .tc := ⟨.hbm, 230, rfl⟩
abbrev main_call0_call0_v142 : Ref sig .tc := ⟨.hbm, 231, rfl⟩
abbrev main_call0_call0_c_36 : Ref sig .tc := ⟨.hbm, 232, rfl⟩
abbrev main_call0_call0_v143 : Ref sig .tc := ⟨.hbm, 233, rfl⟩
abbrev main_call0_call0_v144 : Ref sig .tc := ⟨.hbm, 234, rfl⟩
abbrev main_call0_call0_c_37 : Ref sig .tc := ⟨.hbm, 235, rfl⟩
abbrev main_call0_call0_v145 : Ref sig .tc := ⟨.hbm, 236, rfl⟩
abbrev main_call0_call0_v146 : Ref sig .tc := ⟨.hbm, 237, rfl⟩
abbrev main_call0_call0_v147 : Ref sig .tc := ⟨.hbm, 238, rfl⟩
abbrev main_call0_call0_v148 : Ref sig .tc := ⟨.hbm, 239, rfl⟩
abbrev main_call0_call0_v149 : Ref sig .tc := ⟨.hbm, 240, rfl⟩
abbrev main_call0_call0_c_38 : Ref sig .tc := ⟨.hbm, 241, rfl⟩
abbrev main_call0_call0_v150 : Ref sig .tc := ⟨.hbm, 242, rfl⟩
abbrev main_call0_call0_v151 : Ref sig .tc := ⟨.hbm, 243, rfl⟩
abbrev main_call0_call0_c_39 : Ref sig .tc := ⟨.hbm, 244, rfl⟩
abbrev main_call0_call0_v152 : Ref sig .tc := ⟨.hbm, 245, rfl⟩
abbrev main_call0_call0_v153 : Ref sig .tc := ⟨.hbm, 246, rfl⟩
abbrev main_call0_call0_v154 : Ref sig .tc := ⟨.hbm, 247, rfl⟩
abbrev main_call0_call0_v155 : Ref sig .tc := ⟨.hbm, 248, rfl⟩
abbrev main_call0_call0_v156 : Ref sig .tc := ⟨.hbm, 249, rfl⟩
abbrev main_call0_call0_c_40 : Ref sig .tc := ⟨.hbm, 250, rfl⟩
abbrev main_call0_call0_v157 : Ref sig .tc := ⟨.hbm, 251, rfl⟩
abbrev main_call0_call0_v158 : Ref sig .tc := ⟨.hbm, 252, rfl⟩
abbrev main_call0_call0_c_41 : Ref sig .tc := ⟨.hbm, 253, rfl⟩
abbrev main_call0_call0_v159 : Ref sig .tc := ⟨.hbm, 254, rfl⟩
abbrev main_call0_call0_v160 : Ref sig .tc := ⟨.hbm, 255, rfl⟩
abbrev main_call0_call0_v161 : Ref sig .tc := ⟨.hbm, 256, rfl⟩
abbrev main_call0_call0_v162 : Ref sig .tc := ⟨.hbm, 257, rfl⟩
abbrev main_call0_call0_v163 : Ref sig .tc := ⟨.hbm, 258, rfl⟩
abbrev main_call0_call0_c_42 : Ref sig .tc := ⟨.hbm, 259, rfl⟩
abbrev main_call0_call0_v164 : Ref sig .tc := ⟨.hbm, 260, rfl⟩
abbrev main_call0_call0_v165 : Ref sig .tc := ⟨.hbm, 261, rfl⟩
abbrev main_call0_call0_c_43 : Ref sig .tc := ⟨.hbm, 262, rfl⟩
abbrev main_call0_call0_v166 : Ref sig .tc := ⟨.hbm, 263, rfl⟩
abbrev main_call0_call0_v167 : Ref sig .tc := ⟨.hbm, 264, rfl⟩
abbrev main_call0_call0_v168 : Ref sig .tc := ⟨.hbm, 265, rfl⟩
abbrev main_call0_call0_v169 : Ref sig .tc := ⟨.hbm, 266, rfl⟩
abbrev main_call0_call0_v170 : Ref sig .tc := ⟨.hbm, 267, rfl⟩
abbrev main_call0_v23_0 : Ref sig .tc := ⟨.hbm, 268, rfl⟩
abbrev main_call0_call0_v172 : Ref sig .tc := ⟨.hbm, 269, rfl⟩
abbrev main_call0_call0_v173 : Ref sig .tc := ⟨.hbm, 270, rfl⟩
abbrev main_call0_call0_c_44 : Ref sig .tc := ⟨.hbm, 271, rfl⟩
abbrev main_call0_call0_v174 : Ref sig .tc := ⟨.hbm, 272, rfl⟩
abbrev main_call0_v23_1 : Ref sig .tc := ⟨.hbm, 273, rfl⟩
abbrev main_call0_v24 : Ref sig .tc := ⟨.hbm, 274, rfl⟩
abbrev main_call0_c_3 : Ref sig .tc := ⟨.hbm, 275, rfl⟩
abbrev main_call0_v25 : Ref sig .tc := ⟨.hbm, 276, rfl⟩
abbrev main_call0_v26 : Ref sig .tc := ⟨.hbm, 277, rfl⟩
abbrev main_call0_c_4 : Ref sig .tc := ⟨.hbm, 278, rfl⟩
abbrev main_call0_v27 : Ref sig .tc := ⟨.hbm, 279, rfl⟩
abbrev main_call0_v28 : Ref sig .tc := ⟨.hbm, 280, rfl⟩
abbrev main_call0_v29 : Ref sig .tc := ⟨.hbm, 281, rfl⟩
abbrev main_call0_cst : Ref sig .tc := ⟨.hbm, 282, rfl⟩
abbrev main_call0_v30 : Ref sig .tc := ⟨.hbm, 283, rfl⟩
abbrev main_call0_v31 : Ref sig .tc := ⟨.hbm, 284, rfl⟩
abbrev main_call0_v32 : Ref sig .tc := ⟨.hbm, 285, rfl⟩
abbrev main_call0_v33 : Ref sig .tc := ⟨.hbm, 286, rfl⟩
abbrev main_call0_v34 : Ref sig .tc := ⟨.hbm, 287, rfl⟩
abbrev main_call0_v35 : Ref sig .tc := ⟨.hbm, 288, rfl⟩
abbrev main_call0_v36 : Ref sig .tc := ⟨.hbm, 289, rfl⟩
abbrev main_call0_v37 : Ref sig .tc := ⟨.hbm, 290, rfl⟩
abbrev main_v7 : Ref sig .tc := ⟨.hbm, 291, rfl⟩
abbrev main_cst_3 : Ref sig .tc := ⟨.hbm, 292, rfl⟩
abbrev main_v8 : Ref sig .tc := ⟨.hbm, 293, rfl⟩
abbrev main_v9 : Ref sig .tc := ⟨.hbm, 294, rfl⟩
abbrev main_v10 : Ref sig .tc := ⟨.hbm, 295, rfl⟩
abbrev main_v11 : Ref sig .tc := ⟨.hbm, 296, rfl⟩
abbrev main_cst_4 : Ref sig .tc := ⟨.hbm, 297, rfl⟩
abbrev main_v12 : Ref sig .tc := ⟨.hbm, 298, rfl⟩
abbrev main_v13 : Ref sig .tc := ⟨.hbm, 299, rfl⟩
abbrev main_v14 : Ref sig .tc := ⟨.hbm, 300, rfl⟩
abbrev main_v15 : Ref sig .tc := ⟨.hbm, 301, rfl⟩
abbrev main_v16 : Ref sig .tc := ⟨.hbm, 302, rfl⟩
abbrev main_v17 : Ref sig .tc := ⟨.hbm, 303, rfl⟩
abbrev main_v18 : Ref sig .tc := ⟨.hbm, 304, rfl⟩
abbrev main_v19 : Ref sig .tc := ⟨.hbm, 305, rfl⟩
abbrev main_v20 : Ref sig .tc := ⟨.hbm, 306, rfl⟩
abbrev main_v21 : Ref sig .tc := ⟨.hbm, 307, rfl⟩
abbrev main_v22 : Ref sig .tc := ⟨.hbm, 308, rfl⟩
abbrev main_v23 : Ref sig .tc := ⟨.hbm, 309, rfl⟩
abbrev main_v24 : Ref sig .tc := ⟨.hbm, 310, rfl⟩
abbrev main_v25_0 : Ref sig .tc := ⟨.hbm, 311, rfl⟩
abbrev main_v25_1 : Ref sig .tc := ⟨.hbm, 312, rfl⟩
abbrev main_v26 : Ref sig .tc := ⟨.hbm, 313, rfl⟩
abbrev main_v27 : Ref sig .tc := ⟨.hbm, 314, rfl⟩
abbrev main_cst_5 : Ref sig .tc := ⟨.hbm, 315, rfl⟩
abbrev main_v28 : Ref sig .tc := ⟨.hbm, 316, rfl⟩
abbrev main_v29 : Ref sig .tc := ⟨.hbm, 317, rfl⟩
abbrev main_v30 : Ref sig .tc := ⟨.hbm, 318, rfl⟩
abbrev main_c_6 : Ref sig .tc := ⟨.hbm, 319, rfl⟩
abbrev main_v31 : Ref sig .tc := ⟨.hbm, 320, rfl⟩
abbrev main_v32 : Ref sig .tc := ⟨.hbm, 321, rfl⟩
abbrev main_v33 : Ref sig .tc := ⟨.hbm, 322, rfl⟩
abbrev main_v34 : Ref sig .tc := ⟨.hbm, 323, rfl⟩
abbrev main_v35 : Ref sig .tc := ⟨.hbm, 324, rfl⟩
abbrev main_v36 : Ref sig .tc := ⟨.hbm, 325, rfl⟩
abbrev main_v37 : Ref sig .tc := ⟨.hbm, 326, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

def k0_off1 (v175 : BitVec 32) : Fin 3 → Nat :=
  let c0_46 : Index := 0#32
  let v176 : Index := Scalar.indexCast v175
  let c0_47 : Index := 0#32
  ![0, v176.toNat, 0]

def k0_chk1 (v175 : BitVec 32) : Prop :=
  (∀ a, (k0_off1 v175) a + S1x1x128.size a ≤ S16x1024x128.size a)
theorem k0_off1_inb : ∀ (v175 : BitVec 32) (k0_hw1 : k0_chk1 v175), ∀ a, (k0_off1 v175) a + S1x1x128.size a ≤ S16x1024x128.size a := fun v175 k0_hw1 => k0_hw1

def k0_off2 (v187 : BitVec 32) : Fin 3 → Nat :=
  let c1 : Index := 1#32
  let v188 : Index := Scalar.indexCast v187
  let c0_48 : Index := 0#32
  ![1, v188.toNat, 0]

def k0_chk2 (v187 : BitVec 32) : Prop :=
  (∀ a, (k0_off2 v187) a + S1x1x128.size a ≤ S16x1024x128.size a)
theorem k0_off2_inb : ∀ (v187 : BitVec 32) (k0_hw2 : k0_chk2 v187), ∀ a, (k0_off2 v187) a + S1x1x128.size a ≤ S16x1024x128.size a := fun v187 k0_hw2 => k0_hw2

def k0_off3 (v199 : BitVec 32) : Fin 3 → Nat :=
  let c2 : Index := 2#32
  let v200 : Index := Scalar.indexCast v199
  let c0_49 : Index := 0#32
  ![2, v200.toNat, 0]

def k0_chk3 (v199 : BitVec 32) : Prop :=
  (∀ a, (k0_off3 v199) a + S1x1x128.size a ≤ S16x1024x128.size a)
theorem k0_off3_inb : ∀ (v199 : BitVec 32) (k0_hw3 : k0_chk3 v199), ∀ a, (k0_off3 v199) a + S1x1x128.size a ≤ S16x1024x128.size a := fun v199 k0_hw3 => k0_hw3

def k0_off4 (v211 : BitVec 32) : Fin 3 → Nat :=
  let c3 : Index := 3#32
  let v212 : Index := Scalar.indexCast v211
  let c0_50 : Index := 0#32
  ![3, v212.toNat, 0]

def k0_chk4 (v211 : BitVec 32) : Prop :=
  (∀ a, (k0_off4 v211) a + S1x1x128.size a ≤ S16x1024x128.size a)
theorem k0_off4_inb : ∀ (v211 : BitVec 32) (k0_hw4 : k0_chk4 v211), ∀ a, (k0_off4 v211) a + S1x1x128.size a ≤ S16x1024x128.size a := fun v211 k0_hw4 => k0_hw4

def k0_off5 (v223 : BitVec 32) : Fin 3 → Nat :=
  let c4 : Index := 4#32
  let v224 : Index := Scalar.indexCast v223
  let c0_51 : Index := 0#32
  ![4, v224.toNat, 0]

def k0_chk5 (v223 : BitVec 32) : Prop :=
  (∀ a, (k0_off5 v223) a + S1x1x128.size a ≤ S16x1024x128.size a)
theorem k0_off5_inb : ∀ (v223 : BitVec 32) (k0_hw5 : k0_chk5 v223), ∀ a, (k0_off5 v223) a + S1x1x128.size a ≤ S16x1024x128.size a := fun v223 k0_hw5 => k0_hw5

def k0_off6 (v235 : BitVec 32) : Fin 3 → Nat :=
  let c5 : Index := 5#32
  let v236 : Index := Scalar.indexCast v235
  let c0_52 : Index := 0#32
  ![5, v236.toNat, 0]

def k0_chk6 (v235 : BitVec 32) : Prop :=
  (∀ a, (k0_off6 v235) a + S1x1x128.size a ≤ S16x1024x128.size a)
theorem k0_off6_inb : ∀ (v235 : BitVec 32) (k0_hw6 : k0_chk6 v235), ∀ a, (k0_off6 v235) a + S1x1x128.size a ≤ S16x1024x128.size a := fun v235 k0_hw6 => k0_hw6

def k0_off7 (v247 : BitVec 32) : Fin 3 → Nat :=
  let c6 : Index := 6#32
  let v248 : Index := Scalar.indexCast v247
  let c0_53 : Index := 0#32
  ![6, v248.toNat, 0]

def k0_chk7 (v247 : BitVec 32) : Prop :=
  (∀ a, (k0_off7 v247) a + S1x1x128.size a ≤ S16x1024x128.size a)
theorem k0_off7_inb : ∀ (v247 : BitVec 32) (k0_hw7 : k0_chk7 v247), ∀ a, (k0_off7 v247) a + S1x1x128.size a ≤ S16x1024x128.size a := fun v247 k0_hw7 => k0_hw7

def k0_off8 (v259 : BitVec 32) : Fin 3 → Nat :=
  let c7 : Index := 7#32
  let v260 : Index := Scalar.indexCast v259
  let c0_54 : Index := 0#32
  ![7, v260.toNat, 0]

def k0_chk8 (v259 : BitVec 32) : Prop :=
  (∀ a, (k0_off8 v259) a + S1x1x128.size a ≤ S16x1024x128.size a)
theorem k0_off8_inb : ∀ (v259 : BitVec 32) (k0_hw8 : k0_chk8 v259), ∀ a, (k0_off8 v259) a + S1x1x128.size a ≤ S16x1024x128.size a := fun v259 k0_hw8 => k0_hw8

def k0_off9 (v271 : BitVec 32) : Fin 3 → Nat :=
  let c8 : Index := 8#32
  let v272 : Index := Scalar.indexCast v271
  let c0_55 : Index := 0#32
  ![8, v272.toNat, 0]

def k0_chk9 (v271 : BitVec 32) : Prop :=
  (∀ a, (k0_off9 v271) a + S1x1x128.size a ≤ S16x1024x128.size a)
theorem k0_off9_inb : ∀ (v271 : BitVec 32) (k0_hw9 : k0_chk9 v271), ∀ a, (k0_off9 v271) a + S1x1x128.size a ≤ S16x1024x128.size a := fun v271 k0_hw9 => k0_hw9

def k0_off10 (v283 : BitVec 32) : Fin 3 → Nat :=
  let c9 : Index := 9#32
  let v284 : Index := Scalar.indexCast v283
  let c0_56 : Index := 0#32
  ![9, v284.toNat, 0]

def k0_chk10 (v283 : BitVec 32) : Prop :=
  (∀ a, (k0_off10 v283) a + S1x1x128.size a ≤ S16x1024x128.size a)
theorem k0_off10_inb : ∀ (v283 : BitVec 32) (k0_hw10 : k0_chk10 v283), ∀ a, (k0_off10 v283) a + S1x1x128.size a ≤ S16x1024x128.size a := fun v283 k0_hw10 => k0_hw10

def k0_off11 (v295 : BitVec 32) : Fin 3 → Nat :=
  let c10 : Index := 10#32
  let v296 : Index := Scalar.indexCast v295
  let c0_57 : Index := 0#32
  ![10, v296.toNat, 0]

def k0_chk11 (v295 : BitVec 32) : Prop :=
  (∀ a, (k0_off11 v295) a + S1x1x128.size a ≤ S16x1024x128.size a)
theorem k0_off11_inb : ∀ (v295 : BitVec 32) (k0_hw11 : k0_chk11 v295), ∀ a, (k0_off11 v295) a + S1x1x128.size a ≤ S16x1024x128.size a := fun v295 k0_hw11 => k0_hw11

def k0_off12 (v307 : BitVec 32) : Fin 3 → Nat :=
  let c11 : Index := 11#32
  let v308 : Index := Scalar.indexCast v307
  let c0_58 : Index := 0#32
  ![11, v308.toNat, 0]

def k0_chk12 (v307 : BitVec 32) : Prop :=
  (∀ a, (k0_off12 v307) a + S1x1x128.size a ≤ S16x1024x128.size a)
theorem k0_off12_inb : ∀ (v307 : BitVec 32) (k0_hw12 : k0_chk12 v307), ∀ a, (k0_off12 v307) a + S1x1x128.size a ≤ S16x1024x128.size a := fun v307 k0_hw12 => k0_hw12

def k0_off13 (v319 : BitVec 32) : Fin 3 → Nat :=
  let c12 : Index := 12#32
  let v320 : Index := Scalar.indexCast v319
  let c0_59 : Index := 0#32
  ![12, v320.toNat, 0]

def k0_chk13 (v319 : BitVec 32) : Prop :=
  (∀ a, (k0_off13 v319) a + S1x1x128.size a ≤ S16x1024x128.size a)
theorem k0_off13_inb : ∀ (v319 : BitVec 32) (k0_hw13 : k0_chk13 v319), ∀ a, (k0_off13 v319) a + S1x1x128.size a ≤ S16x1024x128.size a := fun v319 k0_hw13 => k0_hw13

def k0_off14 (v331 : BitVec 32) : Fin 3 → Nat :=
  let c13 : Index := 13#32
  let v332 : Index := Scalar.indexCast v331
  let c0_60 : Index := 0#32
  ![13, v332.toNat, 0]

def k0_chk14 (v331 : BitVec 32) : Prop :=
  (∀ a, (k0_off14 v331) a + S1x1x128.size a ≤ S16x1024x128.size a)
theorem k0_off14_inb : ∀ (v331 : BitVec 32) (k0_hw14 : k0_chk14 v331), ∀ a, (k0_off14 v331) a + S1x1x128.size a ≤ S16x1024x128.size a := fun v331 k0_hw14 => k0_hw14

def k0_off15 (v343 : BitVec 32) : Fin 3 → Nat :=
  let c14 : Index := 14#32
  let v344 : Index := Scalar.indexCast v343
  let c0_61 : Index := 0#32
  ![14, v344.toNat, 0]

def k0_chk15 (v343 : BitVec 32) : Prop :=
  (∀ a, (k0_off15 v343) a + S1x1x128.size a ≤ S16x1024x128.size a)
theorem k0_off15_inb : ∀ (v343 : BitVec 32) (k0_hw15 : k0_chk15 v343), ∀ a, (k0_off15 v343) a + S1x1x128.size a ≤ S16x1024x128.size a := fun v343 k0_hw15 => k0_hw15

def k0_off16 (v355 : BitVec 32) : Fin 3 → Nat :=
  let c15 : Index := 15#32
  let v356 : Index := Scalar.indexCast v355
  let c0_62 : Index := 0#32
  ![15, v356.toNat, 0]

def k0_chk16 (v355 : BitVec 32) : Prop :=
  (∀ a, (k0_off16 v355) a + S1x1x128.size a ≤ S16x1024x128.size a)
theorem k0_off16_inb : ∀ (v355 : BitVec 32) (k0_hw16 : k0_chk16 v355), ∀ a, (k0_off16 v355) a + S1x1x128.size a ≤ S16x1024x128.size a := fun v355 k0_hw16 => k0_hw16

def k0_off17 (v557 : BitVec 32) : Fin 3 → Nat :=
  let c0_88 : Index := 0#32
  let v558 : Index := Scalar.indexCast v557
  let c0_89 : Index := 0#32
  ![0, v558.toNat, 0]

def k0_chk17 (v557 : BitVec 32) : Prop :=
  (∀ a, (k0_off17 v557) a + S1x1x128.size a ≤ S16x1024x128.size a)
theorem k0_off17_inb : ∀ (v557 : BitVec 32) (k0_hw17 : k0_chk17 v557), ∀ a, (k0_off17 v557) a + S1x1x128.size a ≤ S16x1024x128.size a := fun v557 k0_hw17 => k0_hw17

def k0_off18 (v569 : BitVec 32) : Fin 3 → Nat :=
  let c1_90 : Index := 1#32
  let v570 : Index := Scalar.indexCast v569
  let c0_91 : Index := 0#32
  ![1, v570.toNat, 0]

def k0_chk18 (v569 : BitVec 32) : Prop :=
  (∀ a, (k0_off18 v569) a + S1x1x128.size a ≤ S16x1024x128.size a)
theorem k0_off18_inb : ∀ (v569 : BitVec 32) (k0_hw18 : k0_chk18 v569), ∀ a, (k0_off18 v569) a + S1x1x128.size a ≤ S16x1024x128.size a := fun v569 k0_hw18 => k0_hw18

def k0_off19 (v581 : BitVec 32) : Fin 3 → Nat :=
  let c2_92 : Index := 2#32
  let v582 : Index := Scalar.indexCast v581
  let c0_93 : Index := 0#32
  ![2, v582.toNat, 0]

def k0_chk19 (v581 : BitVec 32) : Prop :=
  (∀ a, (k0_off19 v581) a + S1x1x128.size a ≤ S16x1024x128.size a)
theorem k0_off19_inb : ∀ (v581 : BitVec 32) (k0_hw19 : k0_chk19 v581), ∀ a, (k0_off19 v581) a + S1x1x128.size a ≤ S16x1024x128.size a := fun v581 k0_hw19 => k0_hw19

def k0_off20 (v593 : BitVec 32) : Fin 3 → Nat :=
  let c3_94 : Index := 3#32
  let v594 : Index := Scalar.indexCast v593
  let c0_95 : Index := 0#32
  ![3, v594.toNat, 0]

def k0_chk20 (v593 : BitVec 32) : Prop :=
  (∀ a, (k0_off20 v593) a + S1x1x128.size a ≤ S16x1024x128.size a)
theorem k0_off20_inb : ∀ (v593 : BitVec 32) (k0_hw20 : k0_chk20 v593), ∀ a, (k0_off20 v593) a + S1x1x128.size a ≤ S16x1024x128.size a := fun v593 k0_hw20 => k0_hw20

def k0_off21 (v605 : BitVec 32) : Fin 3 → Nat :=
  let c4_96 : Index := 4#32
  let v606 : Index := Scalar.indexCast v605
  let c0_97 : Index := 0#32
  ![4, v606.toNat, 0]

def k0_chk21 (v605 : BitVec 32) : Prop :=
  (∀ a, (k0_off21 v605) a + S1x1x128.size a ≤ S16x1024x128.size a)
theorem k0_off21_inb : ∀ (v605 : BitVec 32) (k0_hw21 : k0_chk21 v605), ∀ a, (k0_off21 v605) a + S1x1x128.size a ≤ S16x1024x128.size a := fun v605 k0_hw21 => k0_hw21

def k0_off22 (v617 : BitVec 32) : Fin 3 → Nat :=
  let c5_98 : Index := 5#32
  let v618 : Index := Scalar.indexCast v617
  let c0_99 : Index := 0#32
  ![5, v618.toNat, 0]

def k0_chk22 (v617 : BitVec 32) : Prop :=
  (∀ a, (k0_off22 v617) a + S1x1x128.size a ≤ S16x1024x128.size a)
theorem k0_off22_inb : ∀ (v617 : BitVec 32) (k0_hw22 : k0_chk22 v617), ∀ a, (k0_off22 v617) a + S1x1x128.size a ≤ S16x1024x128.size a := fun v617 k0_hw22 => k0_hw22

def k0_off23 (v629 : BitVec 32) : Fin 3 → Nat :=
  let c6_100 : Index := 6#32
  let v630 : Index := Scalar.indexCast v629
  let c0_101 : Index := 0#32
  ![6, v630.toNat, 0]

def k0_chk23 (v629 : BitVec 32) : Prop :=
  (∀ a, (k0_off23 v629) a + S1x1x128.size a ≤ S16x1024x128.size a)
theorem k0_off23_inb : ∀ (v629 : BitVec 32) (k0_hw23 : k0_chk23 v629), ∀ a, (k0_off23 v629) a + S1x1x128.size a ≤ S16x1024x128.size a := fun v629 k0_hw23 => k0_hw23

def k0_off24 (v641 : BitVec 32) : Fin 3 → Nat :=
  let c7_102 : Index := 7#32
  let v642 : Index := Scalar.indexCast v641
  let c0_103 : Index := 0#32
  ![7, v642.toNat, 0]

def k0_chk24 (v641 : BitVec 32) : Prop :=
  (∀ a, (k0_off24 v641) a + S1x1x128.size a ≤ S16x1024x128.size a)
theorem k0_off24_inb : ∀ (v641 : BitVec 32) (k0_hw24 : k0_chk24 v641), ∀ a, (k0_off24 v641) a + S1x1x128.size a ≤ S16x1024x128.size a := fun v641 k0_hw24 => k0_hw24

def k0_off25 (v653 : BitVec 32) : Fin 3 → Nat :=
  let c8_104 : Index := 8#32
  let v654 : Index := Scalar.indexCast v653
  let c0_105 : Index := 0#32
  ![8, v654.toNat, 0]

def k0_chk25 (v653 : BitVec 32) : Prop :=
  (∀ a, (k0_off25 v653) a + S1x1x128.size a ≤ S16x1024x128.size a)
theorem k0_off25_inb : ∀ (v653 : BitVec 32) (k0_hw25 : k0_chk25 v653), ∀ a, (k0_off25 v653) a + S1x1x128.size a ≤ S16x1024x128.size a := fun v653 k0_hw25 => k0_hw25

def k0_off26 (v665 : BitVec 32) : Fin 3 → Nat :=
  let c9_106 : Index := 9#32
  let v666 : Index := Scalar.indexCast v665
  let c0_107 : Index := 0#32
  ![9, v666.toNat, 0]

def k0_chk26 (v665 : BitVec 32) : Prop :=
  (∀ a, (k0_off26 v665) a + S1x1x128.size a ≤ S16x1024x128.size a)
theorem k0_off26_inb : ∀ (v665 : BitVec 32) (k0_hw26 : k0_chk26 v665), ∀ a, (k0_off26 v665) a + S1x1x128.size a ≤ S16x1024x128.size a := fun v665 k0_hw26 => k0_hw26

def k0_off27 (v677 : BitVec 32) : Fin 3 → Nat :=
  let c10_108 : Index := 10#32
  let v678 : Index := Scalar.indexCast v677
  let c0_109 : Index := 0#32
  ![10, v678.toNat, 0]

def k0_chk27 (v677 : BitVec 32) : Prop :=
  (∀ a, (k0_off27 v677) a + S1x1x128.size a ≤ S16x1024x128.size a)
theorem k0_off27_inb : ∀ (v677 : BitVec 32) (k0_hw27 : k0_chk27 v677), ∀ a, (k0_off27 v677) a + S1x1x128.size a ≤ S16x1024x128.size a := fun v677 k0_hw27 => k0_hw27

def k0_off28 (v689 : BitVec 32) : Fin 3 → Nat :=
  let c11_110 : Index := 11#32
  let v690 : Index := Scalar.indexCast v689
  let c0_111 : Index := 0#32
  ![11, v690.toNat, 0]

def k0_chk28 (v689 : BitVec 32) : Prop :=
  (∀ a, (k0_off28 v689) a + S1x1x128.size a ≤ S16x1024x128.size a)
theorem k0_off28_inb : ∀ (v689 : BitVec 32) (k0_hw28 : k0_chk28 v689), ∀ a, (k0_off28 v689) a + S1x1x128.size a ≤ S16x1024x128.size a := fun v689 k0_hw28 => k0_hw28

def k0_off29 (v701 : BitVec 32) : Fin 3 → Nat :=
  let c12_112 : Index := 12#32
  let v702 : Index := Scalar.indexCast v701
  let c0_113 : Index := 0#32
  ![12, v702.toNat, 0]

def k0_chk29 (v701 : BitVec 32) : Prop :=
  (∀ a, (k0_off29 v701) a + S1x1x128.size a ≤ S16x1024x128.size a)
theorem k0_off29_inb : ∀ (v701 : BitVec 32) (k0_hw29 : k0_chk29 v701), ∀ a, (k0_off29 v701) a + S1x1x128.size a ≤ S16x1024x128.size a := fun v701 k0_hw29 => k0_hw29

def k0_off30 (v713 : BitVec 32) : Fin 3 → Nat :=
  let c13_114 : Index := 13#32
  let v714 : Index := Scalar.indexCast v713
  let c0_115 : Index := 0#32
  ![13, v714.toNat, 0]

def k0_chk30 (v713 : BitVec 32) : Prop :=
  (∀ a, (k0_off30 v713) a + S1x1x128.size a ≤ S16x1024x128.size a)
theorem k0_off30_inb : ∀ (v713 : BitVec 32) (k0_hw30 : k0_chk30 v713), ∀ a, (k0_off30 v713) a + S1x1x128.size a ≤ S16x1024x128.size a := fun v713 k0_hw30 => k0_hw30

def k0_off31 (v725 : BitVec 32) : Fin 3 → Nat :=
  let c14_116 : Index := 14#32
  let v726 : Index := Scalar.indexCast v725
  let c0_117 : Index := 0#32
  ![14, v726.toNat, 0]

def k0_chk31 (v725 : BitVec 32) : Prop :=
  (∀ a, (k0_off31 v725) a + S1x1x128.size a ≤ S16x1024x128.size a)
theorem k0_off31_inb : ∀ (v725 : BitVec 32) (k0_hw31 : k0_chk31 v725), ∀ a, (k0_off31 v725) a + S1x1x128.size a ≤ S16x1024x128.size a := fun v725 k0_hw31 => k0_hw31

def k0_off32 (v737 : BitVec 32) : Fin 3 → Nat :=
  let c15_118 : Index := 15#32
  let v738 : Index := Scalar.indexCast v737
  let c0_119 : Index := 0#32
  ![15, v738.toNat, 0]

def k0_chk32 (v737 : BitVec 32) : Prop :=
  (∀ a, (k0_off32 v737) a + S1x1x128.size a ≤ S16x1024x128.size a)
theorem k0_off32_inb : ∀ (v737 : BitVec 32) (k0_hw32 : k0_chk32 v737), ∀ a, (k0_off32 v737) a + S1x1x128.size a ≤ S16x1024x128.size a := fun v737 k0_hw32 => k0_hw32

def k0_off33 (v958 : BitVec 32) : Fin 3 → Nat :=
  let c0_147 : Index := 0#32
  let v959 : Index := Scalar.indexCast v958
  let c0_148 : Index := 0#32
  ![0, v959.toNat, 0]

def k0_chk33 (v958 : BitVec 32) : Prop :=
  (∀ a, (k0_off33 v958) a + S1x1x128.size a ≤ S16x1024x128.size a)
theorem k0_off33_inb : ∀ (v958 : BitVec 32) (k0_hw33 : k0_chk33 v958), ∀ a, (k0_off33 v958) a + S1x1x128.size a ≤ S16x1024x128.size a := fun v958 k0_hw33 => k0_hw33

def k0_off34 (v970 : BitVec 32) : Fin 3 → Nat :=
  let c1_149 : Index := 1#32
  let v971 : Index := Scalar.indexCast v970
  let c0_150 : Index := 0#32
  ![1, v971.toNat, 0]

def k0_chk34 (v970 : BitVec 32) : Prop :=
  (∀ a, (k0_off34 v970) a + S1x1x128.size a ≤ S16x1024x128.size a)
theorem k0_off34_inb : ∀ (v970 : BitVec 32) (k0_hw34 : k0_chk34 v970), ∀ a, (k0_off34 v970) a + S1x1x128.size a ≤ S16x1024x128.size a := fun v970 k0_hw34 => k0_hw34

def k0_off35 (v982 : BitVec 32) : Fin 3 → Nat :=
  let c2_151 : Index := 2#32
  let v983 : Index := Scalar.indexCast v982
  let c0_152 : Index := 0#32
  ![2, v983.toNat, 0]

def k0_chk35 (v982 : BitVec 32) : Prop :=
  (∀ a, (k0_off35 v982) a + S1x1x128.size a ≤ S16x1024x128.size a)
theorem k0_off35_inb : ∀ (v982 : BitVec 32) (k0_hw35 : k0_chk35 v982), ∀ a, (k0_off35 v982) a + S1x1x128.size a ≤ S16x1024x128.size a := fun v982 k0_hw35 => k0_hw35

def k0_off36 (v994 : BitVec 32) : Fin 3 → Nat :=
  let c3_153 : Index := 3#32
  let v995 : Index := Scalar.indexCast v994
  let c0_154 : Index := 0#32
  ![3, v995.toNat, 0]

def k0_chk36 (v994 : BitVec 32) : Prop :=
  (∀ a, (k0_off36 v994) a + S1x1x128.size a ≤ S16x1024x128.size a)
theorem k0_off36_inb : ∀ (v994 : BitVec 32) (k0_hw36 : k0_chk36 v994), ∀ a, (k0_off36 v994) a + S1x1x128.size a ≤ S16x1024x128.size a := fun v994 k0_hw36 => k0_hw36

def k0_off37 (v1006 : BitVec 32) : Fin 3 → Nat :=
  let c4_155 : Index := 4#32
  let v1007 : Index := Scalar.indexCast v1006
  let c0_156 : Index := 0#32
  ![4, v1007.toNat, 0]

def k0_chk37 (v1006 : BitVec 32) : Prop :=
  (∀ a, (k0_off37 v1006) a + S1x1x128.size a ≤ S16x1024x128.size a)
theorem k0_off37_inb : ∀ (v1006 : BitVec 32) (k0_hw37 : k0_chk37 v1006), ∀ a, (k0_off37 v1006) a + S1x1x128.size a ≤ S16x1024x128.size a := fun v1006 k0_hw37 => k0_hw37

def k0_off38 (v1018 : BitVec 32) : Fin 3 → Nat :=
  let c5_157 : Index := 5#32
  let v1019 : Index := Scalar.indexCast v1018
  let c0_158 : Index := 0#32
  ![5, v1019.toNat, 0]

def k0_chk38 (v1018 : BitVec 32) : Prop :=
  (∀ a, (k0_off38 v1018) a + S1x1x128.size a ≤ S16x1024x128.size a)
theorem k0_off38_inb : ∀ (v1018 : BitVec 32) (k0_hw38 : k0_chk38 v1018), ∀ a, (k0_off38 v1018) a + S1x1x128.size a ≤ S16x1024x128.size a := fun v1018 k0_hw38 => k0_hw38

def k0_off39 (v1030 : BitVec 32) : Fin 3 → Nat :=
  let c6_159 : Index := 6#32
  let v1031 : Index := Scalar.indexCast v1030
  let c0_160 : Index := 0#32
  ![6, v1031.toNat, 0]

def k0_chk39 (v1030 : BitVec 32) : Prop :=
  (∀ a, (k0_off39 v1030) a + S1x1x128.size a ≤ S16x1024x128.size a)
theorem k0_off39_inb : ∀ (v1030 : BitVec 32) (k0_hw39 : k0_chk39 v1030), ∀ a, (k0_off39 v1030) a + S1x1x128.size a ≤ S16x1024x128.size a := fun v1030 k0_hw39 => k0_hw39

def k0_off40 (v1042 : BitVec 32) : Fin 3 → Nat :=
  let c7_161 : Index := 7#32
  let v1043 : Index := Scalar.indexCast v1042
  let c0_162 : Index := 0#32
  ![7, v1043.toNat, 0]

def k0_chk40 (v1042 : BitVec 32) : Prop :=
  (∀ a, (k0_off40 v1042) a + S1x1x128.size a ≤ S16x1024x128.size a)
theorem k0_off40_inb : ∀ (v1042 : BitVec 32) (k0_hw40 : k0_chk40 v1042), ∀ a, (k0_off40 v1042) a + S1x1x128.size a ≤ S16x1024x128.size a := fun v1042 k0_hw40 => k0_hw40

def k0_off41 (v1054 : BitVec 32) : Fin 3 → Nat :=
  let c8_163 : Index := 8#32
  let v1055 : Index := Scalar.indexCast v1054
  let c0_164 : Index := 0#32
  ![8, v1055.toNat, 0]

def k0_chk41 (v1054 : BitVec 32) : Prop :=
  (∀ a, (k0_off41 v1054) a + S1x1x128.size a ≤ S16x1024x128.size a)
theorem k0_off41_inb : ∀ (v1054 : BitVec 32) (k0_hw41 : k0_chk41 v1054), ∀ a, (k0_off41 v1054) a + S1x1x128.size a ≤ S16x1024x128.size a := fun v1054 k0_hw41 => k0_hw41

def k0_off42 (v1066 : BitVec 32) : Fin 3 → Nat :=
  let c9_165 : Index := 9#32
  let v1067 : Index := Scalar.indexCast v1066
  let c0_166 : Index := 0#32
  ![9, v1067.toNat, 0]

def k0_chk42 (v1066 : BitVec 32) : Prop :=
  (∀ a, (k0_off42 v1066) a + S1x1x128.size a ≤ S16x1024x128.size a)
theorem k0_off42_inb : ∀ (v1066 : BitVec 32) (k0_hw42 : k0_chk42 v1066), ∀ a, (k0_off42 v1066) a + S1x1x128.size a ≤ S16x1024x128.size a := fun v1066 k0_hw42 => k0_hw42

def k0_off43 (v1078 : BitVec 32) : Fin 3 → Nat :=
  let c10_167 : Index := 10#32
  let v1079 : Index := Scalar.indexCast v1078
  let c0_168 : Index := 0#32
  ![10, v1079.toNat, 0]

def k0_chk43 (v1078 : BitVec 32) : Prop :=
  (∀ a, (k0_off43 v1078) a + S1x1x128.size a ≤ S16x1024x128.size a)
theorem k0_off43_inb : ∀ (v1078 : BitVec 32) (k0_hw43 : k0_chk43 v1078), ∀ a, (k0_off43 v1078) a + S1x1x128.size a ≤ S16x1024x128.size a := fun v1078 k0_hw43 => k0_hw43

def k0_off44 (v1090 : BitVec 32) : Fin 3 → Nat :=
  let c11_169 : Index := 11#32
  let v1091 : Index := Scalar.indexCast v1090
  let c0_170 : Index := 0#32
  ![11, v1091.toNat, 0]

def k0_chk44 (v1090 : BitVec 32) : Prop :=
  (∀ a, (k0_off44 v1090) a + S1x1x128.size a ≤ S16x1024x128.size a)
theorem k0_off44_inb : ∀ (v1090 : BitVec 32) (k0_hw44 : k0_chk44 v1090), ∀ a, (k0_off44 v1090) a + S1x1x128.size a ≤ S16x1024x128.size a := fun v1090 k0_hw44 => k0_hw44

def k0_off45 (v1102 : BitVec 32) : Fin 3 → Nat :=
  let c12_171 : Index := 12#32
  let v1103 : Index := Scalar.indexCast v1102
  let c0_172 : Index := 0#32
  ![12, v1103.toNat, 0]

def k0_chk45 (v1102 : BitVec 32) : Prop :=
  (∀ a, (k0_off45 v1102) a + S1x1x128.size a ≤ S16x1024x128.size a)
theorem k0_off45_inb : ∀ (v1102 : BitVec 32) (k0_hw45 : k0_chk45 v1102), ∀ a, (k0_off45 v1102) a + S1x1x128.size a ≤ S16x1024x128.size a := fun v1102 k0_hw45 => k0_hw45

def k0_off46 (v1114 : BitVec 32) : Fin 3 → Nat :=
  let c13_173 : Index := 13#32
  let v1115 : Index := Scalar.indexCast v1114
  let c0_174 : Index := 0#32
  ![13, v1115.toNat, 0]

def k0_chk46 (v1114 : BitVec 32) : Prop :=
  (∀ a, (k0_off46 v1114) a + S1x1x128.size a ≤ S16x1024x128.size a)
theorem k0_off46_inb : ∀ (v1114 : BitVec 32) (k0_hw46 : k0_chk46 v1114), ∀ a, (k0_off46 v1114) a + S1x1x128.size a ≤ S16x1024x128.size a := fun v1114 k0_hw46 => k0_hw46

def k0_off47 (v1126 : BitVec 32) : Fin 3 → Nat :=
  let c14_175 : Index := 14#32
  let v1127 : Index := Scalar.indexCast v1126
  let c0_176 : Index := 0#32
  ![14, v1127.toNat, 0]

def k0_chk47 (v1126 : BitVec 32) : Prop :=
  (∀ a, (k0_off47 v1126) a + S1x1x128.size a ≤ S16x1024x128.size a)
theorem k0_off47_inb : ∀ (v1126 : BitVec 32) (k0_hw47 : k0_chk47 v1126), ∀ a, (k0_off47 v1126) a + S1x1x128.size a ≤ S16x1024x128.size a := fun v1126 k0_hw47 => k0_hw47

def k0_off48 (v1138 : BitVec 32) : Fin 3 → Nat :=
  let c15_177 : Index := 15#32
  let v1139 : Index := Scalar.indexCast v1138
  let c0_178 : Index := 0#32
  ![15, v1139.toNat, 0]

def k0_chk48 (v1138 : BitVec 32) : Prop :=
  (∀ a, (k0_off48 v1138) a + S1x1x128.size a ≤ S16x1024x128.size a)
theorem k0_off48_inb : ∀ (v1138 : BitVec 32) (k0_hw48 : k0_chk48 v1138), ∀ a, (k0_off48 v1138) a + S1x1x128.size a ≤ S16x1024x128.size a := fun v1138 k0_hw48 => k0_hw48

def k0_off49 (v1378 : BitVec 32) : Fin 3 → Nat :=
  let c0_208 : Index := 0#32
  let v1379 : Index := Scalar.indexCast v1378
  let c0_209 : Index := 0#32
  ![0, v1379.toNat, 0]

def k0_chk49 (v1378 : BitVec 32) : Prop :=
  (∀ a, (k0_off49 v1378) a + S1x1x128.size a ≤ S16x1024x128.size a)
theorem k0_off49_inb : ∀ (v1378 : BitVec 32) (k0_hw49 : k0_chk49 v1378), ∀ a, (k0_off49 v1378) a + S1x1x128.size a ≤ S16x1024x128.size a := fun v1378 k0_hw49 => k0_hw49

def k0_off50 (v1390 : BitVec 32) : Fin 3 → Nat :=
  let c1_210 : Index := 1#32
  let v1391 : Index := Scalar.indexCast v1390
  let c0_211 : Index := 0#32
  ![1, v1391.toNat, 0]

def k0_chk50 (v1390 : BitVec 32) : Prop :=
  (∀ a, (k0_off50 v1390) a + S1x1x128.size a ≤ S16x1024x128.size a)
theorem k0_off50_inb : ∀ (v1390 : BitVec 32) (k0_hw50 : k0_chk50 v1390), ∀ a, (k0_off50 v1390) a + S1x1x128.size a ≤ S16x1024x128.size a := fun v1390 k0_hw50 => k0_hw50

def k0_off51 (v1402 : BitVec 32) : Fin 3 → Nat :=
  let c2_212 : Index := 2#32
  let v1403 : Index := Scalar.indexCast v1402
  let c0_213 : Index := 0#32
  ![2, v1403.toNat, 0]

def k0_chk51 (v1402 : BitVec 32) : Prop :=
  (∀ a, (k0_off51 v1402) a + S1x1x128.size a ≤ S16x1024x128.size a)
theorem k0_off51_inb : ∀ (v1402 : BitVec 32) (k0_hw51 : k0_chk51 v1402), ∀ a, (k0_off51 v1402) a + S1x1x128.size a ≤ S16x1024x128.size a := fun v1402 k0_hw51 => k0_hw51

def k0_off52 (v1414 : BitVec 32) : Fin 3 → Nat :=
  let c3_214 : Index := 3#32
  let v1415 : Index := Scalar.indexCast v1414
  let c0_215 : Index := 0#32
  ![3, v1415.toNat, 0]

def k0_chk52 (v1414 : BitVec 32) : Prop :=
  (∀ a, (k0_off52 v1414) a + S1x1x128.size a ≤ S16x1024x128.size a)
theorem k0_off52_inb : ∀ (v1414 : BitVec 32) (k0_hw52 : k0_chk52 v1414), ∀ a, (k0_off52 v1414) a + S1x1x128.size a ≤ S16x1024x128.size a := fun v1414 k0_hw52 => k0_hw52

def k0_off53 (v1426 : BitVec 32) : Fin 3 → Nat :=
  let c4_216 : Index := 4#32
  let v1427 : Index := Scalar.indexCast v1426
  let c0_217 : Index := 0#32
  ![4, v1427.toNat, 0]

def k0_chk53 (v1426 : BitVec 32) : Prop :=
  (∀ a, (k0_off53 v1426) a + S1x1x128.size a ≤ S16x1024x128.size a)
theorem k0_off53_inb : ∀ (v1426 : BitVec 32) (k0_hw53 : k0_chk53 v1426), ∀ a, (k0_off53 v1426) a + S1x1x128.size a ≤ S16x1024x128.size a := fun v1426 k0_hw53 => k0_hw53

def k0_off54 (v1438 : BitVec 32) : Fin 3 → Nat :=
  let c5_218 : Index := 5#32
  let v1439 : Index := Scalar.indexCast v1438
  let c0_219 : Index := 0#32
  ![5, v1439.toNat, 0]

def k0_chk54 (v1438 : BitVec 32) : Prop :=
  (∀ a, (k0_off54 v1438) a + S1x1x128.size a ≤ S16x1024x128.size a)
theorem k0_off54_inb : ∀ (v1438 : BitVec 32) (k0_hw54 : k0_chk54 v1438), ∀ a, (k0_off54 v1438) a + S1x1x128.size a ≤ S16x1024x128.size a := fun v1438 k0_hw54 => k0_hw54

def k0_off55 (v1450 : BitVec 32) : Fin 3 → Nat :=
  let c6_220 : Index := 6#32
  let v1451 : Index := Scalar.indexCast v1450
  let c0_221 : Index := 0#32
  ![6, v1451.toNat, 0]

def k0_chk55 (v1450 : BitVec 32) : Prop :=
  (∀ a, (k0_off55 v1450) a + S1x1x128.size a ≤ S16x1024x128.size a)
theorem k0_off55_inb : ∀ (v1450 : BitVec 32) (k0_hw55 : k0_chk55 v1450), ∀ a, (k0_off55 v1450) a + S1x1x128.size a ≤ S16x1024x128.size a := fun v1450 k0_hw55 => k0_hw55

def k0_off56 (v1462 : BitVec 32) : Fin 3 → Nat :=
  let c7_222 : Index := 7#32
  let v1463 : Index := Scalar.indexCast v1462
  let c0_223 : Index := 0#32
  ![7, v1463.toNat, 0]

def k0_chk56 (v1462 : BitVec 32) : Prop :=
  (∀ a, (k0_off56 v1462) a + S1x1x128.size a ≤ S16x1024x128.size a)
theorem k0_off56_inb : ∀ (v1462 : BitVec 32) (k0_hw56 : k0_chk56 v1462), ∀ a, (k0_off56 v1462) a + S1x1x128.size a ≤ S16x1024x128.size a := fun v1462 k0_hw56 => k0_hw56

def k0_off57 (v1474 : BitVec 32) : Fin 3 → Nat :=
  let c8_224 : Index := 8#32
  let v1475 : Index := Scalar.indexCast v1474
  let c0_225 : Index := 0#32
  ![8, v1475.toNat, 0]

def k0_chk57 (v1474 : BitVec 32) : Prop :=
  (∀ a, (k0_off57 v1474) a + S1x1x128.size a ≤ S16x1024x128.size a)
theorem k0_off57_inb : ∀ (v1474 : BitVec 32) (k0_hw57 : k0_chk57 v1474), ∀ a, (k0_off57 v1474) a + S1x1x128.size a ≤ S16x1024x128.size a := fun v1474 k0_hw57 => k0_hw57

def k0_off58 (v1486 : BitVec 32) : Fin 3 → Nat :=
  let c9_226 : Index := 9#32
  let v1487 : Index := Scalar.indexCast v1486
  let c0_227 : Index := 0#32
  ![9, v1487.toNat, 0]

def k0_chk58 (v1486 : BitVec 32) : Prop :=
  (∀ a, (k0_off58 v1486) a + S1x1x128.size a ≤ S16x1024x128.size a)
theorem k0_off58_inb : ∀ (v1486 : BitVec 32) (k0_hw58 : k0_chk58 v1486), ∀ a, (k0_off58 v1486) a + S1x1x128.size a ≤ S16x1024x128.size a := fun v1486 k0_hw58 => k0_hw58

def k0_off59 (v1498 : BitVec 32) : Fin 3 → Nat :=
  let c10_228 : Index := 10#32
  let v1499 : Index := Scalar.indexCast v1498
  let c0_229 : Index := 0#32
  ![10, v1499.toNat, 0]

def k0_chk59 (v1498 : BitVec 32) : Prop :=
  (∀ a, (k0_off59 v1498) a + S1x1x128.size a ≤ S16x1024x128.size a)
theorem k0_off59_inb : ∀ (v1498 : BitVec 32) (k0_hw59 : k0_chk59 v1498), ∀ a, (k0_off59 v1498) a + S1x1x128.size a ≤ S16x1024x128.size a := fun v1498 k0_hw59 => k0_hw59

def k0_off60 (v1510 : BitVec 32) : Fin 3 → Nat :=
  let c11_230 : Index := 11#32
  let v1511 : Index := Scalar.indexCast v1510
  let c0_231 : Index := 0#32
  ![11, v1511.toNat, 0]

def k0_chk60 (v1510 : BitVec 32) : Prop :=
  (∀ a, (k0_off60 v1510) a + S1x1x128.size a ≤ S16x1024x128.size a)
theorem k0_off60_inb : ∀ (v1510 : BitVec 32) (k0_hw60 : k0_chk60 v1510), ∀ a, (k0_off60 v1510) a + S1x1x128.size a ≤ S16x1024x128.size a := fun v1510 k0_hw60 => k0_hw60

def k0_off61 (v1522 : BitVec 32) : Fin 3 → Nat :=
  let c12_232 : Index := 12#32
  let v1523 : Index := Scalar.indexCast v1522
  let c0_233 : Index := 0#32
  ![12, v1523.toNat, 0]

def k0_chk61 (v1522 : BitVec 32) : Prop :=
  (∀ a, (k0_off61 v1522) a + S1x1x128.size a ≤ S16x1024x128.size a)
theorem k0_off61_inb : ∀ (v1522 : BitVec 32) (k0_hw61 : k0_chk61 v1522), ∀ a, (k0_off61 v1522) a + S1x1x128.size a ≤ S16x1024x128.size a := fun v1522 k0_hw61 => k0_hw61

def k0_off62 (v1534 : BitVec 32) : Fin 3 → Nat :=
  let c13_234 : Index := 13#32
  let v1535 : Index := Scalar.indexCast v1534
  let c0_235 : Index := 0#32
  ![13, v1535.toNat, 0]

def k0_chk62 (v1534 : BitVec 32) : Prop :=
  (∀ a, (k0_off62 v1534) a + S1x1x128.size a ≤ S16x1024x128.size a)
theorem k0_off62_inb : ∀ (v1534 : BitVec 32) (k0_hw62 : k0_chk62 v1534), ∀ a, (k0_off62 v1534) a + S1x1x128.size a ≤ S16x1024x128.size a := fun v1534 k0_hw62 => k0_hw62

def k0_off63 (v1546 : BitVec 32) : Fin 3 → Nat :=
  let c14_236 : Index := 14#32
  let v1547 : Index := Scalar.indexCast v1546
  let c0_237 : Index := 0#32
  ![14, v1547.toNat, 0]

def k0_chk63 (v1546 : BitVec 32) : Prop :=
  (∀ a, (k0_off63 v1546) a + S1x1x128.size a ≤ S16x1024x128.size a)
theorem k0_off63_inb : ∀ (v1546 : BitVec 32) (k0_hw63 : k0_chk63 v1546), ∀ a, (k0_off63 v1546) a + S1x1x128.size a ≤ S16x1024x128.size a := fun v1546 k0_hw63 => k0_hw63

def k0_off64 (v1558 : BitVec 32) : Fin 3 → Nat :=
  let c15_238 : Index := 15#32
  let v1559 : Index := Scalar.indexCast v1558
  let c0_239 : Index := 0#32
  ![15, v1559.toNat, 0]

def k0_chk64 (v1558 : BitVec 32) : Prop :=
  (∀ a, (k0_off64 v1558) a + S1x1x128.size a ≤ S16x1024x128.size a)
theorem k0_off64_inb : ∀ (v1558 : BitVec 32) (k0_hw64 : k0_chk64 v1558), ∀ a, (k0_off64 v1558) a + S1x1x128.size a ≤ S16x1024x128.size a := fun v1558 k0_hw64 => k0_hw64

def k0_off65 (v1817 : BitVec 32) : Fin 3 → Nat :=
  let c0_271 : Index := 0#32
  let v1818 : Index := Scalar.indexCast v1817
  let c0_272 : Index := 0#32
  ![0, v1818.toNat, 0]

def k0_chk65 (v1817 : BitVec 32) : Prop :=
  (∀ a, (k0_off65 v1817) a + S1x1x128.size a ≤ S16x1024x128.size a)
theorem k0_off65_inb : ∀ (v1817 : BitVec 32) (k0_hw65 : k0_chk65 v1817), ∀ a, (k0_off65 v1817) a + S1x1x128.size a ≤ S16x1024x128.size a := fun v1817 k0_hw65 => k0_hw65

def k0_off66 (v1829 : BitVec 32) : Fin 3 → Nat :=
  let c1_273 : Index := 1#32
  let v1830 : Index := Scalar.indexCast v1829
  let c0_274 : Index := 0#32
  ![1, v1830.toNat, 0]

def k0_chk66 (v1829 : BitVec 32) : Prop :=
  (∀ a, (k0_off66 v1829) a + S1x1x128.size a ≤ S16x1024x128.size a)
theorem k0_off66_inb : ∀ (v1829 : BitVec 32) (k0_hw66 : k0_chk66 v1829), ∀ a, (k0_off66 v1829) a + S1x1x128.size a ≤ S16x1024x128.size a := fun v1829 k0_hw66 => k0_hw66

def k0_off67 (v1841 : BitVec 32) : Fin 3 → Nat :=
  let c2_275 : Index := 2#32
  let v1842 : Index := Scalar.indexCast v1841
  let c0_276 : Index := 0#32
  ![2, v1842.toNat, 0]

def k0_chk67 (v1841 : BitVec 32) : Prop :=
  (∀ a, (k0_off67 v1841) a + S1x1x128.size a ≤ S16x1024x128.size a)
theorem k0_off67_inb : ∀ (v1841 : BitVec 32) (k0_hw67 : k0_chk67 v1841), ∀ a, (k0_off67 v1841) a + S1x1x128.size a ≤ S16x1024x128.size a := fun v1841 k0_hw67 => k0_hw67

def k0_off68 (v1853 : BitVec 32) : Fin 3 → Nat :=
  let c3_277 : Index := 3#32
  let v1854 : Index := Scalar.indexCast v1853
  let c0_278 : Index := 0#32
  ![3, v1854.toNat, 0]

def k0_chk68 (v1853 : BitVec 32) : Prop :=
  (∀ a, (k0_off68 v1853) a + S1x1x128.size a ≤ S16x1024x128.size a)
theorem k0_off68_inb : ∀ (v1853 : BitVec 32) (k0_hw68 : k0_chk68 v1853), ∀ a, (k0_off68 v1853) a + S1x1x128.size a ≤ S16x1024x128.size a := fun v1853 k0_hw68 => k0_hw68

def k0_off69 (v1865 : BitVec 32) : Fin 3 → Nat :=
  let c4_279 : Index := 4#32
  let v1866 : Index := Scalar.indexCast v1865
  let c0_280 : Index := 0#32
  ![4, v1866.toNat, 0]

def k0_chk69 (v1865 : BitVec 32) : Prop :=
  (∀ a, (k0_off69 v1865) a + S1x1x128.size a ≤ S16x1024x128.size a)
theorem k0_off69_inb : ∀ (v1865 : BitVec 32) (k0_hw69 : k0_chk69 v1865), ∀ a, (k0_off69 v1865) a + S1x1x128.size a ≤ S16x1024x128.size a := fun v1865 k0_hw69 => k0_hw69

def k0_off70 (v1877 : BitVec 32) : Fin 3 → Nat :=
  let c5_281 : Index := 5#32
  let v1878 : Index := Scalar.indexCast v1877
  let c0_282 : Index := 0#32
  ![5, v1878.toNat, 0]

def k0_chk70 (v1877 : BitVec 32) : Prop :=
  (∀ a, (k0_off70 v1877) a + S1x1x128.size a ≤ S16x1024x128.size a)
theorem k0_off70_inb : ∀ (v1877 : BitVec 32) (k0_hw70 : k0_chk70 v1877), ∀ a, (k0_off70 v1877) a + S1x1x128.size a ≤ S16x1024x128.size a := fun v1877 k0_hw70 => k0_hw70

def k0_off71 (v1889 : BitVec 32) : Fin 3 → Nat :=
  let c6_283 : Index := 6#32
  let v1890 : Index := Scalar.indexCast v1889
  let c0_284 : Index := 0#32
  ![6, v1890.toNat, 0]

def k0_chk71 (v1889 : BitVec 32) : Prop :=
  (∀ a, (k0_off71 v1889) a + S1x1x128.size a ≤ S16x1024x128.size a)
theorem k0_off71_inb : ∀ (v1889 : BitVec 32) (k0_hw71 : k0_chk71 v1889), ∀ a, (k0_off71 v1889) a + S1x1x128.size a ≤ S16x1024x128.size a := fun v1889 k0_hw71 => k0_hw71

def k0_off72 (v1901 : BitVec 32) : Fin 3 → Nat :=
  let c7_285 : Index := 7#32
  let v1902 : Index := Scalar.indexCast v1901
  let c0_286 : Index := 0#32
  ![7, v1902.toNat, 0]

def k0_chk72 (v1901 : BitVec 32) : Prop :=
  (∀ a, (k0_off72 v1901) a + S1x1x128.size a ≤ S16x1024x128.size a)
theorem k0_off72_inb : ∀ (v1901 : BitVec 32) (k0_hw72 : k0_chk72 v1901), ∀ a, (k0_off72 v1901) a + S1x1x128.size a ≤ S16x1024x128.size a := fun v1901 k0_hw72 => k0_hw72

def k0_off73 (v1913 : BitVec 32) : Fin 3 → Nat :=
  let c8_287 : Index := 8#32
  let v1914 : Index := Scalar.indexCast v1913
  let c0_288 : Index := 0#32
  ![8, v1914.toNat, 0]

def k0_chk73 (v1913 : BitVec 32) : Prop :=
  (∀ a, (k0_off73 v1913) a + S1x1x128.size a ≤ S16x1024x128.size a)
theorem k0_off73_inb : ∀ (v1913 : BitVec 32) (k0_hw73 : k0_chk73 v1913), ∀ a, (k0_off73 v1913) a + S1x1x128.size a ≤ S16x1024x128.size a := fun v1913 k0_hw73 => k0_hw73

def k0_off74 (v1925 : BitVec 32) : Fin 3 → Nat :=
  let c9_289 : Index := 9#32
  let v1926 : Index := Scalar.indexCast v1925
  let c0_290 : Index := 0#32
  ![9, v1926.toNat, 0]

def k0_chk74 (v1925 : BitVec 32) : Prop :=
  (∀ a, (k0_off74 v1925) a + S1x1x128.size a ≤ S16x1024x128.size a)
theorem k0_off74_inb : ∀ (v1925 : BitVec 32) (k0_hw74 : k0_chk74 v1925), ∀ a, (k0_off74 v1925) a + S1x1x128.size a ≤ S16x1024x128.size a := fun v1925 k0_hw74 => k0_hw74

def k0_off75 (v1937 : BitVec 32) : Fin 3 → Nat :=
  let c10_291 : Index := 10#32
  let v1938 : Index := Scalar.indexCast v1937
  let c0_292 : Index := 0#32
  ![10, v1938.toNat, 0]

def k0_chk75 (v1937 : BitVec 32) : Prop :=
  (∀ a, (k0_off75 v1937) a + S1x1x128.size a ≤ S16x1024x128.size a)
theorem k0_off75_inb : ∀ (v1937 : BitVec 32) (k0_hw75 : k0_chk75 v1937), ∀ a, (k0_off75 v1937) a + S1x1x128.size a ≤ S16x1024x128.size a := fun v1937 k0_hw75 => k0_hw75

def k0_off76 (v1949 : BitVec 32) : Fin 3 → Nat :=
  let c11_293 : Index := 11#32
  let v1950 : Index := Scalar.indexCast v1949
  let c0_294 : Index := 0#32
  ![11, v1950.toNat, 0]

def k0_chk76 (v1949 : BitVec 32) : Prop :=
  (∀ a, (k0_off76 v1949) a + S1x1x128.size a ≤ S16x1024x128.size a)
theorem k0_off76_inb : ∀ (v1949 : BitVec 32) (k0_hw76 : k0_chk76 v1949), ∀ a, (k0_off76 v1949) a + S1x1x128.size a ≤ S16x1024x128.size a := fun v1949 k0_hw76 => k0_hw76

def k0_off77 (v1961 : BitVec 32) : Fin 3 → Nat :=
  let c12_295 : Index := 12#32
  let v1962 : Index := Scalar.indexCast v1961
  let c0_296 : Index := 0#32
  ![12, v1962.toNat, 0]

def k0_chk77 (v1961 : BitVec 32) : Prop :=
  (∀ a, (k0_off77 v1961) a + S1x1x128.size a ≤ S16x1024x128.size a)
theorem k0_off77_inb : ∀ (v1961 : BitVec 32) (k0_hw77 : k0_chk77 v1961), ∀ a, (k0_off77 v1961) a + S1x1x128.size a ≤ S16x1024x128.size a := fun v1961 k0_hw77 => k0_hw77

def k0_off78 (v1973 : BitVec 32) : Fin 3 → Nat :=
  let c13_297 : Index := 13#32
  let v1974 : Index := Scalar.indexCast v1973
  let c0_298 : Index := 0#32
  ![13, v1974.toNat, 0]

def k0_chk78 (v1973 : BitVec 32) : Prop :=
  (∀ a, (k0_off78 v1973) a + S1x1x128.size a ≤ S16x1024x128.size a)
theorem k0_off78_inb : ∀ (v1973 : BitVec 32) (k0_hw78 : k0_chk78 v1973), ∀ a, (k0_off78 v1973) a + S1x1x128.size a ≤ S16x1024x128.size a := fun v1973 k0_hw78 => k0_hw78

def k0_off79 (v1985 : BitVec 32) : Fin 3 → Nat :=
  let c14_299 : Index := 14#32
  let v1986 : Index := Scalar.indexCast v1985
  let c0_300 : Index := 0#32
  ![14, v1986.toNat, 0]

def k0_chk79 (v1985 : BitVec 32) : Prop :=
  (∀ a, (k0_off79 v1985) a + S1x1x128.size a ≤ S16x1024x128.size a)
theorem k0_off79_inb : ∀ (v1985 : BitVec 32) (k0_hw79 : k0_chk79 v1985), ∀ a, (k0_off79 v1985) a + S1x1x128.size a ≤ S16x1024x128.size a := fun v1985 k0_hw79 => k0_hw79

def k0_off80 (v1997 : BitVec 32) : Fin 3 → Nat :=
  let c15_301 : Index := 15#32
  let v1998 : Index := Scalar.indexCast v1997
  let c0_302 : Index := 0#32
  ![15, v1998.toNat, 0]

def k0_chk80 (v1997 : BitVec 32) : Prop :=
  (∀ a, (k0_off80 v1997) a + S1x1x128.size a ≤ S16x1024x128.size a)
theorem k0_off80_inb : ∀ (v1997 : BitVec 32) (k0_hw80 : k0_chk80 v1997), ∀ a, (k0_off80 v1997) a + S1x1x128.size a ≤ S16x1024x128.size a := fun v1997 k0_hw80 => k0_hw80

def k0_off81 (v2275 : BitVec 32) : Fin 3 → Nat :=
  let c0_336 : Index := 0#32
  let v2276 : Index := Scalar.indexCast v2275
  let c0_337 : Index := 0#32
  ![0, v2276.toNat, 0]

def k0_chk81 (v2275 : BitVec 32) : Prop :=
  (∀ a, (k0_off81 v2275) a + S1x1x128.size a ≤ S16x1024x128.size a)
theorem k0_off81_inb : ∀ (v2275 : BitVec 32) (k0_hw81 : k0_chk81 v2275), ∀ a, (k0_off81 v2275) a + S1x1x128.size a ≤ S16x1024x128.size a := fun v2275 k0_hw81 => k0_hw81

def k0_off82 (v2287 : BitVec 32) : Fin 3 → Nat :=
  let c1_338 : Index := 1#32
  let v2288 : Index := Scalar.indexCast v2287
  let c0_339 : Index := 0#32
  ![1, v2288.toNat, 0]

def k0_chk82 (v2287 : BitVec 32) : Prop :=
  (∀ a, (k0_off82 v2287) a + S1x1x128.size a ≤ S16x1024x128.size a)
theorem k0_off82_inb : ∀ (v2287 : BitVec 32) (k0_hw82 : k0_chk82 v2287), ∀ a, (k0_off82 v2287) a + S1x1x128.size a ≤ S16x1024x128.size a := fun v2287 k0_hw82 => k0_hw82

def k0_off83 (v2299 : BitVec 32) : Fin 3 → Nat :=
  let c2_340 : Index := 2#32
  let v2300 : Index := Scalar.indexCast v2299
  let c0_341 : Index := 0#32
  ![2, v2300.toNat, 0]

def k0_chk83 (v2299 : BitVec 32) : Prop :=
  (∀ a, (k0_off83 v2299) a + S1x1x128.size a ≤ S16x1024x128.size a)
theorem k0_off83_inb : ∀ (v2299 : BitVec 32) (k0_hw83 : k0_chk83 v2299), ∀ a, (k0_off83 v2299) a + S1x1x128.size a ≤ S16x1024x128.size a := fun v2299 k0_hw83 => k0_hw83

def k0_off84 (v2311 : BitVec 32) : Fin 3 → Nat :=
  let c3_342 : Index := 3#32
  let v2312 : Index := Scalar.indexCast v2311
  let c0_343 : Index := 0#32
  ![3, v2312.toNat, 0]

def k0_chk84 (v2311 : BitVec 32) : Prop :=
  (∀ a, (k0_off84 v2311) a + S1x1x128.size a ≤ S16x1024x128.size a)
theorem k0_off84_inb : ∀ (v2311 : BitVec 32) (k0_hw84 : k0_chk84 v2311), ∀ a, (k0_off84 v2311) a + S1x1x128.size a ≤ S16x1024x128.size a := fun v2311 k0_hw84 => k0_hw84

def k0_off85 (v2323 : BitVec 32) : Fin 3 → Nat :=
  let c4_344 : Index := 4#32
  let v2324 : Index := Scalar.indexCast v2323
  let c0_345 : Index := 0#32
  ![4, v2324.toNat, 0]

def k0_chk85 (v2323 : BitVec 32) : Prop :=
  (∀ a, (k0_off85 v2323) a + S1x1x128.size a ≤ S16x1024x128.size a)
theorem k0_off85_inb : ∀ (v2323 : BitVec 32) (k0_hw85 : k0_chk85 v2323), ∀ a, (k0_off85 v2323) a + S1x1x128.size a ≤ S16x1024x128.size a := fun v2323 k0_hw85 => k0_hw85

def k0_off86 (v2335 : BitVec 32) : Fin 3 → Nat :=
  let c5_346 : Index := 5#32
  let v2336 : Index := Scalar.indexCast v2335
  let c0_347 : Index := 0#32
  ![5, v2336.toNat, 0]

def k0_chk86 (v2335 : BitVec 32) : Prop :=
  (∀ a, (k0_off86 v2335) a + S1x1x128.size a ≤ S16x1024x128.size a)
theorem k0_off86_inb : ∀ (v2335 : BitVec 32) (k0_hw86 : k0_chk86 v2335), ∀ a, (k0_off86 v2335) a + S1x1x128.size a ≤ S16x1024x128.size a := fun v2335 k0_hw86 => k0_hw86

def k0_off87 (v2347 : BitVec 32) : Fin 3 → Nat :=
  let c6_348 : Index := 6#32
  let v2348 : Index := Scalar.indexCast v2347
  let c0_349 : Index := 0#32
  ![6, v2348.toNat, 0]

def k0_chk87 (v2347 : BitVec 32) : Prop :=
  (∀ a, (k0_off87 v2347) a + S1x1x128.size a ≤ S16x1024x128.size a)
theorem k0_off87_inb : ∀ (v2347 : BitVec 32) (k0_hw87 : k0_chk87 v2347), ∀ a, (k0_off87 v2347) a + S1x1x128.size a ≤ S16x1024x128.size a := fun v2347 k0_hw87 => k0_hw87

def k0_off88 (v2359 : BitVec 32) : Fin 3 → Nat :=
  let c7_350 : Index := 7#32
  let v2360 : Index := Scalar.indexCast v2359
  let c0_351 : Index := 0#32
  ![7, v2360.toNat, 0]

def k0_chk88 (v2359 : BitVec 32) : Prop :=
  (∀ a, (k0_off88 v2359) a + S1x1x128.size a ≤ S16x1024x128.size a)
theorem k0_off88_inb : ∀ (v2359 : BitVec 32) (k0_hw88 : k0_chk88 v2359), ∀ a, (k0_off88 v2359) a + S1x1x128.size a ≤ S16x1024x128.size a := fun v2359 k0_hw88 => k0_hw88

def k0_off89 (v2371 : BitVec 32) : Fin 3 → Nat :=
  let c8_352 : Index := 8#32
  let v2372 : Index := Scalar.indexCast v2371
  let c0_353 : Index := 0#32
  ![8, v2372.toNat, 0]

def k0_chk89 (v2371 : BitVec 32) : Prop :=
  (∀ a, (k0_off89 v2371) a + S1x1x128.size a ≤ S16x1024x128.size a)
theorem k0_off89_inb : ∀ (v2371 : BitVec 32) (k0_hw89 : k0_chk89 v2371), ∀ a, (k0_off89 v2371) a + S1x1x128.size a ≤ S16x1024x128.size a := fun v2371 k0_hw89 => k0_hw89

def k0_off90 (v2383 : BitVec 32) : Fin 3 → Nat :=
  let c9_354 : Index := 9#32
  let v2384 : Index := Scalar.indexCast v2383
  let c0_355 : Index := 0#32
  ![9, v2384.toNat, 0]

def k0_chk90 (v2383 : BitVec 32) : Prop :=
  (∀ a, (k0_off90 v2383) a + S1x1x128.size a ≤ S16x1024x128.size a)
theorem k0_off90_inb : ∀ (v2383 : BitVec 32) (k0_hw90 : k0_chk90 v2383), ∀ a, (k0_off90 v2383) a + S1x1x128.size a ≤ S16x1024x128.size a := fun v2383 k0_hw90 => k0_hw90

def k0_off91 (v2395 : BitVec 32) : Fin 3 → Nat :=
  let c10_356 : Index := 10#32
  let v2396 : Index := Scalar.indexCast v2395
  let c0_357 : Index := 0#32
  ![10, v2396.toNat, 0]

def k0_chk91 (v2395 : BitVec 32) : Prop :=
  (∀ a, (k0_off91 v2395) a + S1x1x128.size a ≤ S16x1024x128.size a)
theorem k0_off91_inb : ∀ (v2395 : BitVec 32) (k0_hw91 : k0_chk91 v2395), ∀ a, (k0_off91 v2395) a + S1x1x128.size a ≤ S16x1024x128.size a := fun v2395 k0_hw91 => k0_hw91

def k0_off92 (v2407 : BitVec 32) : Fin 3 → Nat :=
  let c11_358 : Index := 11#32
  let v2408 : Index := Scalar.indexCast v2407
  let c0_359 : Index := 0#32
  ![11, v2408.toNat, 0]

def k0_chk92 (v2407 : BitVec 32) : Prop :=
  (∀ a, (k0_off92 v2407) a + S1x1x128.size a ≤ S16x1024x128.size a)
theorem k0_off92_inb : ∀ (v2407 : BitVec 32) (k0_hw92 : k0_chk92 v2407), ∀ a, (k0_off92 v2407) a + S1x1x128.size a ≤ S16x1024x128.size a := fun v2407 k0_hw92 => k0_hw92

def k0_off93 (v2419 : BitVec 32) : Fin 3 → Nat :=
  let c12_360 : Index := 12#32
  let v2420 : Index := Scalar.indexCast v2419
  let c0_361 : Index := 0#32
  ![12, v2420.toNat, 0]

def k0_chk93 (v2419 : BitVec 32) : Prop :=
  (∀ a, (k0_off93 v2419) a + S1x1x128.size a ≤ S16x1024x128.size a)
theorem k0_off93_inb : ∀ (v2419 : BitVec 32) (k0_hw93 : k0_chk93 v2419), ∀ a, (k0_off93 v2419) a + S1x1x128.size a ≤ S16x1024x128.size a := fun v2419 k0_hw93 => k0_hw93

def k0_off94 (v2431 : BitVec 32) : Fin 3 → Nat :=
  let c13_362 : Index := 13#32
  let v2432 : Index := Scalar.indexCast v2431
  let c0_363 : Index := 0#32
  ![13, v2432.toNat, 0]

def k0_chk94 (v2431 : BitVec 32) : Prop :=
  (∀ a, (k0_off94 v2431) a + S1x1x128.size a ≤ S16x1024x128.size a)
theorem k0_off94_inb : ∀ (v2431 : BitVec 32) (k0_hw94 : k0_chk94 v2431), ∀ a, (k0_off94 v2431) a + S1x1x128.size a ≤ S16x1024x128.size a := fun v2431 k0_hw94 => k0_hw94

def k0_off95 (v2443 : BitVec 32) : Fin 3 → Nat :=
  let c14_364 : Index := 14#32
  let v2444 : Index := Scalar.indexCast v2443
  let c0_365 : Index := 0#32
  ![14, v2444.toNat, 0]

def k0_chk95 (v2443 : BitVec 32) : Prop :=
  (∀ a, (k0_off95 v2443) a + S1x1x128.size a ≤ S16x1024x128.size a)
theorem k0_off95_inb : ∀ (v2443 : BitVec 32) (k0_hw95 : k0_chk95 v2443), ∀ a, (k0_off95 v2443) a + S1x1x128.size a ≤ S16x1024x128.size a := fun v2443 k0_hw95 => k0_hw95

def k0_off96 (v2455 : BitVec 32) : Fin 3 → Nat :=
  let c15_366 : Index := 15#32
  let v2456 : Index := Scalar.indexCast v2455
  let c0_367 : Index := 0#32
  ![15, v2456.toNat, 0]

def k0_chk96 (v2455 : BitVec 32) : Prop :=
  (∀ a, (k0_off96 v2455) a + S1x1x128.size a ≤ S16x1024x128.size a)
theorem k0_off96_inb : ∀ (v2455 : BitVec 32) (k0_hw96 : k0_chk96 v2455), ∀ a, (k0_off96 v2455) a + S1x1x128.size a ≤ S16x1024x128.size a := fun v2455 k0_hw96 => k0_hw96

def k0_off97 (v2752 : BitVec 32) : Fin 3 → Nat :=
  let c0_403 : Index := 0#32
  let v2753 : Index := Scalar.indexCast v2752
  let c0_404 : Index := 0#32
  ![0, v2753.toNat, 0]

def k0_chk97 (v2752 : BitVec 32) : Prop :=
  (∀ a, (k0_off97 v2752) a + S1x1x128.size a ≤ S16x1024x128.size a)
theorem k0_off97_inb : ∀ (v2752 : BitVec 32) (k0_hw97 : k0_chk97 v2752), ∀ a, (k0_off97 v2752) a + S1x1x128.size a ≤ S16x1024x128.size a := fun v2752 k0_hw97 => k0_hw97

def k0_off98 (v2764 : BitVec 32) : Fin 3 → Nat :=
  let c1_405 : Index := 1#32
  let v2765 : Index := Scalar.indexCast v2764
  let c0_406 : Index := 0#32
  ![1, v2765.toNat, 0]

def k0_chk98 (v2764 : BitVec 32) : Prop :=
  (∀ a, (k0_off98 v2764) a + S1x1x128.size a ≤ S16x1024x128.size a)
theorem k0_off98_inb : ∀ (v2764 : BitVec 32) (k0_hw98 : k0_chk98 v2764), ∀ a, (k0_off98 v2764) a + S1x1x128.size a ≤ S16x1024x128.size a := fun v2764 k0_hw98 => k0_hw98

def k0_off99 (v2776 : BitVec 32) : Fin 3 → Nat :=
  let c2_407 : Index := 2#32
  let v2777 : Index := Scalar.indexCast v2776
  let c0_408 : Index := 0#32
  ![2, v2777.toNat, 0]

def k0_chk99 (v2776 : BitVec 32) : Prop :=
  (∀ a, (k0_off99 v2776) a + S1x1x128.size a ≤ S16x1024x128.size a)
theorem k0_off99_inb : ∀ (v2776 : BitVec 32) (k0_hw99 : k0_chk99 v2776), ∀ a, (k0_off99 v2776) a + S1x1x128.size a ≤ S16x1024x128.size a := fun v2776 k0_hw99 => k0_hw99

def k0_off100 (v2788 : BitVec 32) : Fin 3 → Nat :=
  let c3_409 : Index := 3#32
  let v2789 : Index := Scalar.indexCast v2788
  let c0_410 : Index := 0#32
  ![3, v2789.toNat, 0]

def k0_chk100 (v2788 : BitVec 32) : Prop :=
  (∀ a, (k0_off100 v2788) a + S1x1x128.size a ≤ S16x1024x128.size a)
theorem k0_off100_inb : ∀ (v2788 : BitVec 32) (k0_hw100 : k0_chk100 v2788), ∀ a, (k0_off100 v2788) a + S1x1x128.size a ≤ S16x1024x128.size a := fun v2788 k0_hw100 => k0_hw100

def k0_off101 (v2800 : BitVec 32) : Fin 3 → Nat :=
  let c4_411 : Index := 4#32
  let v2801 : Index := Scalar.indexCast v2800
  let c0_412 : Index := 0#32
  ![4, v2801.toNat, 0]

def k0_chk101 (v2800 : BitVec 32) : Prop :=
  (∀ a, (k0_off101 v2800) a + S1x1x128.size a ≤ S16x1024x128.size a)
theorem k0_off101_inb : ∀ (v2800 : BitVec 32) (k0_hw101 : k0_chk101 v2800), ∀ a, (k0_off101 v2800) a + S1x1x128.size a ≤ S16x1024x128.size a := fun v2800 k0_hw101 => k0_hw101

def k0_off102 (v2812 : BitVec 32) : Fin 3 → Nat :=
  let c5_413 : Index := 5#32
  let v2813 : Index := Scalar.indexCast v2812
  let c0_414 : Index := 0#32
  ![5, v2813.toNat, 0]

def k0_chk102 (v2812 : BitVec 32) : Prop :=
  (∀ a, (k0_off102 v2812) a + S1x1x128.size a ≤ S16x1024x128.size a)
theorem k0_off102_inb : ∀ (v2812 : BitVec 32) (k0_hw102 : k0_chk102 v2812), ∀ a, (k0_off102 v2812) a + S1x1x128.size a ≤ S16x1024x128.size a := fun v2812 k0_hw102 => k0_hw102

def k0_off103 (v2824 : BitVec 32) : Fin 3 → Nat :=
  let c6_415 : Index := 6#32
  let v2825 : Index := Scalar.indexCast v2824
  let c0_416 : Index := 0#32
  ![6, v2825.toNat, 0]

def k0_chk103 (v2824 : BitVec 32) : Prop :=
  (∀ a, (k0_off103 v2824) a + S1x1x128.size a ≤ S16x1024x128.size a)
theorem k0_off103_inb : ∀ (v2824 : BitVec 32) (k0_hw103 : k0_chk103 v2824), ∀ a, (k0_off103 v2824) a + S1x1x128.size a ≤ S16x1024x128.size a := fun v2824 k0_hw103 => k0_hw103

def k0_off104 (v2836 : BitVec 32) : Fin 3 → Nat :=
  let c7_417 : Index := 7#32
  let v2837 : Index := Scalar.indexCast v2836
  let c0_418 : Index := 0#32
  ![7, v2837.toNat, 0]

def k0_chk104 (v2836 : BitVec 32) : Prop :=
  (∀ a, (k0_off104 v2836) a + S1x1x128.size a ≤ S16x1024x128.size a)
theorem k0_off104_inb : ∀ (v2836 : BitVec 32) (k0_hw104 : k0_chk104 v2836), ∀ a, (k0_off104 v2836) a + S1x1x128.size a ≤ S16x1024x128.size a := fun v2836 k0_hw104 => k0_hw104

def k0_off105 (v2848 : BitVec 32) : Fin 3 → Nat :=
  let c8_419 : Index := 8#32
  let v2849 : Index := Scalar.indexCast v2848
  let c0_420 : Index := 0#32
  ![8, v2849.toNat, 0]

def k0_chk105 (v2848 : BitVec 32) : Prop :=
  (∀ a, (k0_off105 v2848) a + S1x1x128.size a ≤ S16x1024x128.size a)
theorem k0_off105_inb : ∀ (v2848 : BitVec 32) (k0_hw105 : k0_chk105 v2848), ∀ a, (k0_off105 v2848) a + S1x1x128.size a ≤ S16x1024x128.size a := fun v2848 k0_hw105 => k0_hw105

def k0_off106 (v2860 : BitVec 32) : Fin 3 → Nat :=
  let c9_421 : Index := 9#32
  let v2861 : Index := Scalar.indexCast v2860
  let c0_422 : Index := 0#32
  ![9, v2861.toNat, 0]

def k0_chk106 (v2860 : BitVec 32) : Prop :=
  (∀ a, (k0_off106 v2860) a + S1x1x128.size a ≤ S16x1024x128.size a)
theorem k0_off106_inb : ∀ (v2860 : BitVec 32) (k0_hw106 : k0_chk106 v2860), ∀ a, (k0_off106 v2860) a + S1x1x128.size a ≤ S16x1024x128.size a := fun v2860 k0_hw106 => k0_hw106

def k0_off107 (v2872 : BitVec 32) : Fin 3 → Nat :=
  let c10_423 : Index := 10#32
  let v2873 : Index := Scalar.indexCast v2872
  let c0_424 : Index := 0#32
  ![10, v2873.toNat, 0]

def k0_chk107 (v2872 : BitVec 32) : Prop :=
  (∀ a, (k0_off107 v2872) a + S1x1x128.size a ≤ S16x1024x128.size a)
theorem k0_off107_inb : ∀ (v2872 : BitVec 32) (k0_hw107 : k0_chk107 v2872), ∀ a, (k0_off107 v2872) a + S1x1x128.size a ≤ S16x1024x128.size a := fun v2872 k0_hw107 => k0_hw107

def k0_off108 (v2884 : BitVec 32) : Fin 3 → Nat :=
  let c11_425 : Index := 11#32
  let v2885 : Index := Scalar.indexCast v2884
  let c0_426 : Index := 0#32
  ![11, v2885.toNat, 0]

def k0_chk108 (v2884 : BitVec 32) : Prop :=
  (∀ a, (k0_off108 v2884) a + S1x1x128.size a ≤ S16x1024x128.size a)
theorem k0_off108_inb : ∀ (v2884 : BitVec 32) (k0_hw108 : k0_chk108 v2884), ∀ a, (k0_off108 v2884) a + S1x1x128.size a ≤ S16x1024x128.size a := fun v2884 k0_hw108 => k0_hw108

def k0_off109 (v2896 : BitVec 32) : Fin 3 → Nat :=
  let c12_427 : Index := 12#32
  let v2897 : Index := Scalar.indexCast v2896
  let c0_428 : Index := 0#32
  ![12, v2897.toNat, 0]

def k0_chk109 (v2896 : BitVec 32) : Prop :=
  (∀ a, (k0_off109 v2896) a + S1x1x128.size a ≤ S16x1024x128.size a)
theorem k0_off109_inb : ∀ (v2896 : BitVec 32) (k0_hw109 : k0_chk109 v2896), ∀ a, (k0_off109 v2896) a + S1x1x128.size a ≤ S16x1024x128.size a := fun v2896 k0_hw109 => k0_hw109

def k0_off110 (v2908 : BitVec 32) : Fin 3 → Nat :=
  let c13_429 : Index := 13#32
  let v2909 : Index := Scalar.indexCast v2908
  let c0_430 : Index := 0#32
  ![13, v2909.toNat, 0]

def k0_chk110 (v2908 : BitVec 32) : Prop :=
  (∀ a, (k0_off110 v2908) a + S1x1x128.size a ≤ S16x1024x128.size a)
theorem k0_off110_inb : ∀ (v2908 : BitVec 32) (k0_hw110 : k0_chk110 v2908), ∀ a, (k0_off110 v2908) a + S1x1x128.size a ≤ S16x1024x128.size a := fun v2908 k0_hw110 => k0_hw110

def k0_off111 (v2920 : BitVec 32) : Fin 3 → Nat :=
  let c14_431 : Index := 14#32
  let v2921 : Index := Scalar.indexCast v2920
  let c0_432 : Index := 0#32
  ![14, v2921.toNat, 0]

def k0_chk111 (v2920 : BitVec 32) : Prop :=
  (∀ a, (k0_off111 v2920) a + S1x1x128.size a ≤ S16x1024x128.size a)
theorem k0_off111_inb : ∀ (v2920 : BitVec 32) (k0_hw111 : k0_chk111 v2920), ∀ a, (k0_off111 v2920) a + S1x1x128.size a ≤ S16x1024x128.size a := fun v2920 k0_hw111 => k0_hw111

def k0_off112 (v2932 : BitVec 32) : Fin 3 → Nat :=
  let c15_433 : Index := 15#32
  let v2933 : Index := Scalar.indexCast v2932
  let c0_434 : Index := 0#32
  ![15, v2933.toNat, 0]

def k0_chk112 (v2932 : BitVec 32) : Prop :=
  (∀ a, (k0_off112 v2932) a + S1x1x128.size a ≤ S16x1024x128.size a)
theorem k0_off112_inb : ∀ (v2932 : BitVec 32) (k0_hw112 : k0_chk112 v2932), ∀ a, (k0_off112 v2932) a + S1x1x128.size a ≤ S16x1024x128.size a := fun v2932 k0_hw112 => k0_hw112

def k0_off113 (v3248 : BitVec 32) : Fin 3 → Nat :=
  let c0_472 : Index := 0#32
  let v3249 : Index := Scalar.indexCast v3248
  let c0_473 : Index := 0#32
  ![0, v3249.toNat, 0]

def k0_chk113 (v3248 : BitVec 32) : Prop :=
  (∀ a, (k0_off113 v3248) a + S1x1x128.size a ≤ S16x1024x128.size a)
theorem k0_off113_inb : ∀ (v3248 : BitVec 32) (k0_hw113 : k0_chk113 v3248), ∀ a, (k0_off113 v3248) a + S1x1x128.size a ≤ S16x1024x128.size a := fun v3248 k0_hw113 => k0_hw113

def k0_off114 (v3260 : BitVec 32) : Fin 3 → Nat :=
  let c1_474 : Index := 1#32
  let v3261 : Index := Scalar.indexCast v3260
  let c0_475 : Index := 0#32
  ![1, v3261.toNat, 0]

def k0_chk114 (v3260 : BitVec 32) : Prop :=
  (∀ a, (k0_off114 v3260) a + S1x1x128.size a ≤ S16x1024x128.size a)
theorem k0_off114_inb : ∀ (v3260 : BitVec 32) (k0_hw114 : k0_chk114 v3260), ∀ a, (k0_off114 v3260) a + S1x1x128.size a ≤ S16x1024x128.size a := fun v3260 k0_hw114 => k0_hw114

def k0_off115 (v3272 : BitVec 32) : Fin 3 → Nat :=
  let c2_476 : Index := 2#32
  let v3273 : Index := Scalar.indexCast v3272
  let c0_477 : Index := 0#32
  ![2, v3273.toNat, 0]

def k0_chk115 (v3272 : BitVec 32) : Prop :=
  (∀ a, (k0_off115 v3272) a + S1x1x128.size a ≤ S16x1024x128.size a)
theorem k0_off115_inb : ∀ (v3272 : BitVec 32) (k0_hw115 : k0_chk115 v3272), ∀ a, (k0_off115 v3272) a + S1x1x128.size a ≤ S16x1024x128.size a := fun v3272 k0_hw115 => k0_hw115

def k0_off116 (v3284 : BitVec 32) : Fin 3 → Nat :=
  let c3_478 : Index := 3#32
  let v3285 : Index := Scalar.indexCast v3284
  let c0_479 : Index := 0#32
  ![3, v3285.toNat, 0]

def k0_chk116 (v3284 : BitVec 32) : Prop :=
  (∀ a, (k0_off116 v3284) a + S1x1x128.size a ≤ S16x1024x128.size a)
theorem k0_off116_inb : ∀ (v3284 : BitVec 32) (k0_hw116 : k0_chk116 v3284), ∀ a, (k0_off116 v3284) a + S1x1x128.size a ≤ S16x1024x128.size a := fun v3284 k0_hw116 => k0_hw116

def k0_off117 (v3296 : BitVec 32) : Fin 3 → Nat :=
  let c4_480 : Index := 4#32
  let v3297 : Index := Scalar.indexCast v3296
  let c0_481 : Index := 0#32
  ![4, v3297.toNat, 0]

def k0_chk117 (v3296 : BitVec 32) : Prop :=
  (∀ a, (k0_off117 v3296) a + S1x1x128.size a ≤ S16x1024x128.size a)
theorem k0_off117_inb : ∀ (v3296 : BitVec 32) (k0_hw117 : k0_chk117 v3296), ∀ a, (k0_off117 v3296) a + S1x1x128.size a ≤ S16x1024x128.size a := fun v3296 k0_hw117 => k0_hw117

def k0_off118 (v3308 : BitVec 32) : Fin 3 → Nat :=
  let c5_482 : Index := 5#32
  let v3309 : Index := Scalar.indexCast v3308
  let c0_483 : Index := 0#32
  ![5, v3309.toNat, 0]

def k0_chk118 (v3308 : BitVec 32) : Prop :=
  (∀ a, (k0_off118 v3308) a + S1x1x128.size a ≤ S16x1024x128.size a)
theorem k0_off118_inb : ∀ (v3308 : BitVec 32) (k0_hw118 : k0_chk118 v3308), ∀ a, (k0_off118 v3308) a + S1x1x128.size a ≤ S16x1024x128.size a := fun v3308 k0_hw118 => k0_hw118

def k0_off119 (v3320 : BitVec 32) : Fin 3 → Nat :=
  let c6_484 : Index := 6#32
  let v3321 : Index := Scalar.indexCast v3320
  let c0_485 : Index := 0#32
  ![6, v3321.toNat, 0]

def k0_chk119 (v3320 : BitVec 32) : Prop :=
  (∀ a, (k0_off119 v3320) a + S1x1x128.size a ≤ S16x1024x128.size a)
theorem k0_off119_inb : ∀ (v3320 : BitVec 32) (k0_hw119 : k0_chk119 v3320), ∀ a, (k0_off119 v3320) a + S1x1x128.size a ≤ S16x1024x128.size a := fun v3320 k0_hw119 => k0_hw119

def k0_off120 (v3332 : BitVec 32) : Fin 3 → Nat :=
  let c7_486 : Index := 7#32
  let v3333 : Index := Scalar.indexCast v3332
  let c0_487 : Index := 0#32
  ![7, v3333.toNat, 0]

def k0_chk120 (v3332 : BitVec 32) : Prop :=
  (∀ a, (k0_off120 v3332) a + S1x1x128.size a ≤ S16x1024x128.size a)
theorem k0_off120_inb : ∀ (v3332 : BitVec 32) (k0_hw120 : k0_chk120 v3332), ∀ a, (k0_off120 v3332) a + S1x1x128.size a ≤ S16x1024x128.size a := fun v3332 k0_hw120 => k0_hw120

def k0_off121 (v3344 : BitVec 32) : Fin 3 → Nat :=
  let c8_488 : Index := 8#32
  let v3345 : Index := Scalar.indexCast v3344
  let c0_489 : Index := 0#32
  ![8, v3345.toNat, 0]

def k0_chk121 (v3344 : BitVec 32) : Prop :=
  (∀ a, (k0_off121 v3344) a + S1x1x128.size a ≤ S16x1024x128.size a)
theorem k0_off121_inb : ∀ (v3344 : BitVec 32) (k0_hw121 : k0_chk121 v3344), ∀ a, (k0_off121 v3344) a + S1x1x128.size a ≤ S16x1024x128.size a := fun v3344 k0_hw121 => k0_hw121

def k0_off122 (v3356 : BitVec 32) : Fin 3 → Nat :=
  let c9_490 : Index := 9#32
  let v3357 : Index := Scalar.indexCast v3356
  let c0_491 : Index := 0#32
  ![9, v3357.toNat, 0]

def k0_chk122 (v3356 : BitVec 32) : Prop :=
  (∀ a, (k0_off122 v3356) a + S1x1x128.size a ≤ S16x1024x128.size a)
theorem k0_off122_inb : ∀ (v3356 : BitVec 32) (k0_hw122 : k0_chk122 v3356), ∀ a, (k0_off122 v3356) a + S1x1x128.size a ≤ S16x1024x128.size a := fun v3356 k0_hw122 => k0_hw122

def k0_off123 (v3368 : BitVec 32) : Fin 3 → Nat :=
  let c10_492 : Index := 10#32
  let v3369 : Index := Scalar.indexCast v3368
  let c0_493 : Index := 0#32
  ![10, v3369.toNat, 0]

def k0_chk123 (v3368 : BitVec 32) : Prop :=
  (∀ a, (k0_off123 v3368) a + S1x1x128.size a ≤ S16x1024x128.size a)
theorem k0_off123_inb : ∀ (v3368 : BitVec 32) (k0_hw123 : k0_chk123 v3368), ∀ a, (k0_off123 v3368) a + S1x1x128.size a ≤ S16x1024x128.size a := fun v3368 k0_hw123 => k0_hw123

def k0_off124 (v3380 : BitVec 32) : Fin 3 → Nat :=
  let c11_494 : Index := 11#32
  let v3381 : Index := Scalar.indexCast v3380
  let c0_495 : Index := 0#32
  ![11, v3381.toNat, 0]

def k0_chk124 (v3380 : BitVec 32) : Prop :=
  (∀ a, (k0_off124 v3380) a + S1x1x128.size a ≤ S16x1024x128.size a)
theorem k0_off124_inb : ∀ (v3380 : BitVec 32) (k0_hw124 : k0_chk124 v3380), ∀ a, (k0_off124 v3380) a + S1x1x128.size a ≤ S16x1024x128.size a := fun v3380 k0_hw124 => k0_hw124

def k0_off125 (v3392 : BitVec 32) : Fin 3 → Nat :=
  let c12_496 : Index := 12#32
  let v3393 : Index := Scalar.indexCast v3392
  let c0_497 : Index := 0#32
  ![12, v3393.toNat, 0]

def k0_chk125 (v3392 : BitVec 32) : Prop :=
  (∀ a, (k0_off125 v3392) a + S1x1x128.size a ≤ S16x1024x128.size a)
theorem k0_off125_inb : ∀ (v3392 : BitVec 32) (k0_hw125 : k0_chk125 v3392), ∀ a, (k0_off125 v3392) a + S1x1x128.size a ≤ S16x1024x128.size a := fun v3392 k0_hw125 => k0_hw125

def k0_off126 (v3404 : BitVec 32) : Fin 3 → Nat :=
  let c13_498 : Index := 13#32
  let v3405 : Index := Scalar.indexCast v3404
  let c0_499 : Index := 0#32
  ![13, v3405.toNat, 0]

def k0_chk126 (v3404 : BitVec 32) : Prop :=
  (∀ a, (k0_off126 v3404) a + S1x1x128.size a ≤ S16x1024x128.size a)
theorem k0_off126_inb : ∀ (v3404 : BitVec 32) (k0_hw126 : k0_chk126 v3404), ∀ a, (k0_off126 v3404) a + S1x1x128.size a ≤ S16x1024x128.size a := fun v3404 k0_hw126 => k0_hw126

def k0_off127 (v3416 : BitVec 32) : Fin 3 → Nat :=
  let c14_500 : Index := 14#32
  let v3417 : Index := Scalar.indexCast v3416
  let c0_501 : Index := 0#32
  ![14, v3417.toNat, 0]

def k0_chk127 (v3416 : BitVec 32) : Prop :=
  (∀ a, (k0_off127 v3416) a + S1x1x128.size a ≤ S16x1024x128.size a)
theorem k0_off127_inb : ∀ (v3416 : BitVec 32) (k0_hw127 : k0_chk127 v3416), ∀ a, (k0_off127 v3416) a + S1x1x128.size a ≤ S16x1024x128.size a := fun v3416 k0_hw127 => k0_hw127

def k0_off128 (v3428 : BitVec 32) : Fin 3 → Nat :=
  let c15_502 : Index := 15#32
  let v3429 : Index := Scalar.indexCast v3428
  let c0_503 : Index := 0#32
  ![15, v3429.toNat, 0]

def k0_chk128 (v3428 : BitVec 32) : Prop :=
  (∀ a, (k0_off128 v3428) a + S1x1x128.size a ≤ S16x1024x128.size a)
theorem k0_off128_inb : ∀ (v3428 : BitVec 32) (k0_hw128 : k0_chk128 v3428), ∀ a, (k0_off128 v3428) a + S1x1x128.size a ≤ S16x1024x128.size a := fun v3428 k0_hw128 => k0_hw128

def k0_off129 (v3763 : BitVec 32) : Fin 3 → Nat :=
  let c0_543 : Index := 0#32
  let v3764 : Index := Scalar.indexCast v3763
  let c0_544 : Index := 0#32
  ![0, v3764.toNat, 0]

def k0_chk129 (v3763 : BitVec 32) : Prop :=
  (∀ a, (k0_off129 v3763) a + S1x1x128.size a ≤ S16x1024x128.size a)
theorem k0_off129_inb : ∀ (v3763 : BitVec 32) (k0_hw129 : k0_chk129 v3763), ∀ a, (k0_off129 v3763) a + S1x1x128.size a ≤ S16x1024x128.size a := fun v3763 k0_hw129 => k0_hw129

def k0_off130 (v3775 : BitVec 32) : Fin 3 → Nat :=
  let c1_545 : Index := 1#32
  let v3776 : Index := Scalar.indexCast v3775
  let c0_546 : Index := 0#32
  ![1, v3776.toNat, 0]

def k0_chk130 (v3775 : BitVec 32) : Prop :=
  (∀ a, (k0_off130 v3775) a + S1x1x128.size a ≤ S16x1024x128.size a)
theorem k0_off130_inb : ∀ (v3775 : BitVec 32) (k0_hw130 : k0_chk130 v3775), ∀ a, (k0_off130 v3775) a + S1x1x128.size a ≤ S16x1024x128.size a := fun v3775 k0_hw130 => k0_hw130

def k0_off131 (v3787 : BitVec 32) : Fin 3 → Nat :=
  let c2_547 : Index := 2#32
  let v3788 : Index := Scalar.indexCast v3787
  let c0_548 : Index := 0#32
  ![2, v3788.toNat, 0]

def k0_chk131 (v3787 : BitVec 32) : Prop :=
  (∀ a, (k0_off131 v3787) a + S1x1x128.size a ≤ S16x1024x128.size a)
theorem k0_off131_inb : ∀ (v3787 : BitVec 32) (k0_hw131 : k0_chk131 v3787), ∀ a, (k0_off131 v3787) a + S1x1x128.size a ≤ S16x1024x128.size a := fun v3787 k0_hw131 => k0_hw131

def k0_off132 (v3799 : BitVec 32) : Fin 3 → Nat :=
  let c3_549 : Index := 3#32
  let v3800 : Index := Scalar.indexCast v3799
  let c0_550 : Index := 0#32
  ![3, v3800.toNat, 0]

def k0_chk132 (v3799 : BitVec 32) : Prop :=
  (∀ a, (k0_off132 v3799) a + S1x1x128.size a ≤ S16x1024x128.size a)
theorem k0_off132_inb : ∀ (v3799 : BitVec 32) (k0_hw132 : k0_chk132 v3799), ∀ a, (k0_off132 v3799) a + S1x1x128.size a ≤ S16x1024x128.size a := fun v3799 k0_hw132 => k0_hw132

def k0_off133 (v3811 : BitVec 32) : Fin 3 → Nat :=
  let c4_551 : Index := 4#32
  let v3812 : Index := Scalar.indexCast v3811
  let c0_552 : Index := 0#32
  ![4, v3812.toNat, 0]

def k0_chk133 (v3811 : BitVec 32) : Prop :=
  (∀ a, (k0_off133 v3811) a + S1x1x128.size a ≤ S16x1024x128.size a)
theorem k0_off133_inb : ∀ (v3811 : BitVec 32) (k0_hw133 : k0_chk133 v3811), ∀ a, (k0_off133 v3811) a + S1x1x128.size a ≤ S16x1024x128.size a := fun v3811 k0_hw133 => k0_hw133

def k0_off134 (v3823 : BitVec 32) : Fin 3 → Nat :=
  let c5_553 : Index := 5#32
  let v3824 : Index := Scalar.indexCast v3823
  let c0_554 : Index := 0#32
  ![5, v3824.toNat, 0]

def k0_chk134 (v3823 : BitVec 32) : Prop :=
  (∀ a, (k0_off134 v3823) a + S1x1x128.size a ≤ S16x1024x128.size a)
theorem k0_off134_inb : ∀ (v3823 : BitVec 32) (k0_hw134 : k0_chk134 v3823), ∀ a, (k0_off134 v3823) a + S1x1x128.size a ≤ S16x1024x128.size a := fun v3823 k0_hw134 => k0_hw134

def k0_off135 (v3835 : BitVec 32) : Fin 3 → Nat :=
  let c6_555 : Index := 6#32
  let v3836 : Index := Scalar.indexCast v3835
  let c0_556 : Index := 0#32
  ![6, v3836.toNat, 0]

def k0_chk135 (v3835 : BitVec 32) : Prop :=
  (∀ a, (k0_off135 v3835) a + S1x1x128.size a ≤ S16x1024x128.size a)
theorem k0_off135_inb : ∀ (v3835 : BitVec 32) (k0_hw135 : k0_chk135 v3835), ∀ a, (k0_off135 v3835) a + S1x1x128.size a ≤ S16x1024x128.size a := fun v3835 k0_hw135 => k0_hw135

def k0_off136 (v3847 : BitVec 32) : Fin 3 → Nat :=
  let c7_557 : Index := 7#32
  let v3848 : Index := Scalar.indexCast v3847
  let c0_558 : Index := 0#32
  ![7, v3848.toNat, 0]

def k0_chk136 (v3847 : BitVec 32) : Prop :=
  (∀ a, (k0_off136 v3847) a + S1x1x128.size a ≤ S16x1024x128.size a)
theorem k0_off136_inb : ∀ (v3847 : BitVec 32) (k0_hw136 : k0_chk136 v3847), ∀ a, (k0_off136 v3847) a + S1x1x128.size a ≤ S16x1024x128.size a := fun v3847 k0_hw136 => k0_hw136

def k0_off137 (v3859 : BitVec 32) : Fin 3 → Nat :=
  let c8_559 : Index := 8#32
  let v3860 : Index := Scalar.indexCast v3859
  let c0_560 : Index := 0#32
  ![8, v3860.toNat, 0]

def k0_chk137 (v3859 : BitVec 32) : Prop :=
  (∀ a, (k0_off137 v3859) a + S1x1x128.size a ≤ S16x1024x128.size a)
theorem k0_off137_inb : ∀ (v3859 : BitVec 32) (k0_hw137 : k0_chk137 v3859), ∀ a, (k0_off137 v3859) a + S1x1x128.size a ≤ S16x1024x128.size a := fun v3859 k0_hw137 => k0_hw137

def k0_off138 (v3871 : BitVec 32) : Fin 3 → Nat :=
  let c9_561 : Index := 9#32
  let v3872 : Index := Scalar.indexCast v3871
  let c0_562 : Index := 0#32
  ![9, v3872.toNat, 0]

def k0_chk138 (v3871 : BitVec 32) : Prop :=
  (∀ a, (k0_off138 v3871) a + S1x1x128.size a ≤ S16x1024x128.size a)
theorem k0_off138_inb : ∀ (v3871 : BitVec 32) (k0_hw138 : k0_chk138 v3871), ∀ a, (k0_off138 v3871) a + S1x1x128.size a ≤ S16x1024x128.size a := fun v3871 k0_hw138 => k0_hw138

def k0_off139 (v3883 : BitVec 32) : Fin 3 → Nat :=
  let c10_563 : Index := 10#32
  let v3884 : Index := Scalar.indexCast v3883
  let c0_564 : Index := 0#32
  ![10, v3884.toNat, 0]

def k0_chk139 (v3883 : BitVec 32) : Prop :=
  (∀ a, (k0_off139 v3883) a + S1x1x128.size a ≤ S16x1024x128.size a)
theorem k0_off139_inb : ∀ (v3883 : BitVec 32) (k0_hw139 : k0_chk139 v3883), ∀ a, (k0_off139 v3883) a + S1x1x128.size a ≤ S16x1024x128.size a := fun v3883 k0_hw139 => k0_hw139

def k0_off140 (v3895 : BitVec 32) : Fin 3 → Nat :=
  let c11_565 : Index := 11#32
  let v3896 : Index := Scalar.indexCast v3895
  let c0_566 : Index := 0#32
  ![11, v3896.toNat, 0]

def k0_chk140 (v3895 : BitVec 32) : Prop :=
  (∀ a, (k0_off140 v3895) a + S1x1x128.size a ≤ S16x1024x128.size a)
theorem k0_off140_inb : ∀ (v3895 : BitVec 32) (k0_hw140 : k0_chk140 v3895), ∀ a, (k0_off140 v3895) a + S1x1x128.size a ≤ S16x1024x128.size a := fun v3895 k0_hw140 => k0_hw140

def k0_off141 (v3907 : BitVec 32) : Fin 3 → Nat :=
  let c12_567 : Index := 12#32
  let v3908 : Index := Scalar.indexCast v3907
  let c0_568 : Index := 0#32
  ![12, v3908.toNat, 0]

def k0_chk141 (v3907 : BitVec 32) : Prop :=
  (∀ a, (k0_off141 v3907) a + S1x1x128.size a ≤ S16x1024x128.size a)
theorem k0_off141_inb : ∀ (v3907 : BitVec 32) (k0_hw141 : k0_chk141 v3907), ∀ a, (k0_off141 v3907) a + S1x1x128.size a ≤ S16x1024x128.size a := fun v3907 k0_hw141 => k0_hw141

def k0_off142 (v3919 : BitVec 32) : Fin 3 → Nat :=
  let c13_569 : Index := 13#32
  let v3920 : Index := Scalar.indexCast v3919
  let c0_570 : Index := 0#32
  ![13, v3920.toNat, 0]

def k0_chk142 (v3919 : BitVec 32) : Prop :=
  (∀ a, (k0_off142 v3919) a + S1x1x128.size a ≤ S16x1024x128.size a)
theorem k0_off142_inb : ∀ (v3919 : BitVec 32) (k0_hw142 : k0_chk142 v3919), ∀ a, (k0_off142 v3919) a + S1x1x128.size a ≤ S16x1024x128.size a := fun v3919 k0_hw142 => k0_hw142

def k0_off143 (v3931 : BitVec 32) : Fin 3 → Nat :=
  let c14_571 : Index := 14#32
  let v3932 : Index := Scalar.indexCast v3931
  let c0_572 : Index := 0#32
  ![14, v3932.toNat, 0]

def k0_chk143 (v3931 : BitVec 32) : Prop :=
  (∀ a, (k0_off143 v3931) a + S1x1x128.size a ≤ S16x1024x128.size a)
theorem k0_off143_inb : ∀ (v3931 : BitVec 32) (k0_hw143 : k0_chk143 v3931), ∀ a, (k0_off143 v3931) a + S1x1x128.size a ≤ S16x1024x128.size a := fun v3931 k0_hw143 => k0_hw143

def k0_off144 (v3943 : BitVec 32) : Fin 3 → Nat :=
  let c15_573 : Index := 15#32
  let v3944 : Index := Scalar.indexCast v3943
  let c0_574 : Index := 0#32
  ![15, v3944.toNat, 0]

def k0_chk144 (v3943 : BitVec 32) : Prop :=
  (∀ a, (k0_off144 v3943) a + S1x1x128.size a ≤ S16x1024x128.size a)
theorem k0_off144_inb : ∀ (v3943 : BitVec 32) (k0_hw144 : k0_chk144 v3943), ∀ a, (k0_off144 v3943) a + S1x1x128.size a ≤ S16x1024x128.size a := fun v3943 k0_hw144 => k0_hw144

def k0_off145 (v4297 : BitVec 32) : Fin 3 → Nat :=
  let c0_616 : Index := 0#32
  let v4298 : Index := Scalar.indexCast v4297
  let c0_617 : Index := 0#32
  ![0, v4298.toNat, 0]

def k0_chk145 (v4297 : BitVec 32) : Prop :=
  (∀ a, (k0_off145 v4297) a + S1x1x128.size a ≤ S16x1024x128.size a)
theorem k0_off145_inb : ∀ (v4297 : BitVec 32) (k0_hw145 : k0_chk145 v4297), ∀ a, (k0_off145 v4297) a + S1x1x128.size a ≤ S16x1024x128.size a := fun v4297 k0_hw145 => k0_hw145

def k0_off146 (v4309 : BitVec 32) : Fin 3 → Nat :=
  let c1_618 : Index := 1#32
  let v4310 : Index := Scalar.indexCast v4309
  let c0_619 : Index := 0#32
  ![1, v4310.toNat, 0]

def k0_chk146 (v4309 : BitVec 32) : Prop :=
  (∀ a, (k0_off146 v4309) a + S1x1x128.size a ≤ S16x1024x128.size a)
theorem k0_off146_inb : ∀ (v4309 : BitVec 32) (k0_hw146 : k0_chk146 v4309), ∀ a, (k0_off146 v4309) a + S1x1x128.size a ≤ S16x1024x128.size a := fun v4309 k0_hw146 => k0_hw146

def k0_off147 (v4321 : BitVec 32) : Fin 3 → Nat :=
  let c2_620 : Index := 2#32
  let v4322 : Index := Scalar.indexCast v4321
  let c0_621 : Index := 0#32
  ![2, v4322.toNat, 0]

def k0_chk147 (v4321 : BitVec 32) : Prop :=
  (∀ a, (k0_off147 v4321) a + S1x1x128.size a ≤ S16x1024x128.size a)
theorem k0_off147_inb : ∀ (v4321 : BitVec 32) (k0_hw147 : k0_chk147 v4321), ∀ a, (k0_off147 v4321) a + S1x1x128.size a ≤ S16x1024x128.size a := fun v4321 k0_hw147 => k0_hw147

def k0_off148 (v4333 : BitVec 32) : Fin 3 → Nat :=
  let c3_622 : Index := 3#32
  let v4334 : Index := Scalar.indexCast v4333
  let c0_623 : Index := 0#32
  ![3, v4334.toNat, 0]

def k0_chk148 (v4333 : BitVec 32) : Prop :=
  (∀ a, (k0_off148 v4333) a + S1x1x128.size a ≤ S16x1024x128.size a)
theorem k0_off148_inb : ∀ (v4333 : BitVec 32) (k0_hw148 : k0_chk148 v4333), ∀ a, (k0_off148 v4333) a + S1x1x128.size a ≤ S16x1024x128.size a := fun v4333 k0_hw148 => k0_hw148

def k0_off149 (v4345 : BitVec 32) : Fin 3 → Nat :=
  let c4_624 : Index := 4#32
  let v4346 : Index := Scalar.indexCast v4345
  let c0_625 : Index := 0#32
  ![4, v4346.toNat, 0]

def k0_chk149 (v4345 : BitVec 32) : Prop :=
  (∀ a, (k0_off149 v4345) a + S1x1x128.size a ≤ S16x1024x128.size a)
theorem k0_off149_inb : ∀ (v4345 : BitVec 32) (k0_hw149 : k0_chk149 v4345), ∀ a, (k0_off149 v4345) a + S1x1x128.size a ≤ S16x1024x128.size a := fun v4345 k0_hw149 => k0_hw149

def k0_off150 (v4357 : BitVec 32) : Fin 3 → Nat :=
  let c5_626 : Index := 5#32
  let v4358 : Index := Scalar.indexCast v4357
  let c0_627 : Index := 0#32
  ![5, v4358.toNat, 0]

def k0_chk150 (v4357 : BitVec 32) : Prop :=
  (∀ a, (k0_off150 v4357) a + S1x1x128.size a ≤ S16x1024x128.size a)
theorem k0_off150_inb : ∀ (v4357 : BitVec 32) (k0_hw150 : k0_chk150 v4357), ∀ a, (k0_off150 v4357) a + S1x1x128.size a ≤ S16x1024x128.size a := fun v4357 k0_hw150 => k0_hw150

def k0_off151 (v4369 : BitVec 32) : Fin 3 → Nat :=
  let c6_628 : Index := 6#32
  let v4370 : Index := Scalar.indexCast v4369
  let c0_629 : Index := 0#32
  ![6, v4370.toNat, 0]

def k0_chk151 (v4369 : BitVec 32) : Prop :=
  (∀ a, (k0_off151 v4369) a + S1x1x128.size a ≤ S16x1024x128.size a)
theorem k0_off151_inb : ∀ (v4369 : BitVec 32) (k0_hw151 : k0_chk151 v4369), ∀ a, (k0_off151 v4369) a + S1x1x128.size a ≤ S16x1024x128.size a := fun v4369 k0_hw151 => k0_hw151

def k0_off152 (v4381 : BitVec 32) : Fin 3 → Nat :=
  let c7_630 : Index := 7#32
  let v4382 : Index := Scalar.indexCast v4381
  let c0_631 : Index := 0#32
  ![7, v4382.toNat, 0]

def k0_chk152 (v4381 : BitVec 32) : Prop :=
  (∀ a, (k0_off152 v4381) a + S1x1x128.size a ≤ S16x1024x128.size a)
theorem k0_off152_inb : ∀ (v4381 : BitVec 32) (k0_hw152 : k0_chk152 v4381), ∀ a, (k0_off152 v4381) a + S1x1x128.size a ≤ S16x1024x128.size a := fun v4381 k0_hw152 => k0_hw152

def k0_off153 (v4393 : BitVec 32) : Fin 3 → Nat :=
  let c8_632 : Index := 8#32
  let v4394 : Index := Scalar.indexCast v4393
  let c0_633 : Index := 0#32
  ![8, v4394.toNat, 0]

def k0_chk153 (v4393 : BitVec 32) : Prop :=
  (∀ a, (k0_off153 v4393) a + S1x1x128.size a ≤ S16x1024x128.size a)
theorem k0_off153_inb : ∀ (v4393 : BitVec 32) (k0_hw153 : k0_chk153 v4393), ∀ a, (k0_off153 v4393) a + S1x1x128.size a ≤ S16x1024x128.size a := fun v4393 k0_hw153 => k0_hw153

def k0_off154 (v4405 : BitVec 32) : Fin 3 → Nat :=
  let c9_634 : Index := 9#32
  let v4406 : Index := Scalar.indexCast v4405
  let c0_635 : Index := 0#32
  ![9, v4406.toNat, 0]

def k0_chk154 (v4405 : BitVec 32) : Prop :=
  (∀ a, (k0_off154 v4405) a + S1x1x128.size a ≤ S16x1024x128.size a)
theorem k0_off154_inb : ∀ (v4405 : BitVec 32) (k0_hw154 : k0_chk154 v4405), ∀ a, (k0_off154 v4405) a + S1x1x128.size a ≤ S16x1024x128.size a := fun v4405 k0_hw154 => k0_hw154

def k0_off155 (v4417 : BitVec 32) : Fin 3 → Nat :=
  let c10_636 : Index := 10#32
  let v4418 : Index := Scalar.indexCast v4417
  let c0_637 : Index := 0#32
  ![10, v4418.toNat, 0]

def k0_chk155 (v4417 : BitVec 32) : Prop :=
  (∀ a, (k0_off155 v4417) a + S1x1x128.size a ≤ S16x1024x128.size a)
theorem k0_off155_inb : ∀ (v4417 : BitVec 32) (k0_hw155 : k0_chk155 v4417), ∀ a, (k0_off155 v4417) a + S1x1x128.size a ≤ S16x1024x128.size a := fun v4417 k0_hw155 => k0_hw155

def k0_off156 (v4429 : BitVec 32) : Fin 3 → Nat :=
  let c11_638 : Index := 11#32
  let v4430 : Index := Scalar.indexCast v4429
  let c0_639 : Index := 0#32
  ![11, v4430.toNat, 0]

def k0_chk156 (v4429 : BitVec 32) : Prop :=
  (∀ a, (k0_off156 v4429) a + S1x1x128.size a ≤ S16x1024x128.size a)
theorem k0_off156_inb : ∀ (v4429 : BitVec 32) (k0_hw156 : k0_chk156 v4429), ∀ a, (k0_off156 v4429) a + S1x1x128.size a ≤ S16x1024x128.size a := fun v4429 k0_hw156 => k0_hw156

def k0_off157 (v4441 : BitVec 32) : Fin 3 → Nat :=
  let c12_640 : Index := 12#32
  let v4442 : Index := Scalar.indexCast v4441
  let c0_641 : Index := 0#32
  ![12, v4442.toNat, 0]

def k0_chk157 (v4441 : BitVec 32) : Prop :=
  (∀ a, (k0_off157 v4441) a + S1x1x128.size a ≤ S16x1024x128.size a)
theorem k0_off157_inb : ∀ (v4441 : BitVec 32) (k0_hw157 : k0_chk157 v4441), ∀ a, (k0_off157 v4441) a + S1x1x128.size a ≤ S16x1024x128.size a := fun v4441 k0_hw157 => k0_hw157

def k0_off158 (v4453 : BitVec 32) : Fin 3 → Nat :=
  let c13_642 : Index := 13#32
  let v4454 : Index := Scalar.indexCast v4453
  let c0_643 : Index := 0#32
  ![13, v4454.toNat, 0]

def k0_chk158 (v4453 : BitVec 32) : Prop :=
  (∀ a, (k0_off158 v4453) a + S1x1x128.size a ≤ S16x1024x128.size a)
theorem k0_off158_inb : ∀ (v4453 : BitVec 32) (k0_hw158 : k0_chk158 v4453), ∀ a, (k0_off158 v4453) a + S1x1x128.size a ≤ S16x1024x128.size a := fun v4453 k0_hw158 => k0_hw158

def k0_off159 (v4465 : BitVec 32) : Fin 3 → Nat :=
  let c14_644 : Index := 14#32
  let v4466 : Index := Scalar.indexCast v4465
  let c0_645 : Index := 0#32
  ![14, v4466.toNat, 0]

def k0_chk159 (v4465 : BitVec 32) : Prop :=
  (∀ a, (k0_off159 v4465) a + S1x1x128.size a ≤ S16x1024x128.size a)
theorem k0_off159_inb : ∀ (v4465 : BitVec 32) (k0_hw159 : k0_chk159 v4465), ∀ a, (k0_off159 v4465) a + S1x1x128.size a ≤ S16x1024x128.size a := fun v4465 k0_hw159 => k0_hw159

def k0_off160 (v4477 : BitVec 32) : Fin 3 → Nat :=
  let c15_646 : Index := 15#32
  let v4478 : Index := Scalar.indexCast v4477
  let c0_647 : Index := 0#32
  ![15, v4478.toNat, 0]

def k0_chk160 (v4477 : BitVec 32) : Prop :=
  (∀ a, (k0_off160 v4477) a + S1x1x128.size a ≤ S16x1024x128.size a)
theorem k0_off160_inb : ∀ (v4477 : BitVec 32) (k0_hw160 : k0_chk160 v4477), ∀ a, (k0_off160 v4477) a + S1x1x128.size a ≤ S16x1024x128.size a := fun v4477 k0_hw160 => k0_hw160

def k0_off161 (v4850 : BitVec 32) : Fin 3 → Nat :=
  let c0_691 : Index := 0#32
  let v4851 : Index := Scalar.indexCast v4850
  let c0_692 : Index := 0#32
  ![0, v4851.toNat, 0]

def k0_chk161 (v4850 : BitVec 32) : Prop :=
  (∀ a, (k0_off161 v4850) a + S1x1x128.size a ≤ S16x1024x128.size a)
theorem k0_off161_inb : ∀ (v4850 : BitVec 32) (k0_hw161 : k0_chk161 v4850), ∀ a, (k0_off161 v4850) a + S1x1x128.size a ≤ S16x1024x128.size a := fun v4850 k0_hw161 => k0_hw161

def k0_off162 (v4862 : BitVec 32) : Fin 3 → Nat :=
  let c1_693 : Index := 1#32
  let v4863 : Index := Scalar.indexCast v4862
  let c0_694 : Index := 0#32
  ![1, v4863.toNat, 0]

def k0_chk162 (v4862 : BitVec 32) : Prop :=
  (∀ a, (k0_off162 v4862) a + S1x1x128.size a ≤ S16x1024x128.size a)
theorem k0_off162_inb : ∀ (v4862 : BitVec 32) (k0_hw162 : k0_chk162 v4862), ∀ a, (k0_off162 v4862) a + S1x1x128.size a ≤ S16x1024x128.size a := fun v4862 k0_hw162 => k0_hw162

def k0_off163 (v4874 : BitVec 32) : Fin 3 → Nat :=
  let c2_695 : Index := 2#32
  let v4875 : Index := Scalar.indexCast v4874
  let c0_696 : Index := 0#32
  ![2, v4875.toNat, 0]

def k0_chk163 (v4874 : BitVec 32) : Prop :=
  (∀ a, (k0_off163 v4874) a + S1x1x128.size a ≤ S16x1024x128.size a)
theorem k0_off163_inb : ∀ (v4874 : BitVec 32) (k0_hw163 : k0_chk163 v4874), ∀ a, (k0_off163 v4874) a + S1x1x128.size a ≤ S16x1024x128.size a := fun v4874 k0_hw163 => k0_hw163

def k0_off164 (v4886 : BitVec 32) : Fin 3 → Nat :=
  let c3_697 : Index := 3#32
  let v4887 : Index := Scalar.indexCast v4886
  let c0_698 : Index := 0#32
  ![3, v4887.toNat, 0]

def k0_chk164 (v4886 : BitVec 32) : Prop :=
  (∀ a, (k0_off164 v4886) a + S1x1x128.size a ≤ S16x1024x128.size a)
theorem k0_off164_inb : ∀ (v4886 : BitVec 32) (k0_hw164 : k0_chk164 v4886), ∀ a, (k0_off164 v4886) a + S1x1x128.size a ≤ S16x1024x128.size a := fun v4886 k0_hw164 => k0_hw164

def k0_off165 (v4898 : BitVec 32) : Fin 3 → Nat :=
  let c4_699 : Index := 4#32
  let v4899 : Index := Scalar.indexCast v4898
  let c0_700 : Index := 0#32
  ![4, v4899.toNat, 0]

def k0_chk165 (v4898 : BitVec 32) : Prop :=
  (∀ a, (k0_off165 v4898) a + S1x1x128.size a ≤ S16x1024x128.size a)
theorem k0_off165_inb : ∀ (v4898 : BitVec 32) (k0_hw165 : k0_chk165 v4898), ∀ a, (k0_off165 v4898) a + S1x1x128.size a ≤ S16x1024x128.size a := fun v4898 k0_hw165 => k0_hw165

def k0_off166 (v4910 : BitVec 32) : Fin 3 → Nat :=
  let c5_701 : Index := 5#32
  let v4911 : Index := Scalar.indexCast v4910
  let c0_702 : Index := 0#32
  ![5, v4911.toNat, 0]

def k0_chk166 (v4910 : BitVec 32) : Prop :=
  (∀ a, (k0_off166 v4910) a + S1x1x128.size a ≤ S16x1024x128.size a)
theorem k0_off166_inb : ∀ (v4910 : BitVec 32) (k0_hw166 : k0_chk166 v4910), ∀ a, (k0_off166 v4910) a + S1x1x128.size a ≤ S16x1024x128.size a := fun v4910 k0_hw166 => k0_hw166

def k0_off167 (v4922 : BitVec 32) : Fin 3 → Nat :=
  let c6_703 : Index := 6#32
  let v4923 : Index := Scalar.indexCast v4922
  let c0_704 : Index := 0#32
  ![6, v4923.toNat, 0]

def k0_chk167 (v4922 : BitVec 32) : Prop :=
  (∀ a, (k0_off167 v4922) a + S1x1x128.size a ≤ S16x1024x128.size a)
theorem k0_off167_inb : ∀ (v4922 : BitVec 32) (k0_hw167 : k0_chk167 v4922), ∀ a, (k0_off167 v4922) a + S1x1x128.size a ≤ S16x1024x128.size a := fun v4922 k0_hw167 => k0_hw167

def k0_off168 (v4934 : BitVec 32) : Fin 3 → Nat :=
  let c7_705 : Index := 7#32
  let v4935 : Index := Scalar.indexCast v4934
  let c0_706 : Index := 0#32
  ![7, v4935.toNat, 0]

def k0_chk168 (v4934 : BitVec 32) : Prop :=
  (∀ a, (k0_off168 v4934) a + S1x1x128.size a ≤ S16x1024x128.size a)
theorem k0_off168_inb : ∀ (v4934 : BitVec 32) (k0_hw168 : k0_chk168 v4934), ∀ a, (k0_off168 v4934) a + S1x1x128.size a ≤ S16x1024x128.size a := fun v4934 k0_hw168 => k0_hw168

def k0_off169 (v4946 : BitVec 32) : Fin 3 → Nat :=
  let c8_707 : Index := 8#32
  let v4947 : Index := Scalar.indexCast v4946
  let c0_708 : Index := 0#32
  ![8, v4947.toNat, 0]

def k0_chk169 (v4946 : BitVec 32) : Prop :=
  (∀ a, (k0_off169 v4946) a + S1x1x128.size a ≤ S16x1024x128.size a)
theorem k0_off169_inb : ∀ (v4946 : BitVec 32) (k0_hw169 : k0_chk169 v4946), ∀ a, (k0_off169 v4946) a + S1x1x128.size a ≤ S16x1024x128.size a := fun v4946 k0_hw169 => k0_hw169

def k0_off170 (v4958 : BitVec 32) : Fin 3 → Nat :=
  let c9_709 : Index := 9#32
  let v4959 : Index := Scalar.indexCast v4958
  let c0_710 : Index := 0#32
  ![9, v4959.toNat, 0]

def k0_chk170 (v4958 : BitVec 32) : Prop :=
  (∀ a, (k0_off170 v4958) a + S1x1x128.size a ≤ S16x1024x128.size a)
theorem k0_off170_inb : ∀ (v4958 : BitVec 32) (k0_hw170 : k0_chk170 v4958), ∀ a, (k0_off170 v4958) a + S1x1x128.size a ≤ S16x1024x128.size a := fun v4958 k0_hw170 => k0_hw170

def k0_off171 (v4970 : BitVec 32) : Fin 3 → Nat :=
  let c10_711 : Index := 10#32
  let v4971 : Index := Scalar.indexCast v4970
  let c0_712 : Index := 0#32
  ![10, v4971.toNat, 0]

def k0_chk171 (v4970 : BitVec 32) : Prop :=
  (∀ a, (k0_off171 v4970) a + S1x1x128.size a ≤ S16x1024x128.size a)
theorem k0_off171_inb : ∀ (v4970 : BitVec 32) (k0_hw171 : k0_chk171 v4970), ∀ a, (k0_off171 v4970) a + S1x1x128.size a ≤ S16x1024x128.size a := fun v4970 k0_hw171 => k0_hw171

def k0_off172 (v4982 : BitVec 32) : Fin 3 → Nat :=
  let c11_713 : Index := 11#32
  let v4983 : Index := Scalar.indexCast v4982
  let c0_714 : Index := 0#32
  ![11, v4983.toNat, 0]

def k0_chk172 (v4982 : BitVec 32) : Prop :=
  (∀ a, (k0_off172 v4982) a + S1x1x128.size a ≤ S16x1024x128.size a)
theorem k0_off172_inb : ∀ (v4982 : BitVec 32) (k0_hw172 : k0_chk172 v4982), ∀ a, (k0_off172 v4982) a + S1x1x128.size a ≤ S16x1024x128.size a := fun v4982 k0_hw172 => k0_hw172

def k0_off173 (v4994 : BitVec 32) : Fin 3 → Nat :=
  let c12_715 : Index := 12#32
  let v4995 : Index := Scalar.indexCast v4994
  let c0_716 : Index := 0#32
  ![12, v4995.toNat, 0]

def k0_chk173 (v4994 : BitVec 32) : Prop :=
  (∀ a, (k0_off173 v4994) a + S1x1x128.size a ≤ S16x1024x128.size a)
theorem k0_off173_inb : ∀ (v4994 : BitVec 32) (k0_hw173 : k0_chk173 v4994), ∀ a, (k0_off173 v4994) a + S1x1x128.size a ≤ S16x1024x128.size a := fun v4994 k0_hw173 => k0_hw173

def k0_off174 (v5006 : BitVec 32) : Fin 3 → Nat :=
  let c13_717 : Index := 13#32
  let v5007 : Index := Scalar.indexCast v5006
  let c0_718 : Index := 0#32
  ![13, v5007.toNat, 0]

def k0_chk174 (v5006 : BitVec 32) : Prop :=
  (∀ a, (k0_off174 v5006) a + S1x1x128.size a ≤ S16x1024x128.size a)
theorem k0_off174_inb : ∀ (v5006 : BitVec 32) (k0_hw174 : k0_chk174 v5006), ∀ a, (k0_off174 v5006) a + S1x1x128.size a ≤ S16x1024x128.size a := fun v5006 k0_hw174 => k0_hw174

def k0_off175 (v5018 : BitVec 32) : Fin 3 → Nat :=
  let c14_719 : Index := 14#32
  let v5019 : Index := Scalar.indexCast v5018
  let c0_720 : Index := 0#32
  ![14, v5019.toNat, 0]

def k0_chk175 (v5018 : BitVec 32) : Prop :=
  (∀ a, (k0_off175 v5018) a + S1x1x128.size a ≤ S16x1024x128.size a)
theorem k0_off175_inb : ∀ (v5018 : BitVec 32) (k0_hw175 : k0_chk175 v5018), ∀ a, (k0_off175 v5018) a + S1x1x128.size a ≤ S16x1024x128.size a := fun v5018 k0_hw175 => k0_hw175

def k0_off176 (v5030 : BitVec 32) : Fin 3 → Nat :=
  let c15_721 : Index := 15#32
  let v5031 : Index := Scalar.indexCast v5030
  let c0_722 : Index := 0#32
  ![15, v5031.toNat, 0]

def k0_chk176 (v5030 : BitVec 32) : Prop :=
  (∀ a, (k0_off176 v5030) a + S1x1x128.size a ≤ S16x1024x128.size a)
theorem k0_off176_inb : ∀ (v5030 : BitVec 32) (k0_hw176 : k0_chk176 v5030), ∀ a, (k0_off176 v5030) a + S1x1x128.size a ≤ S16x1024x128.size a := fun v5030 k0_hw176 => k0_hw176

def k0_off177 (v5422 : BitVec 32) : Fin 3 → Nat :=
  let c0_768 : Index := 0#32
  let v5423 : Index := Scalar.indexCast v5422
  let c0_769 : Index := 0#32
  ![0, v5423.toNat, 0]

def k0_chk177 (v5422 : BitVec 32) : Prop :=
  (∀ a, (k0_off177 v5422) a + S1x1x128.size a ≤ S16x1024x128.size a)
theorem k0_off177_inb : ∀ (v5422 : BitVec 32) (k0_hw177 : k0_chk177 v5422), ∀ a, (k0_off177 v5422) a + S1x1x128.size a ≤ S16x1024x128.size a := fun v5422 k0_hw177 => k0_hw177

def k0_off178 (v5434 : BitVec 32) : Fin 3 → Nat :=
  let c1_770 : Index := 1#32
  let v5435 : Index := Scalar.indexCast v5434
  let c0_771 : Index := 0#32
  ![1, v5435.toNat, 0]

def k0_chk178 (v5434 : BitVec 32) : Prop :=
  (∀ a, (k0_off178 v5434) a + S1x1x128.size a ≤ S16x1024x128.size a)
theorem k0_off178_inb : ∀ (v5434 : BitVec 32) (k0_hw178 : k0_chk178 v5434), ∀ a, (k0_off178 v5434) a + S1x1x128.size a ≤ S16x1024x128.size a := fun v5434 k0_hw178 => k0_hw178

def k0_off179 (v5446 : BitVec 32) : Fin 3 → Nat :=
  let c2_772 : Index := 2#32
  let v5447 : Index := Scalar.indexCast v5446
  let c0_773 : Index := 0#32
  ![2, v5447.toNat, 0]

def k0_chk179 (v5446 : BitVec 32) : Prop :=
  (∀ a, (k0_off179 v5446) a + S1x1x128.size a ≤ S16x1024x128.size a)
theorem k0_off179_inb : ∀ (v5446 : BitVec 32) (k0_hw179 : k0_chk179 v5446), ∀ a, (k0_off179 v5446) a + S1x1x128.size a ≤ S16x1024x128.size a := fun v5446 k0_hw179 => k0_hw179

def k0_off180 (v5458 : BitVec 32) : Fin 3 → Nat :=
  let c3_774 : Index := 3#32
  let v5459 : Index := Scalar.indexCast v5458
  let c0_775 : Index := 0#32
  ![3, v5459.toNat, 0]

def k0_chk180 (v5458 : BitVec 32) : Prop :=
  (∀ a, (k0_off180 v5458) a + S1x1x128.size a ≤ S16x1024x128.size a)
theorem k0_off180_inb : ∀ (v5458 : BitVec 32) (k0_hw180 : k0_chk180 v5458), ∀ a, (k0_off180 v5458) a + S1x1x128.size a ≤ S16x1024x128.size a := fun v5458 k0_hw180 => k0_hw180

def k0_off181 (v5470 : BitVec 32) : Fin 3 → Nat :=
  let c4_776 : Index := 4#32
  let v5471 : Index := Scalar.indexCast v5470
  let c0_777 : Index := 0#32
  ![4, v5471.toNat, 0]

def k0_chk181 (v5470 : BitVec 32) : Prop :=
  (∀ a, (k0_off181 v5470) a + S1x1x128.size a ≤ S16x1024x128.size a)
theorem k0_off181_inb : ∀ (v5470 : BitVec 32) (k0_hw181 : k0_chk181 v5470), ∀ a, (k0_off181 v5470) a + S1x1x128.size a ≤ S16x1024x128.size a := fun v5470 k0_hw181 => k0_hw181

def k0_off182 (v5482 : BitVec 32) : Fin 3 → Nat :=
  let c5_778 : Index := 5#32
  let v5483 : Index := Scalar.indexCast v5482
  let c0_779 : Index := 0#32
  ![5, v5483.toNat, 0]

def k0_chk182 (v5482 : BitVec 32) : Prop :=
  (∀ a, (k0_off182 v5482) a + S1x1x128.size a ≤ S16x1024x128.size a)
theorem k0_off182_inb : ∀ (v5482 : BitVec 32) (k0_hw182 : k0_chk182 v5482), ∀ a, (k0_off182 v5482) a + S1x1x128.size a ≤ S16x1024x128.size a := fun v5482 k0_hw182 => k0_hw182

def k0_off183 (v5494 : BitVec 32) : Fin 3 → Nat :=
  let c6_780 : Index := 6#32
  let v5495 : Index := Scalar.indexCast v5494
  let c0_781 : Index := 0#32
  ![6, v5495.toNat, 0]

def k0_chk183 (v5494 : BitVec 32) : Prop :=
  (∀ a, (k0_off183 v5494) a + S1x1x128.size a ≤ S16x1024x128.size a)
theorem k0_off183_inb : ∀ (v5494 : BitVec 32) (k0_hw183 : k0_chk183 v5494), ∀ a, (k0_off183 v5494) a + S1x1x128.size a ≤ S16x1024x128.size a := fun v5494 k0_hw183 => k0_hw183

def k0_off184 (v5506 : BitVec 32) : Fin 3 → Nat :=
  let c7_782 : Index := 7#32
  let v5507 : Index := Scalar.indexCast v5506
  let c0_783 : Index := 0#32
  ![7, v5507.toNat, 0]

def k0_chk184 (v5506 : BitVec 32) : Prop :=
  (∀ a, (k0_off184 v5506) a + S1x1x128.size a ≤ S16x1024x128.size a)
theorem k0_off184_inb : ∀ (v5506 : BitVec 32) (k0_hw184 : k0_chk184 v5506), ∀ a, (k0_off184 v5506) a + S1x1x128.size a ≤ S16x1024x128.size a := fun v5506 k0_hw184 => k0_hw184

def k0_off185 (v5518 : BitVec 32) : Fin 3 → Nat :=
  let c8_784 : Index := 8#32
  let v5519 : Index := Scalar.indexCast v5518
  let c0_785 : Index := 0#32
  ![8, v5519.toNat, 0]

def k0_chk185 (v5518 : BitVec 32) : Prop :=
  (∀ a, (k0_off185 v5518) a + S1x1x128.size a ≤ S16x1024x128.size a)
theorem k0_off185_inb : ∀ (v5518 : BitVec 32) (k0_hw185 : k0_chk185 v5518), ∀ a, (k0_off185 v5518) a + S1x1x128.size a ≤ S16x1024x128.size a := fun v5518 k0_hw185 => k0_hw185

def k0_off186 (v5530 : BitVec 32) : Fin 3 → Nat :=
  let c9_786 : Index := 9#32
  let v5531 : Index := Scalar.indexCast v5530
  let c0_787 : Index := 0#32
  ![9, v5531.toNat, 0]

def k0_chk186 (v5530 : BitVec 32) : Prop :=
  (∀ a, (k0_off186 v5530) a + S1x1x128.size a ≤ S16x1024x128.size a)
theorem k0_off186_inb : ∀ (v5530 : BitVec 32) (k0_hw186 : k0_chk186 v5530), ∀ a, (k0_off186 v5530) a + S1x1x128.size a ≤ S16x1024x128.size a := fun v5530 k0_hw186 => k0_hw186

def k0_off187 (v5542 : BitVec 32) : Fin 3 → Nat :=
  let c10_788 : Index := 10#32
  let v5543 : Index := Scalar.indexCast v5542
  let c0_789 : Index := 0#32
  ![10, v5543.toNat, 0]

def k0_chk187 (v5542 : BitVec 32) : Prop :=
  (∀ a, (k0_off187 v5542) a + S1x1x128.size a ≤ S16x1024x128.size a)
theorem k0_off187_inb : ∀ (v5542 : BitVec 32) (k0_hw187 : k0_chk187 v5542), ∀ a, (k0_off187 v5542) a + S1x1x128.size a ≤ S16x1024x128.size a := fun v5542 k0_hw187 => k0_hw187

def k0_off188 (v5554 : BitVec 32) : Fin 3 → Nat :=
  let c11_790 : Index := 11#32
  let v5555 : Index := Scalar.indexCast v5554
  let c0_791 : Index := 0#32
  ![11, v5555.toNat, 0]

def k0_chk188 (v5554 : BitVec 32) : Prop :=
  (∀ a, (k0_off188 v5554) a + S1x1x128.size a ≤ S16x1024x128.size a)
theorem k0_off188_inb : ∀ (v5554 : BitVec 32) (k0_hw188 : k0_chk188 v5554), ∀ a, (k0_off188 v5554) a + S1x1x128.size a ≤ S16x1024x128.size a := fun v5554 k0_hw188 => k0_hw188

def k0_off189 (v5566 : BitVec 32) : Fin 3 → Nat :=
  let c12_792 : Index := 12#32
  let v5567 : Index := Scalar.indexCast v5566
  let c0_793 : Index := 0#32
  ![12, v5567.toNat, 0]

def k0_chk189 (v5566 : BitVec 32) : Prop :=
  (∀ a, (k0_off189 v5566) a + S1x1x128.size a ≤ S16x1024x128.size a)
theorem k0_off189_inb : ∀ (v5566 : BitVec 32) (k0_hw189 : k0_chk189 v5566), ∀ a, (k0_off189 v5566) a + S1x1x128.size a ≤ S16x1024x128.size a := fun v5566 k0_hw189 => k0_hw189

def k0_off190 (v5578 : BitVec 32) : Fin 3 → Nat :=
  let c13_794 : Index := 13#32
  let v5579 : Index := Scalar.indexCast v5578
  let c0_795 : Index := 0#32
  ![13, v5579.toNat, 0]

def k0_chk190 (v5578 : BitVec 32) : Prop :=
  (∀ a, (k0_off190 v5578) a + S1x1x128.size a ≤ S16x1024x128.size a)
theorem k0_off190_inb : ∀ (v5578 : BitVec 32) (k0_hw190 : k0_chk190 v5578), ∀ a, (k0_off190 v5578) a + S1x1x128.size a ≤ S16x1024x128.size a := fun v5578 k0_hw190 => k0_hw190

def k0_off191 (v5590 : BitVec 32) : Fin 3 → Nat :=
  let c14_796 : Index := 14#32
  let v5591 : Index := Scalar.indexCast v5590
  let c0_797 : Index := 0#32
  ![14, v5591.toNat, 0]

def k0_chk191 (v5590 : BitVec 32) : Prop :=
  (∀ a, (k0_off191 v5590) a + S1x1x128.size a ≤ S16x1024x128.size a)
theorem k0_off191_inb : ∀ (v5590 : BitVec 32) (k0_hw191 : k0_chk191 v5590), ∀ a, (k0_off191 v5590) a + S1x1x128.size a ≤ S16x1024x128.size a := fun v5590 k0_hw191 => k0_hw191

def k0_off192 (v5602 : BitVec 32) : Fin 3 → Nat :=
  let c15_798 : Index := 15#32
  let v5603 : Index := Scalar.indexCast v5602
  let c0_799 : Index := 0#32
  ![15, v5603.toNat, 0]

def k0_chk192 (v5602 : BitVec 32) : Prop :=
  (∀ a, (k0_off192 v5602) a + S1x1x128.size a ≤ S16x1024x128.size a)
theorem k0_off192_inb : ∀ (v5602 : BitVec 32) (k0_hw192 : k0_chk192 v5602), ∀ a, (k0_off192 v5602) a + S1x1x128.size a ≤ S16x1024x128.size a := fun v5602 k0_hw192 => k0_hw192

def k0_off193 (v6013 : BitVec 32) : Fin 3 → Nat :=
  let c0_847 : Index := 0#32
  let v6014 : Index := Scalar.indexCast v6013
  let c0_848 : Index := 0#32
  ![0, v6014.toNat, 0]

def k0_chk193 (v6013 : BitVec 32) : Prop :=
  (∀ a, (k0_off193 v6013) a + S1x1x128.size a ≤ S16x1024x128.size a)
theorem k0_off193_inb : ∀ (v6013 : BitVec 32) (k0_hw193 : k0_chk193 v6013), ∀ a, (k0_off193 v6013) a + S1x1x128.size a ≤ S16x1024x128.size a := fun v6013 k0_hw193 => k0_hw193

def k0_off194 (v6025 : BitVec 32) : Fin 3 → Nat :=
  let c1_849 : Index := 1#32
  let v6026 : Index := Scalar.indexCast v6025
  let c0_850 : Index := 0#32
  ![1, v6026.toNat, 0]

def k0_chk194 (v6025 : BitVec 32) : Prop :=
  (∀ a, (k0_off194 v6025) a + S1x1x128.size a ≤ S16x1024x128.size a)
theorem k0_off194_inb : ∀ (v6025 : BitVec 32) (k0_hw194 : k0_chk194 v6025), ∀ a, (k0_off194 v6025) a + S1x1x128.size a ≤ S16x1024x128.size a := fun v6025 k0_hw194 => k0_hw194

def k0_off195 (v6037 : BitVec 32) : Fin 3 → Nat :=
  let c2_851 : Index := 2#32
  let v6038 : Index := Scalar.indexCast v6037
  let c0_852 : Index := 0#32
  ![2, v6038.toNat, 0]

def k0_chk195 (v6037 : BitVec 32) : Prop :=
  (∀ a, (k0_off195 v6037) a + S1x1x128.size a ≤ S16x1024x128.size a)
theorem k0_off195_inb : ∀ (v6037 : BitVec 32) (k0_hw195 : k0_chk195 v6037), ∀ a, (k0_off195 v6037) a + S1x1x128.size a ≤ S16x1024x128.size a := fun v6037 k0_hw195 => k0_hw195

def k0_off196 (v6049 : BitVec 32) : Fin 3 → Nat :=
  let c3_853 : Index := 3#32
  let v6050 : Index := Scalar.indexCast v6049
  let c0_854 : Index := 0#32
  ![3, v6050.toNat, 0]

def k0_chk196 (v6049 : BitVec 32) : Prop :=
  (∀ a, (k0_off196 v6049) a + S1x1x128.size a ≤ S16x1024x128.size a)
theorem k0_off196_inb : ∀ (v6049 : BitVec 32) (k0_hw196 : k0_chk196 v6049), ∀ a, (k0_off196 v6049) a + S1x1x128.size a ≤ S16x1024x128.size a := fun v6049 k0_hw196 => k0_hw196

def k0_off197 (v6061 : BitVec 32) : Fin 3 → Nat :=
  let c4_855 : Index := 4#32
  let v6062 : Index := Scalar.indexCast v6061
  let c0_856 : Index := 0#32
  ![4, v6062.toNat, 0]

def k0_chk197 (v6061 : BitVec 32) : Prop :=
  (∀ a, (k0_off197 v6061) a + S1x1x128.size a ≤ S16x1024x128.size a)
theorem k0_off197_inb : ∀ (v6061 : BitVec 32) (k0_hw197 : k0_chk197 v6061), ∀ a, (k0_off197 v6061) a + S1x1x128.size a ≤ S16x1024x128.size a := fun v6061 k0_hw197 => k0_hw197

def k0_off198 (v6073 : BitVec 32) : Fin 3 → Nat :=
  let c5_857 : Index := 5#32
  let v6074 : Index := Scalar.indexCast v6073
  let c0_858 : Index := 0#32
  ![5, v6074.toNat, 0]

def k0_chk198 (v6073 : BitVec 32) : Prop :=
  (∀ a, (k0_off198 v6073) a + S1x1x128.size a ≤ S16x1024x128.size a)
theorem k0_off198_inb : ∀ (v6073 : BitVec 32) (k0_hw198 : k0_chk198 v6073), ∀ a, (k0_off198 v6073) a + S1x1x128.size a ≤ S16x1024x128.size a := fun v6073 k0_hw198 => k0_hw198

def k0_off199 (v6085 : BitVec 32) : Fin 3 → Nat :=
  let c6_859 : Index := 6#32
  let v6086 : Index := Scalar.indexCast v6085
  let c0_860 : Index := 0#32
  ![6, v6086.toNat, 0]

def k0_chk199 (v6085 : BitVec 32) : Prop :=
  (∀ a, (k0_off199 v6085) a + S1x1x128.size a ≤ S16x1024x128.size a)
theorem k0_off199_inb : ∀ (v6085 : BitVec 32) (k0_hw199 : k0_chk199 v6085), ∀ a, (k0_off199 v6085) a + S1x1x128.size a ≤ S16x1024x128.size a := fun v6085 k0_hw199 => k0_hw199

def k0_off200 (v6097 : BitVec 32) : Fin 3 → Nat :=
  let c7_861 : Index := 7#32
  let v6098 : Index := Scalar.indexCast v6097
  let c0_862 : Index := 0#32
  ![7, v6098.toNat, 0]

def k0_chk200 (v6097 : BitVec 32) : Prop :=
  (∀ a, (k0_off200 v6097) a + S1x1x128.size a ≤ S16x1024x128.size a)
theorem k0_off200_inb : ∀ (v6097 : BitVec 32) (k0_hw200 : k0_chk200 v6097), ∀ a, (k0_off200 v6097) a + S1x1x128.size a ≤ S16x1024x128.size a := fun v6097 k0_hw200 => k0_hw200

def k0_off201 (v6109 : BitVec 32) : Fin 3 → Nat :=
  let c8_863 : Index := 8#32
  let v6110 : Index := Scalar.indexCast v6109
  let c0_864 : Index := 0#32
  ![8, v6110.toNat, 0]

def k0_chk201 (v6109 : BitVec 32) : Prop :=
  (∀ a, (k0_off201 v6109) a + S1x1x128.size a ≤ S16x1024x128.size a)
theorem k0_off201_inb : ∀ (v6109 : BitVec 32) (k0_hw201 : k0_chk201 v6109), ∀ a, (k0_off201 v6109) a + S1x1x128.size a ≤ S16x1024x128.size a := fun v6109 k0_hw201 => k0_hw201

def k0_off202 (v6121 : BitVec 32) : Fin 3 → Nat :=
  let c9_865 : Index := 9#32
  let v6122 : Index := Scalar.indexCast v6121
  let c0_866 : Index := 0#32
  ![9, v6122.toNat, 0]

def k0_chk202 (v6121 : BitVec 32) : Prop :=
  (∀ a, (k0_off202 v6121) a + S1x1x128.size a ≤ S16x1024x128.size a)
theorem k0_off202_inb : ∀ (v6121 : BitVec 32) (k0_hw202 : k0_chk202 v6121), ∀ a, (k0_off202 v6121) a + S1x1x128.size a ≤ S16x1024x128.size a := fun v6121 k0_hw202 => k0_hw202

def k0_off203 (v6133 : BitVec 32) : Fin 3 → Nat :=
  let c10_867 : Index := 10#32
  let v6134 : Index := Scalar.indexCast v6133
  let c0_868 : Index := 0#32
  ![10, v6134.toNat, 0]

def k0_chk203 (v6133 : BitVec 32) : Prop :=
  (∀ a, (k0_off203 v6133) a + S1x1x128.size a ≤ S16x1024x128.size a)
theorem k0_off203_inb : ∀ (v6133 : BitVec 32) (k0_hw203 : k0_chk203 v6133), ∀ a, (k0_off203 v6133) a + S1x1x128.size a ≤ S16x1024x128.size a := fun v6133 k0_hw203 => k0_hw203

def k0_off204 (v6145 : BitVec 32) : Fin 3 → Nat :=
  let c11_869 : Index := 11#32
  let v6146 : Index := Scalar.indexCast v6145
  let c0_870 : Index := 0#32
  ![11, v6146.toNat, 0]

def k0_chk204 (v6145 : BitVec 32) : Prop :=
  (∀ a, (k0_off204 v6145) a + S1x1x128.size a ≤ S16x1024x128.size a)
theorem k0_off204_inb : ∀ (v6145 : BitVec 32) (k0_hw204 : k0_chk204 v6145), ∀ a, (k0_off204 v6145) a + S1x1x128.size a ≤ S16x1024x128.size a := fun v6145 k0_hw204 => k0_hw204

def k0_off205 (v6157 : BitVec 32) : Fin 3 → Nat :=
  let c12_871 : Index := 12#32
  let v6158 : Index := Scalar.indexCast v6157
  let c0_872 : Index := 0#32
  ![12, v6158.toNat, 0]

def k0_chk205 (v6157 : BitVec 32) : Prop :=
  (∀ a, (k0_off205 v6157) a + S1x1x128.size a ≤ S16x1024x128.size a)
theorem k0_off205_inb : ∀ (v6157 : BitVec 32) (k0_hw205 : k0_chk205 v6157), ∀ a, (k0_off205 v6157) a + S1x1x128.size a ≤ S16x1024x128.size a := fun v6157 k0_hw205 => k0_hw205

def k0_off206 (v6169 : BitVec 32) : Fin 3 → Nat :=
  let c13_873 : Index := 13#32
  let v6170 : Index := Scalar.indexCast v6169
  let c0_874 : Index := 0#32
  ![13, v6170.toNat, 0]

def k0_chk206 (v6169 : BitVec 32) : Prop :=
  (∀ a, (k0_off206 v6169) a + S1x1x128.size a ≤ S16x1024x128.size a)
theorem k0_off206_inb : ∀ (v6169 : BitVec 32) (k0_hw206 : k0_chk206 v6169), ∀ a, (k0_off206 v6169) a + S1x1x128.size a ≤ S16x1024x128.size a := fun v6169 k0_hw206 => k0_hw206

def k0_off207 (v6181 : BitVec 32) : Fin 3 → Nat :=
  let c14_875 : Index := 14#32
  let v6182 : Index := Scalar.indexCast v6181
  let c0_876 : Index := 0#32
  ![14, v6182.toNat, 0]

def k0_chk207 (v6181 : BitVec 32) : Prop :=
  (∀ a, (k0_off207 v6181) a + S1x1x128.size a ≤ S16x1024x128.size a)
theorem k0_off207_inb : ∀ (v6181 : BitVec 32) (k0_hw207 : k0_chk207 v6181), ∀ a, (k0_off207 v6181) a + S1x1x128.size a ≤ S16x1024x128.size a := fun v6181 k0_hw207 => k0_hw207

def k0_off208 (v6193 : BitVec 32) : Fin 3 → Nat :=
  let c15_877 : Index := 15#32
  let v6194 : Index := Scalar.indexCast v6193
  let c0_878 : Index := 0#32
  ![15, v6194.toNat, 0]

def k0_chk208 (v6193 : BitVec 32) : Prop :=
  (∀ a, (k0_off208 v6193) a + S1x1x128.size a ≤ S16x1024x128.size a)
theorem k0_off208_inb : ∀ (v6193 : BitVec 32) (k0_hw208 : k0_chk208 v6193), ∀ a, (k0_off208 v6193) a + S1x1x128.size a ≤ S16x1024x128.size a := fun v6193 k0_hw208 => k0_hw208

def k0_off209 (v6623 : BitVec 32) : Fin 3 → Nat :=
  let c0_928 : Index := 0#32
  let v6624 : Index := Scalar.indexCast v6623
  let c0_929 : Index := 0#32
  ![0, v6624.toNat, 0]

def k0_chk209 (v6623 : BitVec 32) : Prop :=
  (∀ a, (k0_off209 v6623) a + S1x1x128.size a ≤ S16x1024x128.size a)
theorem k0_off209_inb : ∀ (v6623 : BitVec 32) (k0_hw209 : k0_chk209 v6623), ∀ a, (k0_off209 v6623) a + S1x1x128.size a ≤ S16x1024x128.size a := fun v6623 k0_hw209 => k0_hw209

def k0_off210 (v6635 : BitVec 32) : Fin 3 → Nat :=
  let c1_930 : Index := 1#32
  let v6636 : Index := Scalar.indexCast v6635
  let c0_931 : Index := 0#32
  ![1, v6636.toNat, 0]

def k0_chk210 (v6635 : BitVec 32) : Prop :=
  (∀ a, (k0_off210 v6635) a + S1x1x128.size a ≤ S16x1024x128.size a)
theorem k0_off210_inb : ∀ (v6635 : BitVec 32) (k0_hw210 : k0_chk210 v6635), ∀ a, (k0_off210 v6635) a + S1x1x128.size a ≤ S16x1024x128.size a := fun v6635 k0_hw210 => k0_hw210

def k0_off211 (v6647 : BitVec 32) : Fin 3 → Nat :=
  let c2_932 : Index := 2#32
  let v6648 : Index := Scalar.indexCast v6647
  let c0_933 : Index := 0#32
  ![2, v6648.toNat, 0]

def k0_chk211 (v6647 : BitVec 32) : Prop :=
  (∀ a, (k0_off211 v6647) a + S1x1x128.size a ≤ S16x1024x128.size a)
theorem k0_off211_inb : ∀ (v6647 : BitVec 32) (k0_hw211 : k0_chk211 v6647), ∀ a, (k0_off211 v6647) a + S1x1x128.size a ≤ S16x1024x128.size a := fun v6647 k0_hw211 => k0_hw211

def k0_off212 (v6659 : BitVec 32) : Fin 3 → Nat :=
  let c3_934 : Index := 3#32
  let v6660 : Index := Scalar.indexCast v6659
  let c0_935 : Index := 0#32
  ![3, v6660.toNat, 0]

def k0_chk212 (v6659 : BitVec 32) : Prop :=
  (∀ a, (k0_off212 v6659) a + S1x1x128.size a ≤ S16x1024x128.size a)
theorem k0_off212_inb : ∀ (v6659 : BitVec 32) (k0_hw212 : k0_chk212 v6659), ∀ a, (k0_off212 v6659) a + S1x1x128.size a ≤ S16x1024x128.size a := fun v6659 k0_hw212 => k0_hw212

def k0_off213 (v6671 : BitVec 32) : Fin 3 → Nat :=
  let c4_936 : Index := 4#32
  let v6672 : Index := Scalar.indexCast v6671
  let c0_937 : Index := 0#32
  ![4, v6672.toNat, 0]

def k0_chk213 (v6671 : BitVec 32) : Prop :=
  (∀ a, (k0_off213 v6671) a + S1x1x128.size a ≤ S16x1024x128.size a)
theorem k0_off213_inb : ∀ (v6671 : BitVec 32) (k0_hw213 : k0_chk213 v6671), ∀ a, (k0_off213 v6671) a + S1x1x128.size a ≤ S16x1024x128.size a := fun v6671 k0_hw213 => k0_hw213

def k0_off214 (v6683 : BitVec 32) : Fin 3 → Nat :=
  let c5_938 : Index := 5#32
  let v6684 : Index := Scalar.indexCast v6683
  let c0_939 : Index := 0#32
  ![5, v6684.toNat, 0]

def k0_chk214 (v6683 : BitVec 32) : Prop :=
  (∀ a, (k0_off214 v6683) a + S1x1x128.size a ≤ S16x1024x128.size a)
theorem k0_off214_inb : ∀ (v6683 : BitVec 32) (k0_hw214 : k0_chk214 v6683), ∀ a, (k0_off214 v6683) a + S1x1x128.size a ≤ S16x1024x128.size a := fun v6683 k0_hw214 => k0_hw214

def k0_off215 (v6695 : BitVec 32) : Fin 3 → Nat :=
  let c6_940 : Index := 6#32
  let v6696 : Index := Scalar.indexCast v6695
  let c0_941 : Index := 0#32
  ![6, v6696.toNat, 0]

def k0_chk215 (v6695 : BitVec 32) : Prop :=
  (∀ a, (k0_off215 v6695) a + S1x1x128.size a ≤ S16x1024x128.size a)
theorem k0_off215_inb : ∀ (v6695 : BitVec 32) (k0_hw215 : k0_chk215 v6695), ∀ a, (k0_off215 v6695) a + S1x1x128.size a ≤ S16x1024x128.size a := fun v6695 k0_hw215 => k0_hw215

def k0_off216 (v6707 : BitVec 32) : Fin 3 → Nat :=
  let c7_942 : Index := 7#32
  let v6708 : Index := Scalar.indexCast v6707
  let c0_943 : Index := 0#32
  ![7, v6708.toNat, 0]

def k0_chk216 (v6707 : BitVec 32) : Prop :=
  (∀ a, (k0_off216 v6707) a + S1x1x128.size a ≤ S16x1024x128.size a)
theorem k0_off216_inb : ∀ (v6707 : BitVec 32) (k0_hw216 : k0_chk216 v6707), ∀ a, (k0_off216 v6707) a + S1x1x128.size a ≤ S16x1024x128.size a := fun v6707 k0_hw216 => k0_hw216

def k0_off217 (v6719 : BitVec 32) : Fin 3 → Nat :=
  let c8_944 : Index := 8#32
  let v6720 : Index := Scalar.indexCast v6719
  let c0_945 : Index := 0#32
  ![8, v6720.toNat, 0]

def k0_chk217 (v6719 : BitVec 32) : Prop :=
  (∀ a, (k0_off217 v6719) a + S1x1x128.size a ≤ S16x1024x128.size a)
theorem k0_off217_inb : ∀ (v6719 : BitVec 32) (k0_hw217 : k0_chk217 v6719), ∀ a, (k0_off217 v6719) a + S1x1x128.size a ≤ S16x1024x128.size a := fun v6719 k0_hw217 => k0_hw217

def k0_off218 (v6731 : BitVec 32) : Fin 3 → Nat :=
  let c9_946 : Index := 9#32
  let v6732 : Index := Scalar.indexCast v6731
  let c0_947 : Index := 0#32
  ![9, v6732.toNat, 0]

def k0_chk218 (v6731 : BitVec 32) : Prop :=
  (∀ a, (k0_off218 v6731) a + S1x1x128.size a ≤ S16x1024x128.size a)
theorem k0_off218_inb : ∀ (v6731 : BitVec 32) (k0_hw218 : k0_chk218 v6731), ∀ a, (k0_off218 v6731) a + S1x1x128.size a ≤ S16x1024x128.size a := fun v6731 k0_hw218 => k0_hw218

def k0_off219 (v6743 : BitVec 32) : Fin 3 → Nat :=
  let c10_948 : Index := 10#32
  let v6744 : Index := Scalar.indexCast v6743
  let c0_949 : Index := 0#32
  ![10, v6744.toNat, 0]

def k0_chk219 (v6743 : BitVec 32) : Prop :=
  (∀ a, (k0_off219 v6743) a + S1x1x128.size a ≤ S16x1024x128.size a)
theorem k0_off219_inb : ∀ (v6743 : BitVec 32) (k0_hw219 : k0_chk219 v6743), ∀ a, (k0_off219 v6743) a + S1x1x128.size a ≤ S16x1024x128.size a := fun v6743 k0_hw219 => k0_hw219

def k0_off220 (v6755 : BitVec 32) : Fin 3 → Nat :=
  let c11_950 : Index := 11#32
  let v6756 : Index := Scalar.indexCast v6755
  let c0_951 : Index := 0#32
  ![11, v6756.toNat, 0]

def k0_chk220 (v6755 : BitVec 32) : Prop :=
  (∀ a, (k0_off220 v6755) a + S1x1x128.size a ≤ S16x1024x128.size a)
theorem k0_off220_inb : ∀ (v6755 : BitVec 32) (k0_hw220 : k0_chk220 v6755), ∀ a, (k0_off220 v6755) a + S1x1x128.size a ≤ S16x1024x128.size a := fun v6755 k0_hw220 => k0_hw220

def k0_off221 (v6767 : BitVec 32) : Fin 3 → Nat :=
  let c12_952 : Index := 12#32
  let v6768 : Index := Scalar.indexCast v6767
  let c0_953 : Index := 0#32
  ![12, v6768.toNat, 0]

def k0_chk221 (v6767 : BitVec 32) : Prop :=
  (∀ a, (k0_off221 v6767) a + S1x1x128.size a ≤ S16x1024x128.size a)
theorem k0_off221_inb : ∀ (v6767 : BitVec 32) (k0_hw221 : k0_chk221 v6767), ∀ a, (k0_off221 v6767) a + S1x1x128.size a ≤ S16x1024x128.size a := fun v6767 k0_hw221 => k0_hw221

def k0_off222 (v6779 : BitVec 32) : Fin 3 → Nat :=
  let c13_954 : Index := 13#32
  let v6780 : Index := Scalar.indexCast v6779
  let c0_955 : Index := 0#32
  ![13, v6780.toNat, 0]

def k0_chk222 (v6779 : BitVec 32) : Prop :=
  (∀ a, (k0_off222 v6779) a + S1x1x128.size a ≤ S16x1024x128.size a)
theorem k0_off222_inb : ∀ (v6779 : BitVec 32) (k0_hw222 : k0_chk222 v6779), ∀ a, (k0_off222 v6779) a + S1x1x128.size a ≤ S16x1024x128.size a := fun v6779 k0_hw222 => k0_hw222

def k0_off223 (v6791 : BitVec 32) : Fin 3 → Nat :=
  let c14_956 : Index := 14#32
  let v6792 : Index := Scalar.indexCast v6791
  let c0_957 : Index := 0#32
  ![14, v6792.toNat, 0]

def k0_chk223 (v6791 : BitVec 32) : Prop :=
  (∀ a, (k0_off223 v6791) a + S1x1x128.size a ≤ S16x1024x128.size a)
theorem k0_off223_inb : ∀ (v6791 : BitVec 32) (k0_hw223 : k0_chk223 v6791), ∀ a, (k0_off223 v6791) a + S1x1x128.size a ≤ S16x1024x128.size a := fun v6791 k0_hw223 => k0_hw223

def k0_off224 (v6803 : BitVec 32) : Fin 3 → Nat :=
  let c15_958 : Index := 15#32
  let v6804 : Index := Scalar.indexCast v6803
  let c0_959 : Index := 0#32
  ![15, v6804.toNat, 0]

def k0_chk224 (v6803 : BitVec 32) : Prop :=
  (∀ a, (k0_off224 v6803) a + S1x1x128.size a ≤ S16x1024x128.size a)
theorem k0_off224_inb : ∀ (v6803 : BitVec 32) (k0_hw224 : k0_chk224 v6803), ∀ a, (k0_off224 v6803) a + S1x1x128.size a ≤ S16x1024x128.size a := fun v6803 k0_hw224 => k0_hw224

def k0_off225 (v7252 : BitVec 32) : Fin 3 → Nat :=
  let c0_1011 : Index := 0#32
  let v7253 : Index := Scalar.indexCast v7252
  let c0_1012 : Index := 0#32
  ![0, v7253.toNat, 0]

def k0_chk225 (v7252 : BitVec 32) : Prop :=
  (∀ a, (k0_off225 v7252) a + S1x1x128.size a ≤ S16x1024x128.size a)
theorem k0_off225_inb : ∀ (v7252 : BitVec 32) (k0_hw225 : k0_chk225 v7252), ∀ a, (k0_off225 v7252) a + S1x1x128.size a ≤ S16x1024x128.size a := fun v7252 k0_hw225 => k0_hw225

def k0_off226 (v7264 : BitVec 32) : Fin 3 → Nat :=
  let c1_1013 : Index := 1#32
  let v7265 : Index := Scalar.indexCast v7264
  let c0_1014 : Index := 0#32
  ![1, v7265.toNat, 0]

def k0_chk226 (v7264 : BitVec 32) : Prop :=
  (∀ a, (k0_off226 v7264) a + S1x1x128.size a ≤ S16x1024x128.size a)
theorem k0_off226_inb : ∀ (v7264 : BitVec 32) (k0_hw226 : k0_chk226 v7264), ∀ a, (k0_off226 v7264) a + S1x1x128.size a ≤ S16x1024x128.size a := fun v7264 k0_hw226 => k0_hw226

def k0_off227 (v7276 : BitVec 32) : Fin 3 → Nat :=
  let c2_1015 : Index := 2#32
  let v7277 : Index := Scalar.indexCast v7276
  let c0_1016 : Index := 0#32
  ![2, v7277.toNat, 0]

def k0_chk227 (v7276 : BitVec 32) : Prop :=
  (∀ a, (k0_off227 v7276) a + S1x1x128.size a ≤ S16x1024x128.size a)
theorem k0_off227_inb : ∀ (v7276 : BitVec 32) (k0_hw227 : k0_chk227 v7276), ∀ a, (k0_off227 v7276) a + S1x1x128.size a ≤ S16x1024x128.size a := fun v7276 k0_hw227 => k0_hw227

def k0_off228 (v7288 : BitVec 32) : Fin 3 → Nat :=
  let c3_1017 : Index := 3#32
  let v7289 : Index := Scalar.indexCast v7288
  let c0_1018 : Index := 0#32
  ![3, v7289.toNat, 0]

def k0_chk228 (v7288 : BitVec 32) : Prop :=
  (∀ a, (k0_off228 v7288) a + S1x1x128.size a ≤ S16x1024x128.size a)
theorem k0_off228_inb : ∀ (v7288 : BitVec 32) (k0_hw228 : k0_chk228 v7288), ∀ a, (k0_off228 v7288) a + S1x1x128.size a ≤ S16x1024x128.size a := fun v7288 k0_hw228 => k0_hw228

def k0_off229 (v7300 : BitVec 32) : Fin 3 → Nat :=
  let c4_1019 : Index := 4#32
  let v7301 : Index := Scalar.indexCast v7300
  let c0_1020 : Index := 0#32
  ![4, v7301.toNat, 0]

def k0_chk229 (v7300 : BitVec 32) : Prop :=
  (∀ a, (k0_off229 v7300) a + S1x1x128.size a ≤ S16x1024x128.size a)
theorem k0_off229_inb : ∀ (v7300 : BitVec 32) (k0_hw229 : k0_chk229 v7300), ∀ a, (k0_off229 v7300) a + S1x1x128.size a ≤ S16x1024x128.size a := fun v7300 k0_hw229 => k0_hw229

def k0_off230 (v7312 : BitVec 32) : Fin 3 → Nat :=
  let c5_1021 : Index := 5#32
  let v7313 : Index := Scalar.indexCast v7312
  let c0_1022 : Index := 0#32
  ![5, v7313.toNat, 0]

def k0_chk230 (v7312 : BitVec 32) : Prop :=
  (∀ a, (k0_off230 v7312) a + S1x1x128.size a ≤ S16x1024x128.size a)
theorem k0_off230_inb : ∀ (v7312 : BitVec 32) (k0_hw230 : k0_chk230 v7312), ∀ a, (k0_off230 v7312) a + S1x1x128.size a ≤ S16x1024x128.size a := fun v7312 k0_hw230 => k0_hw230

def k0_off231 (v7324 : BitVec 32) : Fin 3 → Nat :=
  let c6_1023 : Index := 6#32
  let v7325 : Index := Scalar.indexCast v7324
  let c0_1024 : Index := 0#32
  ![6, v7325.toNat, 0]

def k0_chk231 (v7324 : BitVec 32) : Prop :=
  (∀ a, (k0_off231 v7324) a + S1x1x128.size a ≤ S16x1024x128.size a)
theorem k0_off231_inb : ∀ (v7324 : BitVec 32) (k0_hw231 : k0_chk231 v7324), ∀ a, (k0_off231 v7324) a + S1x1x128.size a ≤ S16x1024x128.size a := fun v7324 k0_hw231 => k0_hw231

def k0_off232 (v7336 : BitVec 32) : Fin 3 → Nat :=
  let c7_1025 : Index := 7#32
  let v7337 : Index := Scalar.indexCast v7336
  let c0_1026 : Index := 0#32
  ![7, v7337.toNat, 0]

def k0_chk232 (v7336 : BitVec 32) : Prop :=
  (∀ a, (k0_off232 v7336) a + S1x1x128.size a ≤ S16x1024x128.size a)
theorem k0_off232_inb : ∀ (v7336 : BitVec 32) (k0_hw232 : k0_chk232 v7336), ∀ a, (k0_off232 v7336) a + S1x1x128.size a ≤ S16x1024x128.size a := fun v7336 k0_hw232 => k0_hw232

def k0_off233 (v7348 : BitVec 32) : Fin 3 → Nat :=
  let c8_1027 : Index := 8#32
  let v7349 : Index := Scalar.indexCast v7348
  let c0_1028 : Index := 0#32
  ![8, v7349.toNat, 0]

def k0_chk233 (v7348 : BitVec 32) : Prop :=
  (∀ a, (k0_off233 v7348) a + S1x1x128.size a ≤ S16x1024x128.size a)
theorem k0_off233_inb : ∀ (v7348 : BitVec 32) (k0_hw233 : k0_chk233 v7348), ∀ a, (k0_off233 v7348) a + S1x1x128.size a ≤ S16x1024x128.size a := fun v7348 k0_hw233 => k0_hw233

def k0_off234 (v7360 : BitVec 32) : Fin 3 → Nat :=
  let c9_1029 : Index := 9#32
  let v7361 : Index := Scalar.indexCast v7360
  let c0_1030 : Index := 0#32
  ![9, v7361.toNat, 0]

def k0_chk234 (v7360 : BitVec 32) : Prop :=
  (∀ a, (k0_off234 v7360) a + S1x1x128.size a ≤ S16x1024x128.size a)
theorem k0_off234_inb : ∀ (v7360 : BitVec 32) (k0_hw234 : k0_chk234 v7360), ∀ a, (k0_off234 v7360) a + S1x1x128.size a ≤ S16x1024x128.size a := fun v7360 k0_hw234 => k0_hw234

def k0_off235 (v7372 : BitVec 32) : Fin 3 → Nat :=
  let c10_1031 : Index := 10#32
  let v7373 : Index := Scalar.indexCast v7372
  let c0_1032 : Index := 0#32
  ![10, v7373.toNat, 0]

def k0_chk235 (v7372 : BitVec 32) : Prop :=
  (∀ a, (k0_off235 v7372) a + S1x1x128.size a ≤ S16x1024x128.size a)
theorem k0_off235_inb : ∀ (v7372 : BitVec 32) (k0_hw235 : k0_chk235 v7372), ∀ a, (k0_off235 v7372) a + S1x1x128.size a ≤ S16x1024x128.size a := fun v7372 k0_hw235 => k0_hw235

def k0_off236 (v7384 : BitVec 32) : Fin 3 → Nat :=
  let c11_1033 : Index := 11#32
  let v7385 : Index := Scalar.indexCast v7384
  let c0_1034 : Index := 0#32
  ![11, v7385.toNat, 0]

def k0_chk236 (v7384 : BitVec 32) : Prop :=
  (∀ a, (k0_off236 v7384) a + S1x1x128.size a ≤ S16x1024x128.size a)
theorem k0_off236_inb : ∀ (v7384 : BitVec 32) (k0_hw236 : k0_chk236 v7384), ∀ a, (k0_off236 v7384) a + S1x1x128.size a ≤ S16x1024x128.size a := fun v7384 k0_hw236 => k0_hw236

def k0_off237 (v7396 : BitVec 32) : Fin 3 → Nat :=
  let c12_1035 : Index := 12#32
  let v7397 : Index := Scalar.indexCast v7396
  let c0_1036 : Index := 0#32
  ![12, v7397.toNat, 0]

def k0_chk237 (v7396 : BitVec 32) : Prop :=
  (∀ a, (k0_off237 v7396) a + S1x1x128.size a ≤ S16x1024x128.size a)
theorem k0_off237_inb : ∀ (v7396 : BitVec 32) (k0_hw237 : k0_chk237 v7396), ∀ a, (k0_off237 v7396) a + S1x1x128.size a ≤ S16x1024x128.size a := fun v7396 k0_hw237 => k0_hw237

def k0_off238 (v7408 : BitVec 32) : Fin 3 → Nat :=
  let c13_1037 : Index := 13#32
  let v7409 : Index := Scalar.indexCast v7408
  let c0_1038 : Index := 0#32
  ![13, v7409.toNat, 0]

def k0_chk238 (v7408 : BitVec 32) : Prop :=
  (∀ a, (k0_off238 v7408) a + S1x1x128.size a ≤ S16x1024x128.size a)
theorem k0_off238_inb : ∀ (v7408 : BitVec 32) (k0_hw238 : k0_chk238 v7408), ∀ a, (k0_off238 v7408) a + S1x1x128.size a ≤ S16x1024x128.size a := fun v7408 k0_hw238 => k0_hw238

def k0_off239 (v7420 : BitVec 32) : Fin 3 → Nat :=
  let c14_1039 : Index := 14#32
  let v7421 : Index := Scalar.indexCast v7420
  let c0_1040 : Index := 0#32
  ![14, v7421.toNat, 0]

def k0_chk239 (v7420 : BitVec 32) : Prop :=
  (∀ a, (k0_off239 v7420) a + S1x1x128.size a ≤ S16x1024x128.size a)
theorem k0_off239_inb : ∀ (v7420 : BitVec 32) (k0_hw239 : k0_chk239 v7420), ∀ a, (k0_off239 v7420) a + S1x1x128.size a ≤ S16x1024x128.size a := fun v7420 k0_hw239 => k0_hw239

def k0_off240 (v7432 : BitVec 32) : Fin 3 → Nat :=
  let c15_1041 : Index := 15#32
  let v7433 : Index := Scalar.indexCast v7432
  let c0_1042 : Index := 0#32
  ![15, v7433.toNat, 0]

def k0_chk240 (v7432 : BitVec 32) : Prop :=
  (∀ a, (k0_off240 v7432) a + S1x1x128.size a ≤ S16x1024x128.size a)
theorem k0_off240_inb : ∀ (v7432 : BitVec 32) (k0_hw240 : k0_chk240 v7432), ∀ a, (k0_off240 v7432) a + S1x1x128.size a ≤ S16x1024x128.size a := fun v7432 k0_hw240 => k0_hw240

def k0_off241 (v7615 : BitVec 32) : Fin 3 → Nat :=
  let c0_1066 : Index := 0#32
  let v7616 : Index := Scalar.indexCast v7615
  let c0_1067 : Index := 0#32
  ![0, v7616.toNat, 0]

def k0_chk241 (v7615 : BitVec 32) : Prop :=
  (∀ a, (k0_off241 v7615) a + S1x1x128.size a ≤ S16x1024x128.size a)
theorem k0_off241_inb : ∀ (v7615 : BitVec 32) (k0_hw241 : k0_chk241 v7615), ∀ a, (k0_off241 v7615) a + S1x1x128.size a ≤ S16x1024x128.size a := fun v7615 k0_hw241 => k0_hw241

def k0_off242 (v7627 : BitVec 32) : Fin 3 → Nat :=
  let c1_1068 : Index := 1#32
  let v7628 : Index := Scalar.indexCast v7627
  let c0_1069 : Index := 0#32
  ![1, v7628.toNat, 0]

def k0_chk242 (v7627 : BitVec 32) : Prop :=
  (∀ a, (k0_off242 v7627) a + S1x1x128.size a ≤ S16x1024x128.size a)
theorem k0_off242_inb : ∀ (v7627 : BitVec 32) (k0_hw242 : k0_chk242 v7627), ∀ a, (k0_off242 v7627) a + S1x1x128.size a ≤ S16x1024x128.size a := fun v7627 k0_hw242 => k0_hw242

def k0_off243 (v7639 : BitVec 32) : Fin 3 → Nat :=
  let c2_1070 : Index := 2#32
  let v7640 : Index := Scalar.indexCast v7639
  let c0_1071 : Index := 0#32
  ![2, v7640.toNat, 0]

def k0_chk243 (v7639 : BitVec 32) : Prop :=
  (∀ a, (k0_off243 v7639) a + S1x1x128.size a ≤ S16x1024x128.size a)
theorem k0_off243_inb : ∀ (v7639 : BitVec 32) (k0_hw243 : k0_chk243 v7639), ∀ a, (k0_off243 v7639) a + S1x1x128.size a ≤ S16x1024x128.size a := fun v7639 k0_hw243 => k0_hw243

def k0_off244 (v7651 : BitVec 32) : Fin 3 → Nat :=
  let c3_1072 : Index := 3#32
  let v7652 : Index := Scalar.indexCast v7651
  let c0_1073 : Index := 0#32
  ![3, v7652.toNat, 0]

def k0_chk244 (v7651 : BitVec 32) : Prop :=
  (∀ a, (k0_off244 v7651) a + S1x1x128.size a ≤ S16x1024x128.size a)
theorem k0_off244_inb : ∀ (v7651 : BitVec 32) (k0_hw244 : k0_chk244 v7651), ∀ a, (k0_off244 v7651) a + S1x1x128.size a ≤ S16x1024x128.size a := fun v7651 k0_hw244 => k0_hw244

def k0_off245 (v7663 : BitVec 32) : Fin 3 → Nat :=
  let c4_1074 : Index := 4#32
  let v7664 : Index := Scalar.indexCast v7663
  let c0_1075 : Index := 0#32
  ![4, v7664.toNat, 0]

def k0_chk245 (v7663 : BitVec 32) : Prop :=
  (∀ a, (k0_off245 v7663) a + S1x1x128.size a ≤ S16x1024x128.size a)
theorem k0_off245_inb : ∀ (v7663 : BitVec 32) (k0_hw245 : k0_chk245 v7663), ∀ a, (k0_off245 v7663) a + S1x1x128.size a ≤ S16x1024x128.size a := fun v7663 k0_hw245 => k0_hw245

def k0_off246 (v7675 : BitVec 32) : Fin 3 → Nat :=
  let c5_1076 : Index := 5#32
  let v7676 : Index := Scalar.indexCast v7675
  let c0_1077 : Index := 0#32
  ![5, v7676.toNat, 0]

def k0_chk246 (v7675 : BitVec 32) : Prop :=
  (∀ a, (k0_off246 v7675) a + S1x1x128.size a ≤ S16x1024x128.size a)
theorem k0_off246_inb : ∀ (v7675 : BitVec 32) (k0_hw246 : k0_chk246 v7675), ∀ a, (k0_off246 v7675) a + S1x1x128.size a ≤ S16x1024x128.size a := fun v7675 k0_hw246 => k0_hw246

def k0_off247 (v7687 : BitVec 32) : Fin 3 → Nat :=
  let c6_1078 : Index := 6#32
  let v7688 : Index := Scalar.indexCast v7687
  let c0_1079 : Index := 0#32
  ![6, v7688.toNat, 0]

def k0_chk247 (v7687 : BitVec 32) : Prop :=
  (∀ a, (k0_off247 v7687) a + S1x1x128.size a ≤ S16x1024x128.size a)
theorem k0_off247_inb : ∀ (v7687 : BitVec 32) (k0_hw247 : k0_chk247 v7687), ∀ a, (k0_off247 v7687) a + S1x1x128.size a ≤ S16x1024x128.size a := fun v7687 k0_hw247 => k0_hw247

def k0_off248 (v7699 : BitVec 32) : Fin 3 → Nat :=
  let c7_1080 : Index := 7#32
  let v7700 : Index := Scalar.indexCast v7699
  let c0_1081 : Index := 0#32
  ![7, v7700.toNat, 0]

def k0_chk248 (v7699 : BitVec 32) : Prop :=
  (∀ a, (k0_off248 v7699) a + S1x1x128.size a ≤ S16x1024x128.size a)
theorem k0_off248_inb : ∀ (v7699 : BitVec 32) (k0_hw248 : k0_chk248 v7699), ∀ a, (k0_off248 v7699) a + S1x1x128.size a ≤ S16x1024x128.size a := fun v7699 k0_hw248 => k0_hw248

def k0_off249 (v7711 : BitVec 32) : Fin 3 → Nat :=
  let c8_1082 : Index := 8#32
  let v7712 : Index := Scalar.indexCast v7711
  let c0_1083 : Index := 0#32
  ![8, v7712.toNat, 0]

def k0_chk249 (v7711 : BitVec 32) : Prop :=
  (∀ a, (k0_off249 v7711) a + S1x1x128.size a ≤ S16x1024x128.size a)
theorem k0_off249_inb : ∀ (v7711 : BitVec 32) (k0_hw249 : k0_chk249 v7711), ∀ a, (k0_off249 v7711) a + S1x1x128.size a ≤ S16x1024x128.size a := fun v7711 k0_hw249 => k0_hw249

def k0_off250 (v7723 : BitVec 32) : Fin 3 → Nat :=
  let c9_1084 : Index := 9#32
  let v7724 : Index := Scalar.indexCast v7723
  let c0_1085 : Index := 0#32
  ![9, v7724.toNat, 0]

def k0_chk250 (v7723 : BitVec 32) : Prop :=
  (∀ a, (k0_off250 v7723) a + S1x1x128.size a ≤ S16x1024x128.size a)
theorem k0_off250_inb : ∀ (v7723 : BitVec 32) (k0_hw250 : k0_chk250 v7723), ∀ a, (k0_off250 v7723) a + S1x1x128.size a ≤ S16x1024x128.size a := fun v7723 k0_hw250 => k0_hw250

def k0_off251 (v7735 : BitVec 32) : Fin 3 → Nat :=
  let c10_1086 : Index := 10#32
  let v7736 : Index := Scalar.indexCast v7735
  let c0_1087 : Index := 0#32
  ![10, v7736.toNat, 0]

def k0_chk251 (v7735 : BitVec 32) : Prop :=
  (∀ a, (k0_off251 v7735) a + S1x1x128.size a ≤ S16x1024x128.size a)
theorem k0_off251_inb : ∀ (v7735 : BitVec 32) (k0_hw251 : k0_chk251 v7735), ∀ a, (k0_off251 v7735) a + S1x1x128.size a ≤ S16x1024x128.size a := fun v7735 k0_hw251 => k0_hw251

def k0_off252 (v7747 : BitVec 32) : Fin 3 → Nat :=
  let c11_1088 : Index := 11#32
  let v7748 : Index := Scalar.indexCast v7747
  let c0_1089 : Index := 0#32
  ![11, v7748.toNat, 0]

def k0_chk252 (v7747 : BitVec 32) : Prop :=
  (∀ a, (k0_off252 v7747) a + S1x1x128.size a ≤ S16x1024x128.size a)
theorem k0_off252_inb : ∀ (v7747 : BitVec 32) (k0_hw252 : k0_chk252 v7747), ∀ a, (k0_off252 v7747) a + S1x1x128.size a ≤ S16x1024x128.size a := fun v7747 k0_hw252 => k0_hw252

def k0_off253 (v7759 : BitVec 32) : Fin 3 → Nat :=
  let c12_1090 : Index := 12#32
  let v7760 : Index := Scalar.indexCast v7759
  let c0_1091 : Index := 0#32
  ![12, v7760.toNat, 0]

def k0_chk253 (v7759 : BitVec 32) : Prop :=
  (∀ a, (k0_off253 v7759) a + S1x1x128.size a ≤ S16x1024x128.size a)
theorem k0_off253_inb : ∀ (v7759 : BitVec 32) (k0_hw253 : k0_chk253 v7759), ∀ a, (k0_off253 v7759) a + S1x1x128.size a ≤ S16x1024x128.size a := fun v7759 k0_hw253 => k0_hw253

def k0_off254 (v7771 : BitVec 32) : Fin 3 → Nat :=
  let c13_1092 : Index := 13#32
  let v7772 : Index := Scalar.indexCast v7771
  let c0_1093 : Index := 0#32
  ![13, v7772.toNat, 0]

def k0_chk254 (v7771 : BitVec 32) : Prop :=
  (∀ a, (k0_off254 v7771) a + S1x1x128.size a ≤ S16x1024x128.size a)
theorem k0_off254_inb : ∀ (v7771 : BitVec 32) (k0_hw254 : k0_chk254 v7771), ∀ a, (k0_off254 v7771) a + S1x1x128.size a ≤ S16x1024x128.size a := fun v7771 k0_hw254 => k0_hw254

def k0_off255 (v7783 : BitVec 32) : Fin 3 → Nat :=
  let c14_1094 : Index := 14#32
  let v7784 : Index := Scalar.indexCast v7783
  let c0_1095 : Index := 0#32
  ![14, v7784.toNat, 0]

def k0_chk255 (v7783 : BitVec 32) : Prop :=
  (∀ a, (k0_off255 v7783) a + S1x1x128.size a ≤ S16x1024x128.size a)
theorem k0_off255_inb : ∀ (v7783 : BitVec 32) (k0_hw255 : k0_chk255 v7783), ∀ a, (k0_off255 v7783) a + S1x1x128.size a ≤ S16x1024x128.size a := fun v7783 k0_hw255 => k0_hw255

def k0_off256 (v7795 : BitVec 32) : Fin 3 → Nat :=
  let c15_1096 : Index := 15#32
  let v7796 : Index := Scalar.indexCast v7795
  let c0_1097 : Index := 0#32
  ![15, v7796.toNat, 0]

def k0_chk256 (v7795 : BitVec 32) : Prop :=
  (∀ a, (k0_off256 v7795) a + S1x1x128.size a ≤ S16x1024x128.size a)
theorem k0_off256_inb : ∀ (v7795 : BitVec 32) (k0_hw256 : k0_chk256 v7795), ∀ a, (k0_off256 v7795) a + S1x1x128.size a ≤ S16x1024x128.size a := fun v7795 k0_hw256 => k0_hw256

abbrev stage0_0 : Fin 1 → Memref sig .tc .vmem S16x1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x1024x128 : Shape := ⟨3, ![16, 1024, 128]⟩
abbrev S16x1024x1024 : Shape := ⟨3, ![16, 1024, 1024]⟩
abbrev S16x1024 : Shape := ⟨2, ![16, 1024]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S384x128 : Shape := ⟨2, ![384, 128]⟩
abbrev S384 : Shape := ⟨1, ![384]⟩
abbrev S_ : Shape := ⟨0, ![]⟩
abbrev S2 : Shape := ⟨1, ![2]⟩
abbrev S1x1x1 : Shape := ⟨3, ![1, 1, 1]⟩
abbrev S16x16x1024 : Shape := ⟨3, ![16, 16, 1024]⟩
abbrev S16x128 : Shape := ⟨2, ![16, 128]⟩
abbrev S1x128 : Shape := ⟨2, ![1, 128]⟩
abbrev S16x1024x16 : Shape := ⟨3, ![16, 1024, 16]⟩
abbrev S16x16x128 : Shape := ⟨3, ![16, 16, 128]⟩
abbrev S16x1x128 : Shape := ⟨3, ![16, 1, 128]⟩
abbrev S16x1024x256 : Shape := ⟨3, ![16, 1024, 256]⟩
abbrev S1x1x128 : Shape := ⟨3, ![1, 1, 128]⟩
abbrev S16x1024x1 : Shape := ⟨3, ![16, 1024, 1]⟩
abbrev S1x16x1024 : Shape := ⟨3, ![1, 16, 1024]⟩
abbrev S16 : Shape := ⟨1, ![16]⟩
abbrev S16x1 : Shape := ⟨2, ![16, 1]⟩
abbrev S1024 : Shape := ⟨1, ![1024]⟩
abbrev S1x1024 : Shape := ⟨2, ![1, 1024]⟩
abbrev S1x1x16 : Shape := ⟨3, ![1, 1, 16]⟩
abbrev S16x1x1 : Shape := ⟨3, ![16, 1, 1]⟩
abbrev S1x16x128 : Shape := ⟨3, ![1, 16, 128]⟩
abbrev S128x384 : Shape := ⟨2, ![128, 384]⟩
abbrev S16x384 : Shape := ⟨2, ![16, 384]⟩
abbrev S1x384 : Shape := ⟨2, ![1, 384]⟩
abbrev S16x16x16 : Shape := ⟨3, ![16, 16, 16]⟩
abbrev S16x16 : Shape := ⟨2, ![16, 16]⟩
abbrev S1x16x16 : Shape := ⟨3, ![1, 16, 16]⟩

abbrev nBuf : Space → Nat
  | .hbm => 1203
  | .vmem => 0
  | .smem => 0
  | _ => 0

abbrev hbmTy0_0 (i : Nat) : BufTy := match i % 128 with
  | 0 => ⟨S16x1024x128, .f32⟩
  | 1 => ⟨S16x1024x1024, .f32⟩
  | 2 => ⟨S16x1024, .i1⟩
  | 3 => ⟨S256x128, .f32⟩
  | 4 => ⟨S128, .f32⟩
  | 5 => ⟨S128x1, .f32⟩
  | 6 => ⟨S1, .f32⟩
  | 7 => ⟨S128x128, .f32⟩
  | 8 => ⟨S128, .f32⟩
  | 9 => ⟨S384x128, .f32⟩
  | 10 => ⟨S384x128, .f32⟩
  | 11 => ⟨S384, .f32⟩
  | 12 => ⟨S384, .f32⟩
  | 13 => ⟨S_, .i32⟩
  | 14 => ⟨S_, .i32⟩
  | 15 => ⟨S_, .i32⟩
  | 16 => ⟨S_, .i32⟩
  | 17 => ⟨S1, .i32⟩
  | 18 => ⟨S_, .i32⟩
  | 19 => ⟨S_, .i32⟩
  | 20 => ⟨S_, .i32⟩
  | 21 => ⟨S1, .i32⟩
  | 22 => ⟨S2, .i32⟩
  | 23 => ⟨S_, .f32⟩
  | 24 => ⟨S1x1x1, .f32⟩
  | 25 => ⟨S_, .f32⟩
  | 26 => ⟨S1x1x1, .f32⟩
  | 27 => ⟨S1, .i32⟩
  | 28 => ⟨S_, .i32⟩
  | 29 => ⟨S1, .i32⟩
  | 30 => ⟨S_, .i32⟩
  | 31 => ⟨S16x16x1024, .i64⟩
  | 32 => ⟨S16x16x1024, .i64⟩
  | 33 => ⟨S16x16x1024, .i64⟩
  | 34 => ⟨S_, .i64⟩
  | 35 => ⟨S16x16x1024, .i64⟩
  | 36 => ⟨S16x16x1024, .i64⟩
  | 37 => ⟨S_, .i64⟩
  | 38 => ⟨S16x16x1024, .i64⟩
  | 39 => ⟨S16x16x1024, .i64⟩
  | 40 => ⟨S_, .i64⟩
  | 41 => ⟨S16x16x1024, .i64⟩
  | 42 => ⟨S16x16x1024, .i64⟩
  | 43 => ⟨S16x16x1024, .i64⟩
  | 44 => ⟨S16x16x1024, .i64⟩
  | 45 => ⟨S_, .i64⟩
  | 46 => ⟨S16x16x1024, .i64⟩
  | 47 => ⟨S16x16x1024, .i64⟩
  | 48 => ⟨S16x16x1024, .i32⟩
  | 49 => ⟨S16x16x1024, .i32⟩
  | 50 => ⟨S_, .i32⟩
  | 51 => ⟨S_, .i32⟩
  | 52 => ⟨S_, .i32⟩
  | 53 => ⟨S16x16x1024, .i32⟩
  | 54 => ⟨S16x16x1024, .i32⟩
  | 55 => ⟨S16x16x1024, .i32⟩
  | 56 => ⟨S16x16x1024, .i32⟩
  | 57 => ⟨S16x16x1024, .i32⟩
  | 58 => ⟨S_, .i32⟩
  | 59 => ⟨S16x16x1024, .i32⟩
  | 60 => ⟨S16x16x1024, .i32⟩
  | 61 => ⟨S_, .i32⟩
  | 62 => ⟨S16x16x1024, .i32⟩
  | 63 => ⟨S16x16x1024, .i32⟩
  | 64 => ⟨S16x16x1024, .i32⟩
  | 65 => ⟨S16x16x1024, .i32⟩
  | 66 => ⟨S16x16x1024, .i32⟩
  | 67 => ⟨S_, .i32⟩
  | 68 => ⟨S16x16x1024, .i32⟩
  | 69 => ⟨S16x16x1024, .i32⟩
  | 70 => ⟨S_, .i32⟩
  | 71 => ⟨S16x16x1024, .i32⟩
  | 72 => ⟨S16x16x1024, .i32⟩
  | 73 => ⟨S16x16x1024, .i32⟩
  | 74 => ⟨S16x16x1024, .i32⟩
  | 75 => ⟨S16x16x1024, .i32⟩
  | 76 => ⟨S_, .i32⟩
  | 77 => ⟨S16x16x1024, .i32⟩
  | 78 => ⟨S16x16x1024, .i32⟩
  | 79 => ⟨S_, .i32⟩
  | 80 => ⟨S16x16x1024, .i32⟩
  | 81 => ⟨S16x16x1024, .i32⟩
  | 82 => ⟨S16x16x1024, .i32⟩
  | 83 => ⟨S16x16x1024, .i32⟩
  | 84 => ⟨S16x16x1024, .i32⟩
  | 85 => ⟨S_, .i32⟩
  | 86 => ⟨S16x16x1024, .i32⟩
  | 87 => ⟨S16x16x1024, .i32⟩
  | 88 => ⟨S_, .i32⟩
  | 89 => ⟨S16x16x1024, .i32⟩
  | 90 => ⟨S16x16x1024, .i32⟩
  | 91 => ⟨S16x16x1024, .i32⟩
  | 92 => ⟨S16x16x1024, .i32⟩
  | 93 => ⟨S16x16x1024, .i32⟩
  | 94 => ⟨S16x16x1024, .i32⟩
  | 95 => ⟨S16x16x1024, .i32⟩
  | 96 => ⟨S16x16x1024, .i32⟩
  | 97 => ⟨S_, .i32⟩
  | 98 => ⟨S16x16x1024, .i32⟩
  | 99 => ⟨S16x16x1024, .i32⟩
  | 100 => ⟨S16x16x1024, .i32⟩
  | 101 => ⟨S_, .i32⟩
  | 102 => ⟨S16x16x1024, .i32⟩
  | 103 => ⟨S16x16x1024, .i32⟩
  | 104 => ⟨S_, .i32⟩
  | 105 => ⟨S16x16x1024, .i32⟩
  | 106 => ⟨S16x16x1024, .i32⟩
  | 107 => ⟨S16x16x1024, .i32⟩
  | 108 => ⟨S16x16x1024, .i32⟩
  | 109 => ⟨S16x16x1024, .i32⟩
  | 110 => ⟨S_, .i32⟩
  | 111 => ⟨S16x16x1024, .i32⟩
  | 112 => ⟨S16x16x1024, .i32⟩
  | 113 => ⟨S_, .i32⟩
  | 114 => ⟨S16x16x1024, .i32⟩
  | 115 => ⟨S16x16x1024, .i32⟩
  | 116 => ⟨S16x16x1024, .i32⟩
  | 117 => ⟨S16x16x1024, .i32⟩
  | 118 => ⟨S16x16x1024, .i32⟩
  | 119 => ⟨S_, .i32⟩
  | 120 => ⟨S16x16x1024, .i32⟩
  | 121 => ⟨S16x16x1024, .i32⟩
  | 122 => ⟨S_, .i32⟩
  | 123 => ⟨S16x16x1024, .i32⟩
  | 124 => ⟨S16x16x1024, .i32⟩
  | 125 => ⟨S16x16x1024, .i32⟩
  | 126 => ⟨S16x16x1024, .i32⟩
  | 127 => ⟨S16x16x1024, .i32⟩
  | _ => ⟨S16x1024x128, .f32⟩

abbrev hbmTy0_1 (i : Nat) : BufTy := match i % 128 with
  | 0 => ⟨S_, .i32⟩
  | 1 => ⟨S16x16x1024, .i32⟩
  | 2 => ⟨S16x16x1024, .i32⟩
  | 3 => ⟨S_, .i32⟩
  | 4 => ⟨S16x16x1024, .i32⟩
  | 5 => ⟨S16x16x1024, .i32⟩
  | 6 => ⟨S16x16x1024, .i32⟩
  | 7 => ⟨S16x16x1024, .i32⟩
  | 8 => ⟨S16x16x1024, .i32⟩
  | 9 => ⟨S16x16x1024, .i32⟩
  | 10 => ⟨S16x16x1024, .i32⟩
  | 11 => ⟨S16x16x1024, .i32⟩
  | 12 => ⟨S_, .i32⟩
  | 13 => ⟨S16x16x1024, .i32⟩
  | 14 => ⟨S16x16x1024, .i32⟩
  | 15 => ⟨S16x16x1024, .i32⟩
  | 16 => ⟨S_, .i32⟩
  | 17 => ⟨S16x16x1024, .i32⟩
  | 18 => ⟨S16x16x1024, .i32⟩
  | 19 => ⟨S_, .i32⟩
  | 20 => ⟨S16x16x1024, .i32⟩
  | 21 => ⟨S16x16x1024, .i32⟩
  | 22 => ⟨S16x16x1024, .i32⟩
  | 23 => ⟨S16x16x1024, .i32⟩
  | 24 => ⟨S16x16x1024, .i32⟩
  | 25 => ⟨S_, .i32⟩
  | 26 => ⟨S16x16x1024, .i32⟩
  | 27 => ⟨S16x16x1024, .i32⟩
  | 28 => ⟨S_, .i32⟩
  | 29 => ⟨S16x16x1024, .i32⟩
  | 30 => ⟨S16x16x1024, .i32⟩
  | 31 => ⟨S16x16x1024, .i32⟩
  | 32 => ⟨S16x16x1024, .i32⟩
  | 33 => ⟨S16x16x1024, .i32⟩
  | 34 => ⟨S_, .i32⟩
  | 35 => ⟨S16x16x1024, .i32⟩
  | 36 => ⟨S16x16x1024, .i32⟩
  | 37 => ⟨S_, .i32⟩
  | 38 => ⟨S16x16x1024, .i32⟩
  | 39 => ⟨S16x16x1024, .i32⟩
  | 40 => ⟨S16x16x1024, .i32⟩
  | 41 => ⟨S16x16x1024, .i32⟩
  | 42 => ⟨S16x16x1024, .i32⟩
  | 43 => ⟨S_, .i32⟩
  | 44 => ⟨S16x16x1024, .i32⟩
  | 45 => ⟨S16x16x1024, .i32⟩
  | 46 => ⟨S_, .i32⟩
  | 47 => ⟨S16x16x1024, .i32⟩
  | 48 => ⟨S16x16x1024, .i32⟩
  | 49 => ⟨S16x16x1024, .i32⟩
  | 50 => ⟨S16x16x1024, .i32⟩
  | 51 => ⟨S16x16x1024, .i32⟩
  | 52 => ⟨S16x16x1024, .i32⟩
  | 53 => ⟨S16x16x1024, .i32⟩
  | 54 => ⟨S16x16x1024, .i32⟩
  | 55 => ⟨S_, .i32⟩
  | 56 => ⟨S16x16x1024, .i32⟩
  | 57 => ⟨S16x16x1024, .i32⟩
  | 58 => ⟨S16x16x1024, .i32⟩
  | 59 => ⟨S_, .i32⟩
  | 60 => ⟨S16x16x1024, .i32⟩
  | 61 => ⟨S16x16x1024, .i32⟩
  | 62 => ⟨S_, .i32⟩
  | 63 => ⟨S16x16x1024, .i32⟩
  | 64 => ⟨S16x16x1024, .i32⟩
  | 65 => ⟨S16x16x1024, .i32⟩
  | 66 => ⟨S16x16x1024, .i32⟩
  | 67 => ⟨S16x16x1024, .i32⟩
  | 68 => ⟨S_, .i32⟩
  | 69 => ⟨S16x16x1024, .i32⟩
  | 70 => ⟨S16x16x1024, .i32⟩
  | 71 => ⟨S_, .i32⟩
  | 72 => ⟨S16x16x1024, .i32⟩
  | 73 => ⟨S16x16x1024, .i32⟩
  | 74 => ⟨S16x16x1024, .i32⟩
  | 75 => ⟨S16x16x1024, .i32⟩
  | 76 => ⟨S16x16x1024, .i32⟩
  | 77 => ⟨S_, .i32⟩
  | 78 => ⟨S16x16x1024, .i32⟩
  | 79 => ⟨S16x16x1024, .i32⟩
  | 80 => ⟨S_, .i32⟩
  | 81 => ⟨S16x16x1024, .i32⟩
  | 82 => ⟨S16x16x1024, .i32⟩
  | 83 => ⟨S16x16x1024, .i32⟩
  | 84 => ⟨S16x16x1024, .i32⟩
  | 85 => ⟨S16x16x1024, .i32⟩
  | 86 => ⟨S_, .i32⟩
  | 87 => ⟨S16x16x1024, .i32⟩
  | 88 => ⟨S16x16x1024, .i32⟩
  | 89 => ⟨S_, .i32⟩
  | 90 => ⟨S16x16x1024, .i32⟩
  | 91 => ⟨S16x16x1024, .i32⟩
  | 92 => ⟨S16x16x1024, .i32⟩
  | 93 => ⟨S16x16x1024, .i32⟩
  | 94 => ⟨S16x16x1024, .i32⟩
  | 95 => ⟨S16x16x1024, .i32⟩
  | 96 => ⟨S16x16x1024, .i32⟩
  | 97 => ⟨S16x16x1024, .i32⟩
  | 98 => ⟨S_, .i32⟩
  | 99 => ⟨S16x16x1024, .i32⟩
  | 100 => ⟨S16x16x1024, .i32⟩
  | 101 => ⟨S16x16x1024, .i32⟩
  | 102 => ⟨S_, .i32⟩
  | 103 => ⟨S16x16x1024, .i32⟩
  | 104 => ⟨S16x16x1024, .i32⟩
  | 105 => ⟨S_, .i32⟩
  | 106 => ⟨S16x16x1024, .i32⟩
  | 107 => ⟨S16x16x1024, .i32⟩
  | 108 => ⟨S16x16x1024, .i32⟩
  | 109 => ⟨S16x16x1024, .i32⟩
  | 110 => ⟨S16x16x1024, .i32⟩
  | 111 => ⟨S_, .i32⟩
  | 112 => ⟨S16x16x1024, .i32⟩
  | 113 => ⟨S16x16x1024, .i32⟩
  | 114 => ⟨S_, .i32⟩
  | 115 => ⟨S16x16x1024, .i32⟩
  | 116 => ⟨S16x16x1024, .i32⟩
  | 117 => ⟨S16x16x1024, .i32⟩
  | 118 => ⟨S16x16x1024, .i32⟩
  | 119 => ⟨S16x16x1024, .i32⟩
  | 120 => ⟨S_, .i32⟩
  | 121 => ⟨S16x16x1024, .i32⟩
  | 122 => ⟨S16x16x1024, .i32⟩
  | 123 => ⟨S_, .i32⟩
  | 124 => ⟨S16x16x1024, .i32⟩
  | 125 => ⟨S16x16x1024, .i32⟩
  | 126 => ⟨S16x16x1024, .i32⟩
  | 127 => ⟨S16x16x1024, .i32⟩
  | _ => ⟨S16x1024x128, .f32⟩

abbrev hbmTy0_2 (i : Nat) : BufTy := match i % 128 with
  | 0 => ⟨S16x16x1024, .i32⟩
  | 1 => ⟨S_, .i32⟩
  | 2 => ⟨S16x16x1024, .i32⟩
  | 3 => ⟨S16x16x1024, .i32⟩
  | 4 => ⟨S_, .i32⟩
  | 5 => ⟨S16x16x1024, .i32⟩
  | 6 => ⟨S16x16x1024, .i32⟩
  | 7 => ⟨S16x16x1024, .i32⟩
  | 8 => ⟨S16x16x1024, .i32⟩
  | 9 => ⟨S16x16x1024, .i32⟩
  | 10 => ⟨S16x16x1024, .i32⟩
  | 11 => ⟨S16x16x1024, .i32⟩
  | 12 => ⟨S16x16x1024, .i32⟩
  | 13 => ⟨S_, .i32⟩
  | 14 => ⟨S16x16x1024, .i32⟩
  | 15 => ⟨S16x16x1024, .i32⟩
  | 16 => ⟨S16x16x1024, .i32⟩
  | 17 => ⟨S_, .i32⟩
  | 18 => ⟨S16x16x1024, .i32⟩
  | 19 => ⟨S16x16x1024, .i32⟩
  | 20 => ⟨S_, .i32⟩
  | 21 => ⟨S16x16x1024, .i32⟩
  | 22 => ⟨S16x16x1024, .i32⟩
  | 23 => ⟨S16x16x1024, .f32⟩
  | 24 => ⟨S_, .f32⟩
  | 25 => ⟨S16x16x1024, .f32⟩
  | 26 => ⟨S16x16x1024, .f32⟩
  | 27 => ⟨S1x1x1, .f32⟩
  | 28 => ⟨S16x16x1024, .f32⟩
  | 29 => ⟨S16x16x1024, .f32⟩
  | 30 => ⟨S16x16x1024, .f32⟩
  | 31 => ⟨S16x16x1024, .f32⟩
  | 32 => ⟨S16x16x1024, .f32⟩
  | 33 => ⟨S16x16x1024, .f32⟩
  | 34 => ⟨S_, .f32⟩
  | 35 => ⟨S16x16x1024, .f32⟩
  | 36 => ⟨S16x16x1024, .f32⟩
  | 37 => ⟨S16x16x1024, .f32⟩
  | 38 => ⟨S16x16x1024, .f32⟩
  | 39 => ⟨S_, .f32⟩
  | 40 => ⟨S16x16x1024, .f32⟩
  | 41 => ⟨S16x16x1024, .f32⟩
  | 42 => ⟨S16x16x1024, .f32⟩
  | 43 => ⟨S16x16x1024, .f32⟩
  | 44 => ⟨S_, .f32⟩
  | 45 => ⟨S16x128, .f32⟩
  | 46 => ⟨S_, .f32⟩
  | 47 => ⟨S16x128, .f32⟩
  | 48 => ⟨S16x128, .f32⟩
  | 49 => ⟨S16x128, .f32⟩
  | 50 => ⟨S1x128, .f32⟩
  | 51 => ⟨S16x128, .f32⟩
  | 52 => ⟨S16x128, .f32⟩
  | 53 => ⟨S_, .f32⟩
  | 54 => ⟨S16x128, .f32⟩
  | 55 => ⟨S_, .f32⟩
  | 56 => ⟨S16x1024x16, .f32⟩
  | 57 => ⟨S_, .f32⟩
  | 58 => ⟨S16x16x128, .f32⟩
  | 59 => ⟨S_, .i32⟩
  | 60 => ⟨S_, .i32⟩
  | 61 => ⟨S16x1024x128, .f32⟩
  | 62 => ⟨S256x128, .f32⟩
  | 63 => ⟨S128, .f32⟩
  | 64 => ⟨S128x1, .f32⟩
  | 65 => ⟨S1, .f32⟩
  | 66 => ⟨S16x16x1024, .f32⟩
  | 67 => ⟨S384x128, .f32⟩
  | 68 => ⟨S384, .f32⟩
  | 69 => ⟨S384x128, .f32⟩
  | 70 => ⟨S384, .f32⟩
  | 71 => ⟨S_, .i32⟩
  | 72 => ⟨S_, .i32⟩
  | 73 => ⟨S16x1024, .i1⟩
  | 74 => ⟨S16x128, .f32⟩
  | 75 => ⟨S16x128, .f32⟩
  | 76 => ⟨S16x1024x16, .f32⟩
  | 77 => ⟨S16x16x128, .f32⟩
  | 78 => ⟨S_, .i32⟩
  | 79 => ⟨S_, .i1⟩
  | 80 => ⟨S_, .i32⟩
  | 81 => ⟨S_, .i32⟩
  | 82 => ⟨S16x1x128, .f32⟩
  | 83 => ⟨S16x1024x128, .f32⟩
  | 84 => ⟨S16x1024x256, .f32⟩
  | 85 => ⟨S16x1024x128, .f32⟩
  | 86 => ⟨S1x1x128, .f32⟩
  | 87 => ⟨S16x1024x128, .f32⟩
  | 88 => ⟨S16x1024x128, .f32⟩
  | 89 => ⟨S_, .f32⟩
  | 90 => ⟨S16x1024x128, .f32⟩
  | 91 => ⟨S16x1024x128, .f32⟩
  | 92 => ⟨S16x1024x1, .f32⟩
  | 93 => ⟨S1x1x1, .f32⟩
  | 94 => ⟨S16x1024x1, .f32⟩
  | 95 => ⟨S16x1024x1, .f32⟩
  | 96 => ⟨S16x1024, .f32⟩
  | 97 => ⟨S_, .f32⟩
  | 98 => ⟨S_, .f32⟩
  | 99 => ⟨S16x1024, .f32⟩
  | 100 => ⟨S16x1024, .f32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S1x16x1024, .f32⟩
  | 124 => ⟨S16x1024, .f32⟩
  | 125 => ⟨S16x1024, .f32⟩
  | 126 => ⟨S_, .f32⟩
  | 127 => ⟨S16x1024, .f32⟩
  | _ => ⟨S16x1024x128, .f32⟩

abbrev hbmTy0_3 (i : Nat) : BufTy := match i % 128 with
  | 0 => ⟨S16x1024, .f32⟩
  | 1 => ⟨S_, .f32⟩
  | 2 => ⟨S16, .f32⟩
  | 3 => ⟨S_, .f32⟩
  | 4 => ⟨S16, .f32⟩
  | 5 => ⟨S16, .f32⟩
  | 6 => ⟨S16x1, .f32⟩
  | 7 => ⟨S16x1024, .f32⟩
  | 8 => ⟨S16x1024, .f32⟩
  | 9 => ⟨S16x1024, .f32⟩
  | 10 => ⟨S_, .f32⟩
  | 11 => ⟨S16, .f32⟩
  | 12 => ⟨S16x1, .f32⟩
  | 13 => ⟨S16x1024, .f32⟩
  | 14 => ⟨S16x1024, .f32⟩
  | 15 => ⟨S_, .f32⟩
  | 16 => ⟨S16, .f32⟩
  | 17 => ⟨S16x1, .f32⟩
  | 18 => ⟨S16x1024, .f32⟩
  | 19 => ⟨S16x1024, .i1⟩
  | 20 => ⟨S1024, .i32⟩
  | 21 => ⟨S1x1024, .i32⟩
  | 22 => ⟨S_, .i32⟩
  | 23 => ⟨S_, .i32⟩
  | 24 => ⟨S16x1024, .i32⟩
  | 25 => ⟨S16x1024, .i32⟩
  | 26 => ⟨S16x1024, .i32⟩
  | 27 => ⟨S_, .i32⟩
  | 28 => ⟨S16, .i32⟩
  | 29 => ⟨S16x1, .i32⟩
  | 30 => ⟨S1x1024, .i32⟩
  | 31 => ⟨S16x1024, .i32⟩
  | 32 => ⟨S16x1024, .i32⟩
  | 33 => ⟨S16x1024, .i1⟩
  | 34 => ⟨S16x1024, .f32⟩
  | 35 => ⟨S1, .i32⟩
  | 36 => ⟨S16, .i32⟩
  | 37 => ⟨S1, .i32⟩
  | 38 => ⟨S16, .i32⟩
  | 39 => ⟨S16, .i1⟩
  | 40 => ⟨S16, .f32⟩
  | 41 => ⟨S16x1024x1, .f32⟩
  | 42 => ⟨S1x1x16, .f32⟩
  | 43 => ⟨S16x1024x16, .f32⟩
  | 44 => ⟨S16x1024x16, .f32⟩
  | 45 => ⟨S16x1024x16, .f32⟩
  | 46 => ⟨S16x1024x16, .f32⟩
  | 47 => ⟨S16x1024x1, .f32⟩
  | 48 => ⟨S16x1024x128, .f32⟩
  | 49 => ⟨S16x1024x128, .f32⟩
  | 50 => ⟨S_, .f32⟩
  | 51 => ⟨S16x128, .f32⟩
  | 52 => ⟨S16x1x1, .f32⟩
  | 53 => ⟨S1x16x128, .f32⟩
  | 54 => ⟨S16x16x128, .f32⟩
  | 55 => ⟨S16x16x128, .f32⟩
  | 56 => ⟨S16x16x128, .f32⟩
  | 57 => ⟨S16x16x128, .f32⟩
  | 58 => ⟨S1x16x128, .f32⟩
  | 59 => ⟨S16x128, .f32⟩
  | 60 => ⟨S128x384, .f32⟩
  | 61 => ⟨S16x384, .f32⟩
  | 62 => ⟨S1x384, .f32⟩
  | 63 => ⟨S16x384, .f32⟩
  | 64 => ⟨S16x384, .f32⟩
  | 65 => ⟨S128x384, .f32⟩
  | 66 => ⟨S16x384, .f32⟩
  | 67 => ⟨S1x384, .f32⟩
  | 68 => ⟨S16x384, .f32⟩
  | 69 => ⟨S16x384, .f32⟩
  | 70 => ⟨S16x128, .f32⟩
  | 71 => ⟨S16x128, .f32⟩
  | 72 => ⟨S16x128, .f32⟩
  | 73 => ⟨S16x128, .f32⟩
  | 74 => ⟨S16x128, .f32⟩
  | 75 => ⟨S16x128, .f32⟩
  | 76 => ⟨S16x128, .f32⟩
  | 77 => ⟨S16x128, .f32⟩
  | 78 => ⟨S16x128, .f32⟩
  | 79 => ⟨S_, .f32⟩
  | 80 => ⟨S16x128, .f32⟩
  | 81 => ⟨S16x128, .f32⟩
  | 82 => ⟨S_, .f32⟩
  | 83 => ⟨S16x128, .f32⟩
  | 84 => ⟨S16x128, .f32⟩
  | 85 => ⟨S16x128, .f32⟩
  | 86 => ⟨S16x128, .f32⟩
  | 87 => ⟨S16x128, .f32⟩
  | 88 => ⟨S_, .f32⟩
  | 89 => ⟨S16x128, .f32⟩
  | 90 => ⟨S16x128, .f32⟩
  | 91 => ⟨S_, .f32⟩
  | 92 => ⟨S16x128, .f32⟩
  | 93 => ⟨S16x128, .f32⟩
  | 94 => ⟨S16x128, .f32⟩
  | 95 => ⟨S16x128, .f32⟩
  | 96 => ⟨S16x128, .f32⟩
  | 97 => ⟨S_, .f32⟩
  | 98 => ⟨S16x128, .f32⟩
  | 99 => ⟨S16x128, .f32⟩
  | 100 => ⟨S16x128, .f32⟩
  | 101 => ⟨S16x128, .f32⟩
  | 102 => ⟨S16x128, .f32⟩
  | 103 => ⟨S1x16x128, .f32⟩
  | 104 => ⟨S16x128, .f32⟩
  | 105 => ⟨S128x384, .f32⟩
  | 106 => ⟨S16x384, .f32⟩
  | 107 => ⟨S1x384, .f32⟩
  | 108 => ⟨S16x384, .f32⟩
  | 109 => ⟨S16x384, .f32⟩
  | 110 => ⟨S128x384, .f32⟩
  | 111 => ⟨S16x384, .f32⟩
  | 112 => ⟨S1x384, .f32⟩
  | 113 => ⟨S16x384, .f32⟩
  | 114 => ⟨S16x384, .f32⟩
  | 115 => ⟨S16x128, .f32⟩
  | 116 => ⟨S16x128, .f32⟩
  | 117 => ⟨S16x128, .f32⟩
  | 118 => ⟨S16x128, .f32⟩
  | 119 => ⟨S16x128, .f32⟩
  | 120 => ⟨S16x128, .f32⟩
  | 121 => ⟨S16x128, .f32⟩
  | 122 => ⟨S16x128, .f32⟩
  | 123 => ⟨S16x128, .f32⟩
  | 124 => ⟨S_, .f32⟩
  | 125 => ⟨S16x128, .f32⟩
  | 126 => ⟨S16x128, .f32⟩
  | 127 => ⟨S_, .f32⟩
  | _ => ⟨S16x1024x128, .f32⟩

abbrev hbmTy0_4 (i : Nat) : BufTy := match i % 128 with
  | 0 => ⟨S16x128, .f32⟩
  | 1 => ⟨S16x128, .f32⟩
  | 2 => ⟨S16x128, .f32⟩
  | 3 => ⟨S16x128, .f32⟩
  | 4 => ⟨S16x128, .f32⟩
  | 5 => ⟨S_, .f32⟩
  | 6 => ⟨S16x128, .f32⟩
  | 7 => ⟨S16x128, .f32⟩
  | 8 => ⟨S_, .f32⟩
  | 9 => ⟨S16x128, .f32⟩
  | 10 => ⟨S16x128, .f32⟩
  | 11 => ⟨S16x128, .f32⟩
  | 12 => ⟨S16x128, .f32⟩
  | 13 => ⟨S16x128, .f32⟩
  | 14 => ⟨S_, .f32⟩
  | 15 => ⟨S16x128, .f32⟩
  | 16 => ⟨S16x128, .f32⟩
  | 17 => ⟨S16x128, .f32⟩
  | 18 => ⟨S16x128, .f32⟩
  | 19 => ⟨S16x128, .f32⟩
  | 20 => ⟨S1x16x128, .f32⟩
  | 21 => ⟨S16x128, .f32⟩
  | 22 => ⟨S128x384, .f32⟩
  | 23 => ⟨S16x384, .f32⟩
  | 24 => ⟨S1x384, .f32⟩
  | 25 => ⟨S16x384, .f32⟩
  | 26 => ⟨S16x384, .f32⟩
  | 27 => ⟨S128x384, .f32⟩
  | 28 => ⟨S16x384, .f32⟩
  | 29 => ⟨S1x384, .f32⟩
  | 30 => ⟨S16x384, .f32⟩
  | 31 => ⟨S16x384, .f32⟩
  | 32 => ⟨S16x128, .f32⟩
  | 33 => ⟨S16x128, .f32⟩
  | 34 => ⟨S16x128, .f32⟩
  | 35 => ⟨S16x128, .f32⟩
  | 36 => ⟨S16x128, .f32⟩
  | 37 => ⟨S16x128, .f32⟩
  | 38 => ⟨S16x128, .f32⟩
  | 39 => ⟨S16x128, .f32⟩
  | 40 => ⟨S16x128, .f32⟩
  | 41 => ⟨S_, .f32⟩
  | 42 => ⟨S16x128, .f32⟩
  | 43 => ⟨S16x128, .f32⟩
  | 44 => ⟨S_, .f32⟩
  | 45 => ⟨S16x128, .f32⟩
  | 46 => ⟨S16x128, .f32⟩
  | 47 => ⟨S16x128, .f32⟩
  | 48 => ⟨S16x128, .f32⟩
  | 49 => ⟨S16x128, .f32⟩
  | 50 => ⟨S_, .f32⟩
  | 51 => ⟨S16x128, .f32⟩
  | 52 => ⟨S16x128, .f32⟩
  | 53 => ⟨S_, .f32⟩
  | 54 => ⟨S16x128, .f32⟩
  | 55 => ⟨S16x128, .f32⟩
  | 56 => ⟨S16x128, .f32⟩
  | 57 => ⟨S16x128, .f32⟩
  | 58 => ⟨S16x128, .f32⟩
  | 59 => ⟨S_, .f32⟩
  | 60 => ⟨S16x128, .f32⟩
  | 61 => ⟨S16x128, .f32⟩
  | 62 => ⟨S16x128, .f32⟩
  | 63 => ⟨S16x128, .f32⟩
  | 64 => ⟨S16x128, .f32⟩
  | 65 => ⟨S1x16x128, .f32⟩
  | 66 => ⟨S16x128, .f32⟩
  | 67 => ⟨S128x384, .f32⟩
  | 68 => ⟨S16x384, .f32⟩
  | 69 => ⟨S1x384, .f32⟩
  | 70 => ⟨S16x384, .f32⟩
  | 71 => ⟨S16x384, .f32⟩
  | 72 => ⟨S128x384, .f32⟩
  | 73 => ⟨S16x384, .f32⟩
  | 74 => ⟨S1x384, .f32⟩
  | 75 => ⟨S16x384, .f32⟩
  | 76 => ⟨S16x384, .f32⟩
  | 77 => ⟨S16x128, .f32⟩
  | 78 => ⟨S16x128, .f32⟩
  | 79 => ⟨S16x128, .f32⟩
  | 80 => ⟨S16x128, .f32⟩
  | 81 => ⟨S16x128, .f32⟩
  | 82 => ⟨S16x128, .f32⟩
  | 83 => ⟨S16x128, .f32⟩
  | 84 => ⟨S16x128, .f32⟩
  | 85 => ⟨S16x128, .f32⟩
  | 86 => ⟨S_, .f32⟩
  | 87 => ⟨S16x128, .f32⟩
  | 88 => ⟨S16x128, .f32⟩
  | 89 => ⟨S_, .f32⟩
  | 90 => ⟨S16x128, .f32⟩
  | 91 => ⟨S16x128, .f32⟩
  | 92 => ⟨S16x128, .f32⟩
  | 93 => ⟨S16x128, .f32⟩
  | 94 => ⟨S16x128, .f32⟩
  | 95 => ⟨S_, .f32⟩
  | 96 => ⟨S16x128, .f32⟩
  | 97 => ⟨S16x128, .f32⟩
  | 98 => ⟨S_, .f32⟩
  | 99 => ⟨S16x128, .f32⟩
  | 100 => ⟨S16x128, .f32⟩
  | 101 => ⟨S16x128, .f32⟩
  | 102 => ⟨S16x128, .f32⟩
  | 103 => ⟨S16x128, .f32⟩
  | 104 => ⟨S_, .f32⟩
  | 105 => ⟨S16x128, .f32⟩
  | 106 => ⟨S16x128, .f32⟩
  | 107 => ⟨S16x128, .f32⟩
  | 108 => ⟨S16x128, .f32⟩
  | 109 => ⟨S16x128, .f32⟩
  | 110 => ⟨S1x16x128, .f32⟩
  | 111 => ⟨S16x128, .f32⟩
  | 112 => ⟨S128x384, .f32⟩
  | 113 => ⟨S16x384, .f32⟩
  | 114 => ⟨S1x384, .f32⟩
  | 115 => ⟨S16x384, .f32⟩
  | 116 => ⟨S16x384, .f32⟩
  | 117 => ⟨S128x384, .f32⟩
  | 118 => ⟨S16x384, .f32⟩
  | 119 => ⟨S1x384, .f32⟩
  | 120 => ⟨S16x384, .f32⟩
  | 121 => ⟨S16x384, .f32⟩
  | 122 => ⟨S16x128, .f32⟩
  | 123 => ⟨S16x128, .f32⟩
  | 124 => ⟨S16x128, .f32⟩
  | 125 => ⟨S16x128, .f32⟩
  | 126 => ⟨S16x128, .f32⟩
  | 127 => ⟨S16x128, .f32⟩
  | _ => ⟨S16x1024x128, .f32⟩

abbrev hbmTy0_5 (i : Nat) : BufTy := match i % 128 with
  | 0 => ⟨S16x128, .f32⟩
  | 1 => ⟨S16x128, .f32⟩
  | 2 => ⟨S16x128, .f32⟩
  | 3 => ⟨S_, .f32⟩
  | 4 => ⟨S16x128, .f32⟩
  | 5 => ⟨S16x128, .f32⟩
  | 6 => ⟨S_, .f32⟩
  | 7 => ⟨S16x128, .f32⟩
  | 8 => ⟨S16x128, .f32⟩
  | 9 => ⟨S16x128, .f32⟩
  | 10 => ⟨S16x128, .f32⟩
  | 11 => ⟨S16x128, .f32⟩
  | 12 => ⟨S_, .f32⟩
  | 13 => ⟨S16x128, .f32⟩
  | 14 => ⟨S16x128, .f32⟩
  | 15 => ⟨S_, .f32⟩
  | 16 => ⟨S16x128, .f32⟩
  | 17 => ⟨S16x128, .f32⟩
  | 18 => ⟨S16x128, .f32⟩
  | 19 => ⟨S16x128, .f32⟩
  | 20 => ⟨S16x128, .f32⟩
  | 21 => ⟨S_, .f32⟩
  | 22 => ⟨S16x128, .f32⟩
  | 23 => ⟨S16x128, .f32⟩
  | 24 => ⟨S16x128, .f32⟩
  | 25 => ⟨S16x128, .f32⟩
  | 26 => ⟨S16x128, .f32⟩
  | 27 => ⟨S1x16x128, .f32⟩
  | 28 => ⟨S16x128, .f32⟩
  | 29 => ⟨S128x384, .f32⟩
  | 30 => ⟨S16x384, .f32⟩
  | 31 => ⟨S1x384, .f32⟩
  | 32 => ⟨S16x384, .f32⟩
  | 33 => ⟨S16x384, .f32⟩
  | 34 => ⟨S128x384, .f32⟩
  | 35 => ⟨S16x384, .f32⟩
  | 36 => ⟨S1x384, .f32⟩
  | 37 => ⟨S16x384, .f32⟩
  | 38 => ⟨S16x384, .f32⟩
  | 39 => ⟨S16x128, .f32⟩
  | 40 => ⟨S16x128, .f32⟩
  | 41 => ⟨S16x128, .f32⟩
  | 42 => ⟨S16x128, .f32⟩
  | 43 => ⟨S16x128, .f32⟩
  | 44 => ⟨S16x128, .f32⟩
  | 45 => ⟨S16x128, .f32⟩
  | 46 => ⟨S16x128, .f32⟩
  | 47 => ⟨S16x128, .f32⟩
  | 48 => ⟨S_, .f32⟩
  | 49 => ⟨S16x128, .f32⟩
  | 50 => ⟨S16x128, .f32⟩
  | 51 => ⟨S_, .f32⟩
  | 52 => ⟨S16x128, .f32⟩
  | 53 => ⟨S16x128, .f32⟩
  | 54 => ⟨S16x128, .f32⟩
  | 55 => ⟨S16x128, .f32⟩
  | 56 => ⟨S16x128, .f32⟩
  | 57 => ⟨S_, .f32⟩
  | 58 => ⟨S16x128, .f32⟩
  | 59 => ⟨S16x128, .f32⟩
  | 60 => ⟨S_, .f32⟩
  | 61 => ⟨S16x128, .f32⟩
  | 62 => ⟨S16x128, .f32⟩
  | 63 => ⟨S16x128, .f32⟩
  | 64 => ⟨S16x128, .f32⟩
  | 65 => ⟨S16x128, .f32⟩
  | 66 => ⟨S_, .f32⟩
  | 67 => ⟨S16x128, .f32⟩
  | 68 => ⟨S16x128, .f32⟩
  | 69 => ⟨S16x128, .f32⟩
  | 70 => ⟨S16x128, .f32⟩
  | 71 => ⟨S16x128, .f32⟩
  | 72 => ⟨S1x16x128, .f32⟩
  | 73 => ⟨S16x128, .f32⟩
  | 74 => ⟨S128x384, .f32⟩
  | 75 => ⟨S16x384, .f32⟩
  | 76 => ⟨S1x384, .f32⟩
  | 77 => ⟨S16x384, .f32⟩
  | 78 => ⟨S16x384, .f32⟩
  | 79 => ⟨S128x384, .f32⟩
  | 80 => ⟨S16x384, .f32⟩
  | 81 => ⟨S1x384, .f32⟩
  | 82 => ⟨S16x384, .f32⟩
  | 83 => ⟨S16x384, .f32⟩
  | 84 => ⟨S16x128, .f32⟩
  | 85 => ⟨S16x128, .f32⟩
  | 86 => ⟨S16x128, .f32⟩
  | 87 => ⟨S16x128, .f32⟩
  | 88 => ⟨S16x128, .f32⟩
  | 89 => ⟨S16x128, .f32⟩
  | 90 => ⟨S16x128, .f32⟩
  | 91 => ⟨S16x128, .f32⟩
  | 92 => ⟨S16x128, .f32⟩
  | 93 => ⟨S_, .f32⟩
  | 94 => ⟨S16x128, .f32⟩
  | 95 => ⟨S16x128, .f32⟩
  | 96 => ⟨S_, .f32⟩
  | 97 => ⟨S16x128, .f32⟩
  | 98 => ⟨S16x128, .f32⟩
  | 99 => ⟨S16x128, .f32⟩
  | 100 => ⟨S16x128, .f32⟩
  | 101 => ⟨S16x128, .f32⟩
  | 102 => ⟨S_, .f32⟩
  | 103 => ⟨S16x128, .f32⟩
  | 104 => ⟨S16x128, .f32⟩
  | 105 => ⟨S_, .f32⟩
  | 106 => ⟨S16x128, .f32⟩
  | 107 => ⟨S16x128, .f32⟩
  | 108 => ⟨S16x128, .f32⟩
  | 109 => ⟨S16x128, .f32⟩
  | 110 => ⟨S16x128, .f32⟩
  | 111 => ⟨S_, .f32⟩
  | 112 => ⟨S16x128, .f32⟩
  | 113 => ⟨S16x128, .f32⟩
  | 114 => ⟨S16x128, .f32⟩
  | 115 => ⟨S16x128, .f32⟩
  | 116 => ⟨S16x128, .f32⟩
  | 117 => ⟨S1x16x128, .f32⟩
  | 118 => ⟨S16x128, .f32⟩
  | 119 => ⟨S128x384, .f32⟩
  | 120 => ⟨S16x384, .f32⟩
  | 121 => ⟨S1x384, .f32⟩
  | 122 => ⟨S16x384, .f32⟩
  | 123 => ⟨S16x384, .f32⟩
  | 124 => ⟨S128x384, .f32⟩
  | 125 => ⟨S16x384, .f32⟩
  | 126 => ⟨S1x384, .f32⟩
  | 127 => ⟨S16x384, .f32⟩
  | _ => ⟨S16x1024x128, .f32⟩

abbrev hbmTy0_6 (i : Nat) : BufTy := match i % 128 with
  | 0 => ⟨S16x384, .f32⟩
  | 1 => ⟨S16x128, .f32⟩
  | 2 => ⟨S16x128, .f32⟩
  | 3 => ⟨S16x128, .f32⟩
  | 4 => ⟨S16x128, .f32⟩
  | 5 => ⟨S16x128, .f32⟩
  | 6 => ⟨S16x128, .f32⟩
  | 7 => ⟨S16x128, .f32⟩
  | 8 => ⟨S16x128, .f32⟩
  | 9 => ⟨S16x128, .f32⟩
  | 10 => ⟨S_, .f32⟩
  | 11 => ⟨S16x128, .f32⟩
  | 12 => ⟨S16x128, .f32⟩
  | 13 => ⟨S_, .f32⟩
  | 14 => ⟨S16x128, .f32⟩
  | 15 => ⟨S16x128, .f32⟩
  | 16 => ⟨S16x128, .f32⟩
  | 17 => ⟨S16x128, .f32⟩
  | 18 => ⟨S16x128, .f32⟩
  | 19 => ⟨S_, .f32⟩
  | 20 => ⟨S16x128, .f32⟩
  | 21 => ⟨S16x128, .f32⟩
  | 22 => ⟨S_, .f32⟩
  | 23 => ⟨S16x128, .f32⟩
  | 24 => ⟨S16x128, .f32⟩
  | 25 => ⟨S16x128, .f32⟩
  | 26 => ⟨S16x128, .f32⟩
  | 27 => ⟨S16x128, .f32⟩
  | 28 => ⟨S_, .f32⟩
  | 29 => ⟨S16x128, .f32⟩
  | 30 => ⟨S16x128, .f32⟩
  | 31 => ⟨S16x128, .f32⟩
  | 32 => ⟨S16x128, .f32⟩
  | 33 => ⟨S16x128, .f32⟩
  | 34 => ⟨S1x16x128, .f32⟩
  | 35 => ⟨S16x128, .f32⟩
  | 36 => ⟨S128x384, .f32⟩
  | 37 => ⟨S16x384, .f32⟩
  | 38 => ⟨S1x384, .f32⟩
  | 39 => ⟨S16x384, .f32⟩
  | 40 => ⟨S16x384, .f32⟩
  | 41 => ⟨S128x384, .f32⟩
  | 42 => ⟨S16x384, .f32⟩
  | 43 => ⟨S1x384, .f32⟩
  | 44 => ⟨S16x384, .f32⟩
  | 45 => ⟨S16x384, .f32⟩
  | 46 => ⟨S16x128, .f32⟩
  | 47 => ⟨S16x128, .f32⟩
  | 48 => ⟨S16x128, .f32⟩
  | 49 => ⟨S16x128, .f32⟩
  | 50 => ⟨S16x128, .f32⟩
  | 51 => ⟨S16x128, .f32⟩
  | 52 => ⟨S16x128, .f32⟩
  | 53 => ⟨S16x128, .f32⟩
  | 54 => ⟨S16x128, .f32⟩
  | 55 => ⟨S_, .f32⟩
  | 56 => ⟨S16x128, .f32⟩
  | 57 => ⟨S16x128, .f32⟩
  | 58 => ⟨S_, .f32⟩
  | 59 => ⟨S16x128, .f32⟩
  | 60 => ⟨S16x128, .f32⟩
  | 61 => ⟨S16x128, .f32⟩
  | 62 => ⟨S16x128, .f32⟩
  | 63 => ⟨S16x128, .f32⟩
  | 64 => ⟨S_, .f32⟩
  | 65 => ⟨S16x128, .f32⟩
  | 66 => ⟨S16x128, .f32⟩
  | 67 => ⟨S_, .f32⟩
  | 68 => ⟨S16x128, .f32⟩
  | 69 => ⟨S16x128, .f32⟩
  | 70 => ⟨S16x128, .f32⟩
  | 71 => ⟨S16x128, .f32⟩
  | 72 => ⟨S16x128, .f32⟩
  | 73 => ⟨S_, .f32⟩
  | 74 => ⟨S16x128, .f32⟩
  | 75 => ⟨S16x128, .f32⟩
  | 76 => ⟨S16x128, .f32⟩
  | 77 => ⟨S16x128, .f32⟩
  | 78 => ⟨S16x128, .f32⟩
  | 79 => ⟨S1x16x128, .f32⟩
  | 80 => ⟨S16x128, .f32⟩
  | 81 => ⟨S128x384, .f32⟩
  | 82 => ⟨S16x384, .f32⟩
  | 83 => ⟨S1x384, .f32⟩
  | 84 => ⟨S16x384, .f32⟩
  | 85 => ⟨S16x384, .f32⟩
  | 86 => ⟨S128x384, .f32⟩
  | 87 => ⟨S16x384, .f32⟩
  | 88 => ⟨S1x384, .f32⟩
  | 89 => ⟨S16x384, .f32⟩
  | 90 => ⟨S16x384, .f32⟩
  | 91 => ⟨S16x128, .f32⟩
  | 92 => ⟨S16x128, .f32⟩
  | 93 => ⟨S16x128, .f32⟩
  | 94 => ⟨S16x128, .f32⟩
  | 95 => ⟨S16x128, .f32⟩
  | 96 => ⟨S16x128, .f32⟩
  | 97 => ⟨S16x128, .f32⟩
  | 98 => ⟨S16x128, .f32⟩
  | 99 => ⟨S16x128, .f32⟩
  | 100 => ⟨S_, .f32⟩
  | 101 => ⟨S16x128, .f32⟩
  | 102 => ⟨S16x128, .f32⟩
  | 103 => ⟨S_, .f32⟩
  | 104 => ⟨S16x128, .f32⟩
  | 105 => ⟨S16x128, .f32⟩
  | 106 => ⟨S16x128, .f32⟩
  | 107 => ⟨S16x128, .f32⟩
  | 108 => ⟨S16x128, .f32⟩
  | 109 => ⟨S_, .f32⟩
  | 110 => ⟨S16x128, .f32⟩
  | 111 => ⟨S16x128, .f32⟩
  | 112 => ⟨S_, .f32⟩
  | 113 => ⟨S16x128, .f32⟩
  | 114 => ⟨S16x128, .f32⟩
  | 115 => ⟨S16x128, .f32⟩
  | 116 => ⟨S16x128, .f32⟩
  | 117 => ⟨S16x128, .f32⟩
  | 118 => ⟨S_, .f32⟩
  | 119 => ⟨S16x128, .f32⟩
  | 120 => ⟨S16x128, .f32⟩
  | 121 => ⟨S16x128, .f32⟩
  | 122 => ⟨S16x128, .f32⟩
  | 123 => ⟨S16x128, .f32⟩
  | 124 => ⟨S1x16x128, .f32⟩
  | 125 => ⟨S16x128, .f32⟩
  | 126 => ⟨S128x384, .f32⟩
  | 127 => ⟨S16x384, .f32⟩
  | _ => ⟨S16x1024x128, .f32⟩

abbrev hbmTy0_7 (i : Nat) : BufTy := match i % 128 with
  | 0 => ⟨S1x384, .f32⟩
  | 1 => ⟨S16x384, .f32⟩
  | 2 => ⟨S16x384, .f32⟩
  | 3 => ⟨S128x384, .f32⟩
  | 4 => ⟨S16x384, .f32⟩
  | 5 => ⟨S1x384, .f32⟩
  | 6 => ⟨S16x384, .f32⟩
  | 7 => ⟨S16x384, .f32⟩
  | 8 => ⟨S16x128, .f32⟩
  | 9 => ⟨S16x128, .f32⟩
  | 10 => ⟨S16x128, .f32⟩
  | 11 => ⟨S16x128, .f32⟩
  | 12 => ⟨S16x128, .f32⟩
  | 13 => ⟨S16x128, .f32⟩
  | 14 => ⟨S16x128, .f32⟩
  | 15 => ⟨S16x128, .f32⟩
  | 16 => ⟨S16x128, .f32⟩
  | 17 => ⟨S_, .f32⟩
  | 18 => ⟨S16x128, .f32⟩
  | 19 => ⟨S16x128, .f32⟩
  | 20 => ⟨S_, .f32⟩
  | 21 => ⟨S16x128, .f32⟩
  | 22 => ⟨S16x128, .f32⟩
  | 23 => ⟨S16x128, .f32⟩
  | 24 => ⟨S16x128, .f32⟩
  | 25 => ⟨S16x128, .f32⟩
  | 26 => ⟨S_, .f32⟩
  | 27 => ⟨S16x128, .f32⟩
  | 28 => ⟨S16x128, .f32⟩
  | 29 => ⟨S_, .f32⟩
  | 30 => ⟨S16x128, .f32⟩
  | 31 => ⟨S16x128, .f32⟩
  | 32 => ⟨S16x128, .f32⟩
  | 33 => ⟨S16x128, .f32⟩
  | 34 => ⟨S16x128, .f32⟩
  | 35 => ⟨S_, .f32⟩
  | 36 => ⟨S16x128, .f32⟩
  | 37 => ⟨S16x128, .f32⟩
  | 38 => ⟨S16x128, .f32⟩
  | 39 => ⟨S16x128, .f32⟩
  | 40 => ⟨S16x128, .f32⟩
  | 41 => ⟨S1x16x128, .f32⟩
  | 42 => ⟨S16x128, .f32⟩
  | 43 => ⟨S128x384, .f32⟩
  | 44 => ⟨S16x384, .f32⟩
  | 45 => ⟨S1x384, .f32⟩
  | 46 => ⟨S16x384, .f32⟩
  | 47 => ⟨S16x384, .f32⟩
  | 48 => ⟨S128x384, .f32⟩
  | 49 => ⟨S16x384, .f32⟩
  | 50 => ⟨S1x384, .f32⟩
  | 51 => ⟨S16x384, .f32⟩
  | 52 => ⟨S16x384, .f32⟩
  | 53 => ⟨S16x128, .f32⟩
  | 54 => ⟨S16x128, .f32⟩
  | 55 => ⟨S16x128, .f32⟩
  | 56 => ⟨S16x128, .f32⟩
  | 57 => ⟨S16x128, .f32⟩
  | 58 => ⟨S16x128, .f32⟩
  | 59 => ⟨S16x128, .f32⟩
  | 60 => ⟨S16x128, .f32⟩
  | 61 => ⟨S16x128, .f32⟩
  | 62 => ⟨S_, .f32⟩
  | 63 => ⟨S16x128, .f32⟩
  | 64 => ⟨S16x128, .f32⟩
  | 65 => ⟨S_, .f32⟩
  | 66 => ⟨S16x128, .f32⟩
  | 67 => ⟨S16x128, .f32⟩
  | 68 => ⟨S16x128, .f32⟩
  | 69 => ⟨S16x128, .f32⟩
  | 70 => ⟨S16x128, .f32⟩
  | 71 => ⟨S_, .f32⟩
  | 72 => ⟨S16x128, .f32⟩
  | 73 => ⟨S16x128, .f32⟩
  | 74 => ⟨S_, .f32⟩
  | 75 => ⟨S16x128, .f32⟩
  | 76 => ⟨S16x128, .f32⟩
  | 77 => ⟨S16x128, .f32⟩
  | 78 => ⟨S16x128, .f32⟩
  | 79 => ⟨S16x128, .f32⟩
  | 80 => ⟨S_, .f32⟩
  | 81 => ⟨S16x128, .f32⟩
  | 82 => ⟨S16x128, .f32⟩
  | 83 => ⟨S16x128, .f32⟩
  | 84 => ⟨S16x128, .f32⟩
  | 85 => ⟨S16x128, .f32⟩
  | 86 => ⟨S1x16x128, .f32⟩
  | 87 => ⟨S16x128, .f32⟩
  | 88 => ⟨S128x384, .f32⟩
  | 89 => ⟨S16x384, .f32⟩
  | 90 => ⟨S1x384, .f32⟩
  | 91 => ⟨S16x384, .f32⟩
  | 92 => ⟨S16x384, .f32⟩
  | 93 => ⟨S128x384, .f32⟩
  | 94 => ⟨S16x384, .f32⟩
  | 95 => ⟨S1x384, .f32⟩
  | 96 => ⟨S16x384, .f32⟩
  | 97 => ⟨S16x384, .f32⟩
  | 98 => ⟨S16x128, .f32⟩
  | 99 => ⟨S16x128, .f32⟩
  | 100 => ⟨S16x128, .f32⟩
  | 101 => ⟨S16x128, .f32⟩
  | 102 => ⟨S16x128, .f32⟩
  | 103 => ⟨S16x128, .f32⟩
  | 104 => ⟨S16x128, .f32⟩
  | 105 => ⟨S16x128, .f32⟩
  | 106 => ⟨S16x128, .f32⟩
  | 107 => ⟨S_, .f32⟩
  | 108 => ⟨S16x128, .f32⟩
  | 109 => ⟨S16x128, .f32⟩
  | 110 => ⟨S_, .f32⟩
  | 111 => ⟨S16x128, .f32⟩
  | 112 => ⟨S16x128, .f32⟩
  | 113 => ⟨S16x128, .f32⟩
  | 114 => ⟨S16x128, .f32⟩
  | 115 => ⟨S16x128, .f32⟩
  | 116 => ⟨S_, .f32⟩
  | 117 => ⟨S16x128, .f32⟩
  | 118 => ⟨S16x128, .f32⟩
  | 119 => ⟨S_, .f32⟩
  | 120 => ⟨S16x128, .f32⟩
  | 121 => ⟨S16x128, .f32⟩
  | 122 => ⟨S16x128, .f32⟩
  | 123 => ⟨S16x128, .f32⟩
  | 124 => ⟨S16x128, .f32⟩
  | 125 => ⟨S_, .f32⟩
  | 126 => ⟨S16x128, .f32⟩
  | 127 => ⟨S16x128, .f32⟩
  | _ => ⟨S16x1024x128, .f32⟩

abbrev hbmTy0_8 (i : Nat) : BufTy := match i % 128 with
  | 0 => ⟨S16x128, .f32⟩
  | 1 => ⟨S16x128, .f32⟩
  | 2 => ⟨S16x128, .f32⟩
  | 3 => ⟨S1x16x128, .f32⟩
  | 4 => ⟨S16x128, .f32⟩
  | 5 => ⟨S128x384, .f32⟩
  | 6 => ⟨S16x384, .f32⟩
  | 7 => ⟨S1x384, .f32⟩
  | 8 => ⟨S16x384, .f32⟩
  | 9 => ⟨S16x384, .f32⟩
  | 10 => ⟨S128x384, .f32⟩
  | 11 => ⟨S16x384, .f32⟩
  | 12 => ⟨S1x384, .f32⟩
  | 13 => ⟨S16x384, .f32⟩
  | 14 => ⟨S16x384, .f32⟩
  | 15 => ⟨S16x128, .f32⟩
  | 16 => ⟨S16x128, .f32⟩
  | 17 => ⟨S16x128, .f32⟩
  | 18 => ⟨S16x128, .f32⟩
  | 19 => ⟨S16x128, .f32⟩
  | 20 => ⟨S16x128, .f32⟩
  | 21 => ⟨S16x128, .f32⟩
  | 22 => ⟨S16x128, .f32⟩
  | 23 => ⟨S16x128, .f32⟩
  | 24 => ⟨S_, .f32⟩
  | 25 => ⟨S16x128, .f32⟩
  | 26 => ⟨S16x128, .f32⟩
  | 27 => ⟨S_, .f32⟩
  | 28 => ⟨S16x128, .f32⟩
  | 29 => ⟨S16x128, .f32⟩
  | 30 => ⟨S16x128, .f32⟩
  | 31 => ⟨S16x128, .f32⟩
  | 32 => ⟨S16x128, .f32⟩
  | 33 => ⟨S_, .f32⟩
  | 34 => ⟨S16x128, .f32⟩
  | 35 => ⟨S16x128, .f32⟩
  | 36 => ⟨S_, .f32⟩
  | 37 => ⟨S16x128, .f32⟩
  | 38 => ⟨S16x128, .f32⟩
  | 39 => ⟨S16x128, .f32⟩
  | 40 => ⟨S16x128, .f32⟩
  | 41 => ⟨S16x128, .f32⟩
  | 42 => ⟨S_, .f32⟩
  | 43 => ⟨S16x128, .f32⟩
  | 44 => ⟨S16x128, .f32⟩
  | 45 => ⟨S16x128, .f32⟩
  | 46 => ⟨S16x128, .f32⟩
  | 47 => ⟨S16x128, .f32⟩
  | 48 => ⟨S1x16x128, .f32⟩
  | 49 => ⟨S16x128, .f32⟩
  | 50 => ⟨S128x384, .f32⟩
  | 51 => ⟨S16x384, .f32⟩
  | 52 => ⟨S1x384, .f32⟩
  | 53 => ⟨S16x384, .f32⟩
  | 54 => ⟨S16x384, .f32⟩
  | 55 => ⟨S128x384, .f32⟩
  | 56 => ⟨S16x384, .f32⟩
  | 57 => ⟨S1x384, .f32⟩
  | 58 => ⟨S16x384, .f32⟩
  | 59 => ⟨S16x384, .f32⟩
  | 60 => ⟨S16x128, .f32⟩
  | 61 => ⟨S16x128, .f32⟩
  | 62 => ⟨S16x128, .f32⟩
  | 63 => ⟨S16x128, .f32⟩
  | 64 => ⟨S16x128, .f32⟩
  | 65 => ⟨S16x128, .f32⟩
  | 66 => ⟨S16x128, .f32⟩
  | 67 => ⟨S16x128, .f32⟩
  | 68 => ⟨S16x128, .f32⟩
  | 69 => ⟨S_, .f32⟩
  | 70 => ⟨S16x128, .f32⟩
  | 71 => ⟨S16x128, .f32⟩
  | 72 => ⟨S_, .f32⟩
  | 73 => ⟨S16x128, .f32⟩
  | 74 => ⟨S16x128, .f32⟩
  | 75 => ⟨S16x128, .f32⟩
  | 76 => ⟨S16x128, .f32⟩
  | 77 => ⟨S16x128, .f32⟩
  | 78 => ⟨S_, .f32⟩
  | 79 => ⟨S16x128, .f32⟩
  | 80 => ⟨S16x128, .f32⟩
  | 81 => ⟨S_, .f32⟩
  | 82 => ⟨S16x128, .f32⟩
  | 83 => ⟨S16x128, .f32⟩
  | 84 => ⟨S16x128, .f32⟩
  | 85 => ⟨S16x128, .f32⟩
  | 86 => ⟨S16x128, .f32⟩
  | 87 => ⟨S_, .f32⟩
  | 88 => ⟨S16x128, .f32⟩
  | 89 => ⟨S16x128, .f32⟩
  | 90 => ⟨S16x128, .f32⟩
  | 91 => ⟨S16x128, .f32⟩
  | 92 => ⟨S16x128, .f32⟩
  | 93 => ⟨S1x16x128, .f32⟩
  | 94 => ⟨S16x128, .f32⟩
  | 95 => ⟨S128x384, .f32⟩
  | 96 => ⟨S16x384, .f32⟩
  | 97 => ⟨S1x384, .f32⟩
  | 98 => ⟨S16x384, .f32⟩
  | 99 => ⟨S16x384, .f32⟩
  | 100 => ⟨S128x384, .f32⟩
  | 101 => ⟨S16x384, .f32⟩
  | 102 => ⟨S1x384, .f32⟩
  | 103 => ⟨S16x384, .f32⟩
  | 104 => ⟨S16x384, .f32⟩
  | 105 => ⟨S16x128, .f32⟩
  | 106 => ⟨S16x128, .f32⟩
  | 107 => ⟨S16x128, .f32⟩
  | 108 => ⟨S16x128, .f32⟩
  | 109 => ⟨S16x128, .f32⟩
  | 110 => ⟨S16x128, .f32⟩
  | 111 => ⟨S16x128, .f32⟩
  | 112 => ⟨S16x128, .f32⟩
  | 113 => ⟨S16x128, .f32⟩
  | 114 => ⟨S_, .f32⟩
  | 115 => ⟨S16x128, .f32⟩
  | 116 => ⟨S16x128, .f32⟩
  | 117 => ⟨S_, .f32⟩
  | 118 => ⟨S16x128, .f32⟩
  | 119 => ⟨S16x128, .f32⟩
  | 120 => ⟨S16x128, .f32⟩
  | 121 => ⟨S16x128, .f32⟩
  | 122 => ⟨S16x128, .f32⟩
  | 123 => ⟨S_, .f32⟩
  | 124 => ⟨S16x128, .f32⟩
  | 125 => ⟨S16x128, .f32⟩
  | 126 => ⟨S_, .f32⟩
  | 127 => ⟨S16x128, .f32⟩
  | _ => ⟨S16x1024x128, .f32⟩

abbrev hbmTy0_9 (i : Nat) : BufTy := match i % 128 with
  | 0 => ⟨S16x128, .f32⟩
  | 1 => ⟨S16x128, .f32⟩
  | 2 => ⟨S16x128, .f32⟩
  | 3 => ⟨S16x128, .f32⟩
  | 4 => ⟨S_, .f32⟩
  | 5 => ⟨S16x128, .f32⟩
  | 6 => ⟨S16x128, .f32⟩
  | 7 => ⟨S16x128, .f32⟩
  | 8 => ⟨S16x128, .f32⟩
  | 9 => ⟨S16x128, .f32⟩
  | 10 => ⟨S16x1x1, .f32⟩
  | 11 => ⟨S1x16x128, .f32⟩
  | 12 => ⟨S1x16x128, .f32⟩
  | 13 => ⟨S1x16x128, .f32⟩
  | 14 => ⟨S1x16x128, .f32⟩
  | 15 => ⟨S1x16x128, .f32⟩
  | 16 => ⟨S1x16x128, .f32⟩
  | 17 => ⟨S1x16x128, .f32⟩
  | 18 => ⟨S1x16x128, .f32⟩
  | 19 => ⟨S1x16x128, .f32⟩
  | 20 => ⟨S1x16x128, .f32⟩
  | 21 => ⟨S1x16x128, .f32⟩
  | 22 => ⟨S1x16x128, .f32⟩
  | 23 => ⟨S1x16x128, .f32⟩
  | 24 => ⟨S1x16x128, .f32⟩
  | 25 => ⟨S1x16x128, .f32⟩
  | 26 => ⟨S1x16x128, .f32⟩
  | 27 => ⟨S16x16x128, .f32⟩
  | 28 => ⟨S16x16x128, .f32⟩
  | 29 => ⟨S16x16x128, .f32⟩
  | 30 => ⟨S_, .f32⟩
  | 31 => ⟨S16x128, .f32⟩
  | 32 => ⟨S_, .f32⟩
  | 33 => ⟨S16x1024, .f32⟩
  | 34 => ⟨S16x1024, .i1⟩
  | 35 => ⟨S16x1024, .i1⟩
  | 36 => ⟨S_, .i32⟩
  | 37 => ⟨S_, .i32⟩
  | 38 => ⟨S16x16x128, .f32⟩
  | 39 => ⟨S_, .f32⟩
  | 40 => ⟨S16x16x16, .f32⟩
  | 41 => ⟨S16x16, .i32⟩
  | 42 => ⟨S16x16, .i32⟩
  | 43 => ⟨S_, .i32⟩
  | 44 => ⟨S16x16, .i32⟩
  | 45 => ⟨S16x16, .i32⟩
  | 46 => ⟨S16x16, .i1⟩
  | 47 => ⟨S16x16, .f32⟩
  | 48 => ⟨S1x16x16, .f32⟩
  | 49 => ⟨S16x16x16, .f32⟩
  | 50 => ⟨S16x16x16, .f32⟩
  | _ => ⟨S16x1024x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16x1024x128, .f32⟩

abbrev bufTy : (tb : Table) → Fin (tcTables nBuf tb) → BufTy
  | .hbm, ⟨i, _⟩ => hbmTy i
  | _, _ => ⟨S16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_v2 : Ref sig .tc := ⟨.hbm, 53, rfl⟩
abbrev main_call0_v3 : Ref sig .tc := ⟨.hbm, 54, rfl⟩
abbrev main_call0_v4 : Ref sig .tc := ⟨.hbm, 55, rfl⟩
abbrev main_call0_v5 : Ref sig .tc := ⟨.hbm, 56, rfl⟩
abbrev main_call0_v6 : Ref sig .tc := ⟨.hbm, 57, rfl⟩
abbrev main_call0_c_0 : Ref sig .tc := ⟨.hbm, 58, rfl⟩
abbrev main_call0_v7 : Ref sig .tc := ⟨.hbm, 59, rfl⟩
abbrev main_call0_v8 : Ref sig .tc := ⟨.hbm, 60, rfl⟩
abbrev main_call0_c_1 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_v13 : Ref sig .tc := ⟨.hbm, 66, rfl⟩
abbrev main_call0_c_2 : Ref sig .tc := ⟨.hbm, 67, rfl⟩
abbrev main_call0_v14 : Ref sig .tc := ⟨.hbm, 68, rfl⟩
abbrev main_call0_v15 : Ref sig .tc := ⟨.hbm, 69, rfl⟩
abbrev main_call0_c_3 : Ref sig .tc := ⟨.hbm, 70, rfl⟩
abbrev main_call0_v16 : Ref sig .tc := ⟨.hbm, 71, rfl⟩
abbrev main_call0_v17 : Ref sig .tc := ⟨.hbm, 72, rfl⟩
abbrev main_call0_v18 : Ref sig .tc := ⟨.hbm, 73, rfl⟩
abbrev main_call0_v19 : Ref sig .tc := ⟨.hbm, 74, rfl⟩
abbrev main_call0_v20 : Ref sig .tc := ⟨.hbm, 75, rfl⟩
abbrev main_call0_c_4 : Ref sig .tc := ⟨.hbm, 76, rfl⟩
abbrev main_call0_v21 : Ref sig .tc := ⟨.hbm, 77, rfl⟩
abbrev main_call0_v22 : Ref sig .tc := ⟨.hbm, 78, rfl⟩
abbrev main_call0_c_5 : Ref sig .tc := ⟨.hbm, 79, rfl⟩
abbrev main_call0_v23 : Ref sig .tc := ⟨.hbm, 80, rfl⟩
abbrev main_call0_v24 : Ref sig .tc := ⟨.hbm, 81, rfl⟩
abbrev main_call0_v25 : Ref sig .tc := ⟨.hbm, 82, rfl⟩
abbrev main_call0_v26 : Ref sig .tc := ⟨.hbm, 83, rfl⟩
abbrev main_call0_v27 : Ref sig .tc := ⟨.hbm, 84, rfl⟩
abbrev main_call0_c_6 : Ref sig .tc := ⟨.hbm, 85, rfl⟩
abbrev main_call0_v28 : Ref sig .tc := ⟨.hbm, 86, rfl⟩
abbrev main_call0_v29 : Ref sig .tc := ⟨.hbm, 87, rfl⟩
abbrev main_call0_c_7 : Ref sig .tc := ⟨.hbm, 88, rfl⟩
abbrev main_call0_v30 : Ref sig .tc := ⟨.hbm, 89, rfl⟩
abbrev main_call0_v31 : Ref sig .tc := ⟨.hbm, 90, rfl⟩
abbrev main_call0_v32 : Ref sig .tc := ⟨.hbm, 91, rfl⟩
abbrev main_call0_v33 : Ref sig .tc := ⟨.hbm, 92, rfl⟩
abbrev main_call0_v34 : Ref sig .tc := ⟨.hbm, 93, rfl⟩
abbrev main_call0_v35 : Ref sig .tc := ⟨.hbm, 94, rfl⟩
abbrev main_call0_v36 : Ref sig .tc := ⟨.hbm, 95, rfl⟩
abbrev main_call0_v37 : Ref sig .tc := ⟨.hbm, 96, rfl⟩
abbrev main_call0_c_8 : Ref sig .tc := ⟨.hbm, 97, rfl⟩
abbrev main_call0_v38 : Ref sig .tc := ⟨.hbm, 98, rfl⟩
abbrev main_call0_v39 : Ref sig .tc := ⟨.hbm, 99, rfl⟩
abbrev main_call0_v40 : Ref sig .tc := ⟨.hbm, 100, rfl⟩
abbrev main_call0_c_9 : Ref sig .tc := ⟨.hbm, 101, rfl⟩
abbrev main_call0_v41 : Ref sig .tc := ⟨.hbm, 102, rfl⟩
abbrev main_call0_v42 : Ref sig .tc := ⟨.hbm, 103, rfl⟩
abbrev main_call0_c_10 : Ref sig .tc := ⟨.hbm, 104, rfl⟩
abbrev main_call0_v43 : Ref sig .tc := ⟨.hbm, 105, rfl⟩
abbrev main_call0_v44 : Ref sig .tc := ⟨.hbm, 106, rfl⟩
abbrev main_call0_v45 : Ref sig .tc := ⟨.hbm, 107, rfl⟩
abbrev main_call0_v46 : Ref sig .tc := ⟨.hbm, 108, rfl⟩
abbrev main_call0_v47 : Ref sig .tc := ⟨.hbm, 109, rfl⟩
abbrev main_call0_c_11 : Ref sig .tc := ⟨.hbm, 110, rfl⟩
abbrev main_call0_v48 : Ref sig .tc := ⟨.hbm, 111, rfl⟩
abbrev main_call0_v49 : Ref sig .tc := ⟨.hbm, 112, rfl⟩
abbrev main_call0_c_12 : Ref sig .tc := ⟨.hbm, 113, rfl⟩
abbrev main_call0_v50 : Ref sig .tc := ⟨.hbm, 114, rfl⟩
abbrev main_call0_v51 : Ref sig .tc := ⟨.hbm, 115, rfl⟩
abbrev main_call0_v52 : Ref sig .tc := ⟨.hbm, 116, rfl⟩
abbrev main_call0_v53 : Ref sig .tc := ⟨.hbm, 117, rfl⟩
abbrev main_call0_v54 : Ref sig .tc := ⟨.hbm, 118, rfl⟩
abbrev main_call0_c_13 : Ref sig .tc := ⟨.hbm, 119, rfl⟩
abbrev main_call0_v55 : Ref sig .tc := ⟨.hbm, 120, rfl⟩
abbrev main_call0_v56 : Ref sig .tc := ⟨.hbm, 121, rfl⟩
abbrev main_call0_c_14 : Ref sig .tc := ⟨.hbm, 122, rfl⟩
abbrev main_call0_v57 : Ref sig .tc := ⟨.hbm, 123, rfl⟩
abbrev main_call0_v58 : Ref sig .tc := ⟨.hbm, 124, rfl⟩
abbrev main_call0_v59 : Ref sig .tc := ⟨.hbm, 125, rfl⟩
abbrev main_call0_v60 : Ref sig .tc := ⟨.hbm, 126, rfl⟩
abbrev main_call0_v61 : Ref sig .tc := ⟨.hbm, 127, rfl⟩
abbrev main_call0_c_15 : Ref sig .tc := ⟨.hbm, 128, rfl⟩
abbrev main_call0_v62 : Ref sig .tc := ⟨.hbm, 129, rfl⟩
abbrev main_call0_v63 : Ref sig .tc := ⟨.hbm, 130, rfl⟩
abbrev main_call0_c_16 : Ref sig .tc := ⟨.hbm, 131, rfl⟩
abbrev main_call0_v64 : Ref sig .tc := ⟨.hbm, 132, rfl⟩
abbrev main_call0_v65 : Ref sig .tc := ⟨.hbm, 133, rfl⟩
abbrev main_call0_v66 : Ref sig .tc := ⟨.hbm, 134, rfl⟩
abbrev main_call0_v67 : Ref sig .tc := ⟨.hbm, 135, rfl⟩
abbrev main_call0_v68 : Ref sig .tc := ⟨.hbm, 136, rfl⟩
abbrev main_call0_v69 : Ref sig .tc := ⟨.hbm, 137, rfl⟩
abbrev main_call0_v70 : Ref sig .tc := ⟨.hbm, 138, rfl⟩
abbrev main_call0_v71 : Ref sig .tc := ⟨.hbm, 139, rfl⟩
abbrev main_call0_c_17 : Ref sig .tc := ⟨.hbm, 140, rfl⟩
abbrev main_call0_v72 : Ref sig .tc := ⟨.hbm, 141, rfl⟩
abbrev main_call0_v73 : Ref sig .tc := ⟨.hbm, 142, rfl⟩
abbrev main_call0_v74 : Ref sig .tc := ⟨.hbm, 143, rfl⟩
abbrev main_call0_c_18 : Ref sig .tc := ⟨.hbm, 144, rfl⟩
abbrev main_call0_v75 : Ref sig .tc := ⟨.hbm, 145, rfl⟩
abbrev main_call0_v76 : Ref sig .tc := ⟨.hbm, 146, rfl⟩
abbrev main_call0_c_19 : Ref sig .tc := ⟨.hbm, 147, rfl⟩
abbrev main_call0_v77 : Ref sig .tc := ⟨.hbm, 148, rfl⟩
abbrev main_call0_v78 : Ref sig .tc := ⟨.hbm, 149, rfl⟩
abbrev main_call0_v79 : Ref sig .tc := ⟨.hbm, 150, rfl⟩
abbrev main_call0_v80 : Ref sig .tc := ⟨.hbm, 151, rfl⟩
abbrev main_call0_v81 : Ref sig .tc := ⟨.hbm, 152, rfl⟩
abbrev main_call0_c_20 : Ref sig .tc := ⟨.hbm, 153, rfl⟩
abbrev main_call0_v82 : Ref sig .tc := ⟨.hbm, 154, rfl⟩
abbrev main_call0_v83 : Ref sig .tc := ⟨.hbm, 155, rfl⟩
abbrev main_call0_c_21 : Ref sig .tc := ⟨.hbm, 156, rfl⟩
abbrev main_call0_v84 : Ref sig .tc := ⟨.hbm, 157, rfl⟩
abbrev main_call0_v85 : Ref sig .tc := ⟨.hbm, 158, rfl⟩
abbrev main_call0_v86 : Ref sig .tc := ⟨.hbm, 159, rfl⟩
abbrev main_call0_v87 : Ref sig .tc := ⟨.hbm, 160, rfl⟩
abbrev main_call0_v88 : Ref sig .tc := ⟨.hbm, 161, rfl⟩
abbrev main_call0_c_22 : Ref sig .tc := ⟨.hbm, 162, rfl⟩
abbrev main_call0_v89 : Ref sig .tc := ⟨.hbm, 163, rfl⟩
abbrev main_call0_v90 : Ref sig .tc := ⟨.hbm, 164, rfl⟩
abbrev main_call0_c_23 : Ref sig .tc := ⟨.hbm, 165, rfl⟩
abbrev main_call0_v91 : Ref sig .tc := ⟨.hbm, 166, rfl⟩
abbrev main_call0_v92 : Ref sig .tc := ⟨.hbm, 167, rfl⟩
abbrev main_call0_v93 : Ref sig .tc := ⟨.hbm, 168, rfl⟩
abbrev main_call0_v94 : Ref sig .tc := ⟨.hbm, 169, rfl⟩
abbrev main_call0_v95 : Ref sig .tc := ⟨.hbm, 170, rfl⟩
abbrev main_call0_c_24 : Ref sig .tc := ⟨.hbm, 171, rfl⟩
abbrev main_call0_v96 : Ref sig .tc := ⟨.hbm, 172, rfl⟩
abbrev main_call0_v97 : Ref sig .tc := ⟨.hbm, 173, rfl⟩
abbrev main_call0_c_25 : Ref sig .tc := ⟨.hbm, 174, rfl⟩
abbrev main_call0_v98 : Ref sig .tc := ⟨.hbm, 175, rfl⟩
abbrev main_call0_v99 : Ref sig .tc := ⟨.hbm, 176, rfl⟩
abbrev main_call0_v100 : Ref sig .tc := ⟨.hbm, 177, rfl⟩
abbrev main_call0_v101 : Ref sig .tc := ⟨.hbm, 178, rfl⟩
abbrev main_call0_v102 : Ref sig .tc := ⟨.hbm, 179, rfl⟩
abbrev main_call0_v103 : Ref sig .tc := ⟨.hbm, 180, rfl⟩
abbrev main_call0_v104 : Ref sig .tc := ⟨.hbm, 181, rfl⟩
abbrev main_call0_v105 : Ref sig .tc := ⟨.hbm, 182, rfl⟩
abbrev main_call0_c_26 : Ref sig .tc := ⟨.hbm, 183, rfl⟩
abbrev main_call0_v106 : Ref sig .tc := ⟨.hbm, 184, rfl⟩
abbrev main_call0_v107 : Ref sig .tc := ⟨.hbm, 185, rfl⟩
abbrev main_call0_v108 : Ref sig .tc := ⟨.hbm, 186, rfl⟩
abbrev main_call0_c_27 : Ref sig .tc := ⟨.hbm, 187, rfl⟩
abbrev main_call0_v109 : Ref sig .tc := ⟨.hbm, 188, rfl⟩
abbrev main_call0_v110 : Ref sig .tc := ⟨.hbm, 189, rfl⟩
abbrev main_call0_c_28 : Ref sig .tc := ⟨.hbm, 190, rfl⟩
abbrev main_call0_v111 : Ref sig .tc := ⟨.hbm, 191, rfl⟩
abbrev main_call0_v112 : Ref sig .tc := ⟨.hbm, 192, rfl⟩
abbrev main_call0_v113 : Ref sig .tc := ⟨.hbm, 193, rfl⟩
abbrev main_call0_v114 : Ref sig .tc := ⟨.hbm, 194, rfl⟩
abbrev main_call0_v115 : Ref sig .tc := ⟨.hbm, 195, rfl⟩
abbrev main_call0_c_29 : Ref sig .tc := ⟨.hbm, 196, rfl⟩
abbrev main_call0_v116 : Ref sig .tc := ⟨.hbm, 197, rfl⟩
abbrev main_call0_v117 : Ref sig .tc := ⟨.hbm, 198, rfl⟩
abbrev main_call0_c_30 : Ref sig .tc := ⟨.hbm, 199, rfl⟩
abbrev main_call0_v118 : Ref sig .tc := ⟨.hbm, 200, rfl⟩
abbrev main_call0_v119 : Ref sig .tc := ⟨.hbm, 201, rfl⟩
abbrev main_call0_v120 : Ref sig .tc := ⟨.hbm, 202, rfl⟩
abbrev main_call0_v121 : Ref sig .tc := ⟨.hbm, 203, rfl⟩
abbrev main_call0_v122 : Ref sig .tc := ⟨.hbm, 204, rfl⟩
abbrev main_call0_c_31 : Ref sig .tc := ⟨.hbm, 205, rfl⟩
abbrev main_call0_v123 : Ref sig .tc := ⟨.hbm, 206, rfl⟩
abbrev main_call0_v124 : Ref sig .tc := ⟨.hbm, 207, rfl⟩
abbrev main_call0_c_32 : Ref sig .tc := ⟨.hbm, 208, rfl⟩
abbrev main_call0_v125 : Ref sig .tc := ⟨.hbm, 209, rfl⟩
abbrev main_call0_v126 : Ref sig .tc := ⟨.hbm, 210, rfl⟩
abbrev main_call0_v127 : Ref sig .tc := ⟨.hbm, 211, rfl⟩
abbrev main_call0_v128 : Ref sig .tc := ⟨.hbm, 212, rfl⟩
abbrev main_call0_v129 : Ref sig .tc := ⟨.hbm, 213, rfl⟩
abbrev main_call0_c_33 : Ref sig .tc := ⟨.hbm, 214, rfl⟩
abbrev main_call0_v130 : Ref sig .tc := ⟨.hbm, 215, rfl⟩
abbrev main_call0_v131 : Ref sig .tc := ⟨.hbm, 216, rfl⟩
abbrev main_call0_c_34 : Ref sig .tc := ⟨.hbm, 217, rfl⟩
abbrev main_call0_v132 : Ref sig .tc := ⟨.hbm, 218, rfl⟩
abbrev main_call0_v133 : Ref sig .tc := ⟨.hbm, 219, rfl⟩
abbrev main_call0_v134 : Ref sig .tc := ⟨.hbm, 220, rfl⟩
abbrev main_call0_v135 : Ref sig .tc := ⟨.hbm, 221, rfl⟩
abbrev main_call0_v136 : Ref sig .tc := ⟨.hbm, 222, rfl⟩
abbrev main_call0_v137 : Ref sig .tc := ⟨.hbm, 223, rfl⟩
abbrev main_call0_v138 : Ref sig .tc := ⟨.hbm, 224, rfl⟩
abbrev main_call0_v139 : Ref sig .tc := ⟨.hbm, 225, rfl⟩
abbrev main_call0_c_35 : Ref sig .tc := ⟨.hbm, 226, rfl⟩
abbrev main_call0_v140 : Ref sig .tc := ⟨.hbm, 227, rfl⟩
abbrev main_call0_v141 : Ref sig .tc := ⟨.hbm, 228, rfl⟩
abbrev main_call0_v142 : Ref sig .tc := ⟨.hbm, 229, rfl⟩
abbrev main_call0_c_36 : Ref sig .tc := ⟨.hbm, 230, rfl⟩
abbrev main_call0_v143 : Ref sig .tc := ⟨.hbm, 231, rfl⟩
abbrev main_call0_v144 : Ref sig .tc := ⟨.hbm, 232, rfl⟩
abbrev main_call0_c_37 : Ref sig .tc := ⟨.hbm, 233, rfl⟩
abbrev main_call0_v145 : Ref sig .tc := ⟨.hbm, 234, rfl⟩
abbrev main_call0_v146 : Ref sig .tc := ⟨.hbm, 235, rfl⟩
abbrev main_call0_v147 : Ref sig .tc := ⟨.hbm, 236, rfl⟩
abbrev main_call0_v148 : Ref sig .tc := ⟨.hbm, 237, rfl⟩
abbrev main_call0_v149 : Ref sig .tc := ⟨.hbm, 238, rfl⟩
abbrev main_call0_c_38 : Ref sig .tc := ⟨.hbm, 239, rfl⟩
abbrev main_call0_v150 : Ref sig .tc := ⟨.hbm, 240, rfl⟩
abbrev main_call0_v151 : Ref sig .tc := ⟨.hbm, 241, rfl⟩
abbrev main_call0_c_39 : Ref sig .tc := ⟨.hbm, 242, rfl⟩
abbrev main_call0_v152 : Ref sig .tc := ⟨.hbm, 243, rfl⟩
abbrev main_call0_v153 : Ref sig .tc := ⟨.hbm, 244, rfl⟩
abbrev main_call0_v154 : Ref sig .tc := ⟨.hbm, 245, rfl⟩
abbrev main_call0_v155 : Ref sig .tc := ⟨.hbm, 246, rfl⟩
abbrev main_call0_v156 : Ref sig .tc := ⟨.hbm, 247, rfl⟩
abbrev main_call0_c_40 : Ref sig .tc := ⟨.hbm, 248, rfl⟩
abbrev main_call0_v157 : Ref sig .tc := ⟨.hbm, 249, rfl⟩
abbrev main_call0_v158 : Ref sig .tc := ⟨.hbm, 250, rfl⟩
abbrev main_call0_c_41 : Ref sig .tc := ⟨.hbm, 251, rfl⟩
abbrev main_call0_v159 : Ref sig .tc := ⟨.hbm, 252, rfl⟩
abbrev main_call0_v160 : Ref sig .tc := ⟨.hbm, 253, rfl⟩
abbrev main_call0_v161 : Ref sig .tc := ⟨.hbm, 254, rfl⟩
abbrev main_call0_v162 : Ref sig .tc := ⟨.hbm, 255, rfl⟩
abbrev main_call0_v163 : Ref sig .tc := ⟨.hbm, 256, rfl⟩
abbrev main_call0_c_42 : Ref sig .tc := ⟨.hbm, 257, rfl⟩
abbrev main_call0_v164 : Ref sig .tc := ⟨.hbm, 258, rfl⟩
abbrev main_call0_v165 : Ref sig .tc := ⟨.hbm, 259, rfl⟩
abbrev main_call0_c_43 : Ref sig .tc := ⟨.hbm, 260, rfl⟩
abbrev main_call0_v166 : Ref sig .tc := ⟨.hbm, 261, rfl⟩
abbrev main_call0_v167 : Ref sig .tc := ⟨.hbm, 262, rfl⟩
abbrev main_call0_v168 : Ref sig .tc := ⟨.hbm, 263, rfl⟩
abbrev main_call0_v169 : Ref sig .tc := ⟨.hbm, 264, rfl⟩
abbrev main_call0_v170 : Ref sig .tc := ⟨.hbm, 265, rfl⟩
abbrev main_v28_0 : Ref sig .tc := ⟨.hbm, 266, rfl⟩
abbrev main_call0_v172 : Ref sig .tc := ⟨.hbm, 267, rfl⟩
abbrev main_call0_v173 : Ref sig .tc := ⟨.hbm, 268, rfl⟩
abbrev main_call0_c_44 : Ref sig .tc := ⟨.hbm, 269, rfl⟩
abbrev main_call0_v174 : Ref sig .tc := ⟨.hbm, 270, rfl⟩
abbrev main_v28_1 : Ref sig .tc := ⟨.hbm, 271, rfl⟩
abbrev main_v29 : Ref sig .tc := ⟨.hbm, 272, rfl⟩
abbrev main_c_7 : Ref sig .tc := ⟨.hbm, 273, rfl⟩
abbrev main_v30 : Ref sig .tc := ⟨.hbm, 274, rfl⟩
abbrev main_v31 : Ref sig .tc := ⟨.hbm, 275, rfl⟩
abbrev main_c_8 : Ref sig .tc := ⟨.hbm, 276, rfl⟩
abbrev main_v32 : Ref sig .tc := ⟨.hbm, 277, rfl⟩
abbrev main_v33 : Ref sig .tc := ⟨.hbm, 278, rfl⟩
abbrev main_v34 : Ref sig .tc := ⟨.hbm, 279, rfl⟩
abbrev main_cst_9 : Ref sig .tc := ⟨.hbm, 280, rfl⟩
abbrev main_v35 : Ref sig .tc := ⟨.hbm, 281, rfl⟩
abbrev main_v36 : Ref sig .tc := ⟨.hbm, 282, rfl⟩
abbrev main_v37 : Ref sig .tc := ⟨.hbm, 283, rfl⟩
abbrev main_v38 : Ref sig .tc := ⟨.hbm, 284, rfl⟩
abbrev main_v39 : Ref sig .tc := ⟨.hbm, 285, rfl⟩
abbrev main_v40 : Ref sig .tc := ⟨.hbm, 286, rfl⟩
abbrev main_v41 : Ref sig .tc := ⟨.hbm, 287, rfl⟩
abbrev main_v42 : Ref sig .tc := ⟨.hbm, 288, rfl⟩
abbrev main_v43 : Ref sig .tc := ⟨.hbm, 289, rfl⟩
abbrev main_cst_10 : Ref sig .tc := ⟨.hbm, 290, rfl⟩
abbrev main_v44 : Ref sig .tc := ⟨.hbm, 291, rfl⟩
abbrev main_v45 : Ref sig .tc := ⟨.hbm, 292, rfl⟩
abbrev main_v46 : Ref sig .tc := ⟨.hbm, 293, rfl⟩
abbrev main_v47 : Ref sig .tc := ⟨.hbm, 294, rfl⟩
abbrev main_cst_11 : Ref sig .tc := ⟨.hbm, 295, rfl⟩
abbrev main_v48 : Ref sig .tc := ⟨.hbm, 296, rfl⟩
abbrev main_v49 : Ref sig .tc := ⟨.hbm, 297, rfl⟩
abbrev main_v50 : Ref sig .tc := ⟨.hbm, 298, rfl⟩
abbrev main_v51 : Ref sig .tc := ⟨.hbm, 299, rfl⟩
abbrev main_cst_12 : Ref sig .tc := ⟨.hbm, 300, rfl⟩
abbrev main_v52 : Ref sig .tc := ⟨.hbm, 301, rfl⟩
abbrev main_cst_13 : Ref sig .tc := ⟨.hbm, 302, rfl⟩
abbrev main_v53 : Ref sig .tc := ⟨.hbm, 303, rfl⟩
abbrev main_v54 : Ref sig .tc := ⟨.hbm, 304, rfl⟩
abbrev main_v55 : Ref sig .tc := ⟨.hbm, 305, rfl⟩
abbrev main_v56 : Ref sig .tc := ⟨.hbm, 306, rfl⟩
abbrev main_v57 : Ref sig .tc := ⟨.hbm, 307, rfl⟩
abbrev main_v58 : Ref sig .tc := ⟨.hbm, 308, rfl⟩
abbrev main_cst_14 : Ref sig .tc := ⟨.hbm, 309, rfl⟩
abbrev main_v59 : Ref sig .tc := ⟨.hbm, 310, rfl⟩
abbrev main_cst_15 : Ref sig .tc := ⟨.hbm, 311, rfl⟩
abbrev main_v60 : Ref sig .tc := ⟨.hbm, 312, rfl⟩
abbrev main_cst_16 : Ref sig .tc := ⟨.hbm, 313, rfl⟩
abbrev main_v61 : Ref sig .tc := ⟨.hbm, 314, rfl⟩
abbrev main_c_17 : Ref sig .tc := ⟨.hbm, 315, rfl⟩
abbrev main_c_18 : Ref sig .tc := ⟨.hbm, 316, rfl⟩
abbrev main_v62_0 : Ref sig .tc := ⟨.hbm, 317, rfl⟩
abbrev main_v62_1 : Ref sig .tc := ⟨.hbm, 318, rfl⟩
abbrev main_v62_2 : Ref sig .tc := ⟨.hbm, 319, rfl⟩
abbrev main_v62_3 : Ref sig .tc := ⟨.hbm, 320, rfl⟩
abbrev main_v62_4 : Ref sig .tc := ⟨.hbm, 321, rfl⟩
abbrev main_v62_5 : Ref sig .tc := ⟨.hbm, 322, rfl⟩
abbrev main_v62_6 : Ref sig .tc := ⟨.hbm, 323, rfl⟩
abbrev main_v62_7 : Ref sig .tc := ⟨.hbm, 324, rfl⟩
abbrev main_v62_8 : Ref sig .tc := ⟨.hbm, 325, rfl⟩
abbrev main_v62_9 : Ref sig .tc := ⟨.hbm, 326, rfl⟩
abbrev main_v62_10 : Ref sig .tc := ⟨.hbm, 327, rfl⟩
abbrev main_v62_11 : Ref sig .tc := ⟨.hbm, 328, rfl⟩
abbrev main_v62_12 : Ref sig .tc := ⟨.hbm, 329, rfl⟩
abbrev main_v62_13 : Ref sig .tc := ⟨.hbm, 330, rfl⟩
abbrev main_v62_14 : Ref sig .tc := ⟨.hbm, 331, rfl⟩
abbrev main_v62_15 : Ref sig .tc := ⟨.hbm, 332, rfl⟩
abbrev main_v62_16 : Ref sig .tc := ⟨.hbm, 333, rfl⟩
abbrev main_while0c_c_37 : Ref sig .tc := ⟨.hbm, 334, rfl⟩
abbrev main_while0c_v74 : Ref sig .tc := ⟨.hbm, 335, rfl⟩
abbrev main_while0b_c_37 : Ref sig .tc := ⟨.hbm, 336, rfl⟩
abbrev main_while0b_v74 : Ref sig .tc := ⟨.hbm, 337, rfl⟩
abbrev main_while0b_v75 : Ref sig .tc := ⟨.hbm, 338, rfl⟩
abbrev main_while0b_v76 : Ref sig .tc := ⟨.hbm, 339, rfl⟩
abbrev main_while0b_v77 : Ref sig .tc := ⟨.hbm, 340, rfl⟩
abbrev main_while0b_v78 : Ref sig .tc := ⟨.hbm, 341, rfl⟩
abbrev main_while0b_v79 : Ref sig .tc := ⟨.hbm, 342, rfl⟩
abbrev main_while0b_v80 : Ref sig .tc := ⟨.hbm, 343, rfl⟩
abbrev main_while0b_v81 : Ref sig .tc := ⟨.hbm, 344, rfl⟩
abbrev main_while0b_call1_cst : Ref sig .tc := ⟨.hbm, 345, rfl⟩
abbrev main_while0b_call1_v0 : Ref sig .tc := ⟨.hbm, 346, rfl⟩
abbrev main_while0b_v82 : Ref sig .tc := ⟨.hbm, 347, rfl⟩
abbrev main_while0b_v83 : Ref sig .tc := ⟨.hbm, 348, rfl⟩
abbrev main_while0b_v84 : Ref sig .tc := ⟨.hbm, 349, rfl⟩
abbrev main_while0b_v85 : Ref sig .tc := ⟨.hbm, 350, rfl⟩
abbrev main_while0b_v86 : Ref sig .tc := ⟨.hbm, 351, rfl⟩
abbrev main_while0b_v87 : Ref sig .tc := ⟨.hbm, 352, rfl⟩
abbrev main_while0b_cst_38 : Ref sig .tc := ⟨.hbm, 353, rfl⟩
abbrev main_while0b_call2_v0 : Ref sig .tc := ⟨.hbm, 354, rfl⟩
abbrev main_while0b_call2_v1 : Ref sig .tc := ⟨.hbm, 355, rfl⟩
abbrev main_while0b_v88 : Ref sig .tc := ⟨.hbm, 356, rfl⟩
abbrev main_while0b_v89 : Ref sig .tc := ⟨.hbm, 357, rfl⟩
abbrev main_while0b_c_39 : Ref sig .tc := ⟨.hbm, 358, rfl⟩
abbrev main_while0b_v90 : Ref sig .tc := ⟨.hbm, 359, rfl⟩
abbrev main_while0b_c_40 : Ref sig .tc := ⟨.hbm, 360, rfl⟩
abbrev main_while0b_v91 : Ref sig .tc := ⟨.hbm, 361, rfl⟩
abbrev main_while0b_v92 : Ref sig .tc := ⟨.hbm, 362, rfl⟩
abbrev main_while0b_c_41 : Ref sig .tc := ⟨.hbm, 363, rfl⟩
abbrev main_while0b_c_42 : Ref sig .tc := ⟨.hbm, 364, rfl⟩
abbrev main_while0b_v93 : Ref sig .tc := ⟨.hbm, 365, rfl⟩
abbrev main_while0b_c_43 : Ref sig .tc := ⟨.hbm, 366, rfl⟩
abbrev main_while0b_c_44 : Ref sig .tc := ⟨.hbm, 367, rfl⟩
abbrev main_while0b_v94 : Ref sig .tc := ⟨.hbm, 368, rfl⟩
abbrev main_while0b_c_45 : Ref sig .tc := ⟨.hbm, 369, rfl⟩
abbrev main_while0b_v95 : Ref sig .tc := ⟨.hbm, 370, rfl⟩
abbrev main_while0b_c_46 : Ref sig .tc := ⟨.hbm, 371, rfl⟩
abbrev main_while0b_c_47 : Ref sig .tc := ⟨.hbm, 372, rfl⟩
abbrev main_while0b_v96 : Ref sig .tc := ⟨.hbm, 373, rfl⟩
abbrev main_while0b_c_48 : Ref sig .tc := ⟨.hbm, 374, rfl⟩
abbrev main_while0b_c_49 : Ref sig .tc := ⟨.hbm, 375, rfl⟩
abbrev main_while0b_v97 : Ref sig .tc := ⟨.hbm, 376, rfl⟩
abbrev main_while0b_c_50 : Ref sig .tc := ⟨.hbm, 377, rfl⟩
abbrev main_while0b_v98 : Ref sig .tc := ⟨.hbm, 378, rfl⟩
abbrev main_while0b_v99 : Ref sig .tc := ⟨.hbm, 379, rfl⟩
abbrev main_while0b_v100 : Ref sig .tc := ⟨.hbm, 380, rfl⟩
abbrev main_while0b_v101 : Ref sig .tc := ⟨.hbm, 381, rfl⟩
abbrev main_while0b_cst_51 : Ref sig .tc := ⟨.hbm, 382, rfl⟩
abbrev main_while0b_v102 : Ref sig .tc := ⟨.hbm, 383, rfl⟩
abbrev main_while0b_v103 : Ref sig .tc := ⟨.hbm, 384, rfl⟩
abbrev main_while0b_cst_52 : Ref sig .tc := ⟨.hbm, 385, rfl⟩
abbrev main_while0b_v104 : Ref sig .tc := ⟨.hbm, 386, rfl⟩
abbrev main_while0b_cst_53 : Ref sig .tc := ⟨.hbm, 387, rfl⟩
abbrev main_while0b_v105 : Ref sig .tc := ⟨.hbm, 388, rfl⟩
abbrev main_while0b_v106 : Ref sig .tc := ⟨.hbm, 389, rfl⟩
abbrev main_while0b_v107 : Ref sig .tc := ⟨.hbm, 390, rfl⟩
abbrev main_while0b_v108 : Ref sig .tc := ⟨.hbm, 391, rfl⟩
abbrev main_while0b_v109 : Ref sig .tc := ⟨.hbm, 392, rfl⟩
abbrev main_while0b_v110 : Ref sig .tc := ⟨.hbm, 393, rfl⟩
abbrev main_while0b_cst_54 : Ref sig .tc := ⟨.hbm, 394, rfl⟩
abbrev main_while0b_v111 : Ref sig .tc := ⟨.hbm, 395, rfl⟩
abbrev main_while0b_v112 : Ref sig .tc := ⟨.hbm, 396, rfl⟩
abbrev main_while0b_v113 : Ref sig .tc := ⟨.hbm, 397, rfl⟩
abbrev main_while0b_v114 : Ref sig .tc := ⟨.hbm, 398, rfl⟩
abbrev main_while0b_cst_55 : Ref sig .tc := ⟨.hbm, 399, rfl⟩
abbrev main_while0b_v115 : Ref sig .tc := ⟨.hbm, 400, rfl⟩
abbrev main_while0b_v116 : Ref sig .tc := ⟨.hbm, 401, rfl⟩
abbrev main_while0b_v117 : Ref sig .tc := ⟨.hbm, 402, rfl⟩
abbrev main_while0b_v118 : Ref sig .tc := ⟨.hbm, 403, rfl⟩
abbrev main_while0b_v119 : Ref sig .tc := ⟨.hbm, 404, rfl⟩
abbrev main_while0b_v120 : Ref sig .tc := ⟨.hbm, 405, rfl⟩
abbrev main_while0b_c_56 : Ref sig .tc := ⟨.hbm, 406, rfl⟩
abbrev main_while0b_call3_v0 : Ref sig .tc := ⟨.hbm, 407, rfl⟩
abbrev main_while0b_call3_v1 : Ref sig .tc := ⟨.hbm, 408, rfl⟩
abbrev main_while0b_call3_v2 : Ref sig .tc := ⟨.hbm, 409, rfl⟩
abbrev main_while0b_v121 : Ref sig .tc := ⟨.hbm, 410, rfl⟩
abbrev main_while0b_c_57 : Ref sig .tc := ⟨.hbm, 411, rfl⟩
abbrev main_while0b_v122 : Ref sig .tc := ⟨.hbm, 412, rfl⟩
abbrev main_while0b_call4_v0 : Ref sig .tc := ⟨.hbm, 413, rfl⟩
abbrev main_while0b_call4_v1 : Ref sig .tc := ⟨.hbm, 414, rfl⟩
abbrev main_while0b_call4_v2 : Ref sig .tc := ⟨.hbm, 415, rfl⟩
abbrev main_while0b_call4_v3 : Ref sig .tc := ⟨.hbm, 416, rfl⟩
abbrev main_while0b_call4_v4 : Ref sig .tc := ⟨.hbm, 417, rfl⟩
abbrev main_while0b_v123 : Ref sig .tc := ⟨.hbm, 418, rfl⟩
abbrev main_while0b_call5_v0 : Ref sig .tc := ⟨.hbm, 419, rfl⟩
abbrev main_while0b_call5_v1 : Ref sig .tc := ⟨.hbm, 420, rfl⟩
abbrev main_while0b_call5_v2 : Ref sig .tc := ⟨.hbm, 421, rfl⟩
abbrev main_while0b_call5_v3 : Ref sig .tc := ⟨.hbm, 422, rfl⟩
abbrev main_while0b_call5_v4 : Ref sig .tc := ⟨.hbm, 423, rfl⟩
abbrev main_while0b_v124 : Ref sig .tc := ⟨.hbm, 424, rfl⟩
abbrev main_while0b_v125 : Ref sig .tc := ⟨.hbm, 425, rfl⟩
abbrev main_while0b_v126 : Ref sig .tc := ⟨.hbm, 426, rfl⟩
abbrev main_while0b_v127 : Ref sig .tc := ⟨.hbm, 427, rfl⟩
abbrev main_while0b_v128 : Ref sig .tc := ⟨.hbm, 428, rfl⟩
abbrev main_while0b_v129 : Ref sig .tc := ⟨.hbm, 429, rfl⟩
abbrev main_while0b_v130 : Ref sig .tc := ⟨.hbm, 430, rfl⟩
abbrev main_while0b_v131 : Ref sig .tc := ⟨.hbm, 431, rfl⟩
abbrev main_while0b_v132 : Ref sig .tc := ⟨.hbm, 432, rfl⟩
abbrev main_while0b_v133 : Ref sig .tc := ⟨.hbm, 433, rfl⟩
abbrev main_while0b_cst_58 : Ref sig .tc := ⟨.hbm, 434, rfl⟩
abbrev main_while0b_v134 : Ref sig .tc := ⟨.hbm, 435, rfl⟩
abbrev main_while0b_v135 : Ref sig .tc := ⟨.hbm, 436, rfl⟩
abbrev main_while0b_v136 : Ref sig .tc := ⟨.hbm, 437, rfl⟩
abbrev main_while0b_v137 : Ref sig .tc := ⟨.hbm, 438, rfl⟩
abbrev main_while0b_v138 : Ref sig .tc := ⟨.hbm, 439, rfl⟩
abbrev main_while0b_v139 : Ref sig .tc := ⟨.hbm, 440, rfl⟩
abbrev main_while0b_v140 : Ref sig .tc := ⟨.hbm, 441, rfl⟩
abbrev main_while0b_v141 : Ref sig .tc := ⟨.hbm, 442, rfl⟩
abbrev main_while0b_v142 : Ref sig .tc := ⟨.hbm, 443, rfl⟩
abbrev main_while0b_v143 : Ref sig .tc := ⟨.hbm, 444, rfl⟩
abbrev main_while0b_v144 : Ref sig .tc := ⟨.hbm, 445, rfl⟩
abbrev main_while0b_v145 : Ref sig .tc := ⟨.hbm, 446, rfl⟩
abbrev main_while0b_v146 : Ref sig .tc := ⟨.hbm, 447, rfl⟩
abbrev main_while0b_v147 : Ref sig .tc := ⟨.hbm, 448, rfl⟩
abbrev main_while0b_v148 : Ref sig .tc := ⟨.hbm, 449, rfl⟩
abbrev main_while0b_v149 : Ref sig .tc := ⟨.hbm, 450, rfl⟩
abbrev main_while0b_v150 : Ref sig .tc := ⟨.hbm, 451, rfl⟩
abbrev main_while0b_v151 : Ref sig .tc := ⟨.hbm, 452, rfl⟩
abbrev main_while0b_v152 : Ref sig .tc := ⟨.hbm, 453, rfl⟩
abbrev main_while0b_v153 : Ref sig .tc := ⟨.hbm, 454, rfl⟩
abbrev main_while0b_v154 : Ref sig .tc := ⟨.hbm, 455, rfl⟩
abbrev main_while0b_v155 : Ref sig .tc := ⟨.hbm, 456, rfl⟩
abbrev main_while0b_v156 : Ref sig .tc := ⟨.hbm, 457, rfl⟩
abbrev main_while0b_v157 : Ref sig .tc := ⟨.hbm, 458, rfl⟩
abbrev main_while0b_v158 : Ref sig .tc := ⟨.hbm, 459, rfl⟩
abbrev main_while0b_v159 : Ref sig .tc := ⟨.hbm, 460, rfl⟩
abbrev main_while0b_v160 : Ref sig .tc := ⟨.hbm, 461, rfl⟩
abbrev main_while0b_v161 : Ref sig .tc := ⟨.hbm, 462, rfl⟩
abbrev main_while0b_cst_59 : Ref sig .tc := ⟨.hbm, 463, rfl⟩
abbrev main_while0b_v162 : Ref sig .tc := ⟨.hbm, 464, rfl⟩
abbrev main_while0b_v163 : Ref sig .tc := ⟨.hbm, 465, rfl⟩
abbrev main_while0b_cst_60 : Ref sig .tc := ⟨.hbm, 466, rfl⟩
abbrev main_while0b_v164 : Ref sig .tc := ⟨.hbm, 467, rfl⟩
abbrev main_while0b_v165 : Ref sig .tc := ⟨.hbm, 468, rfl⟩
abbrev main_while0b_v166 : Ref sig .tc := ⟨.hbm, 469, rfl⟩
abbrev main_while0b_v167 : Ref sig .tc := ⟨.hbm, 470, rfl⟩
abbrev main_while0b_v168 : Ref sig .tc := ⟨.hbm, 471, rfl⟩
abbrev main_while0b_cst_61 : Ref sig .tc := ⟨.hbm, 472, rfl⟩
abbrev main_while0b_v169 : Ref sig .tc := ⟨.hbm, 473, rfl⟩
abbrev main_while0b_v170 : Ref sig .tc := ⟨.hbm, 474, rfl⟩
abbrev main_while0b_cst_62 : Ref sig .tc := ⟨.hbm, 475, rfl⟩
abbrev main_while0b_v171 : Ref sig .tc := ⟨.hbm, 476, rfl⟩
abbrev main_while0b_v172 : Ref sig .tc := ⟨.hbm, 477, rfl⟩
abbrev main_while0b_v173 : Ref sig .tc := ⟨.hbm, 478, rfl⟩
abbrev main_while0b_v174 : Ref sig .tc := ⟨.hbm, 479, rfl⟩
abbrev main_while0b_v175 : Ref sig .tc := ⟨.hbm, 480, rfl⟩
abbrev main_while0b_cst_63 : Ref sig .tc := ⟨.hbm, 481, rfl⟩
abbrev main_while0b_v176 : Ref sig .tc := ⟨.hbm, 482, rfl⟩
abbrev main_while0b_v177 : Ref sig .tc := ⟨.hbm, 483, rfl⟩
abbrev main_while0b_v178 : Ref sig .tc := ⟨.hbm, 484, rfl⟩
abbrev main_while0b_v179 : Ref sig .tc := ⟨.hbm, 485, rfl⟩
abbrev main_while0b_v180 : Ref sig .tc := ⟨.hbm, 486, rfl⟩
abbrev main_while0b_v181 : Ref sig .tc := ⟨.hbm, 487, rfl⟩
abbrev main_while0b_v182 : Ref sig .tc := ⟨.hbm, 488, rfl⟩
abbrev main_while0b_v183 : Ref sig .tc := ⟨.hbm, 489, rfl⟩
abbrev main_while0b_v184 : Ref sig .tc := ⟨.hbm, 490, rfl⟩
abbrev main_while0b_v185 : Ref sig .tc := ⟨.hbm, 491, rfl⟩
abbrev main_while0b_v186 : Ref sig .tc := ⟨.hbm, 492, rfl⟩
abbrev main_while0b_v187 : Ref sig .tc := ⟨.hbm, 493, rfl⟩
abbrev main_while0b_v188 : Ref sig .tc := ⟨.hbm, 494, rfl⟩
abbrev main_while0b_v189 : Ref sig .tc := ⟨.hbm, 495, rfl⟩
abbrev main_while0b_v190 : Ref sig .tc := ⟨.hbm, 496, rfl⟩
abbrev main_while0b_v191 : Ref sig .tc := ⟨.hbm, 497, rfl⟩
abbrev main_while0b_v192 : Ref sig .tc := ⟨.hbm, 498, rfl⟩
abbrev main_while0b_v193 : Ref sig .tc := ⟨.hbm, 499, rfl⟩
abbrev main_while0b_v194 : Ref sig .tc := ⟨.hbm, 500, rfl⟩
abbrev main_while0b_v195 : Ref sig .tc := ⟨.hbm, 501, rfl⟩
abbrev main_while0b_v196 : Ref sig .tc := ⟨.hbm, 502, rfl⟩
abbrev main_while0b_v197 : Ref sig .tc := ⟨.hbm, 503, rfl⟩
abbrev main_while0b_v198 : Ref sig .tc := ⟨.hbm, 504, rfl⟩
abbrev main_while0b_v199 : Ref sig .tc := ⟨.hbm, 505, rfl⟩
abbrev main_while0b_v200 : Ref sig .tc := ⟨.hbm, 506, rfl⟩
abbrev main_while0b_v201 : Ref sig .tc := ⟨.hbm, 507, rfl⟩
abbrev main_while0b_cst_64 : Ref sig .tc := ⟨.hbm, 508, rfl⟩
abbrev main_while0b_v202 : Ref sig .tc := ⟨.hbm, 509, rfl⟩
abbrev main_while0b_v203 : Ref sig .tc := ⟨.hbm, 510, rfl⟩
abbrev main_while0b_cst_65 : Ref sig .tc := ⟨.hbm, 511, rfl⟩
abbrev main_while0b_v204 : Ref sig .tc := ⟨.hbm, 512, rfl⟩
abbrev main_while0b_v205 : Ref sig .tc := ⟨.hbm, 513, rfl⟩
abbrev main_while0b_v206 : Ref sig .tc := ⟨.hbm, 514, rfl⟩
abbrev main_while0b_v207 : Ref sig .tc := ⟨.hbm, 515, rfl⟩
abbrev main_while0b_v208 : Ref sig .tc := ⟨.hbm, 516, rfl⟩
abbrev main_while0b_cst_66 : Ref sig .tc := ⟨.hbm, 517, rfl⟩
abbrev main_while0b_v209 : Ref sig .tc := ⟨.hbm, 518, rfl⟩
abbrev main_while0b_v210 : Ref sig .tc := ⟨.hbm, 519, rfl⟩
abbrev main_while0b_cst_67 : Ref sig .tc := ⟨.hbm, 520, rfl⟩
abbrev main_while0b_v211 : Ref sig .tc := ⟨.hbm, 521, rfl⟩
abbrev main_while0b_v212 : Ref sig .tc := ⟨.hbm, 522, rfl⟩
abbrev main_while0b_v213 : Ref sig .tc := ⟨.hbm, 523, rfl⟩
abbrev main_while0b_v214 : Ref sig .tc := ⟨.hbm, 524, rfl⟩
abbrev main_while0b_v215 : Ref sig .tc := ⟨.hbm, 525, rfl⟩
abbrev main_while0b_cst_68 : Ref sig .tc := ⟨.hbm, 526, rfl⟩
abbrev main_while0b_v216 : Ref sig .tc := ⟨.hbm, 527, rfl⟩
abbrev main_while0b_v217 : Ref sig .tc := ⟨.hbm, 528, rfl⟩
abbrev main_while0b_v218 : Ref sig .tc := ⟨.hbm, 529, rfl⟩
abbrev main_while0b_v219 : Ref sig .tc := ⟨.hbm, 530, rfl⟩
abbrev main_while0b_v220 : Ref sig .tc := ⟨.hbm, 531, rfl⟩
abbrev main_while0b_v221 : Ref sig .tc := ⟨.hbm, 532, rfl⟩
abbrev main_while0b_v222 : Ref sig .tc := ⟨.hbm, 533, rfl⟩
abbrev main_while0b_v223 : Ref sig .tc := ⟨.hbm, 534, rfl⟩
abbrev main_while0b_v224 : Ref sig .tc := ⟨.hbm, 535, rfl⟩
abbrev main_while0b_v225 : Ref sig .tc := ⟨.hbm, 536, rfl⟩
abbrev main_while0b_v226 : Ref sig .tc := ⟨.hbm, 537, rfl⟩
abbrev main_while0b_v227 : Ref sig .tc := ⟨.hbm, 538, rfl⟩
abbrev main_while0b_v228 : Ref sig .tc := ⟨.hbm, 539, rfl⟩
abbrev main_while0b_v229 : Ref sig .tc := ⟨.hbm, 540, rfl⟩
abbrev main_while0b_v230 : Ref sig .tc := ⟨.hbm, 541, rfl⟩
abbrev main_while0b_v231 : Ref sig .tc := ⟨.hbm, 542, rfl⟩
abbrev main_while0b_v232 : Ref sig .tc := ⟨.hbm, 543, rfl⟩
abbrev main_while0b_v233 : Ref sig .tc := ⟨.hbm, 544, rfl⟩
abbrev main_while0b_v234 : Ref sig .tc := ⟨.hbm, 545, rfl⟩
abbrev main_while0b_v235 : Ref sig .tc := ⟨.hbm, 546, rfl⟩
abbrev main_while0b_v236 : Ref sig .tc := ⟨.hbm, 547, rfl⟩
abbrev main_while0b_v237 : Ref sig .tc := ⟨.hbm, 548, rfl⟩
abbrev main_while0b_v238 : Ref sig .tc := ⟨.hbm, 549, rfl⟩
abbrev main_while0b_v239 : Ref sig .tc := ⟨.hbm, 550, rfl⟩
abbrev main_while0b_v240 : Ref sig .tc := ⟨.hbm, 551, rfl⟩
abbrev main_while0b_v241 : Ref sig .tc := ⟨.hbm, 552, rfl⟩
abbrev main_while0b_cst_69 : Ref sig .tc := ⟨.hbm, 553, rfl⟩
abbrev main_while0b_v242 : Ref sig .tc := ⟨.hbm, 554, rfl⟩
abbrev main_while0b_v243 : Ref sig .tc := ⟨.hbm, 555, rfl⟩
abbrev main_while0b_cst_70 : Ref sig .tc := ⟨.hbm, 556, rfl⟩
abbrev main_while0b_v244 : Ref sig .tc := ⟨.hbm, 557, rfl⟩
abbrev main_while0b_v245 : Ref sig .tc := ⟨.hbm, 558, rfl⟩
abbrev main_while0b_v246 : Ref sig .tc := ⟨.hbm, 559, rfl⟩
abbrev main_while0b_v247 : Ref sig .tc := ⟨.hbm, 560, rfl⟩
abbrev main_while0b_v248 : Ref sig .tc := ⟨.hbm, 561, rfl⟩
abbrev main_while0b_cst_71 : Ref sig .tc := ⟨.hbm, 562, rfl⟩
abbrev main_while0b_v249 : Ref sig .tc := ⟨.hbm, 563, rfl⟩
abbrev main_while0b_v250 : Ref sig .tc := ⟨.hbm, 564, rfl⟩
abbrev main_while0b_cst_72 : Ref sig .tc := ⟨.hbm, 565, rfl⟩
abbrev main_while0b_v251 : Ref sig .tc := ⟨.hbm, 566, rfl⟩
abbrev main_while0b_v252 : Ref sig .tc := ⟨.hbm, 567, rfl⟩
abbrev main_while0b_v253 : Ref sig .tc := ⟨.hbm, 568, rfl⟩
abbrev main_while0b_v254 : Ref sig .tc := ⟨.hbm, 569, rfl⟩
abbrev main_while0b_v255 : Ref sig .tc := ⟨.hbm, 570, rfl⟩
abbrev main_while0b_cst_73 : Ref sig .tc := ⟨.hbm, 571, rfl⟩
abbrev main_while0b_v256 : Ref sig .tc := ⟨.hbm, 572, rfl⟩
abbrev main_while0b_v257 : Ref sig .tc := ⟨.hbm, 573, rfl⟩
abbrev main_while0b_v258 : Ref sig .tc := ⟨.hbm, 574, rfl⟩
abbrev main_while0b_v259 : Ref sig .tc := ⟨.hbm, 575, rfl⟩
abbrev main_while0b_v260 : Ref sig .tc := ⟨.hbm, 576, rfl⟩
abbrev main_while0b_v261 : Ref sig .tc := ⟨.hbm, 577, rfl⟩
abbrev main_while0b_v262 : Ref sig .tc := ⟨.hbm, 578, rfl⟩
abbrev main_while0b_v263 : Ref sig .tc := ⟨.hbm, 579, rfl⟩
abbrev main_while0b_v264 : Ref sig .tc := ⟨.hbm, 580, rfl⟩
abbrev main_while0b_v265 : Ref sig .tc := ⟨.hbm, 581, rfl⟩
abbrev main_while0b_v266 : Ref sig .tc := ⟨.hbm, 582, rfl⟩
abbrev main_while0b_v267 : Ref sig .tc := ⟨.hbm, 583, rfl⟩
abbrev main_while0b_v268 : Ref sig .tc := ⟨.hbm, 584, rfl⟩
abbrev main_while0b_v269 : Ref sig .tc := ⟨.hbm, 585, rfl⟩
abbrev main_while0b_v270 : Ref sig .tc := ⟨.hbm, 586, rfl⟩
abbrev main_while0b_v271 : Ref sig .tc := ⟨.hbm, 587, rfl⟩
abbrev main_while0b_v272 : Ref sig .tc := ⟨.hbm, 588, rfl⟩
abbrev main_while0b_v273 : Ref sig .tc := ⟨.hbm, 589, rfl⟩
abbrev main_while0b_v274 : Ref sig .tc := ⟨.hbm, 590, rfl⟩
abbrev main_while0b_v275 : Ref sig .tc := ⟨.hbm, 591, rfl⟩
abbrev main_while0b_v276 : Ref sig .tc := ⟨.hbm, 592, rfl⟩
abbrev main_while0b_v277 : Ref sig .tc := ⟨.hbm, 593, rfl⟩
abbrev main_while0b_v278 : Ref sig .tc := ⟨.hbm, 594, rfl⟩
abbrev main_while0b_v279 : Ref sig .tc := ⟨.hbm, 595, rfl⟩
abbrev main_while0b_v280 : Ref sig .tc := ⟨.hbm, 596, rfl⟩
abbrev main_while0b_v281 : Ref sig .tc := ⟨.hbm, 597, rfl⟩
abbrev main_while0b_cst_74 : Ref sig .tc := ⟨.hbm, 598, rfl⟩
abbrev main_while0b_v282 : Ref sig .tc := ⟨.hbm, 599, rfl⟩
abbrev main_while0b_v283 : Ref sig .tc := ⟨.hbm, 600, rfl⟩
abbrev main_while0b_cst_75 : Ref sig .tc := ⟨.hbm, 601, rfl⟩
abbrev main_while0b_v284 : Ref sig .tc := ⟨.hbm, 602, rfl⟩
abbrev main_while0b_v285 : Ref sig .tc := ⟨.hbm, 603, rfl⟩
abbrev main_while0b_v286 : Ref sig .tc := ⟨.hbm, 604, rfl⟩
abbrev main_while0b_v287 : Ref sig .tc := ⟨.hbm, 605, rfl⟩
abbrev main_while0b_v288 : Ref sig .tc := ⟨.hbm, 606, rfl⟩
abbrev main_while0b_cst_76 : Ref sig .tc := ⟨.hbm, 607, rfl⟩
abbrev main_while0b_v289 : Ref sig .tc := ⟨.hbm, 608, rfl⟩
abbrev main_while0b_v290 : Ref sig .tc := ⟨.hbm, 609, rfl⟩
abbrev main_while0b_cst_77 : Ref sig .tc := ⟨.hbm, 610, rfl⟩
abbrev main_while0b_v291 : Ref sig .tc := ⟨.hbm, 611, rfl⟩
abbrev main_while0b_v292 : Ref sig .tc := ⟨.hbm, 612, rfl⟩
abbrev main_while0b_v293 : Ref sig .tc := ⟨.hbm, 613, rfl⟩
abbrev main_while0b_v294 : Ref sig .tc := ⟨.hbm, 614, rfl⟩
abbrev main_while0b_v295 : Ref sig .tc := ⟨.hbm, 615, rfl⟩
abbrev main_while0b_cst_78 : Ref sig .tc := ⟨.hbm, 616, rfl⟩
abbrev main_while0b_v296 : Ref sig .tc := ⟨.hbm, 617, rfl⟩
abbrev main_while0b_v297 : Ref sig .tc := ⟨.hbm, 618, rfl⟩
abbrev main_while0b_v298 : Ref sig .tc := ⟨.hbm, 619, rfl⟩
abbrev main_while0b_v299 : Ref sig .tc := ⟨.hbm, 620, rfl⟩
abbrev main_while0b_v300 : Ref sig .tc := ⟨.hbm, 621, rfl⟩
abbrev main_while0b_v301 : Ref sig .tc := ⟨.hbm, 622, rfl⟩
abbrev main_while0b_v302 : Ref sig .tc := ⟨.hbm, 623, rfl⟩
abbrev main_while0b_v303 : Ref sig .tc := ⟨.hbm, 624, rfl⟩
abbrev main_while0b_v304 : Ref sig .tc := ⟨.hbm, 625, rfl⟩
abbrev main_while0b_v305 : Ref sig .tc := ⟨.hbm, 626, rfl⟩
abbrev main_while0b_v306 : Ref sig .tc := ⟨.hbm, 627, rfl⟩
abbrev main_while0b_v307 : Ref sig .tc := ⟨.hbm, 628, rfl⟩
abbrev main_while0b_v308 : Ref sig .tc := ⟨.hbm, 629, rfl⟩
abbrev main_while0b_v309 : Ref sig .tc := ⟨.hbm, 630, rfl⟩
abbrev main_while0b_v310 : Ref sig .tc := ⟨.hbm, 631, rfl⟩
abbrev main_while0b_v311 : Ref sig .tc := ⟨.hbm, 632, rfl⟩
abbrev main_while0b_v312 : Ref sig .tc := ⟨.hbm, 633, rfl⟩
abbrev main_while0b_v313 : Ref sig .tc := ⟨.hbm, 634, rfl⟩
abbrev main_while0b_v314 : Ref sig .tc := ⟨.hbm, 635, rfl⟩
abbrev main_while0b_v315 : Ref sig .tc := ⟨.hbm, 636, rfl⟩
abbrev main_while0b_v316 : Ref sig .tc := ⟨.hbm, 637, rfl⟩
abbrev main_while0b_v317 : Ref sig .tc := ⟨.hbm, 638, rfl⟩
abbrev main_while0b_v318 : Ref sig .tc := ⟨.hbm, 639, rfl⟩
abbrev main_while0b_v319 : Ref sig .tc := ⟨.hbm, 640, rfl⟩
abbrev main_while0b_v320 : Ref sig .tc := ⟨.hbm, 641, rfl⟩
abbrev main_while0b_v321 : Ref sig .tc := ⟨.hbm, 642, rfl⟩
abbrev main_while0b_cst_79 : Ref sig .tc := ⟨.hbm, 643, rfl⟩
abbrev main_while0b_v322 : Ref sig .tc := ⟨.hbm, 644, rfl⟩
abbrev main_while0b_v323 : Ref sig .tc := ⟨.hbm, 645, rfl⟩
abbrev main_while0b_cst_80 : Ref sig .tc := ⟨.hbm, 646, rfl⟩
abbrev main_while0b_v324 : Ref sig .tc := ⟨.hbm, 647, rfl⟩
abbrev main_while0b_v325 : Ref sig .tc := ⟨.hbm, 648, rfl⟩
abbrev main_while0b_v326 : Ref sig .tc := ⟨.hbm, 649, rfl⟩
abbrev main_while0b_v327 : Ref sig .tc := ⟨.hbm, 650, rfl⟩
abbrev main_while0b_v328 : Ref sig .tc := ⟨.hbm, 651, rfl⟩
abbrev main_while0b_cst_81 : Ref sig .tc := ⟨.hbm, 652, rfl⟩
abbrev main_while0b_v329 : Ref sig .tc := ⟨.hbm, 653, rfl⟩
abbrev main_while0b_v330 : Ref sig .tc := ⟨.hbm, 654, rfl⟩
abbrev main_while0b_cst_82 : Ref sig .tc := ⟨.hbm, 655, rfl⟩
abbrev main_while0b_v331 : Ref sig .tc := ⟨.hbm, 656, rfl⟩
abbrev main_while0b_v332 : Ref sig .tc := ⟨.hbm, 657, rfl⟩
abbrev main_while0b_v333 : Ref sig .tc := ⟨.hbm, 658, rfl⟩
abbrev main_while0b_v334 : Ref sig .tc := ⟨.hbm, 659, rfl⟩
abbrev main_while0b_v335 : Ref sig .tc := ⟨.hbm, 660, rfl⟩
abbrev main_while0b_cst_83 : Ref sig .tc := ⟨.hbm, 661, rfl⟩
abbrev main_while0b_v336 : Ref sig .tc := ⟨.hbm, 662, rfl⟩
abbrev main_while0b_v337 : Ref sig .tc := ⟨.hbm, 663, rfl⟩
abbrev main_while0b_v338 : Ref sig .tc := ⟨.hbm, 664, rfl⟩
abbrev main_while0b_v339 : Ref sig .tc := ⟨.hbm, 665, rfl⟩
abbrev main_while0b_v340 : Ref sig .tc := ⟨.hbm, 666, rfl⟩
abbrev main_while0b_v341 : Ref sig .tc := ⟨.hbm, 667, rfl⟩
abbrev main_while0b_v342 : Ref sig .tc := ⟨.hbm, 668, rfl⟩
abbrev main_while0b_v343 : Ref sig .tc := ⟨.hbm, 669, rfl⟩
abbrev main_while0b_v344 : Ref sig .tc := ⟨.hbm, 670, rfl⟩
abbrev main_while0b_v345 : Ref sig .tc := ⟨.hbm, 671, rfl⟩
abbrev main_while0b_v346 : Ref sig .tc := ⟨.hbm, 672, rfl⟩
abbrev main_while0b_v347 : Ref sig .tc := ⟨.hbm, 673, rfl⟩
abbrev main_while0b_v348 : Ref sig .tc := ⟨.hbm, 674, rfl⟩
abbrev main_while0b_v349 : Ref sig .tc := ⟨.hbm, 675, rfl⟩
abbrev main_while0b_v350 : Ref sig .tc := ⟨.hbm, 676, rfl⟩
abbrev main_while0b_v351 : Ref sig .tc := ⟨.hbm, 677, rfl⟩
abbrev main_while0b_v352 : Ref sig .tc := ⟨.hbm, 678, rfl⟩
abbrev main_while0b_v353 : Ref sig .tc := ⟨.hbm, 679, rfl⟩
abbrev main_while0b_v354 : Ref sig .tc := ⟨.hbm, 680, rfl⟩
abbrev main_while0b_v355 : Ref sig .tc := ⟨.hbm, 681, rfl⟩
abbrev main_while0b_v356 : Ref sig .tc := ⟨.hbm, 682, rfl⟩
abbrev main_while0b_v357 : Ref sig .tc := ⟨.hbm, 683, rfl⟩
abbrev main_while0b_v358 : Ref sig .tc := ⟨.hbm, 684, rfl⟩
abbrev main_while0b_v359 : Ref sig .tc := ⟨.hbm, 685, rfl⟩
abbrev main_while0b_v360 : Ref sig .tc := ⟨.hbm, 686, rfl⟩
abbrev main_while0b_v361 : Ref sig .tc := ⟨.hbm, 687, rfl⟩
abbrev main_while0b_cst_84 : Ref sig .tc := ⟨.hbm, 688, rfl⟩
abbrev main_while0b_v362 : Ref sig .tc := ⟨.hbm, 689, rfl⟩
abbrev main_while0b_v363 : Ref sig .tc := ⟨.hbm, 690, rfl⟩
abbrev main_while0b_cst_85 : Ref sig .tc := ⟨.hbm, 691, rfl⟩
abbrev main_while0b_v364 : Ref sig .tc := ⟨.hbm, 692, rfl⟩
abbrev main_while0b_v365 : Ref sig .tc := ⟨.hbm, 693, rfl⟩
abbrev main_while0b_v366 : Ref sig .tc := ⟨.hbm, 694, rfl⟩
abbrev main_while0b_v367 : Ref sig .tc := ⟨.hbm, 695, rfl⟩
abbrev main_while0b_v368 : Ref sig .tc := ⟨.hbm, 696, rfl⟩
abbrev main_while0b_cst_86 : Ref sig .tc := ⟨.hbm, 697, rfl⟩
abbrev main_while0b_v369 : Ref sig .tc := ⟨.hbm, 698, rfl⟩
abbrev main_while0b_v370 : Ref sig .tc := ⟨.hbm, 699, rfl⟩
abbrev main_while0b_cst_87 : Ref sig .tc := ⟨.hbm, 700, rfl⟩
abbrev main_while0b_v371 : Ref sig .tc := ⟨.hbm, 701, rfl⟩
abbrev main_while0b_v372 : Ref sig .tc := ⟨.hbm, 702, rfl⟩
abbrev main_while0b_v373 : Ref sig .tc := ⟨.hbm, 703, rfl⟩
abbrev main_while0b_v374 : Ref sig .tc := ⟨.hbm, 704, rfl⟩
abbrev main_while0b_v375 : Ref sig .tc := ⟨.hbm, 705, rfl⟩
abbrev main_while0b_cst_88 : Ref sig .tc := ⟨.hbm, 706, rfl⟩
abbrev main_while0b_v376 : Ref sig .tc := ⟨.hbm, 707, rfl⟩
abbrev main_while0b_v377 : Ref sig .tc := ⟨.hbm, 708, rfl⟩
abbrev main_while0b_v378 : Ref sig .tc := ⟨.hbm, 709, rfl⟩
abbrev main_while0b_v379 : Ref sig .tc := ⟨.hbm, 710, rfl⟩
abbrev main_while0b_v380 : Ref sig .tc := ⟨.hbm, 711, rfl⟩
abbrev main_while0b_v381 : Ref sig .tc := ⟨.hbm, 712, rfl⟩
abbrev main_while0b_v382 : Ref sig .tc := ⟨.hbm, 713, rfl⟩
abbrev main_while0b_v383 : Ref sig .tc := ⟨.hbm, 714, rfl⟩
abbrev main_while0b_v384 : Ref sig .tc := ⟨.hbm, 715, rfl⟩
abbrev main_while0b_v385 : Ref sig .tc := ⟨.hbm, 716, rfl⟩
abbrev main_while0b_v386 : Ref sig .tc := ⟨.hbm, 717, rfl⟩
abbrev main_while0b_v387 : Ref sig .tc := ⟨.hbm, 718, rfl⟩
abbrev main_while0b_v388 : Ref sig .tc := ⟨.hbm, 719, rfl⟩
abbrev main_while0b_v389 : Ref sig .tc := ⟨.hbm, 720, rfl⟩
abbrev main_while0b_v390 : Ref sig .tc := ⟨.hbm, 721, rfl⟩
abbrev main_while0b_v391 : Ref sig .tc := ⟨.hbm, 722, rfl⟩
abbrev main_while0b_v392 : Ref sig .tc := ⟨.hbm, 723, rfl⟩
abbrev main_while0b_v393 : Ref sig .tc := ⟨.hbm, 724, rfl⟩
abbrev main_while0b_v394 : Ref sig .tc := ⟨.hbm, 725, rfl⟩
abbrev main_while0b_v395 : Ref sig .tc := ⟨.hbm, 726, rfl⟩
abbrev main_while0b_v396 : Ref sig .tc := ⟨.hbm, 727, rfl⟩
abbrev main_while0b_v397 : Ref sig .tc := ⟨.hbm, 728, rfl⟩
abbrev main_while0b_v398 : Ref sig .tc := ⟨.hbm, 729, rfl⟩
abbrev main_while0b_v399 : Ref sig .tc := ⟨.hbm, 730, rfl⟩
abbrev main_while0b_v400 : Ref sig .tc := ⟨.hbm, 731, rfl⟩
abbrev main_while0b_v401 : Ref sig .tc := ⟨.hbm, 732, rfl⟩
abbrev main_while0b_cst_89 : Ref sig .tc := ⟨.hbm, 733, rfl⟩
abbrev main_while0b_v402 : Ref sig .tc := ⟨.hbm, 734, rfl⟩
abbrev main_while0b_v403 : Ref sig .tc := ⟨.hbm, 735, rfl⟩
abbrev main_while0b_cst_90 : Ref sig .tc := ⟨.hbm, 736, rfl⟩
abbrev main_while0b_v404 : Ref sig .tc := ⟨.hbm, 737, rfl⟩
abbrev main_while0b_v405 : Ref sig .tc := ⟨.hbm, 738, rfl⟩
abbrev main_while0b_v406 : Ref sig .tc := ⟨.hbm, 739, rfl⟩
abbrev main_while0b_v407 : Ref sig .tc := ⟨.hbm, 740, rfl⟩
abbrev main_while0b_v408 : Ref sig .tc := ⟨.hbm, 741, rfl⟩
abbrev main_while0b_cst_91 : Ref sig .tc := ⟨.hbm, 742, rfl⟩
abbrev main_while0b_v409 : Ref sig .tc := ⟨.hbm, 743, rfl⟩
abbrev main_while0b_v410 : Ref sig .tc := ⟨.hbm, 744, rfl⟩
abbrev main_while0b_cst_92 : Ref sig .tc := ⟨.hbm, 745, rfl⟩
abbrev main_while0b_v411 : Ref sig .tc := ⟨.hbm, 746, rfl⟩
abbrev main_while0b_v412 : Ref sig .tc := ⟨.hbm, 747, rfl⟩
abbrev main_while0b_v413 : Ref sig .tc := ⟨.hbm, 748, rfl⟩
abbrev main_while0b_v414 : Ref sig .tc := ⟨.hbm, 749, rfl⟩
abbrev main_while0b_v415 : Ref sig .tc := ⟨.hbm, 750, rfl⟩
abbrev main_while0b_cst_93 : Ref sig .tc := ⟨.hbm, 751, rfl⟩
abbrev main_while0b_v416 : Ref sig .tc := ⟨.hbm, 752, rfl⟩
abbrev main_while0b_v417 : Ref sig .tc := ⟨.hbm, 753, rfl⟩
abbrev main_while0b_v418 : Ref sig .tc := ⟨.hbm, 754, rfl⟩
abbrev main_while0b_v419 : Ref sig .tc := ⟨.hbm, 755, rfl⟩
abbrev main_while0b_v420 : Ref sig .tc := ⟨.hbm, 756, rfl⟩
abbrev main_while0b_v421 : Ref sig .tc := ⟨.hbm, 757, rfl⟩
abbrev main_while0b_v422 : Ref sig .tc := ⟨.hbm, 758, rfl⟩
abbrev main_while0b_v423 : Ref sig .tc := ⟨.hbm, 759, rfl⟩
abbrev main_while0b_v424 : Ref sig .tc := ⟨.hbm, 760, rfl⟩
abbrev main_while0b_v425 : Ref sig .tc := ⟨.hbm, 761, rfl⟩
abbrev main_while0b_v426 : Ref sig .tc := ⟨.hbm, 762, rfl⟩
abbrev main_while0b_v427 : Ref sig .tc := ⟨.hbm, 763, rfl⟩
abbrev main_while0b_v428 : Ref sig .tc := ⟨.hbm, 764, rfl⟩
abbrev main_while0b_v429 : Ref sig .tc := ⟨.hbm, 765, rfl⟩
abbrev main_while0b_v430 : Ref sig .tc := ⟨.hbm, 766, rfl⟩
abbrev main_while0b_v431 : Ref sig .tc := ⟨.hbm, 767, rfl⟩
abbrev main_while0b_v432 : Ref sig .tc := ⟨.hbm, 768, rfl⟩
abbrev main_while0b_v433 : Ref sig .tc := ⟨.hbm, 769, rfl⟩
abbrev main_while0b_v434 : Ref sig .tc := ⟨.hbm, 770, rfl⟩
abbrev main_while0b_v435 : Ref sig .tc := ⟨.hbm, 771, rfl⟩
abbrev main_while0b_v436 : Ref sig .tc := ⟨.hbm, 772, rfl⟩
abbrev main_while0b_v437 : Ref sig .tc := ⟨.hbm, 773, rfl⟩
abbrev main_while0b_v438 : Ref sig .tc := ⟨.hbm, 774, rfl⟩
abbrev main_while0b_v439 : Ref sig .tc := ⟨.hbm, 775, rfl⟩
abbrev main_while0b_v440 : Ref sig .tc := ⟨.hbm, 776, rfl⟩
abbrev main_while0b_v441 : Ref sig .tc := ⟨.hbm, 777, rfl⟩
abbrev main_while0b_cst_94 : Ref sig .tc := ⟨.hbm, 778, rfl⟩
abbrev main_while0b_v442 : Ref sig .tc := ⟨.hbm, 779, rfl⟩
abbrev main_while0b_v443 : Ref sig .tc := ⟨.hbm, 780, rfl⟩
abbrev main_while0b_cst_95 : Ref sig .tc := ⟨.hbm, 781, rfl⟩
abbrev main_while0b_v444 : Ref sig .tc := ⟨.hbm, 782, rfl⟩
abbrev main_while0b_v445 : Ref sig .tc := ⟨.hbm, 783, rfl⟩
abbrev main_while0b_v446 : Ref sig .tc := ⟨.hbm, 784, rfl⟩
abbrev main_while0b_v447 : Ref sig .tc := ⟨.hbm, 785, rfl⟩
abbrev main_while0b_v448 : Ref sig .tc := ⟨.hbm, 786, rfl⟩
abbrev main_while0b_cst_96 : Ref sig .tc := ⟨.hbm, 787, rfl⟩
abbrev main_while0b_v449 : Ref sig .tc := ⟨.hbm, 788, rfl⟩
abbrev main_while0b_v450 : Ref sig .tc := ⟨.hbm, 789, rfl⟩
abbrev main_while0b_cst_97 : Ref sig .tc := ⟨.hbm, 790, rfl⟩
abbrev main_while0b_v451 : Ref sig .tc := ⟨.hbm, 791, rfl⟩
abbrev main_while0b_v452 : Ref sig .tc := ⟨.hbm, 792, rfl⟩
abbrev main_while0b_v453 : Ref sig .tc := ⟨.hbm, 793, rfl⟩
abbrev main_while0b_v454 : Ref sig .tc := ⟨.hbm, 794, rfl⟩
abbrev main_while0b_v455 : Ref sig .tc := ⟨.hbm, 795, rfl⟩
abbrev main_while0b_cst_98 : Ref sig .tc := ⟨.hbm, 796, rfl⟩
abbrev main_while0b_v456 : Ref sig .tc := ⟨.hbm, 797, rfl⟩
abbrev main_while0b_v457 : Ref sig .tc := ⟨.hbm, 798, rfl⟩
abbrev main_while0b_v458 : Ref sig .tc := ⟨.hbm, 799, rfl⟩
abbrev main_while0b_v459 : Ref sig .tc := ⟨.hbm, 800, rfl⟩
abbrev main_while0b_v460 : Ref sig .tc := ⟨.hbm, 801, rfl⟩
abbrev main_while0b_v461 : Ref sig .tc := ⟨.hbm, 802, rfl⟩
abbrev main_while0b_v462 : Ref sig .tc := ⟨.hbm, 803, rfl⟩
abbrev main_while0b_v463 : Ref sig .tc := ⟨.hbm, 804, rfl⟩
abbrev main_while0b_v464 : Ref sig .tc := ⟨.hbm, 805, rfl⟩
abbrev main_while0b_v465 : Ref sig .tc := ⟨.hbm, 806, rfl⟩
abbrev main_while0b_v466 : Ref sig .tc := ⟨.hbm, 807, rfl⟩
abbrev main_while0b_v467 : Ref sig .tc := ⟨.hbm, 808, rfl⟩
abbrev main_while0b_v468 : Ref sig .tc := ⟨.hbm, 809, rfl⟩
abbrev main_while0b_v469 : Ref sig .tc := ⟨.hbm, 810, rfl⟩
abbrev main_while0b_v470 : Ref sig .tc := ⟨.hbm, 811, rfl⟩
abbrev main_while0b_v471 : Ref sig .tc := ⟨.hbm, 812, rfl⟩
abbrev main_while0b_v472 : Ref sig .tc := ⟨.hbm, 813, rfl⟩
abbrev main_while0b_v473 : Ref sig .tc := ⟨.hbm, 814, rfl⟩
abbrev main_while0b_v474 : Ref sig .tc := ⟨.hbm, 815, rfl⟩
abbrev main_while0b_v475 : Ref sig .tc := ⟨.hbm, 816, rfl⟩
abbrev main_while0b_v476 : Ref sig .tc := ⟨.hbm, 817, rfl⟩
abbrev main_while0b_v477 : Ref sig .tc := ⟨.hbm, 818, rfl⟩
abbrev main_while0b_v478 : Ref sig .tc := ⟨.hbm, 819, rfl⟩
abbrev main_while0b_v479 : Ref sig .tc := ⟨.hbm, 820, rfl⟩
abbrev main_while0b_v480 : Ref sig .tc := ⟨.hbm, 821, rfl⟩
abbrev main_while0b_v481 : Ref sig .tc := ⟨.hbm, 822, rfl⟩
abbrev main_while0b_cst_99 : Ref sig .tc := ⟨.hbm, 823, rfl⟩
abbrev main_while0b_v482 : Ref sig .tc := ⟨.hbm, 824, rfl⟩
abbrev main_while0b_v483 : Ref sig .tc := ⟨.hbm, 825, rfl⟩
abbrev main_while0b_cst_100 : Ref sig .tc := ⟨.hbm, 826, rfl⟩
abbrev main_while0b_v484 : Ref sig .tc := ⟨.hbm, 827, rfl⟩
abbrev main_while0b_v485 : Ref sig .tc := ⟨.hbm, 828, rfl⟩
abbrev main_while0b_v486 : Ref sig .tc := ⟨.hbm, 829, rfl⟩
abbrev main_while0b_v487 : Ref sig .tc := ⟨.hbm, 830, rfl⟩
abbrev main_while0b_v488 : Ref sig .tc := ⟨.hbm, 831, rfl⟩
abbrev main_while0b_cst_101 : Ref sig .tc := ⟨.hbm, 832, rfl⟩
abbrev main_while0b_v489 : Ref sig .tc := ⟨.hbm, 833, rfl⟩
abbrev main_while0b_v490 : Ref sig .tc := ⟨.hbm, 834, rfl⟩
abbrev main_while0b_cst_102 : Ref sig .tc := ⟨.hbm, 835, rfl⟩
abbrev main_while0b_v491 : Ref sig .tc := ⟨.hbm, 836, rfl⟩
abbrev main_while0b_v492 : Ref sig .tc := ⟨.hbm, 837, rfl⟩
abbrev main_while0b_v493 : Ref sig .tc := ⟨.hbm, 838, rfl⟩
abbrev main_while0b_v494 : Ref sig .tc := ⟨.hbm, 839, rfl⟩
abbrev main_while0b_v495 : Ref sig .tc := ⟨.hbm, 840, rfl⟩
abbrev main_while0b_cst_103 : Ref sig .tc := ⟨.hbm, 841, rfl⟩
abbrev main_while0b_v496 : Ref sig .tc := ⟨.hbm, 842, rfl⟩
abbrev main_while0b_v497 : Ref sig .tc := ⟨.hbm, 843, rfl⟩
abbrev main_while0b_v498 : Ref sig .tc := ⟨.hbm, 844, rfl⟩
abbrev main_while0b_v499 : Ref sig .tc := ⟨.hbm, 845, rfl⟩
abbrev main_while0b_v500 : Ref sig .tc := ⟨.hbm, 846, rfl⟩
abbrev main_while0b_v501 : Ref sig .tc := ⟨.hbm, 847, rfl⟩
abbrev main_while0b_v502 : Ref sig .tc := ⟨.hbm, 848, rfl⟩
abbrev main_while0b_v503 : Ref sig .tc := ⟨.hbm, 849, rfl⟩
abbrev main_while0b_v504 : Ref sig .tc := ⟨.hbm, 850, rfl⟩
abbrev main_while0b_v505 : Ref sig .tc := ⟨.hbm, 851, rfl⟩
abbrev main_while0b_v506 : Ref sig .tc := ⟨.hbm, 852, rfl⟩
abbrev main_while0b_v507 : Ref sig .tc := ⟨.hbm, 853, rfl⟩
abbrev main_while0b_v508 : Ref sig .tc := ⟨.hbm, 854, rfl⟩
abbrev main_while0b_v509 : Ref sig .tc := ⟨.hbm, 855, rfl⟩
abbrev main_while0b_v510 : Ref sig .tc := ⟨.hbm, 856, rfl⟩
abbrev main_while0b_v511 : Ref sig .tc := ⟨.hbm, 857, rfl⟩
abbrev main_while0b_v512 : Ref sig .tc := ⟨.hbm, 858, rfl⟩
abbrev main_while0b_v513 : Ref sig .tc := ⟨.hbm, 859, rfl⟩
abbrev main_while0b_v514 : Ref sig .tc := ⟨.hbm, 860, rfl⟩
abbrev main_while0b_v515 : Ref sig .tc := ⟨.hbm, 861, rfl⟩
abbrev main_while0b_v516 : Ref sig .tc := ⟨.hbm, 862, rfl⟩
abbrev main_while0b_v517 : Ref sig .tc := ⟨.hbm, 863, rfl⟩
abbrev main_while0b_v518 : Ref sig .tc := ⟨.hbm, 864, rfl⟩
abbrev main_while0b_v519 : Ref sig .tc := ⟨.hbm, 865, rfl⟩
abbrev main_while0b_v520 : Ref sig .tc := ⟨.hbm, 866, rfl⟩
abbrev main_while0b_v521 : Ref sig .tc := ⟨.hbm, 867, rfl⟩
abbrev main_while0b_cst_104 : Ref sig .tc := ⟨.hbm, 868, rfl⟩
abbrev main_while0b_v522 : Ref sig .tc := ⟨.hbm, 869, rfl⟩
abbrev main_while0b_v523 : Ref sig .tc := ⟨.hbm, 870, rfl⟩
abbrev main_while0b_cst_105 : Ref sig .tc := ⟨.hbm, 871, rfl⟩
abbrev main_while0b_v524 : Ref sig .tc := ⟨.hbm, 872, rfl⟩
abbrev main_while0b_v525 : Ref sig .tc := ⟨.hbm, 873, rfl⟩
abbrev main_while0b_v526 : Ref sig .tc := ⟨.hbm, 874, rfl⟩
abbrev main_while0b_v527 : Ref sig .tc := ⟨.hbm, 875, rfl⟩
abbrev main_while0b_v528 : Ref sig .tc := ⟨.hbm, 876, rfl⟩
abbrev main_while0b_cst_106 : Ref sig .tc := ⟨.hbm, 877, rfl⟩
abbrev main_while0b_v529 : Ref sig .tc := ⟨.hbm, 878, rfl⟩
abbrev main_while0b_v530 : Ref sig .tc := ⟨.hbm, 879, rfl⟩
abbrev main_while0b_cst_107 : Ref sig .tc := ⟨.hbm, 880, rfl⟩
abbrev main_while0b_v531 : Ref sig .tc := ⟨.hbm, 881, rfl⟩
abbrev main_while0b_v532 : Ref sig .tc := ⟨.hbm, 882, rfl⟩
abbrev main_while0b_v533 : Ref sig .tc := ⟨.hbm, 883, rfl⟩
abbrev main_while0b_v534 : Ref sig .tc := ⟨.hbm, 884, rfl⟩
abbrev main_while0b_v535 : Ref sig .tc := ⟨.hbm, 885, rfl⟩
abbrev main_while0b_cst_108 : Ref sig .tc := ⟨.hbm, 886, rfl⟩
abbrev main_while0b_v536 : Ref sig .tc := ⟨.hbm, 887, rfl⟩
abbrev main_while0b_v537 : Ref sig .tc := ⟨.hbm, 888, rfl⟩
abbrev main_while0b_v538 : Ref sig .tc := ⟨.hbm, 889, rfl⟩
abbrev main_while0b_v539 : Ref sig .tc := ⟨.hbm, 890, rfl⟩
abbrev main_while0b_v540 : Ref sig .tc := ⟨.hbm, 891, rfl⟩
abbrev main_while0b_v541 : Ref sig .tc := ⟨.hbm, 892, rfl⟩
abbrev main_while0b_v542 : Ref sig .tc := ⟨.hbm, 893, rfl⟩
abbrev main_while0b_v543 : Ref sig .tc := ⟨.hbm, 894, rfl⟩
abbrev main_while0b_v544 : Ref sig .tc := ⟨.hbm, 895, rfl⟩
abbrev main_while0b_v545 : Ref sig .tc := ⟨.hbm, 896, rfl⟩
abbrev main_while0b_v546 : Ref sig .tc := ⟨.hbm, 897, rfl⟩
abbrev main_while0b_v547 : Ref sig .tc := ⟨.hbm, 898, rfl⟩
abbrev main_while0b_v548 : Ref sig .tc := ⟨.hbm, 899, rfl⟩
abbrev main_while0b_v549 : Ref sig .tc := ⟨.hbm, 900, rfl⟩
abbrev main_while0b_v550 : Ref sig .tc := ⟨.hbm, 901, rfl⟩
abbrev main_while0b_v551 : Ref sig .tc := ⟨.hbm, 902, rfl⟩
abbrev main_while0b_v552 : Ref sig .tc := ⟨.hbm, 903, rfl⟩
abbrev main_while0b_v553 : Ref sig .tc := ⟨.hbm, 904, rfl⟩
abbrev main_while0b_v554 : Ref sig .tc := ⟨.hbm, 905, rfl⟩
abbrev main_while0b_v555 : Ref sig .tc := ⟨.hbm, 906, rfl⟩
abbrev main_while0b_v556 : Ref sig .tc := ⟨.hbm, 907, rfl⟩
abbrev main_while0b_v557 : Ref sig .tc := ⟨.hbm, 908, rfl⟩
abbrev main_while0b_v558 : Ref sig .tc := ⟨.hbm, 909, rfl⟩
abbrev main_while0b_v559 : Ref sig .tc := ⟨.hbm, 910, rfl⟩
abbrev main_while0b_v560 : Ref sig .tc := ⟨.hbm, 911, rfl⟩
abbrev main_while0b_v561 : Ref sig .tc := ⟨.hbm, 912, rfl⟩
abbrev main_while0b_cst_109 : Ref sig .tc := ⟨.hbm, 913, rfl⟩
abbrev main_while0b_v562 : Ref sig .tc := ⟨.hbm, 914, rfl⟩
abbrev main_while0b_v563 : Ref sig .tc := ⟨.hbm, 915, rfl⟩
abbrev main_while0b_cst_110 : Ref sig .tc := ⟨.hbm, 916, rfl⟩
abbrev main_while0b_v564 : Ref sig .tc := ⟨.hbm, 917, rfl⟩
abbrev main_while0b_v565 : Ref sig .tc := ⟨.hbm, 918, rfl⟩
abbrev main_while0b_v566 : Ref sig .tc := ⟨.hbm, 919, rfl⟩
abbrev main_while0b_v567 : Ref sig .tc := ⟨.hbm, 920, rfl⟩
abbrev main_while0b_v568 : Ref sig .tc := ⟨.hbm, 921, rfl⟩
abbrev main_while0b_cst_111 : Ref sig .tc := ⟨.hbm, 922, rfl⟩
abbrev main_while0b_v569 : Ref sig .tc := ⟨.hbm, 923, rfl⟩
abbrev main_while0b_v570 : Ref sig .tc := ⟨.hbm, 924, rfl⟩
abbrev main_while0b_cst_112 : Ref sig .tc := ⟨.hbm, 925, rfl⟩
abbrev main_while0b_v571 : Ref sig .tc := ⟨.hbm, 926, rfl⟩
abbrev main_while0b_v572 : Ref sig .tc := ⟨.hbm, 927, rfl⟩
abbrev main_while0b_v573 : Ref sig .tc := ⟨.hbm, 928, rfl⟩
abbrev main_while0b_v574 : Ref sig .tc := ⟨.hbm, 929, rfl⟩
abbrev main_while0b_v575 : Ref sig .tc := ⟨.hbm, 930, rfl⟩
abbrev main_while0b_cst_113 : Ref sig .tc := ⟨.hbm, 931, rfl⟩
abbrev main_while0b_v576 : Ref sig .tc := ⟨.hbm, 932, rfl⟩
abbrev main_while0b_v577 : Ref sig .tc := ⟨.hbm, 933, rfl⟩
abbrev main_while0b_v578 : Ref sig .tc := ⟨.hbm, 934, rfl⟩
abbrev main_while0b_v579 : Ref sig .tc := ⟨.hbm, 935, rfl⟩
abbrev main_while0b_v580 : Ref sig .tc := ⟨.hbm, 936, rfl⟩
abbrev main_while0b_v581 : Ref sig .tc := ⟨.hbm, 937, rfl⟩
abbrev main_while0b_v582 : Ref sig .tc := ⟨.hbm, 938, rfl⟩
abbrev main_while0b_v583 : Ref sig .tc := ⟨.hbm, 939, rfl⟩
abbrev main_while0b_v584 : Ref sig .tc := ⟨.hbm, 940, rfl⟩
abbrev main_while0b_v585 : Ref sig .tc := ⟨.hbm, 941, rfl⟩
abbrev main_while0b_v586 : Ref sig .tc := ⟨.hbm, 942, rfl⟩
abbrev main_while0b_v587 : Ref sig .tc := ⟨.hbm, 943, rfl⟩
abbrev main_while0b_v588 : Ref sig .tc := ⟨.hbm, 944, rfl⟩
abbrev main_while0b_v589 : Ref sig .tc := ⟨.hbm, 945, rfl⟩
abbrev main_while0b_v590 : Ref sig .tc := ⟨.hbm, 946, rfl⟩
abbrev main_while0b_v591 : Ref sig .tc := ⟨.hbm, 947, rfl⟩
abbrev main_while0b_v592 : Ref sig .tc := ⟨.hbm, 948, rfl⟩
abbrev main_while0b_v593 : Ref sig .tc := ⟨.hbm, 949, rfl⟩
abbrev main_while0b_v594 : Ref sig .tc := ⟨.hbm, 950, rfl⟩
abbrev main_while0b_v595 : Ref sig .tc := ⟨.hbm, 951, rfl⟩
abbrev main_while0b_v596 : Ref sig .tc := ⟨.hbm, 952, rfl⟩
abbrev main_while0b_v597 : Ref sig .tc := ⟨.hbm, 953, rfl⟩
abbrev main_while0b_v598 : Ref sig .tc := ⟨.hbm, 954, rfl⟩
abbrev main_while0b_v599 : Ref sig .tc := ⟨.hbm, 955, rfl⟩
abbrev main_while0b_v600 : Ref sig .tc := ⟨.hbm, 956, rfl⟩
abbrev main_while0b_v601 : Ref sig .tc := ⟨.hbm, 957, rfl⟩
abbrev main_while0b_cst_114 : Ref sig .tc := ⟨.hbm, 958, rfl⟩
abbrev main_while0b_v602 : Ref sig .tc := ⟨.hbm, 959, rfl⟩
abbrev main_while0b_v603 : Ref sig .tc := ⟨.hbm, 960, rfl⟩
abbrev main_while0b_cst_115 : Ref sig .tc := ⟨.hbm, 961, rfl⟩
abbrev main_while0b_v604 : Ref sig .tc := ⟨.hbm, 962, rfl⟩
abbrev main_while0b_v605 : Ref sig .tc := ⟨.hbm, 963, rfl⟩
abbrev main_while0b_v606 : Ref sig .tc := ⟨.hbm, 964, rfl⟩
abbrev main_while0b_v607 : Ref sig .tc := ⟨.hbm, 965, rfl⟩
abbrev main_while0b_v608 : Ref sig .tc := ⟨.hbm, 966, rfl⟩
abbrev main_while0b_cst_116 : Ref sig .tc := ⟨.hbm, 967, rfl⟩
abbrev main_while0b_v609 : Ref sig .tc := ⟨.hbm, 968, rfl⟩
abbrev main_while0b_v610 : Ref sig .tc := ⟨.hbm, 969, rfl⟩
abbrev main_while0b_cst_117 : Ref sig .tc := ⟨.hbm, 970, rfl⟩
abbrev main_while0b_v611 : Ref sig .tc := ⟨.hbm, 971, rfl⟩
abbrev main_while0b_v612 : Ref sig .tc := ⟨.hbm, 972, rfl⟩
abbrev main_while0b_v613 : Ref sig .tc := ⟨.hbm, 973, rfl⟩
abbrev main_while0b_v614 : Ref sig .tc := ⟨.hbm, 974, rfl⟩
abbrev main_while0b_v615 : Ref sig .tc := ⟨.hbm, 975, rfl⟩
abbrev main_while0b_cst_118 : Ref sig .tc := ⟨.hbm, 976, rfl⟩
abbrev main_while0b_v616 : Ref sig .tc := ⟨.hbm, 977, rfl⟩
abbrev main_while0b_v617 : Ref sig .tc := ⟨.hbm, 978, rfl⟩
abbrev main_while0b_v618 : Ref sig .tc := ⟨.hbm, 979, rfl⟩
abbrev main_while0b_v619 : Ref sig .tc := ⟨.hbm, 980, rfl⟩
abbrev main_while0b_v620 : Ref sig .tc := ⟨.hbm, 981, rfl⟩
abbrev main_while0b_v621 : Ref sig .tc := ⟨.hbm, 982, rfl⟩
abbrev main_while0b_v622 : Ref sig .tc := ⟨.hbm, 983, rfl⟩
abbrev main_while0b_v623 : Ref sig .tc := ⟨.hbm, 984, rfl⟩
abbrev main_while0b_v624 : Ref sig .tc := ⟨.hbm, 985, rfl⟩
abbrev main_while0b_v625 : Ref sig .tc := ⟨.hbm, 986, rfl⟩
abbrev main_while0b_v626 : Ref sig .tc := ⟨.hbm, 987, rfl⟩
abbrev main_while0b_v627 : Ref sig .tc := ⟨.hbm, 988, rfl⟩
abbrev main_while0b_v628 : Ref sig .tc := ⟨.hbm, 989, rfl⟩
abbrev main_while0b_v629 : Ref sig .tc := ⟨.hbm, 990, rfl⟩
abbrev main_while0b_v630 : Ref sig .tc := ⟨.hbm, 991, rfl⟩
abbrev main_while0b_v631 : Ref sig .tc := ⟨.hbm, 992, rfl⟩
abbrev main_while0b_v632 : Ref sig .tc := ⟨.hbm, 993, rfl⟩
abbrev main_while0b_v633 : Ref sig .tc := ⟨.hbm, 994, rfl⟩
abbrev main_while0b_v634 : Ref sig .tc := ⟨.hbm, 995, rfl⟩
abbrev main_while0b_v635 : Ref sig .tc := ⟨.hbm, 996, rfl⟩
abbrev main_while0b_v636 : Ref sig .tc := ⟨.hbm, 997, rfl⟩
abbrev main_while0b_v637 : Ref sig .tc := ⟨.hbm, 998, rfl⟩
abbrev main_while0b_v638 : Ref sig .tc := ⟨.hbm, 999, rfl⟩
abbrev main_while0b_v639 : Ref sig .tc := ⟨.hbm, 1000, rfl⟩
abbrev main_while0b_v640 : Ref sig .tc := ⟨.hbm, 1001, rfl⟩
abbrev main_while0b_v641 : Ref sig .tc := ⟨.hbm, 1002, rfl⟩
abbrev main_while0b_cst_119 : Ref sig .tc := ⟨.hbm, 1003, rfl⟩
abbrev main_while0b_v642 : Ref sig .tc := ⟨.hbm, 1004, rfl⟩
abbrev main_while0b_v643 : Ref sig .tc := ⟨.hbm, 1005, rfl⟩
abbrev main_while0b_cst_120 : Ref sig .tc := ⟨.hbm, 1006, rfl⟩
abbrev main_while0b_v644 : Ref sig .tc := ⟨.hbm, 1007, rfl⟩
abbrev main_while0b_v645 : Ref sig .tc := ⟨.hbm, 1008, rfl⟩
abbrev main_while0b_v646 : Ref sig .tc := ⟨.hbm, 1009, rfl⟩
abbrev main_while0b_v647 : Ref sig .tc := ⟨.hbm, 1010, rfl⟩
abbrev main_while0b_v648 : Ref sig .tc := ⟨.hbm, 1011, rfl⟩
abbrev main_while0b_cst_121 : Ref sig .tc := ⟨.hbm, 1012, rfl⟩
abbrev main_while0b_v649 : Ref sig .tc := ⟨.hbm, 1013, rfl⟩
abbrev main_while0b_v650 : Ref sig .tc := ⟨.hbm, 1014, rfl⟩
abbrev main_while0b_cst_122 : Ref sig .tc := ⟨.hbm, 1015, rfl⟩
abbrev main_while0b_v651 : Ref sig .tc := ⟨.hbm, 1016, rfl⟩
abbrev main_while0b_v652 : Ref sig .tc := ⟨.hbm, 1017, rfl⟩
abbrev main_while0b_v653 : Ref sig .tc := ⟨.hbm, 1018, rfl⟩
abbrev main_while0b_v654 : Ref sig .tc := ⟨.hbm, 1019, rfl⟩
abbrev main_while0b_v655 : Ref sig .tc := ⟨.hbm, 1020, rfl⟩
abbrev main_while0b_cst_123 : Ref sig .tc := ⟨.hbm, 1021, rfl⟩
abbrev main_while0b_v656 : Ref sig .tc := ⟨.hbm, 1022, rfl⟩
abbrev main_while0b_v657 : Ref sig .tc := ⟨.hbm, 1023, rfl⟩
abbrev main_while0b_v658 : Ref sig .tc := ⟨.hbm, 1024, rfl⟩
abbrev main_while0b_v659 : Ref sig .tc := ⟨.hbm, 1025, rfl⟩
abbrev main_while0b_v660 : Ref sig .tc := ⟨.hbm, 1026, rfl⟩
abbrev main_while0b_v661 : Ref sig .tc := ⟨.hbm, 1027, rfl⟩
abbrev main_while0b_v662 : Ref sig .tc := ⟨.hbm, 1028, rfl⟩
abbrev main_while0b_v663 : Ref sig .tc := ⟨.hbm, 1029, rfl⟩
abbrev main_while0b_v664 : Ref sig .tc := ⟨.hbm, 1030, rfl⟩
abbrev main_while0b_v665 : Ref sig .tc := ⟨.hbm, 1031, rfl⟩
abbrev main_while0b_v666 : Ref sig .tc := ⟨.hbm, 1032, rfl⟩
abbrev main_while0b_v667 : Ref sig .tc := ⟨.hbm, 1033, rfl⟩
abbrev main_while0b_v668 : Ref sig .tc := ⟨.hbm, 1034, rfl⟩
abbrev main_while0b_v669 : Ref sig .tc := ⟨.hbm, 1035, rfl⟩
abbrev main_while0b_v670 : Ref sig .tc := ⟨.hbm, 1036, rfl⟩
abbrev main_while0b_v671 : Ref sig .tc := ⟨.hbm, 1037, rfl⟩
abbrev main_while0b_v672 : Ref sig .tc := ⟨.hbm, 1038, rfl⟩
abbrev main_while0b_v673 : Ref sig .tc := ⟨.hbm, 1039, rfl⟩
abbrev main_while0b_v674 : Ref sig .tc := ⟨.hbm, 1040, rfl⟩
abbrev main_while0b_v675 : Ref sig .tc := ⟨.hbm, 1041, rfl⟩
abbrev main_while0b_v676 : Ref sig .tc := ⟨.hbm, 1042, rfl⟩
abbrev main_while0b_v677 : Ref sig .tc := ⟨.hbm, 1043, rfl⟩
abbrev main_while0b_v678 : Ref sig .tc := ⟨.hbm, 1044, rfl⟩
abbrev main_while0b_v679 : Ref sig .tc := ⟨.hbm, 1045, rfl⟩
abbrev main_while0b_v680 : Ref sig .tc := ⟨.hbm, 1046, rfl⟩
abbrev main_while0b_v681 : Ref sig .tc := ⟨.hbm, 1047, rfl⟩
abbrev main_while0b_cst_124 : Ref sig .tc := ⟨.hbm, 1048, rfl⟩
abbrev main_while0b_v682 : Ref sig .tc := ⟨.hbm, 1049, rfl⟩
abbrev main_while0b_v683 : Ref sig .tc := ⟨.hbm, 1050, rfl⟩
abbrev main_while0b_cst_125 : Ref sig .tc := ⟨.hbm, 1051, rfl⟩
abbrev main_while0b_v684 : Ref sig .tc := ⟨.hbm, 1052, rfl⟩
abbrev main_while0b_v685 : Ref sig .tc := ⟨.hbm, 1053, rfl⟩
abbrev main_while0b_v686 : Ref sig .tc := ⟨.hbm, 1054, rfl⟩
abbrev main_while0b_v687 : Ref sig .tc := ⟨.hbm, 1055, rfl⟩
abbrev main_while0b_v688 : Ref sig .tc := ⟨.hbm, 1056, rfl⟩
abbrev main_while0b_cst_126 : Ref sig .tc := ⟨.hbm, 1057, rfl⟩
abbrev main_while0b_v689 : Ref sig .tc := ⟨.hbm, 1058, rfl⟩
abbrev main_while0b_v690 : Ref sig .tc := ⟨.hbm, 1059, rfl⟩
abbrev main_while0b_cst_127 : Ref sig .tc := ⟨.hbm, 1060, rfl⟩
abbrev main_while0b_v691 : Ref sig .tc := ⟨.hbm, 1061, rfl⟩
abbrev main_while0b_v692 : Ref sig .tc := ⟨.hbm, 1062, rfl⟩
abbrev main_while0b_v693 : Ref sig .tc := ⟨.hbm, 1063, rfl⟩
abbrev main_while0b_v694 : Ref sig .tc := ⟨.hbm, 1064, rfl⟩
abbrev main_while0b_v695 : Ref sig .tc := ⟨.hbm, 1065, rfl⟩
abbrev main_while0b_cst_128 : Ref sig .tc := ⟨.hbm, 1066, rfl⟩
abbrev main_while0b_v696 : Ref sig .tc := ⟨.hbm, 1067, rfl⟩
abbrev main_while0b_v697 : Ref sig .tc := ⟨.hbm, 1068, rfl⟩
abbrev main_while0b_v698 : Ref sig .tc := ⟨.hbm, 1069, rfl⟩
abbrev main_while0b_v699 : Ref sig .tc := ⟨.hbm, 1070, rfl⟩
abbrev main_while0b_v700 : Ref sig .tc := ⟨.hbm, 1071, rfl⟩
abbrev main_while0b_v701 : Ref sig .tc := ⟨.hbm, 1072, rfl⟩
abbrev main_while0b_v702 : Ref sig .tc := ⟨.hbm, 1073, rfl⟩
abbrev main_while0b_v703 : Ref sig .tc := ⟨.hbm, 1074, rfl⟩
abbrev main_while0b_v704 : Ref sig .tc := ⟨.hbm, 1075, rfl⟩
abbrev main_while0b_v705 : Ref sig .tc := ⟨.hbm, 1076, rfl⟩
abbrev main_while0b_v706 : Ref sig .tc := ⟨.hbm, 1077, rfl⟩
abbrev main_while0b_v707 : Ref sig .tc := ⟨.hbm, 1078, rfl⟩
abbrev main_while0b_v708 : Ref sig .tc := ⟨.hbm, 1079, rfl⟩
abbrev main_while0b_v709 : Ref sig .tc := ⟨.hbm, 1080, rfl⟩
abbrev main_while0b_v710 : Ref sig .tc := ⟨.hbm, 1081, rfl⟩
abbrev main_while0b_v711 : Ref sig .tc := ⟨.hbm, 1082, rfl⟩
abbrev main_while0b_v712 : Ref sig .tc := ⟨.hbm, 1083, rfl⟩
abbrev main_while0b_v713 : Ref sig .tc := ⟨.hbm, 1084, rfl⟩
abbrev main_while0b_v714 : Ref sig .tc := ⟨.hbm, 1085, rfl⟩
abbrev main_while0b_v715 : Ref sig .tc := ⟨.hbm, 1086, rfl⟩
abbrev main_while0b_v716 : Ref sig .tc := ⟨.hbm, 1087, rfl⟩
abbrev main_while0b_v717 : Ref sig .tc := ⟨.hbm, 1088, rfl⟩
abbrev main_while0b_v718 : Ref sig .tc := ⟨.hbm, 1089, rfl⟩
abbrev main_while0b_v719 : Ref sig .tc := ⟨.hbm, 1090, rfl⟩
abbrev main_while0b_v720 : Ref sig .tc := ⟨.hbm, 1091, rfl⟩
abbrev main_while0b_v721 : Ref sig .tc := ⟨.hbm, 1092, rfl⟩
abbrev main_while0b_cst_129 : Ref sig .tc := ⟨.hbm, 1093, rfl⟩
abbrev main_while0b_v722 : Ref sig .tc := ⟨.hbm, 1094, rfl⟩
abbrev main_while0b_v723 : Ref sig .tc := ⟨.hbm, 1095, rfl⟩
abbrev main_while0b_cst_130 : Ref sig .tc := ⟨.hbm, 1096, rfl⟩
abbrev main_while0b_v724 : Ref sig .tc := ⟨.hbm, 1097, rfl⟩
abbrev main_while0b_v725 : Ref sig .tc := ⟨.hbm, 1098, rfl⟩
abbrev main_while0b_v726 : Ref sig .tc := ⟨.hbm, 1099, rfl⟩
abbrev main_while0b_v727 : Ref sig .tc := ⟨.hbm, 1100, rfl⟩
abbrev main_while0b_v728 : Ref sig .tc := ⟨.hbm, 1101, rfl⟩
abbrev main_while0b_cst_131 : Ref sig .tc := ⟨.hbm, 1102, rfl⟩
abbrev main_while0b_v729 : Ref sig .tc := ⟨.hbm, 1103, rfl⟩
abbrev main_while0b_v730 : Ref sig .tc := ⟨.hbm, 1104, rfl⟩
abbrev main_while0b_cst_132 : Ref sig .tc := ⟨.hbm, 1105, rfl⟩
abbrev main_while0b_v731 : Ref sig .tc := ⟨.hbm, 1106, rfl⟩
abbrev main_while0b_v732 : Ref sig .tc := ⟨.hbm, 1107, rfl⟩
abbrev main_while0b_v733 : Ref sig .tc := ⟨.hbm, 1108, rfl⟩
abbrev main_while0b_v734 : Ref sig .tc := ⟨.hbm, 1109, rfl⟩
abbrev main_while0b_v735 : Ref sig .tc := ⟨.hbm, 1110, rfl⟩
abbrev main_while0b_cst_133 : Ref sig .tc := ⟨.hbm, 1111, rfl⟩
abbrev main_while0b_v736 : Ref sig .tc := ⟨.hbm, 1112, rfl⟩
abbrev main_while0b_v737 : Ref sig .tc := ⟨.hbm, 1113, rfl⟩
abbrev main_while0b_v738 : Ref sig .tc := ⟨.hbm, 1114, rfl⟩
abbrev main_while0b_v739 : Ref sig .tc := ⟨.hbm, 1115, rfl⟩
abbrev main_while0b_v740 : Ref sig .tc := ⟨.hbm, 1116, rfl⟩
abbrev main_while0b_v741 : Ref sig .tc := ⟨.hbm, 1117, rfl⟩
abbrev main_while0b_v742 : Ref sig .tc := ⟨.hbm, 1118, rfl⟩
abbrev main_while0b_v743 : Ref sig .tc := ⟨.hbm, 1119, rfl⟩
abbrev main_while0b_v744 : Ref sig .tc := ⟨.hbm, 1120, rfl⟩
abbrev main_while0b_v745 : Ref sig .tc := ⟨.hbm, 1121, rfl⟩
abbrev main_while0b_v746 : Ref sig .tc := ⟨.hbm, 1122, rfl⟩
abbrev main_while0b_v747 : Ref sig .tc := ⟨.hbm, 1123, rfl⟩
abbrev main_while0b_v748 : Ref sig .tc := ⟨.hbm, 1124, rfl⟩
abbrev main_while0b_v749 : Ref sig .tc := ⟨.hbm, 1125, rfl⟩
abbrev main_while0b_v750 : Ref sig .tc := ⟨.hbm, 1126, rfl⟩
abbrev main_while0b_v751 : Ref sig .tc := ⟨.hbm, 1127, rfl⟩
abbrev main_while0b_v752 : Ref sig .tc := ⟨.hbm, 1128, rfl⟩
abbrev main_while0b_v753 : Ref sig .tc := ⟨.hbm, 1129, rfl⟩
abbrev main_while0b_v754 : Ref sig .tc := ⟨.hbm, 1130, rfl⟩
abbrev main_while0b_v755 : Ref sig .tc := ⟨.hbm, 1131, rfl⟩
abbrev main_while0b_v756 : Ref sig .tc := ⟨.hbm, 1132, rfl⟩
abbrev main_while0b_v757 : Ref sig .tc := ⟨.hbm, 1133, rfl⟩
abbrev main_while0b_v758 : Ref sig .tc := ⟨.hbm, 1134, rfl⟩
abbrev main_while0b_v759 : Ref sig .tc := ⟨.hbm, 1135, rfl⟩
abbrev main_while0b_v760 : Ref sig .tc := ⟨.hbm, 1136, rfl⟩
abbrev main_while0b_v761 : Ref sig .tc := ⟨.hbm, 1137, rfl⟩
abbrev main_while0b_cst_134 : Ref sig .tc := ⟨.hbm, 1138, rfl⟩
abbrev main_while0b_v762 : Ref sig .tc := ⟨.hbm, 1139, rfl⟩
abbrev main_while0b_v763 : Ref sig .tc := ⟨.hbm, 1140, rfl⟩
abbrev main_while0b_cst_135 : Ref sig .tc := ⟨.hbm, 1141, rfl⟩
abbrev main_while0b_v764 : Ref sig .tc := ⟨.hbm, 1142, rfl⟩
abbrev main_while0b_v765 : Ref sig .tc := ⟨.hbm, 1143, rfl⟩
abbrev main_while0b_v766 : Ref sig .tc := ⟨.hbm, 1144, rfl⟩
abbrev main_while0b_v767 : Ref sig .tc := ⟨.hbm, 1145, rfl⟩
abbrev main_while0b_v768 : Ref sig .tc := ⟨.hbm, 1146, rfl⟩
abbrev main_while0b_cst_136 : Ref sig .tc := ⟨.hbm, 1147, rfl⟩
abbrev main_while0b_v769 : Ref sig .tc := ⟨.hbm, 1148, rfl⟩
abbrev main_while0b_v770 : Ref sig .tc := ⟨.hbm, 1149, rfl⟩
abbrev main_while0b_cst_137 : Ref sig .tc := ⟨.hbm, 1150, rfl⟩
abbrev main_while0b_v771 : Ref sig .tc := ⟨.hbm, 1151, rfl⟩
abbrev main_while0b_v772 : Ref sig .tc := ⟨.hbm, 1152, rfl⟩
abbrev main_while0b_v773 : Ref sig .tc := ⟨.hbm, 1153, rfl⟩
abbrev main_while0b_v774 : Ref sig .tc := ⟨.hbm, 1154, rfl⟩
abbrev main_while0b_v775 : Ref sig .tc := ⟨.hbm, 1155, rfl⟩
abbrev main_while0b_cst_138 : Ref sig .tc := ⟨.hbm, 1156, rfl⟩
abbrev main_while0b_v776 : Ref sig .tc := ⟨.hbm, 1157, rfl⟩
abbrev main_while0b_v777 : Ref sig .tc := ⟨.hbm, 1158, rfl⟩
abbrev main_while0b_v778 : Ref sig .tc := ⟨.hbm, 1159, rfl⟩
abbrev main_while0b_v779 : Ref sig .tc := ⟨.hbm, 1160, rfl⟩
abbrev main_while0b_v780 : Ref sig .tc := ⟨.hbm, 1161, rfl⟩
abbrev main_while0b_v781 : Ref sig .tc := ⟨.hbm, 1162, rfl⟩
abbrev main_while0b_v782 : Ref sig .tc := ⟨.hbm, 1163, rfl⟩
abbrev main_while0b_v783 : Ref sig .tc := ⟨.hbm, 1164, rfl⟩
abbrev main_while0b_v784 : Ref sig .tc := ⟨.hbm, 1165, rfl⟩
abbrev main_while0b_v785 : Ref sig .tc := ⟨.hbm, 1166, rfl⟩
abbrev main_while0b_v786 : Ref sig .tc := ⟨.hbm, 1167, rfl⟩
abbrev main_while0b_v787 : Ref sig .tc := ⟨.hbm, 1168, rfl⟩
abbrev main_while0b_v788 : Ref sig .tc := ⟨.hbm, 1169, rfl⟩
abbrev main_while0b_v789 : Ref sig .tc := ⟨.hbm, 1170, rfl⟩
abbrev main_while0b_v790 : Ref sig .tc := ⟨.hbm, 1171, rfl⟩
abbrev main_while0b_v791 : Ref sig .tc := ⟨.hbm, 1172, rfl⟩
abbrev main_while0b_v792 : Ref sig .tc := ⟨.hbm, 1173, rfl⟩
abbrev main_while0b_v793 : Ref sig .tc := ⟨.hbm, 1174, rfl⟩
abbrev main_while0b_v794 : Ref sig .tc := ⟨.hbm, 1175, rfl⟩
abbrev main_while0b_v795 : Ref sig .tc := ⟨.hbm, 1176, rfl⟩
abbrev main_while0b_v796 : Ref sig .tc := ⟨.hbm, 1177, rfl⟩
abbrev main_while0b_v797 : Ref sig .tc := ⟨.hbm, 1178, rfl⟩
abbrev main_while0b_v798 : Ref sig .tc := ⟨.hbm, 1179, rfl⟩
abbrev main_while0b_v799 : Ref sig .tc := ⟨.hbm, 1180, rfl⟩
abbrev main_while0b_v800 : Ref sig .tc := ⟨.hbm, 1181, rfl⟩
abbrev main_while0b_cst_139 : Ref sig .tc := ⟨.hbm, 1182, rfl⟩
abbrev main_while0b_v801 : Ref sig .tc := ⟨.hbm, 1183, rfl⟩
abbrev main_while0b_cst_140 : Ref sig .tc := ⟨.hbm, 1184, rfl⟩
abbrev main_while0b_v802 : Ref sig .tc := ⟨.hbm, 1185, rfl⟩
abbrev main_while0b_v803 : Ref sig .tc := ⟨.hbm, 1186, rfl⟩
abbrev main_while0b_v804 : Ref sig .tc := ⟨.hbm, 1187, rfl⟩
abbrev main_while0b_c_141 : Ref sig .tc := ⟨.hbm, 1188, rfl⟩
abbrev main_while0b_v805 : Ref sig .tc := ⟨.hbm, 1189, rfl⟩
abbrev main_v63 : Ref sig .tc := ⟨.hbm, 1190, rfl⟩
abbrev main_cst_19 : Ref sig .tc := ⟨.hbm, 1191, rfl⟩
abbrev main_v64 : Ref sig .tc := ⟨.hbm, 1192, rfl⟩
abbrev main_v65 : Ref sig .tc := ⟨.hbm, 1193, rfl⟩
abbrev main_v66 : Ref sig .tc := ⟨.hbm, 1194, rfl⟩
abbrev main_c_20 : Ref sig .tc := ⟨.hbm, 1195, rfl⟩
abbrev main_v67 : Ref sig .tc := ⟨.hbm, 1196, rfl⟩
abbrev main_v68 : Ref sig .tc := ⟨.hbm, 1197, rfl⟩
abbrev main_v69 : Ref sig .tc := ⟨.hbm, 1198, rfl⟩
abbrev main_v70 : Ref sig .tc := ⟨.hbm, 1199, rfl⟩
abbrev main_v71 : Ref sig .tc := ⟨.hbm, 1200, rfl⟩
abbrev main_v72 : Ref sig .tc := ⟨.hbm, 1201, rfl⟩
abbrev main_v73 : Ref sig .tc := ⟨.hbm, 1202, rfl⟩

abbrev nD : Nat := 1
abbrev τ : Topo := Topo.v7x

variable {F : FTy → Type} [FloatOps F]

abbrev main_while0_count : Scf.Loop 32 := ⟨0#32, 16#32, 1#32⟩
-- ==== Proof.Words.lean ====
/-
  The places the kernel picks, as words: every word in the chain of pairwise choices starts as a
  lane number below 1024, a choice returns one of its two operands, and reshapes, slices and transposes
  only move words. So each row number the kernel reads is below 1024, which is all its side conditions ask.
-/
module

public import Idealize.ShloMosaic.Lib.Tactic

@[expose] public section

namespace Cert.Words

open Idealize.ShloMosaic

/-- Every word of the vector is a row number. -/
def Bounded {s : Shape} (n : IVec s 32) : Prop := ∀ i, (n i).toNat < 1024

theorem bounded_shapeCast {s t : Shape} {n : IVec s 32} {h : s.ShapeCasts t} (hn : Bounded n) : Bounded (shapeCast t n h) :=
  fun _ => hn _

theorem bounded_slice {s t : Shape} {off : Fin s.rank → Nat} {n : IVec s 32} {h : s.Slices off t} (hn : Bounded n) :
    Bounded (extractStridedSlice t off n h) := fun _ => hn _

theorem bounded_transpose {s t : Shape} {perm : List (Fin s.rank)} {n : IVec s 32} {h : s.Transposes perm t} (hn : Bounded n) :
    Bounded (transpose t perm n h) := fun _ => hn _

/-- A choice between two slices of one vector. -/
theorem bounded_take {s t : Shape} {c : IVec t 1} {o₁ o₂ : Fin s.rank → Nat} {n : IVec s 32} {h₁ : s.Slices o₁ t} {h₂ : s.Slices o₂ t}
    (hn : Bounded n) : Bounded (select c (extractStridedSlice t o₁ n h₁) (extractStridedSlice t o₂ n h₂)) := by
  intro i
  unfold select Scalar.select
  split
  · exact hn _
  · exact hn _

/-- Positions along an axis of at most 1024 places. -/
theorem bounded_iota {κ : Kind} {s : Shape} {d : Fin s.rank} {h : s.Iotas κ 32 [d]} (hs : s.size d ≤ 1024) : Bounded (iota κ s 32 [d] h) := by
  intro i
  unfold iota
  rw [BitVec.toNat_ofNat]
  refine lt_of_le_of_lt (Nat.mod_le _ _) ?_
  simp only [List.foldl_cons, List.foldl_nil, Nat.zero_mul, Nat.zero_add]
  exact lt_of_lt_of_le (i d).isLt hs

/-- A picked word is below 1024. -/
theorem word_lt {s : Shape} {pos : Fin s.rank → Nat} {n : IVec s 32} {h : ∀ a, pos a < s.size a} (hn : Bounded n) :
    (extractAt pos n h).toNat < 1024 := hn _

/-- The row slice `[b, v, :]` lies inside the array `16 × 1024 × 128`. -/
theorem row_inside {b : ℕ} (hb : b < 16) {v : BitVec 32} (hv : v.toNat < 1024) :
    ∀ a : Fin 3, (![b, (Scalar.indexCast v).toNat, 0] : Fin 3 → ℕ) a + (![1, 1, 128] : Fin 3 → ℕ) a ≤ (![16, 1024, 128] : Fin 3 → ℕ) a := by
  intro a
  fin_cases a
  · show b + 1 ≤ 16; omega
  · show v.toNat + 1 ≤ 1024; omega
  · show 0 + 128 ≤ 128; omega

end Cert.Words

end
-- ==== Proof.IdealRun.lean ====
/-
  The kernel body run once at symbolic operands: from its thirteen input buffers, the two result buffers and the
  scratch buffer held whole, it runs to its end, leaving the inputs as they were and the results at contents
  that are terms over the inputs' contents alone.
-/
module

public import proofs.«01_k».proof.Proof.Gen.KernelIdeal
public import proofs.«01_k».proof.Proof.Words
public import Idealize.ShloMosaic.Lib.Pipeline.Kit
public import Idealize.ShloMosaic.Lib.Tactic

@[expose] public section

noncomputable section

namespace Cert.KernelIdeal.Hand

open Cert.KernelIdeal Cert.KernelIdeal.Gen Cert.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in its two result buffers, with the proof that it runs there. -/
noncomputable def kernelRun (c : Dev nD)
    (M0 : Memref sig .tc .vmem S16x1024x128 .f32) (h0 : M0.IsWhole) (M1 : Memref sig .tc .vmem S16x16x1024 .f32) (h1 : M1.IsWhole)
    (M2 : Memref sig .tc .vmem S16x1024 .f32) (h2 : M2.IsWhole) (M3 : Memref sig .tc .vmem S128x128 .f32) (h3 : M3.IsWhole)
    (M4 : Memref sig .tc .vmem S128x128 .f32) (h4 : M4.IsWhole) (M5 : Memref sig .tc .vmem S1x128 .f32) (h5 : M5.IsWhole)
    (M6 : Memref sig .tc .vmem S128x1 .f32) (h6 : M6.IsWhole) (M7 : Memref sig .tc .vmem S128x128 .f32) (h7 : M7.IsWhole)
    (M8 : Memref sig .tc .vmem S1x128 .f32) (h8 : M8.IsWhole) (M9 : Memref sig .tc .vmem S128x384 .f32) (h9 : M9.IsWhole)
    (M10 : Memref sig .tc .vmem S128x384 .f32) (h10 : M10.IsWhole) (M11 : Memref sig .tc .vmem S1x384 .f32) (h11 : M11.IsWhole)
    (M12 : Memref sig .tc .vmem S1x384 .f32) (h12 : M12.IsWhole) (M13 : Memref sig .tc .vmem S16x16x128 .f32) (h13 : M13.IsWhole)
    (M14 : Memref sig .tc .vmem S16x16x1024 .f32) (h14 : M14.IsWhole) (M15 : Memref sig .tc .vmem S16x1024x128 .f32) (h15 : M15.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) :
    { W : Bf (F := F) c M13 × Bf (F := F) c M14 //
      ∀ (f13 : Bf (F := F) c M13) (f14 : Bf (F := F) c M14) (f15 : Bf (F := F) c M15) (E : Set ℕ) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ pt c M8 f8 ∗ pt c M9 f9 ∗ pt c M10 f10 ∗ pt c M11 f11 ∗ pt c M12 f12 ∗ pt c M13 f13 ∗ pt c M14 f14 ∗ pt c M15 f15
          ∗ (iprop(pt c M0 f0 ∗ pt c M1 f1 ∗ pt c M2 f2 ∗ pt c M3 f3 ∗ pt c M4 f4 ∗ pt c M5 f5 ∗ pt c M6 f6
                ∗ pt c M7 f7 ∗ pt c M8 f8 ∗ pt c M9 f9 ∗ pt c M10 f10 ∗ pt c M11 f11 ∗ pt c M12 f12
                ∗ pt c M13 W.1 ∗ pt c M14 W.2 ∗ (∃ f, pt c M15 f)) -∗ Q ⟨⟩))
        ⊢ wp frame (wpE (defs₀ (F := F)) Variants.none c none) E
            (cc0__partition_kernel M0 h0 M1 h1 M2 h2 M3 h3 M4 h4 M5 h5 M6 h6 M7 h7 M8 h8 M9 h9 M10 h10 M11 h11 M12 h12 M13 h13 M14 h14 M15 h15) Q } := by
  -- the contents are whatever the run leaves in the two result buffers
  refine ⟨⟨?_, ?_⟩, fun f13 f14 f15 E Q => ?run⟩
  case run =>
    iintro ⟨H0, H1, H2, H3, H4, H5, H6, H7, H8, H9, H10, H11, H12, H13, H14, H15, Hk⟩
    sl_exec_parts! (disch :=
      exact row_inside (by decide) (word_lt (bounded_shapeCast (bounded_shapeCast (bounded_slice (bounded_shapeCast (bounded_shapeCast
        (bounded_shapeCast (bounded_take (bounded_take (bounded_take (bounded_take (bounded_take (bounded_take (bounded_take
        (bounded_transpose (bounded_take (bounded_take (bounded_take (bounded_iota (by decide)))))))))))))))))))) )
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexists _; iexact H15

end Cert.KernelIdeal.Hand

end
-- ==== Proof.IdealFrame.lean ====
/-
  The kernel's launch: the body's run at the launch's staging buffers, the pipeline's proof data, the body
  obligation, and the whole program's run with the arguments unchanged and every counter back at zero.
-/
module

public import proofs.«01_k».proof.Proof.IdealRun
public import proofs.«01_k».proof.Proof.Gen.KernelIdeal.Frame

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The one grid point. -/
abbrev t₀ : Fin cfg0.N := t0_0

/-- The body's run at the launch's buffers: the inputs at their arrays' blocks. -/
abbrev K (c : Dev nD) :=
  kernelRun (F := F) c (st0_0 t₀) (hstage0_0 0) (st0_1 t₀) (hstage0_1 0) (st0_2 t₀) (hstage0_2 0) (st0_3 t₀) (hstage0_3 0)
    (st0_4 t₀) (hstage0_4 0) (st0_5 t₀) (hstage0_5 0) (st0_6 t₀) (hstage0_6 0) (st0_7 t₀) (hstage0_7 0) (st0_8 t₀) (hstage0_8 0)
    (st0_9 t₀) (hstage0_9 0) (st0_10 t₀) (hstage0_10 0) (st0_11 t₀) (hstage0_11 0) (st0_12 t₀) (hstage0_12 0)
    (st0_13 t₀) (hstage0_13 0) (st0_14 t₀) (hstage0_14 0) (Memref.whole cc0_scratch0) (Memref.isWhole_whole _)
    (iblk m c 0 t₀) (iblk m c 1 t₀) (iblk m c 2 t₀) (iblk m c 3 t₀) (iblk m c 4 t₀) (iblk m c 5 t₀) (iblk m c 6 t₀)
    (iblk m c 7 t₀) (iblk m c 8 t₀) (iblk m c 9 t₀) (iblk m c 10 t₀) (iblk m c 11 t₀) (iblk m c 12 t₀)

/-- The proof data: the arrays as the region finds them; after the body the inputs as fetched and the results at what the run
    leaves; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (K m c).1.1
    | ⟨14, _⟩ => (K m c).1.2
  Φ _ := Pipeline.ΦA spec0 c
  q _ := fullShare
  owed _ := 0

theorem A_eq (c : Dev nD) (w : Fin cfg0.W) : (dats m 0 c).A w = V m c (Pipeline.arrRef spec0 w) := rfl

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body obligation: the staging buffers and the invariant taken apart, the body's run applied at the inputs' contents, its
    post put together again. -/
theorem body_obligation (c : Dev nD) : BodyObligation (dats (F := F) m 0 c) (defs₀ (F := F)) Variants.none () Set.univ := fun t => by
  obtain rfl := fin_N0 t
  rw [bigSep_W0, bigSep_W0, defs₀_row]
  simp only [owns_whole_eq]
  rw [show (dats m 0 c).Φ (Fin.castSucc t0_0) = Pipeline.ΦA spec0 c from rfl, show (dats m 0 c).Φ (Fin.succ t0_0) = Pipeline.ΦA spec0 c from rfl,
    show (dats m 0 c).owesAt () (Fin.succ t0_0) = (dats m 0 c).owesAt () (Fin.castSucc t0_0) from rfl]
  unfold Pipeline.ΦA; rw [scopedRest0_eq]
  iintro ⟨⟨⟨%f15, H15⟩, Hg⟩, Howes,
    ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩,
    ⟨%d11, %f11, %hf11, H11⟩, ⟨%d12, %f12, %hf12, H12⟩, ⟨%d13, %f13, -, H13⟩, ⟨%d14, %f14, -, H14⟩⟩
  rw [before0_0_of m (dats m 0 c) rfl (fun _ => rfl)] at hf0
  rw [before0_1_of m (dats m 0 c) rfl (fun _ => rfl)] at hf1
  rw [before0_2_of m (dats m 0 c) rfl (fun _ => rfl)] at hf2
  rw [before0_3_of m (dats m 0 c) rfl (fun _ => rfl)] at hf3
  rw [before0_4_of m (dats m 0 c) rfl (fun _ => rfl)] at hf4
  rw [before0_5_of m (dats m 0 c) rfl (fun _ => rfl)] at hf5
  rw [before0_6_of m (dats m 0 c) rfl (fun _ => rfl)] at hf6
  rw [before0_7_of m (dats m 0 c) rfl (fun _ => rfl)] at hf7
  rw [before0_8_of m (dats m 0 c) rfl (fun _ => rfl)] at hf8
  rw [before0_9_of m (dats m 0 c) rfl (fun _ => rfl)] at hf9
  rw [before0_10_of m (dats m 0 c) rfl (fun _ => rfl)] at hf10
  rw [before0_11_of m (dats m 0 c) rfl (fun _ => rfl)] at hf11
  rw [before0_12_of m (dats m 0 c) rfl (fun _ => rfl)] at hf12
  subst hf0 hf1 hf2 hf3 hf4 hf5 hf6 hf7 hf8 hf9 hf10 hf11 hf12
  iapply ((K m c).2 f13 f14 f15 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, H9, H10, H11, H12, H13, H14, H15⟩
  isplitl [H15 Hg]
  · isplitl [H15]; · iexact H15
    iexact Hg
  isplitl [Howes]; · iexact Howes
  isplitl [H0]; · iexists _; isplitr; swap; (· iexact H0); ipureintro; dsimp only [dats]
  isplitl [H1]; · iexists _; isplitr; swap; (· iexact H1); ipureintro; dsimp only [dats]
  isplitl [H2]; · iexists _; isplitr; swap; (· iexact H2); ipureintro; dsimp only [dats]
  isplitl [H3]; · iexists _; isplitr; swap; (· iexact H3); ipureintro; dsimp only [dats]
  isplitl [H4]; · iexists _; isplitr; swap; (· iexact H4); ipureintro; dsimp only [dats]
  isplitl [H5]; · iexists _; isplitr; swap; (· iexact H5); ipureintro; dsimp only [dats]
  isplitl [H6]; · iexists _; isplitr; swap; (· iexact H6); ipureintro; dsimp only [dats]
  isplitl [H7]; · iexists _; isplitr; swap; (· iexact H7); ipureintro; dsimp only [dats]
  isplitl [H8]; · iexists _; isplitr; swap; (· iexact H8); ipureintro; dsimp only [dats]
  isplitl [H9]; · iexists _; isplitr; swap; (· iexact H9); ipureintro; dsimp only [dats]
  isplitl [H10]; · iexists _; isplitr; swap; (· iexact H10); ipureintro; dsimp only [dats]
  isplitl [H11]; · iexists _; isplitr; swap; (· iexact H11); ipureintro; dsimp only [dats]
  isplitl [H12]; · iexists _; isplitr; swap; (· iexact H12); ipureintro; dsimp only [dats]
  isplitl [H13]; · iexists _; isplitr; swap; (· iexact H13); ipureintro; dsimp only [dats]
  iexists _; isplitr; swap; (· iexact H14); ipureintro; dsimp only [dats]

-- the run's implicit arguments are found by unifying its conclusion with this one
set_option backward.isDefEq.respectTransparency.types false in
/-- The run: from any memory with zero counters every weakly fair execution terminates, every array of the launch holds what the
    proof data say, every other buffer what the host lines make of it, and every counter is zero again. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_with_sems (frame_of m ρ (dats m) (A_eq m)) (run_main m ρ)

end Cert.KernelIdeal.Hand

end
-- ==== Proof.KerEntry.lean ====
/-
  What the launch's arrays hold when the region is entered, of the arguments.
-/
module

public import proofs.«01_k».proof.Proof.IdealFrame
public import proofs.«01_k».proof.Proof.Gen.ReferenceIdeal.Step
public import Idealize.ShloMosaic.Lib.StableHlo.RunRead

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The noise: the reference's own. -/
theorem noise_entry : V0 m c (Proc.devRef .tc main_v15) = Cert.ReferenceIdeal.Step.K_main_v51 (F := Ideal) := by
  simp only [V0, hostOps0, hostOps0_1, hostOps0_2, List.flatten_cons, List.flatten_nil, List.append_nil, List.cons_append, List.nil_append]
  after_reads_simp
  simp -implicitDefEqProofs only [StableHlo.TRef.ofBuf_toBuf, StableHlo.TRef.toBuf, StableHlo.TRef.ofBuf, cast_cast, cast_eq]
  exact rfl

theorem mask_entry : V0 m c (Proc.devRef .tc main_v16) = (uitofp .f32 (show IVec S16x1024 1 from m ((c.tc : Thread nD τ).loc main_arg2)) : FVec Ideal S16x1024 .f32) := by
  (simp only [V0, hostOps0, hostOps0_1, hostOps0_2, List.flatten_cons, List.flatten_nil, List.append_nil, List.cons_append, List.nil_append]; after_reads_simp) <;> rfl
theorem up_entry : V0 m c (Proc.devRef .tc main_v17) = (extractStridedSlice S128x128 ![0, 0] (show FVec Ideal S256x128 .f32 from m ((c.tc : Thread nD τ).loc main_arg3)) slices_S256x128_S128x128_0_0) := by
  (simp only [V0, hostOps0, hostOps0_1, hostOps0_2, List.flatten_cons, List.flatten_nil, List.append_nil, List.cons_append, List.nil_append]; after_reads_simp) <;> rfl
theorem low_entry : V0 m c (Proc.devRef .tc main_v18) = (extractStridedSlice S128x128 ![128, 0] (show FVec Ideal S256x128 .f32 from m ((c.tc : Thread nD τ).loc main_arg3)) slices_S256x128_S128x128_128_0) := by
  (simp only [V0, hostOps0, hostOps0_1, hostOps0_2, List.flatten_cons, List.flatten_nil, List.append_nil, List.cons_append, List.nil_append]; after_reads_simp) <;> rfl
theorem b1_entry : V0 m c (Proc.devRef .tc main_v19) = shapeCast S1x128 (show FVec Ideal S128 .f32 from m ((c.tc : Thread nD τ).loc main_arg4)) shapeCasts_S128_S1x128 := by
  (simp only [V0, hostOps0, hostOps0_1, hostOps0_2, List.flatten_cons, List.flatten_nil, List.append_nil, List.cons_append, List.nil_append]; after_reads_simp) <;> rfl
theorem cb_entry : V0 m c (Proc.devRef .tc main_v20) = shapeCast S1x128 (show FVec Ideal S128 .f32 from m ((c.tc : Thread nD τ).loc main_arg8)) shapeCasts_S128_S1x128 := by
  (simp only [V0, hostOps0, hostOps0_1, hostOps0_2, List.flatten_cons, List.flatten_nil, List.append_nil, List.cons_append, List.nil_append]; after_reads_simp) <;> rfl
theorem wih_entry : V0 m c (Proc.devRef .tc main_v21) = transpose S128x384 [1, 0] (show FVec Ideal S384x128 .f32 from m ((c.tc : Thread nD τ).loc main_arg9)) transposes_S384x128_S128x384_1_0 := by
  (simp only [V0, hostOps0, hostOps0_1, hostOps0_2, List.flatten_cons, List.flatten_nil, List.append_nil, List.cons_append, List.nil_append]; after_reads_simp) <;> rfl
theorem whh_entry : V0 m c (Proc.devRef .tc main_v22) = transpose S128x384 [1, 0] (show FVec Ideal S384x128 .f32 from m ((c.tc : Thread nD τ).loc main_arg10)) transposes_S384x128_S128x384_1_0 := by
  (simp only [V0, hostOps0, hostOps0_1, hostOps0_2, List.flatten_cons, List.flatten_nil, List.append_nil, List.cons_append, List.nil_append]; after_reads_simp) <;> rfl
theorem bih_entry : V0 m c (Proc.devRef .tc main_v23) = shapeCast S1x384 (show FVec Ideal S384 .f32 from m ((c.tc : Thread nD τ).loc main_arg11)) shapeCasts_S384_S1x384 := by
  (simp only [V0, hostOps0, hostOps0_1, hostOps0_2, List.flatten_cons, List.flatten_nil, List.append_nil, List.cons_append, List.nil_append]; after_reads_simp) <;> rfl
theorem bhh_entry : V0 m c (Proc.devRef .tc main_v24) = shapeCast S1x384 (show FVec Ideal S384 .f32 from m ((c.tc : Thread nD τ).loc main_arg12)) shapeCasts_S384_S1x384 := by
  (simp only [V0, hostOps0, hostOps0_1, hostOps0_2, List.flatten_cons, List.flatten_nil, List.append_nil, List.cons_append, List.nil_append]; after_reads_simp) <;> rfl

end Cert.KernelIdeal.Hand

end
-- ==== Proof.Spec.lean ====
/-
  The kernel body's computation, stated once per step: the scores, the tournament over them, the gathered rows,
  the recurrent unit, and the state that one step hands to the next.
-/
module

public import proofs.«01_k».proof.Proof.Gen.KernelIdeal
public import proofs.«01_k».proof.Proof.Words
public import Idealize.ShloMosaic.Lib.Pipeline.Kit

@[expose] public section

noncomputable section

namespace Cert.KernelIdeal.Spec

open Cert.KernelIdeal Cert.KernelIdeal.Gen Cert.Words
open Idealize.ShloMosaic

variable {F : FTy → Type} [FloatOps F] [Named F]

/-- Scores paired with the positions they came from. -/
abbrev Pairs (F : FTy → Type) (s : Shape) := FVec F s .f32 × IVec s 32

/-- One round of the tournament: two slices meet, the larger score stays, of equal scores the earlier position. -/
def meet {s : Shape} (t : Shape) (o₁ o₂ : Fin s.rank → ℕ) (h₁ : s.Slices o₁ t) (h₂ : s.Slices o₂ t) (p : Pairs F s) : Pairs F t :=
  let a := extractStridedSlice t o₁ p.1 h₁
  let i := extractStridedSlice t o₁ p.2 h₁
  let b := extractStridedSlice t o₂ p.1 h₂
  let j := extractStridedSlice t o₂ p.2 h₂
  let w := ori (cmpf .ogt a b) (andi (cmpf .oeq a b) (cmpi .slt i j))
  (select w a b, select w i j)

/-- The tournament along the 1024 positions of each of the 16 rows. -/
def tournament (v : FVec F S16x1024 .f32) : Pairs F S1x16 :=
  let p := meet S16x512 ![0, 0] ![0, 512] slices_S16x1024_o0_0_S16x512 slices_S16x1024_o0_512_S16x512
    (v, iota .tc S16x1024 32 [1] iota_S16x1024_d1_w32)
  let p := meet S16x256 ![0, 0] ![0, 256] slices_S16x512_o0_0_S16x256 slices_S16x512_o0_256_S16x256 p
  let p := meet S16x128 ![0, 0] ![0, 128] slices_S16x256_o0_0_S16x128 slices_S16x256_o0_128_S16x128 p
  let p : Pairs F S128x16 := (transpose S128x16 [1, 0] p.1 transposes_S16x128_p1_0_S128x16,
    transpose S128x16 [1, 0] p.2 transposes_S16x128_p1_0_S128x16)
  let p := meet S64x16 ![0, 0] ![64, 0] slices_S128x16_o0_0_S64x16 slices_S128x16_o64_0_S64x16 p
  let p := meet S32x16 ![0, 0] ![32, 0] slices_S64x16_o0_0_S32x16 slices_S64x16_o32_0_S32x16 p
  let p := meet S16x16 ![0, 0] ![16, 0] slices_S32x16_o0_0_S16x16 slices_S32x16_o16_0_S16x16 p
  let p := meet S8x16 ![0, 0] ![8, 0] slices_S16x16_o0_0_S8x16 slices_S16x16_o8_0_S8x16 p
  let p := meet S4x16 ![0, 0] ![4, 0] slices_S8x16_o0_0_S4x16 slices_S8x16_o4_0_S4x16 p
  let p := meet S2x16 ![0, 0] ![2, 0] slices_S4x16_o0_0_S2x16 slices_S4x16_o2_0_S2x16 p
  meet S1x16 ![0, 0] ![1, 0] slices_S2x16_o0_0_S1x16 slices_S2x16_o1_0_S1x16 p

/-- The winner's position in each row. -/
def pick (v : FVec F S16x1024 .f32) : IVec S16 32 := shapeCast S16 (tournament v).2 shapeCasts_S1x16_S16

theorem meet_bounded {s t : Shape} {o₁ o₂ : Fin s.rank → ℕ} {h₁ : s.Slices o₁ t} {h₂ : s.Slices o₂ t} {p : Pairs F s} (hp : Bounded p.2) :
    Bounded (meet t o₁ o₂ h₁ h₂ p).2 := bounded_take hp

theorem pick_bounded (v : FVec F S16x1024 .f32) : Bounded (pick v) :=
  bounded_shapeCast (meet_bounded (meet_bounded (meet_bounded (meet_bounded (meet_bounded (meet_bounded (meet_bounded
    (bounded_transpose (meet_bounded (meet_bounded (meet_bounded (bounded_iota (κ := .tc) (h := iota_S16x1024_d1_w32) (by decide)))))))))))))

/-- The positions as a column. -/
def column (idx : IVec S16 32) : IVec S16x1 32 := shapeCast S16x1 (shapeCast S1x16 idx shapeCasts_S16_S1x16) shapeCasts_S1x16_S16x1

/-- The position of row `b`, as one word. -/
def word (b : ℕ) (hb : S16x1.Slices ![b, 0] S1x1) (idx : IVec S16 32) : BitVec 32 :=
  extractAt ![0, 0] (shapeCast S1x1 (shapeCast S1 (extractStridedSlice S1x1 ![b, 0] (column idx) hb) shapeCasts_S1x1_S1)
    shapeCasts_S1_S1x1) inpos_S1x1_p0_0

theorem word_bounded (b : ℕ) (hb : S16x1.Slices ![b, 0] S1x1) {idx : IVec S16 32} (h : Bounded idx) : (word b hb idx).toNat < 1024 :=
  word_lt (bounded_shapeCast (bounded_shapeCast (bounded_slice (bounded_shapeCast (bounded_shapeCast h)))))

/-- What reads one feature row: at an offset inside the features, its 128 values. -/
abbrev Reader (F : FTy → Type) := (off : Fin 3 → ℕ) → (∀ a, off a + S1x1x128.size a ≤ S16x1024x128.size a) → FVec F S1x1x128 .f32

/-- The feature row of batch row `b` at its position. -/
def row (rd : Reader F) (b : ℕ) (hb : b < 16) (hs : S16x1.Slices ![b, 0] S1x1) (idx : IVec S16 32) (h : Bounded idx) : FVec F S1x1x128 .f32 :=
  shapeCast S1x1x128 (shapeCast S1x128 (shapeCast S128 (shapeCast S1x128
    (rd ![b, (Scalar.indexCast (word b hs idx)).toNat, 0] (row_inside hb (word_bounded b hs h)))
    shapeCasts_S1x1x128_S1x128) shapeCasts_S1x128_S128) shapeCasts_S128_S1x128) shapeCasts_S1x128_S1x1x128

/-- The sixteen gathered rows. -/
def emb (rd : Reader F) (idx : IVec S16 32) (h : Bounded idx) : FVec F S16x128 .f32 :=
  shapeCast S16x128 (concatenate S16x1x128 0
    [⟨S1x1x128, row rd 0 (by decide) slices_S16x1_o0_0_S1x1 idx h⟩, ⟨S1x1x128, row rd 1 (by decide) slices_S16x1_o1_0_S1x1 idx h⟩,
     ⟨S1x1x128, row rd 2 (by decide) slices_S16x1_o2_0_S1x1 idx h⟩, ⟨S1x1x128, row rd 3 (by decide) slices_S16x1_o3_0_S1x1 idx h⟩,
     ⟨S1x1x128, row rd 4 (by decide) slices_S16x1_o4_0_S1x1 idx h⟩, ⟨S1x1x128, row rd 5 (by decide) slices_S16x1_o5_0_S1x1 idx h⟩,
     ⟨S1x1x128, row rd 6 (by decide) slices_S16x1_o6_0_S1x1 idx h⟩, ⟨S1x1x128, row rd 7 (by decide) slices_S16x1_o7_0_S1x1 idx h⟩,
     ⟨S1x1x128, row rd 8 (by decide) slices_S16x1_o8_0_S1x1 idx h⟩, ⟨S1x1x128, row rd 9 (by decide) slices_S16x1_o9_0_S1x1 idx h⟩,
     ⟨S1x1x128, row rd 10 (by decide) slices_S16x1_o10_0_S1x1 idx h⟩, ⟨S1x1x128, row rd 11 (by decide) slices_S16x1_o11_0_S1x1 idx h⟩,
     ⟨S1x1x128, row rd 12 (by decide) slices_S16x1_o12_0_S1x1 idx h⟩, ⟨S1x1x128, row rd 13 (by decide) slices_S16x1_o13_0_S1x1 idx h⟩,
     ⟨S1x1x128, row rd 14 (by decide) slices_S16x1_o14_0_S1x1 idx h⟩, ⟨S1x1x128, row rd 15 (by decide) slices_S16x1_o15_0_S1x1 idx h⟩]
    concatenates_S1x1x128_S1x1x128_S1x1x128_S1x1x128_S1x1x128_S1x1x128_S1x1x128_S1x1x128_S1x1x128_S1x1x128_S1x1x128_S1x1x128_S1x1x128_S1x1x128_S1x1x128_S1x1x128_S16x1x128_d0)
    shapeCasts_S16x1x128_S16x128

/-- What the body reads of its operands. -/
structure Ins (F : FTy → Type) where
  rd : Reader F
  gum : (n : ℕ) → n < 16 → FVec F S1x16x1024 .f32
  xw : FVec F S16x1024x128 .f32
  w1 : FVec F S128x128 .f32
  b1 : FVec F S1x128 .f32
  w2 : FVec F S128x1 .f32
  wih : FVec F S128x384 .f32
  whh : FVec F S128x384 .f32
  bih : FVec F S1x384 .f32
  bhh : FVec F S1x384 .f32

/-- The scores of a step: the scorer's second layer over the step's context, places already taken at minus infinity,
    the step's noise added, over a temperature of one. -/
def noisy (A : Ins F) (g : FVec F S1x16x1024 .f32) (avail : IVec S16x1024 1) (ctx : FVec F S16x128 .f32) : FVec F S16x1024 .f32 :=
  divf (addf (select avail
      (shapeCast S16x1024 (matmul dot_S16384x128_S128x1_S16384x1_1_0_0_1_n_n none
        (shapeCast S16384x128 (maximumf
          (addf A.xw (broadcastTo S16x1024x128 (shapeCast S16x1x128
            (addf (matmul dot_S16x128_S128x128_S16x128_1_0_0_1_n_n none ctx (shapeCast S128x128 A.w1 shapeCasts_S128x128_S128x128) (constant S16x128 .f32 0x00000000#32))
              (broadcastTo S16x128 (shapeCast S1x128 A.b1 shapeCasts_S1x128_S1x128) broadcasts_S1x128_S16x128)) shapeCasts_S16x128_S16x1x128) broadcasts_S16x1x128_S16x1024x128))
          (broadcast S16x1024x128 (Scalar.ofBits .f32 0x00000000#32)))
          shapeCasts_S16x1024x128_S16384x128) A.w2 (constant S16384x1 .f32 0x00000000#32))
        shapeCasts_S16384x1_S16x1024)
      (broadcast S16x1024 (Named.named κ "mask" 0xCE6E6B28#32)))
    (shapeCast S16x1024 g shapeCasts_S1x16x1024_S16x1024)) (broadcast S16x1024 (Scalar.ofBits .f32 0x3F800000#32))

/-- The recurrent unit's input side: the gathered rows by the input weights. -/
def inGates (A : Ins F) (e : FVec F S16x128 .f32) : FVec F S16x384 .f32 :=
  addf (matmul dot_S16x128_S128x384_S16x384_1_0_0_1_n_n none e (shapeCast S128x384 A.wih shapeCasts_S128x384_S128x384) (constant S16x384 .f32 0x00000000#32))
    (broadcastTo S16x384 (shapeCast S1x384 A.bih shapeCasts_S1x384_S1x384) broadcasts_S1x384_S16x384)

/-- The recurrent unit, from the two sides' gates. -/
def unit (gi gh : FVec F S16x384 .f32) (h : FVec F S16x128 .f32) : FVec F S16x128 .f32 :=
  let rz := logistic (addf (extractStridedSlice S16x256 ![0, 0] gi slices_S16x384_o0_0_S16x256)
    (extractStridedSlice S16x256 ![0, 0] gh slices_S16x384_o0_0_S16x256))
  let r := extractStridedSlice S16x128 ![0, 0] rz slices_S16x256_o0_0_S16x128
  let z := extractStridedSlice S16x128 ![0, 128] rz slices_S16x256_o0_128_S16x128
  let n := tanh (addf (extractStridedSlice S16x128 ![0, 256] gi slices_S16x384_o0_256_S16x128)
    (mulf r (extractStridedSlice S16x128 ![0, 256] gh slices_S16x384_o0_256_S16x128)))
  addf (mulf (subf (broadcast S16x128 (Scalar.ofBits .f32 0x3F800000#32)) z) n) (mulf z h)

/-- One step of the recurrent unit from the state `h`. -/
def gru (A : Ins F) (gi : FVec F S16x384 .f32) (h : FVec F S16x128 .f32) : FVec F S16x128 .f32 :=
  unit gi (addf (matmul dot_S16x128_S128x384_S16x384_1_0_0_1_n_n none h (shapeCast S128x384 A.whh shapeCasts_S128x384_S128x384) (constant S16x384 .f32 0x00000000#32))
    (broadcastTo S16x384 (shapeCast S1x384 A.bhh shapeCasts_S1x384_S1x384) broadcasts_S1x384_S16x384)) h

/-- Where the position equals the place's own number: the step's choice. -/
def chosen (idx : IVec S16 32) : IVec S16x1024 1 :=
  cmpi .eq (iota .tc S16x1024 32 [1] iota_S16x1024_d1_w32)
    (broadcastTo S16x1024 (shapeCast S16x1 idx shapeCasts_S16_S16x1) broadcasts_S16x1_S16x1024)

/-- The choice as zeros and ones. -/
def onehot (idx : IVec S16 32) : FVec F S16x1024 .f32 := sitofp .f32 (extui 32 (chosen idx) natLt_1_32)

/-- What one step hands to the next: the places left, the scorer's context, the recurrent state, and the input gates of
    the steps so far, the latest first. -/
structure St (F : FTy → Type) where
  avail : IVec S16x1024 1
  ctx : FVec F S16x128 .f32
  hid : FVec F S16x128 .f32
  gis : List (FVec F S16x384 .f32)

/-- The recurrent state carried over the earlier steps' gates, the latest of which stands first. -/
def replay (A : Ins F) (h : FVec F S16x128 .f32) : List (FVec F S16x384 .f32) → FVec F S16x128 .f32
  | [] => h
  | g :: gs => gru A g (replay A h gs)

/-- The positions chosen in step `n` from state `s`. -/
def idxOf (A : Ins F) (n : ℕ) (hn : n < 16) (s : St F) : IVec S16 32 := pick (noisy A (A.gum n hn) s.avail s.ctx)

/-- The rows gathered in step `n` from state `s`. -/
def embOf (A : Ins F) (n : ℕ) (hn : n < 16) (s : St F) : FVec F S16x128 .f32 := emb A.rd (idxOf A n hn s) (pick_bounded _)

/-- One step. -/
def step (A : Ins F) (n : ℕ) (hn : n < 16) (s : St F) : St F where
  avail := andi s.avail (xori (chosen (idxOf A n hn s)) (constantI S16x1024 1 1#1))
  ctx := replay A s.hid (inGates A (embOf A n hn s) :: s.gis)
  hid := replay A s.hid (inGates A (embOf A n hn s) :: s.gis)
  gis := inGates A (embOf A n hn s) :: s.gis

/-- The state before the first step. -/
def start (x : FVec F S16x1024x128 .f32) (mask : FVec F S16x1024 .f32) (cw : FVec F S128x128 .f32) (cb : FVec F S1x128 .f32) : St F where
  avail := cmpf .ogt (shapeCast S16x1024 mask shapeCasts_S16x1024_S16x1024) (broadcast S16x1024 (Scalar.ofBits .f32 0x3F000000#32))
  ctx := addf (matmul dot_S16x128_S128x128_S16x128_1_0_0_1_n_n none
      (divf (multiReduction .add [1] S16x128 x 0x00000000#32 reduces_S16x1024x128_S16x128 (.inl rfl) rfl) (broadcast S16x128 (Scalar.ofBits .f32 0x44800000#32)))
      cw (constant S16x128 .f32 0x00000000#32))
    (broadcastTo S16x128 (shapeCast S1x128 cb shapeCasts_S1x128_S1x128) broadcasts_S1x128_S16x128)
  hid := broadcast S16x128 (Scalar.ofBits .f32 0x00000000#32)
  gis := []

/-- The state after `n` steps. -/
def states (A : Ins F) (s₀ : St F) : (n : ℕ) → n ≤ 16 → St F
  | 0, _ => s₀
  | n + 1, h => step A n h (states A s₀ n (Nat.le_of_succ_le h))

/-- What step `n` writes of the gathered rows and of the choice. -/
def embOut (A : Ins F) (n : ℕ) (hn : n < 16) (s : St F) : FVec F S1x16x128 .f32 := shapeCast S1x16x128 (embOf A n hn s) shapeCasts_S16x128_S1x16x128
def selOut (A : Ins F) (n : ℕ) (hn : n < 16) (s : St F) : FVec F S1x16x1024 .f32 := shapeCast S1x16x1024 (onehot (idxOf A n hn s)) shapeCasts_S16x1024_S1x16x1024

/-- Block `n` of either result lies inside it. -/
theorem emb_inside (n : ℕ) (hn : n < 16) (a : Fin 3) : (![n, 0, 0] : Fin 3 → ℕ) a + S1x16x128.size a ≤ S16x16x128.size a := by
  fin_cases a
  · show n + 1 ≤ 16; omega
  · show 0 + 16 ≤ 16; omega
  · show 0 + 128 ≤ 128; omega
theorem sel_inside (n : ℕ) (hn : n < 16) (a : Fin 3) : (![n, 0, 0] : Fin 3 → ℕ) a + S1x16x1024.size a ≤ S16x16x1024.size a := by
  fin_cases a
  · show n + 1 ≤ 16; omega
  · show 0 + 16 ≤ 16; omega
  · show 0 + 1024 ≤ 1024; omega

/-- The writes of the first `n` steps, the latest first. -/
def embWrites (A : Ins F) (s₀ : St F) : (n : ℕ) → n ≤ 16 → List (View.Piece (Elt F) S16x16x128 .f32)
  | 0, _ => []
  | n + 1, h => ⟨Rect.unit ![n, 0, 0] S1x16x128.size (emb_inside n h), embOut A n h (states A s₀ n (Nat.le_of_succ_le h))⟩
      :: embWrites A s₀ n (Nat.le_of_succ_le h)
def selWrites (A : Ins F) (s₀ : St F) : (n : ℕ) → n ≤ 16 → List (View.Piece (Elt F) S16x16x1024 .f32)
  | 0, _ => []
  | n + 1, h => ⟨Rect.unit ![n, 0, 0] S1x16x1024.size (sel_inside n h), selOut A n h (states A s₀ n (Nat.le_of_succ_le h))⟩
      :: selWrites A s₀ n (Nat.le_of_succ_le h)

/-- The first layer over the features: their product with its upper half. -/
def firstLayer (x : FVec F S16x1024x128 .f32) (w : FVec F S128x128 .f32) : FVec F S16x1024x128 .f32 :=
  shapeCast S16x1024x128 (shapeCast S16x1024x128 (matmul dot_S16384x128_S128x128_S16384x128_1_0_0_1_n_n none
    (shapeCast S16384x128 x shapeCasts_S16x1024x128_S16384x128) (shapeCast S128x128 w shapeCasts_S128x128_S128x128) (constant S16384x128 .f32 0x00000000#32))
    shapeCasts_S16384x128_S16x1024x128) shapeCasts_S16x1024x128_S16x1024x128

/-- The recurrent unit's replay with every state on the way named, the latest first. -/
def Replays (A : Ins F) (h : FVec F S16x128 .f32) : List (FVec F S16x384 .f32) → List (FVec F S16x128 .f32) → Prop
  | [], [] => True
  | g :: gs, v :: vs => v = gru A g (vs.headD h) ∧ Replays A h gs vs
  | _, _ => False

theorem Replays.eq {A : Ins F} {h : FVec F S16x128 .f32} : ∀ {gs : List (FVec F S16x384 .f32)} {vs : List (FVec F S16x128 .f32)},
    Replays A h gs vs → vs.headD h = replay A h gs
  | [], [], _ => rfl
  | g :: gs, v :: vs, hv => by
      show v = gru A g (replay A h gs)
      rw [← Replays.eq hv.2]; exact hv.1
  | [], _ :: _, hv => hv.elim
  | _ :: _, [], hv => hv.elim

/-- The values `i`, `e`, `oe`, `os` are step `n`'s positions, gathered rows and writes from state `s`. -/
structure Out (A : Ins F) (n : ℕ) (hn : n < 16) (s : St F) (i : IVec S16 32) (e : FVec F S16x128 .f32)
    (oe : FVec F S1x16x128 .f32) (os : FVec F S1x16x1024 .f32) : Prop where
  idx : i = pick (noisy A (A.gum n hn) s.avail s.ctx)
  emb : ∀ hb, e = emb A.rd i hb
  embW : oe = shapeCast S1x16x128 e shapeCasts_S16x128_S1x16x128
  selW : os = shapeCast S1x16x1024 (onehot i) shapeCasts_S16x1024_S1x16x1024

/-- From the positions `i` and rows `e`, state `s'` follows state `s`, by the replay through `vs`. -/
structure Next (A : Ins F) (s : St F) (i : IVec S16 32) (e : FVec F S16x128 .f32) (vs : List (FVec F S16x128 .f32)) (s' : St F) : Prop where
  avail : s'.avail = andi s.avail (xori (chosen i) (constantI S16x1024 1 1#1))
  gis : s'.gis = inGates A e :: s.gis
  replays : Replays A s.hid s'.gis vs
  ctx : s'.ctx = vs.headD s.hid
  hid : s'.hid = vs.headD s.hid

theorem Next.eq {A : Ins F} {n : ℕ} {hn : n < 16} {s s' : St F} {i : IVec S16 32} {e : FVec F S16x128 .f32} {oe : FVec F S1x16x128 .f32}
    {os : FVec F S1x16x1024 .f32} {vs : List (FVec F S16x128 .f32)} (ho : Out A n hn s i e oe os) (h : Next A s i e vs s') :
    s' = step A n hn s := by
  obtain ⟨rfl, he, -, -⟩ := ho
  obtain rfl := he (pick_bounded _)
  obtain ⟨ha, hg, hr, hc, hh⟩ := h
  have hrep := hr.eq
  rw [hg] at hrep
  obtain ⟨a, c, d, g⟩ := s'
  simp only at ha hg hc hh
  subst ha hg hc hh
  unfold step idxOf embOf
  rw [hrep]
  rfl

/-- After `n` steps the state is `s` and the writes are `Le` and `Ls`. -/
structure Upto (A : Ins F) (s₀ : St F) (n : ℕ) (hn : n ≤ 16) (s : St F) (Le : List (View.Piece (Elt F) S16x16x128 .f32))
    (Ls : List (View.Piece (Elt F) S16x16x1024 .f32)) : Prop where
  state : states A s₀ n hn = s
  embs : Le = embWrites A s₀ n hn
  sels : Ls = selWrites A s₀ n hn

theorem Upto.zero (A : Ins F) (s₀ : St F) : Upto A s₀ 0 (by decide) s₀ [] [] := ⟨rfl, rfl, rfl⟩

theorem Upto.writes {A : Ins F} {s₀ : St F} {n : ℕ} {hn : n < 16} {s : St F} {Le : List (View.Piece (Elt F) S16x16x128 .f32)}
    {Ls : List (View.Piece (Elt F) S16x16x1024 .f32)} {i : IVec S16 32} {e : FVec F S16x128 .f32} {oe : FVec F S1x16x128 .f32}
    {os : FVec F S1x16x1024 .f32} (h : Upto A s₀ n (le_of_lt hn) s Le Ls) (ho : Out A n hn s i e oe os) :
    (⟨Rect.unit ![n, 0, 0] S1x16x128.size (emb_inside n hn), oe⟩ :: Le) = embWrites A s₀ (n + 1) hn
    ∧ (⟨Rect.unit ![n, 0, 0] S1x16x1024.size (sel_inside n hn), os⟩ :: Ls) = selWrites A s₀ (n + 1) hn := by
  obtain ⟨rfl, he, rfl, rfl⟩ := ho
  obtain rfl := he (pick_bounded _)
  obtain ⟨rfl, rfl, rfl⟩ := h
  exact ⟨rfl, rfl⟩

theorem Upto.next {A : Ins F} {s₀ : St F} {n : ℕ} {hn : n < 16} {s s' : St F} {Le : List (View.Piece (Elt F) S16x16x128 .f32)}
    {Ls : List (View.Piece (Elt F) S16x16x1024 .f32)} {i : IVec S16 32} {e : FVec F S16x128 .f32} {oe : FVec F S1x16x128 .f32}
    {os : FVec F S1x16x1024 .f32} {vs : List (FVec F S16x128 .f32)}
    (h : Upto A s₀ n (le_of_lt hn) s Le Ls) (ho : Out A n hn s i e oe os) (hs : Next A s i e vs s') :
    Upto A s₀ (n + 1) hn s' (⟨Rect.unit ![n, 0, 0] S1x16x128.size (emb_inside n hn), oe⟩ :: Le)
      (⟨Rect.unit ![n, 0, 0] S1x16x1024.size (sel_inside n hn), os⟩ :: Ls) :=
  ⟨by rw [hs.eq ho, ← h.state]; rfl, (h.writes ho).1, (h.writes ho).2⟩

end Cert.KernelIdeal.Spec

end
-- ==== Proof.Tie.lean ====
/-
  The run's result contents are the writes of the sixteen steps of `Spec`.
-/
module

public import proofs.«01_k».proof.Proof.IdealRun
public import proofs.«01_k».proof.Proof.Spec

@[expose] public section

noncomputable section

namespace Cert.KernelIdeal.Hand

open Cert.KernelIdeal Cert.KernelIdeal.Gen Cert.KernelIdeal.Spec
open Idealize.ShloMosaic

variable {F : FTy → Type} [FloatOps F] [Named F] (c : Dev nD)
    (M0 : Memref sig .tc .vmem S16x1024x128 .f32) (h0 : M0.IsWhole) (M1 : Memref sig .tc .vmem S16x16x1024 .f32) (h1 : M1.IsWhole)
    (M2 : Memref sig .tc .vmem S16x1024 .f32) (h2 : M2.IsWhole) (M3 : Memref sig .tc .vmem S128x128 .f32) (h3 : M3.IsWhole)
    (M4 : Memref sig .tc .vmem S128x128 .f32) (h4 : M4.IsWhole) (M5 : Memref sig .tc .vmem S1x128 .f32) (h5 : M5.IsWhole)
    (M6 : Memref sig .tc .vmem S128x1 .f32) (h6 : M6.IsWhole) (M7 : Memref sig .tc .vmem S128x128 .f32) (h7 : M7.IsWhole)
    (M8 : Memref sig .tc .vmem S1x128 .f32) (h8 : M8.IsWhole) (M9 : Memref sig .tc .vmem S128x384 .f32) (h9 : M9.IsWhole)
    (M10 : Memref sig .tc .vmem S128x384 .f32) (h10 : M10.IsWhole) (M11 : Memref sig .tc .vmem S1x384 .f32) (h11 : M11.IsWhole)
    (M12 : Memref sig .tc .vmem S1x384 .f32) (h12 : M12.IsWhole) (M13 : Memref sig .tc .vmem S16x16x128 .f32) (h13 : M13.IsWhole)
    (M14 : Memref sig .tc .vmem S16x16x1024 .f32) (h14 : M14.IsWhole) (M15 : Memref sig .tc .vmem S16x1024x128 .f32) (h15 : M15.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12)

/-- What the body reads of its buffers. -/
def ins : Ins F where
  rd off inb := M0.view.readAt (Elt F) (Rect.unit (s := S16x1024x128) off S1x1x128.size inb).toLoadRect f0
  gum n hn := M1.view.readAt (Elt F) (Rect.unit (s := S16x16x1024) ![n, 0, 0] S1x16x1024.size (sel_inside n hn)).toLoadRect f1
  xw := M15.view.readCov (Val := Elt F) [⟨Rect.unit ![0, 0, 0] S16x1024x128.size inb_S16x1024x128_S16x1024x128_0_0_0,
    firstLayer (M0.view.readAt (Elt F) (Rect.unit ![0, 0, 0] S16x1024x128.size inb_S16x1024x128_S16x1024x128_0_0_0).toLoadRect f0)
      (M3.view.readAt (Elt F) (Rect.unit ![0, 0] S128x128.size inb_S128x128_S128x128_0_0).toLoadRect f3)⟩]
    (Rect.unit ![0, 0, 0] S16x1024x128.size inb_S16x1024x128_S16x1024x128_0_0_0).toLoadRect
  w1 := M4.view.readAt (Elt F) (Rect.unit ![0, 0] S128x128.size inb_S128x128_S128x128_0_0).toLoadRect f4
  b1 := M5.view.readAt (Elt F) (Rect.unit ![0, 0] S1x128.size inb_S1x128_S1x128_0_0).toLoadRect f5
  w2 := M6.view.readAt (Elt F) (Rect.unit ![0, 0] S128x1.size inb_S128x1_S128x1_0_0).toLoadRect f6
  wih := M9.view.readAt (Elt F) (Rect.unit ![0, 0] S128x384.size inb_S128x384_S128x384_0_0).toLoadRect f9
  whh := M10.view.readAt (Elt F) (Rect.unit ![0, 0] S128x384.size inb_S128x384_S128x384_0_0).toLoadRect f10
  bih := M11.view.readAt (Elt F) (Rect.unit ![0, 0] S1x384.size inb_S1x384_S1x384_0_0).toLoadRect f11
  bhh := M12.view.readAt (Elt F) (Rect.unit ![0, 0] S1x384.size inb_S1x384_S1x384_0_0).toLoadRect f12

/-- The state the body starts from. -/
def ins₀ : St F := start (M0.view.readAt (Elt F) (Rect.unit ![0, 0, 0] S16x1024x128.size inb_S16x1024x128_S16x1024x128_0_0_0).toLoadRect f0)
  (M2.view.readAt (Elt F) (Rect.unit ![0, 0] S16x1024.size inb_S16x1024_S16x1024_0_0).toLoadRect f2)
  (M7.view.readAt (Elt F) (Rect.unit ![0, 0] S128x128.size inb_S128x128_S128x128_0_0).toLoadRect f7)
  (M8.view.readAt (Elt F) (Rect.unit ![0, 0] S1x128.size inb_S1x128_S1x128_0_0).toLoadRect f8)

/-! The input gates of the first steps, the latest first. -/
def gates1 : List (FVec F S16x384 .f32) :=
  (kernelRun.sl.v366 c M0 M1 M2 M3 M4 M5 M6 M7 M8 M9 M11 M15 f0 f1 f2 f3 f4 f5 f6 f7 f8 f9 f11) :: []
def gates2 : List (FVec F S16x384 .f32) :=
  (kernelRun.sl.v748 c M0 M1 M2 M3 M4 M5 M6 M7 M8 M9 M10 M11 M12 M15 f0 f1 f2 f3 f4 f5 f6 f7 f8 f9 f10 f11 f12) ::
    gates1 c M0 M1 M2 M3 M4 M5 M6 M7 M8 M9 M11 M15 f0 f1 f2 f3 f4 f5 f6 f7 f8 f9 f11
def gates3 : List (FVec F S16x384 .f32) :=
  (kernelRun.sl.v1149 c M0 M1 M2 M3 M4 M5 M6 M7 M8 M9 M10 M11 M12 M15 f0 f1 f2 f3 f4 f5 f6 f7 f8 f9 f10 f11 f12) ::
    gates2 c M0 M1 M2 M3 M4 M5 M6 M7 M8 M9 M10 M11 M12 M15 f0 f1 f2 f3 f4 f5 f6 f7 f8 f9 f10 f11 f12
def gates4 : List (FVec F S16x384 .f32) :=
  (kernelRun.sl.v1569 c M0 M1 M2 M3 M4 M5 M6 M7 M8 M9 M10 M11 M12 M15 f0 f1 f2 f3 f4 f5 f6 f7 f8 f9 f10 f11 f12) ::
    gates3 c M0 M1 M2 M3 M4 M5 M6 M7 M8 M9 M10 M11 M12 M15 f0 f1 f2 f3 f4 f5 f6 f7 f8 f9 f10 f11 f12
def gates5 : List (FVec F S16x384 .f32) :=
  (kernelRun.sl.v2008 c M0 M1 M2 M3 M4 M5 M6 M7 M8 M9 M10 M11 M12 M15 f0 f1 f2 f3 f4 f5 f6 f7 f8 f9 f10 f11 f12) ::
    gates4 c M0 M1 M2 M3 M4 M5 M6 M7 M8 M9 M10 M11 M12 M15 f0 f1 f2 f3 f4 f5 f6 f7 f8 f9 f10 f11 f12
def gates6 : List (FVec F S16x384 .f32) :=
  (kernelRun.sl.v2466 c M0 M1 M2 M3 M4 M5 M6 M7 M8 M9 M10 M11 M12 M15 f0 f1 f2 f3 f4 f5 f6 f7 f8 f9 f10 f11 f12) ::
    gates5 c M0 M1 M2 M3 M4 M5 M6 M7 M8 M9 M10 M11 M12 M15 f0 f1 f2 f3 f4 f5 f6 f7 f8 f9 f10 f11 f12
def gates7 : List (FVec F S16x384 .f32) :=
  (kernelRun.sl.v2943 c M0 M1 M2 M3 M4 M5 M6 M7 M8 M9 M10 M11 M12 M15 f0 f1 f2 f3 f4 f5 f6 f7 f8 f9 f10 f11 f12) ::
    gates6 c M0 M1 M2 M3 M4 M5 M6 M7 M8 M9 M10 M11 M12 M15 f0 f1 f2 f3 f4 f5 f6 f7 f8 f9 f10 f11 f12
def gates8 : List (FVec F S16x384 .f32) :=
  (kernelRun.sl.v3439 c M0 M1 M2 M3 M4 M5 M6 M7 M8 M9 M10 M11 M12 M15 f0 f1 f2 f3 f4 f5 f6 f7 f8 f9 f10 f11 f12) ::
    gates7 c M0 M1 M2 M3 M4 M5 M6 M7 M8 M9 M10 M11 M12 M15 f0 f1 f2 f3 f4 f5 f6 f7 f8 f9 f10 f11 f12
def gates9 : List (FVec F S16x384 .f32) :=
  (kernelRun.sl.v3954 c M0 M1 M2 M3 M4 M5 M6 M7 M8 M9 M10 M11 M12 M15 f0 f1 f2 f3 f4 f5 f6 f7 f8 f9 f10 f11 f12) ::
    gates8 c M0 M1 M2 M3 M4 M5 M6 M7 M8 M9 M10 M11 M12 M15 f0 f1 f2 f3 f4 f5 f6 f7 f8 f9 f10 f11 f12
def gates10 : List (FVec F S16x384 .f32) :=
  (kernelRun.sl.v4488 c M0 M1 M2 M3 M4 M5 M6 M7 M8 M9 M10 M11 M12 M15 f0 f1 f2 f3 f4 f5 f6 f7 f8 f9 f10 f11 f12) ::
    gates9 c M0 M1 M2 M3 M4 M5 M6 M7 M8 M9 M10 M11 M12 M15 f0 f1 f2 f3 f4 f5 f6 f7 f8 f9 f10 f11 f12
def gates11 : List (FVec F S16x384 .f32) :=
  (kernelRun.sl.v5041 c M0 M1 M2 M3 M4 M5 M6 M7 M8 M9 M10 M11 M12 M15 f0 f1 f2 f3 f4 f5 f6 f7 f8 f9 f10 f11 f12) ::
    gates10 c M0 M1 M2 M3 M4 M5 M6 M7 M8 M9 M10 M11 M12 M15 f0 f1 f2 f3 f4 f5 f6 f7 f8 f9 f10 f11 f12
def gates12 : List (FVec F S16x384 .f32) :=
  (kernelRun.sl.v5613 c M0 M1 M2 M3 M4 M5 M6 M7 M8 M9 M10 M11 M12 M15 f0 f1 f2 f3 f4 f5 f6 f7 f8 f9 f10 f11 f12) ::
    gates11 c M0 M1 M2 M3 M4 M5 M6 M7 M8 M9 M10 M11 M12 M15 f0 f1 f2 f3 f4 f5 f6 f7 f8 f9 f10 f11 f12
def gates13 : List (FVec F S16x384 .f32) :=
  (kernelRun.sl.v6204 c M0 M1 M2 M3 M4 M5 M6 M7 M8 M9 M10 M11 M12 M15 f0 f1 f2 f3 f4 f5 f6 f7 f8 f9 f10 f11 f12) ::
    gates12 c M0 M1 M2 M3 M4 M5 M6 M7 M8 M9 M10 M11 M12 M15 f0 f1 f2 f3 f4 f5 f6 f7 f8 f9 f10 f11 f12
def gates14 : List (FVec F S16x384 .f32) :=
  (kernelRun.sl.v6814 c M0 M1 M2 M3 M4 M5 M6 M7 M8 M9 M10 M11 M12 M15 f0 f1 f2 f3 f4 f5 f6 f7 f8 f9 f10 f11 f12) ::
    gates13 c M0 M1 M2 M3 M4 M5 M6 M7 M8 M9 M10 M11 M12 M15 f0 f1 f2 f3 f4 f5 f6 f7 f8 f9 f10 f11 f12
def gates15 : List (FVec F S16x384 .f32) :=
  (kernelRun.sl.v7443 c M0 M1 M2 M3 M4 M5 M6 M7 M8 M9 M10 M11 M12 M15 f0 f1 f2 f3 f4 f5 f6 f7 f8 f9 f10 f11 f12) ::
    gates14 c M0 M1 M2 M3 M4 M5 M6 M7 M8 M9 M10 M11 M12 M15 f0 f1 f2 f3 f4 f5 f6 f7 f8 f9 f10 f11 f12

/-! What each step chooses, gathers and writes, and the state that follows it. -/

set_option maxRecDepth 100000 in
theorem out0 : Out (ins c M0 M1 M3 M4 M5 M6 M9 M10 M11 M12 M15 f0 f1 f3 f4 f5 f6 f9 f10 f11 f12) 0 (by decide)
    ⟨(kernelRun.sl.v22 c M2 f2), (kernelRun.sl.v18 c M0 M7 M8 f0 f7 f8),
      kernelRun.sl.v23 (F := F), []⟩
    (kernelRun.sl.v169 c M0 M1 M2 M3 M4 M5 M6 M7 M8 M15 f0 f1 f2 f3 f4 f5 f6 f7 f8)
    (kernelRun.sl.v363 c M0 M1 M2 M3 M4 M5 M6 M7 M8 M15 f0 f1 f2 f3 f4 f5 f6 f7 f8)
    (kernelRun.sl.v396 c M0 M1 M2 M3 M4 M5 M6 M7 M8 M15 f0 f1 f2 f3 f4 f5 f6 f7 f8)
    (kernelRun.sl.v393 c M0 M1 M2 M3 M4 M5 M6 M7 M8 M15 f0 f1 f2 f3 f4 f5 f6 f7 f8) :=
  ⟨rfl, fun _ => rfl, rfl, rfl⟩

set_option maxRecDepth 100000 in
theorem next0 : Next (ins c M0 M1 M3 M4 M5 M6 M9 M10 M11 M12 M15 f0 f1 f3 f4 f5 f6 f9 f10 f11 f12)
    ⟨(kernelRun.sl.v22 c M2 f2), (kernelRun.sl.v18 c M0 M7 M8 f0 f7 f8),
      kernelRun.sl.v23 (F := F), []⟩
    (kernelRun.sl.v169 c M0 M1 M2 M3 M4 M5 M6 M7 M8 M15 f0 f1 f2 f3 f4 f5 f6 f7 f8)
    (kernelRun.sl.v363 c M0 M1 M2 M3 M4 M5 M6 M7 M8 M15 f0 f1 f2 f3 f4 f5 f6 f7 f8)
    [(kernelRun.sl.v385 c M0 M1 M2 M3 M4 M5 M6 M7 M8 M9 M10 M11 M12 M15 f0 f1 f2 f3 f4 f5 f6 f7 f8 f9 f10 f11 f12)]
    ⟨(kernelRun.sl.v398 c M0 M1 M2 M3 M4 M5 M6 M7 M8 M15 f0 f1 f2 f3 f4 f5 f6 f7 f8), (kernelRun.sl.v385 c M0 M1 M2 M3 M4 M5 M6 M7 M8 M9 M10 M11 M12 M15 f0 f1 f2 f3 f4 f5 f6 f7 f8 f9 f10 f11 f12),
      (kernelRun.sl.v385 c M0 M1 M2 M3 M4 M5 M6 M7 M8 M9 M10 M11 M12 M15 f0 f1 f2 f3 f4 f5 f6 f7 f8 f9 f10 f11 f12), gates1 c M0 M1 M2 M3 M4 M5 M6 M7 M8 M9 M11 M15 f0 f1 f2 f3 f4 f5 f6 f7 f8 f9 f11⟩ :=
  ⟨rfl, rfl, ⟨rfl, trivial⟩, rfl, rfl⟩

set_option maxRecDepth 100000 in
theorem out1 : Out (ins c M0 M1 M3 M4 M5 M6 M9 M10 M11 M12 M15 f0 f1 f3 f4 f5 f6 f9 f10 f11 f12) 1 (by decide)
    ⟨(kernelRun.sl.v398 c M0 M1 M2 M3 M4 M5 M6 M7 M8 M15 f0 f1 f2 f3 f4 f5 f6 f7 f8), (kernelRun.sl.v385 c M0 M1 M2 M3 M4 M5 M6 M7 M8 M9 M10 M11 M12 M15 f0 f1 f2 f3 f4 f5 f6 f7 f8 f9 f10 f11 f12),
      (kernelRun.sl.v385 c M0 M1 M2 M3 M4 M5 M6 M7 M8 M9 M10 M11 M12 M15 f0 f1 f2 f3 f4 f5 f6 f7 f8 f9 f10 f11 f12), gates1 c M0 M1 M2 M3 M4 M5 M6 M7 M8 M9 M11 M15 f0 f1 f2 f3 f4 f5 f6 f7 f8 f9 f11⟩
    (kernelRun.sl.v551 c M0 M1 M2 M3 M4 M5 M6 M7 M8 M9 M10 M11 M12 M15 f0 f1 f2 f3 f4 f5 f6 f7 f8 f9 f10 f11 f12)
    (kernelRun.sl.v745 c M0 M1 M2 M3 M4 M5 M6 M7 M8 M9 M10 M11 M12 M15 f0 f1 f2 f3 f4 f5 f6 f7 f8 f9 f10 f11 f12)
    (kernelRun.sl.v778 c M0 M1 M2 M3 M4 M5 M6 M7 M8 M9 M10 M11 M12 M15 f0 f1 f2 f3 f4 f5 f6 f7 f8 f9 f10 f11 f12)
    (kernelRun.sl.v775 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next1 : Next (ins c M0 M1 M3 M4 M5 M6 M9 M10 M11 M12 M15 f0 f1 f3 f4 f5 f6 f9 f10 f11 f12)
    ⟨(kernelRun.sl.v398 c M0 M1 M2 M3 M4 M5 M6 M7 M8 M15 f0 f1 f2 f3 f4 f5 f6 f7 f8), (kernelRun.sl.v385 c M0 M1 M2 M3 M4 M5 M6 M7 M8 M9 M10 M11 M12 M15 f0 f1 f2 f3 f4 f5 f6 f7 f8 f9 f10 f11 f12),
      (kernelRun.sl.v385 c M0 M1 M2 M3 M4 M5 M6 M7 M8 M9 M10 M11 M12 M15 f0 f1 f2 f3 f4 f5 f6 f7 f8 f9 f10 f11 f12), gates1 c M0 M1 M2 M3 M4 M5 M6 M7 M8 M9 M11 M15 f0 f1 f2 f3 f4 f5 f6 f7 f8 f9 f11⟩
    (kernelRun.sl.v551 c M0 M1 M2 M3 M4 M5 M6 M7 M8 M9 M10 M11 M12 M15 f0 f1 f2 f3 f4 f5 f6 f7 f8 f9 f10 f11 f12)
    (kernelRun.sl.v745 c M0 M1 M2 M3 M4 M5 M6 M7 M8 M9 M10 M11 M12 M15 f0 f1 f2 f3 f4 f5 f6 f7 f8 f9 f10 f11 f12)
    [(kernelRun.sl.v767 c M0 M1 M2 M3 M4 M5 M6 M7 M8 M9 M10 M11 M12 M15 f0 f1 f2 f3 f4 f5 f6 f7 f8 f9 f10 f11 f12),
     (kernelRun.sl.v438 c M0 M1 M2 M3 M4 M5 M6 M7 M8 M9 M10 M11 M12 M15 f0 f1 f2 f3 f4 f5 f6 f7 f8 f9 f10 f11 f12)]
    ⟨(kernelRun.sl.v780 c M0 M1 M2 M3 M4 M5 M6 M7 M8 M9 M10 M11 M12 M15 f0 f1 f2 f3 f4 f5 f6 f7 f8 f9 f10 f11 f12), (kernelRun.sl.v767 c M0 M1 M2 M3 M4 M5 M6 M7 M8 M9 M10 M11 M12 M15 f0 f1 f2 f3 f4 f5 f6 f7 f8 f9 f10 f11 f12),
      (kernelRun.sl.v767 c M0 M1 M2 M3 M4 M5 M6 M7 M8 M9 M10 M11 M12 M15 f0 f1 f2 f3 f4 f5 f6 f7 f8 f9 f10 f11 f12), gates2 c M0 M1 M2 M3 M4 M5 M6 M7 M8 M9 M10 M11 M12 M15 f0 f1 f2 f3 f4 f5 f6 f7 f8 f9 f10 f11 f12⟩ :=
  ⟨rfl, rfl, ⟨rfl, rfl, trivial⟩, rfl, rfl⟩

set_option maxRecDepth 100000 in
theorem out2 : Out (ins c M0 M1 M3 M4 M5 M6 M9 M10 M11 M12 M15 f0 f1 f3 f4 f5 f6 f9 f10 f11 f12) 2 (by decide)
    ⟨(kernelRun.sl.v780 c M0 M1 M2 M3 M4 M5 M6 M7 M8 M9 M10 M11 M12 M15 f0 f1 f2 f3 f4 f5 f6 f7 f8 f9 f10 f11 f12), (kernelRun.sl.v767 c M0 M1 M2 M3 M4 M5 M6 M7 M8 M9 M10 M11 M12 M15 f0 f1 f2 f3 f4 f5 f6 f7 f8 f9 f10 f11 f12),
      (kernelRun.sl.v767 c M0 M1 M2 M3 M4 M5 M6 M7 M8 M9 M10 M11 M12 M15 f0 f1 f2 f3 f4 f5 f6 f7 f8 f9 f10 f11 f12), gates2 c M0 M1 M2 M3 M4 M5 M6 M7 M8 M9 M10 M11 M12 M15 f0 f1 f2 f3 f4 f5 f6 f7 f8 f9 f10 f11 f12⟩
    (kernelRun.sl.v952 c M0 M1 M2 M3 M4 M5 M6 M7 M8 M9 M10 M11 M12 M15 f0 f1 f2 f3 f4 f5 f6 f7 f8 f9 f10 f11 f12)
    (kernelRun.sl.v1146 c M0 M1 M2 M3 M4 M5 M6 M7 M8 M9 M10 M11 M12 M15 f0 f1 f2 f3 f4 f5 f6 f7 f8 f9 f10 f11 f12)
    (kernelRun.sl.v1179 c M0 M1 M2 M3 M4 M5 M6 M7 M8 M9 M10 M11 M12 M15 f0 f1 f2 f3 f4 f5 f6 f7 f8 f9 f10 f11 f12)
    (kernelRun.sl.v1176 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next2 : Next (ins c M0 M1 M3 M4 M5 M6 M9 M10 M11 M12 M15 f0 f1 f3 f4 f5 f6 f9 f10 f11 f12)
    ⟨(kernelRun.sl.v780 c M0 M1 M2 M3 M4 M5 M6 M7 M8 M9 M10 M11 M12 M15 f0 f1 f2 f3 f4 f5 f6 f7 f8 f9 f10 f11 f12), (kernelRun.sl.v767 c M0 M1 M2 M3 M4 M5 M6 M7 M8 M9 M10 M11 M12 M15 f0 f1 f2 f3 f4 f5 f6 f7 f8 f9 f10 f11 f12),
      (kernelRun.sl.v767 c M0 M1 M2 M3 M4 M5 M6 M7 M8 M9 M10 M11 M12 M15 f0 f1 f2 f3 f4 f5 f6 f7 f8 f9 f10 f11 f12), gates2 c M0 M1 M2 M3 M4 M5 M6 M7 M8 M9 M10 M11 M12 M15 f0 f1 f2 f3 f4 f5 f6 f7 f8 f9 f10 f11 f12⟩
    (kernelRun.sl.v952 c M0 M1 M2 M3 M4 M5 M6 M7 M8 M9 M10 M11 M12 M15 f0 f1 f2 f3 f4 f5 f6 f7 f8 f9 f10 f11 f12)
    (kernelRun.sl.v1146 c M0 M1 M2 M3 M4 M5 M6 M7 M8 M9 M10 M11 M12 M15 f0 f1 f2 f3 f4 f5 f6 f7 f8 f9 f10 f11 f12)
    [(kernelRun.sl.v1168 c M0 M1 M2 M3 M4 M5 M6 M7 M8 M9 M10 M11 M12 M15 f0 f1 f2 f3 f4 f5 f6 f7 f8 f9 f10 f11 f12),
     (kernelRun.sl.v839 c M0 M1 M2 M3 M4 M5 M6 M7 M8 M9 M10 M11 M12 M15 f0 f1 f2 f3 f4 f5 f6 f7 f8 f9 f10 f11 f12),
     (kernelRun.sl.v820 c M0 M1 M2 M3 M4 M5 M6 M7 M8 M9 M10 M11 M12 M15 f0 f1 f2 f3 f4 f5 f6 f7 f8 f9 f10 f11 f12)]
    ⟨(kernelRun.sl.v1181 c M0 M1 M2 M3 M4 M5 M6 M7 M8 M9 M10 M11 M12 M15 f0 f1 f2 f3 f4 f5 f6 f7 f8 f9 f10 f11 f12), (kernelRun.sl.v1168 c M0 M1 M2 M3 M4 M5 M6 M7 M8 M9 M10 M11 M12 M15 f0 f1 f2 f3 f4 f5 f6 f7 f8 f9 f10 f11 f12),
      (kernelRun.sl.v1168 c M0 M1 M2 M3 M4 M5 M6 M7 M8 M9 M10 M11 M12 M15 f0 f1 f2 f3 f4 f5 f6 f7 f8 f9 f10 f11 f12), gates3 c M0 M1 M2 M3 M4 M5 M6 M7 M8 M9 M10 M11 M12 M15 f0 f1 f2 f3 f4 f5 f6 f7 f8 f9 f10 f11 f12⟩ :=
  ⟨rfl, rfl, ⟨rfl, rfl, rfl, trivial⟩, rfl, rfl⟩

set_option maxRecDepth 100000 in
theorem out3 : Out (ins c M0 M1 M3 M4 M5 M6 M9 M10 M11 M12 M15 f0 f1 f3 f4 f5 f6 f9 f10 f11 f12) 3 (by decide)
    ⟨(kernelRun.sl.v1181 c M0 M1 M2 M3 M4 M5 M6 M7 M8 M9 M10 M11 M12 M15 f0 f1 f2 f3 f4 f5 f6 f7 f8 f9 f10 f11 f12), (kernelRun.sl.v1168 c M0 M1 M2 M3 M4 M5 M6 M7 M8 M9 M10 M11 M12 M15 f0 f1 f2 f3 f4 f5 f6 f7 f8 f9 f10 f11 f12),
      (kernelRun.sl.v1168 c M0 M1 M2 M3 M4 M5 M6 M7 M8 M9 M10 M11 M12 M15 f0 f1 f2 f3 f4 f5 f6 f7 f8 f9 f10 f11 f12), gates3 c M0 M1 M2 M3 M4 M5 M6 M7 M8 M9 M10 M11 M12 M15 f0 f1 f2 f3 f4 f5 f6 f7 f8 f9 f10 f11 f12⟩
    (kernelRun.sl.v1372 c M0 M1 M2 M3 M4 M5 M6 M7 M8 M9 M10 M11 M12 M15 f0 f1 f2 f3 f4 f5 f6 f7 f8 f9 f10 f11 f12)
    (kernelRun.sl.v1566 c M0 M1 M2 M3 M4 M5 M6 M7 M8 M9 M10 M11 M12 M15 f0 f1 f2 f3 f4 f5 f6 f7 f8 f9 f10 f11 f12)
    (kernelRun.sl.v1599 c M0 M1 M2 M3 M4 M5 M6 M7 M8 M9 M10 M11 M12 M15 f0 f1 f2 f3 f4 f5 f6 f7 f8 f9 f10 f11 f12)
    (kernelRun.sl.v1596 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next3 : Next (ins c M0 M1 M3 M4 M5 M6 M9 M10 M11 M12 M15 f0 f1 f3 f4 f5 f6 f9 f10 f11 f12)
    ⟨(kernelRun.sl.v1181 c M0 M1 M2 M3 M4 M5 M6 M7 M8 M9 M10 M11 M12 M15 f0 f1 f2 f3 f4 f5 f6 f7 f8 f9 f10 f11 f12), (kernelRun.sl.v1168 c M0 M1 M2 M3 M4 M5 M6 M7 M8 M9 M10 M11 M12 M15 f0 f1 f2 f3 f4 f5 f6 f7 f8 f9 f10 f11 f12),
      (kernelRun.sl.v1168 c M0 M1 M2 M3 M4 M5 M6 M7 M8 M9 M10 M11 M12 M15 f0 f1 f2 f3 f4 f5 f6 f7 f8 f9 f10 f11 f12), gates3 c M0 M1 M2 M3 M4 M5 M6 M7 M8 M9 M10 M11 M12 M15 f0 f1 f2 f3 f4 f5 f6 f7 f8 f9 f10 f11 f12⟩
    (kernelRun.sl.v1372 c M0 M1 M2 M3 M4 M5 M6 M7 M8 M9 M10 M11 M12 M15 f0 f1 f2 f3 f4 f5 f6 f7 f8 f9 f10 f11 f12)
    (kernelRun.sl.v1566 c M0 M1 M2 M3 M4 M5 M6 M7 M8 M9 M10 M11 M12 M15 f0 f1 f2 f3 f4 f5 f6 f7 f8 f9 f10 f11 f12)
    [(kernelRun.sl.v1588 c M0 M1 M2 M3 M4 M5 M6 M7 M8 M9 M10 M11 M12 M15 f0 f1 f2 f3 f4 f5 f6 f7 f8 f9 f10 f11 f12),
     (kernelRun.sl.v1259 c M0 M1 M2 M3 M4 M5 M6 M7 M8 M9 M10 M11 M12 M15 f0 f1 f2 f3 f4 f5 f6 f7 f8 f9 f10 f11 f12),
     (kernelRun.sl.v1240 c M0 M1 M2 M3 M4 M5 M6 M7 M8 M9 M10 M11 M12 M15 f0 f1 f2 f3 f4 f5 f6 f7 f8 f9 f10 f11 f12),
     (kernelRun.sl.v1221 c M0 M1 M2 M3 M4 M5 M6 M7 M8 M9 M10 M11 M12 M15 f0 f1 f2 f3 f4 f5 f6 f7 f8 f9 f10 f11 f12)]
    ⟨(kernelRun.sl.v1601 c M0 M1 M2 M3 M4 M5 M6 M7 M8 M9 M10 M11 M12 M15 f0 f1 f2 f3 f4 f5 f6 f7 f8 f9 f10 f11 f12), (kernelRun.sl.v1588 c M0 M1 M2 M3 M4 M5 M6 M7 M8 M9 M10 M11 M12 M15 f0 f1 f2 f3 f4 f5 f6 f7 f8 f9 f10 f11 f12),
      (kernelRun.sl.v1588 c M0 M1 M2 M3 M4 M5 M6 M7 M8 M9 M10 M11 M12 M15 f0 f1 f2 f3 f4 f5 f6 f7 f8 f9 f10 f11 f12), gates4 c M0 M1 M2 M3 M4 M5 M6 M7 M8 M9 M10 M11 M12 M15 f0 f1 f2 f3 f4 f5 f6 f7 f8 f9 f10 f11 f12⟩ :=
  ⟨rfl, rfl, ⟨rfl, rfl, rfl, rfl, trivial⟩, rfl, rfl⟩

set_option maxRecDepth 100000 in
theorem out4 : Out (ins c M0 M1 M3 M4 M5 M6 M9 M10 M11 M12 M15 f0 f1 f3 f4 f5 f6 f9 f10 f11 f12) 4 (by decide)
    ⟨(kernelRun.sl.v1601 c M0 M1 M2 M3 M4 M5 M6 M7 M8 M9 M10 M11 M12 M15 f0 f1 f2 f3 f4 f5 f6 f7 f8 f9 f10 f11 f12), (kernelRun.sl.v1588 c M0 M1 M2 M3 M4 M5 M6 M7 M8 M9 M10 M11 M12 M15 f0 f1 f2 f3 f4 f5 f6 f7 f8 f9 f10 f11 f12),
      (kernelRun.sl.v1588 c M0 M1 M2 M3 M4 M5 M6 M7 M8 M9 M10 M11 M12 M15 f0 f1 f2 f3 f4 f5 f6 f7 f8 f9 f10 f11 f12), gates4 c M0 M1 M2 M3 M4 M5 M6 M7 M8 M9 M10 M11 M12 M15 f0 f1 f2 f3 f4 f5 f6 f7 f8 f9 f10 f11 f12⟩
    (kernelRun.sl.v1811 c M0 M1 M2 M3 M4 M5 M6 M7 M8 M9 M10 M11 M12 M15 f0 f1 f2 f3 f4 f5 f6 f7 f8 f9 f10 f11 f12)
    (kernelRun.sl.v2005 c M0 M1 M2 M3 M4 M5 M6 M7 M8 M9 M10 M11 M12 M15 f0 f1 f2 f3 f4 f5 f6 f7 f8 f9 f10 f11 f12)
    (kernelRun.sl.v2038 c M0 M1 M2 M3 M4 M5 M6 M7 M8 M9 M10 M11 M12 M15 f0 f1 f2 f3 f4 f5 f6 f7 f8 f9 f10 f11 f12)
    (kernelRun.sl.v2035 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next4 : Next (ins c M0 M1 M3 M4 M5 M6 M9 M10 M11 M12 M15 f0 f1 f3 f4 f5 f6 f9 f10 f11 f12)
    ⟨(kernelRun.sl.v1601 c M0 M1 M2 M3 M4 M5 M6 M7 M8 M9 M10 M11 M12 M15 f0 f1 f2 f3 f4 f5 f6 f7 f8 f9 f10 f11 f12), (kernelRun.sl.v1588 c M0 M1 M2 M3 M4 M5 M6 M7 M8 M9 M10 M11 M12 M15 f0 f1 f2 f3 f4 f5 f6 f7 f8 f9 f10 f11 f12),
      (kernelRun.sl.v1588 c M0 M1 M2 M3 M4 M5 M6 M7 M8 M9 M10 M11 M12 M15 f0 f1 f2 f3 f4 f5 f6 f7 f8 f9 f10 f11 f12), gates4 c M0 M1 M2 M3 M4 M5 M6 M7 M8 M9 M10 M11 M12 M15 f0 f1 f2 f3 f4 f5 f6 f7 f8 f9 f10 f11 f12⟩
    (kernelRun.sl.v1811 c M0 M1 M2 M3 M4 M5 M6 M7 M8 M9 M10 M11 M12 M15 f0 f1 f2 f3 f4 f5 f6 f7 f8 f9 f10 f11 f12)
    (kernelRun.sl.v2005 c M0 M1 M2 M3 M4 M5 M6 M7 M8 M9 M10 M11 M12 M15 f0 f1 f2 f3 f4 f5 f6 f7 f8 f9 f10 f11 f12)
    [(kernelRun.sl.v2027 c M0 M1 M2 M3 M4 M5 M6 M7 M8 M9 M10 M11 M12 M15 f0 f1 f2 f3 f4 f5 f6 f7 f8 f9 f10 f11 f12),
     (kernelRun.sl.v1698 c M0 M1 M2 M3 M4 M5 M6 M7 M8 M9 M10 M11 M12 M15 f0 f1 f2 f3 f4 f5 f6 f7 f8 f9 f10 f11 f12),
     (kernelRun.sl.v1679 c M0 M1 M2 M3 M4 M5 M6 M7 M8 M9 M10 M11 M12 M15 f0 f1 f2 f3 f4 f5 f6 f7 f8 f9 f10 f11 f12),
     (kernelRun.sl.v1660 c M0 M1 M2 M3 M4 M5 M6 M7 M8 M9 M10 M11 M12 M15 f0 f1 f2 f3 f4 f5 f6 f7 f8 f9 f10 f11 f12),
     (kernelRun.sl.v1641 c M0 M1 M2 M3 M4 M5 M6 M7 M8 M9 M10 M11 M12 M15 f0 f1 f2 f3 f4 f5 f6 f7 f8 f9 f10 f11 f12)]
    ⟨(kernelRun.sl.v2040 c M0 M1 M2 M3 M4 M5 M6 M7 M8 M9 M10 M11 M12 M15 f0 f1 f2 f3 f4 f5 f6 f7 f8 f9 f10 f11 f12), (kernelRun.sl.v2027 c M0 M1 M2 M3 M4 M5 M6 M7 M8 M9 M10 M11 M12 M15 f0 f1 f2 f3 f4 f5 f6 f7 f8 f9 f10 f11 f12),
      (kernelRun.sl.v2027 c M0 M1 M2 M3 M4 M5 M6 M7 M8 M9 M10 M11 M12 M15 f0 f1 f2 f3 f4 f5 f6 f7 f8 f9 f10 f11 f12), gates5 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, trivial⟩, rfl, rfl⟩

set_option maxRecDepth 100000 in
theorem out5 : Out (ins c M0 M1 M3 M4 M5 M6 M9 M10 M11 M12 M15 f0 f1 f3 f4 f5 f6 f9 f10 f11 f12) 5 (by decide)
    ⟨(kernelRun.sl.v2040 c M0 M1 M2 M3 M4 M5 M6 M7 M8 M9 M10 M11 M12 M15 f0 f1 f2 f3 f4 f5 f6 f7 f8 f9 f10 f11 f12), (kernelRun.sl.v2027 c M0 M1 M2 M3 M4 M5 M6 M7 M8 M9 M10 M11 M12 M15 f0 f1 f2 f3 f4 f5 f6 f7 f8 f9 f10 f11 f12),
      (kernelRun.sl.v2027 c M0 M1 M2 M3 M4 M5 M6 M7 M8 M9 M10 M11 M12 M15 f0 f1 f2 f3 f4 f5 f6 f7 f8 f9 f10 f11 f12), gates5 c M0 M1 M2 M3 M4 M5 M6 M7 M8 M9 M10 M11 M12 M15 f0 f1 f2 f3 f4 f5 f6 f7 f8 f9 f10 f11 f12⟩
    (kernelRun.sl.v2269 c M0 M1 M2 M3 M4 M5 M6 M7 M8 M9 M10 M11 M12 M15 f0 f1 f2 f3 f4 f5 f6 f7 f8 f9 f10 f11 f12)
    (kernelRun.sl.v2463 c M0 M1 M2 M3 M4 M5 M6 M7 M8 M9 M10 M11 M12 M15 f0 f1 f2 f3 f4 f5 f6 f7 f8 f9 f10 f11 f12)
    (kernelRun.sl.v2496 c M0 M1 M2 M3 M4 M5 M6 M7 M8 M9 M10 M11 M12 M15 f0 f1 f2 f3 f4 f5 f6 f7 f8 f9 f10 f11 f12)
    (kernelRun.sl.v2493 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next5 : Next (ins c M0 M1 M3 M4 M5 M6 M9 M10 M11 M12 M15 f0 f1 f3 f4 f5 f6 f9 f10 f11 f12)
    ⟨(kernelRun.sl.v2040 c M0 M1 M2 M3 M4 M5 M6 M7 M8 M9 M10 M11 M12 M15 f0 f1 f2 f3 f4 f5 f6 f7 f8 f9 f10 f11 f12), (kernelRun.sl.v2027 c M0 M1 M2 M3 M4 M5 M6 M7 M8 M9 M10 M11 M12 M15 f0 f1 f2 f3 f4 f5 f6 f7 f8 f9 f10 f11 f12),
      (kernelRun.sl.v2027 c M0 M1 M2 M3 M4 M5 M6 M7 M8 M9 M10 M11 M12 M15 f0 f1 f2 f3 f4 f5 f6 f7 f8 f9 f10 f11 f12), gates5 c M0 M1 M2 M3 M4 M5 M6 M7 M8 M9 M10 M11 M12 M15 f0 f1 f2 f3 f4 f5 f6 f7 f8 f9 f10 f11 f12⟩
    (kernelRun.sl.v2269 c M0 M1 M2 M3 M4 M5 M6 M7 M8 M9 M10 M11 M12 M15 f0 f1 f2 f3 f4 f5 f6 f7 f8 f9 f10 f11 f12)
    (kernelRun.sl.v2463 c M0 M1 M2 M3 M4 M5 M6 M7 M8 M9 M10 M11 M12 M15 f0 f1 f2 f3 f4 f5 f6 f7 f8 f9 f10 f11 f12)
    [(kernelRun.sl.v2485 c M0 M1 M2 M3 M4 M5 M6 M7 M8 M9 M10 M11 M12 M15 f0 f1 f2 f3 f4 f5 f6 f7 f8 f9 f10 f11 f12),
     (kernelRun.sl.v2156 c M0 M1 M2 M3 M4 M5 M6 M7 M8 M9 M10 M11 M12 M15 f0 f1 f2 f3 f4 f5 f6 f7 f8 f9 f10 f11 f12),
     (kernelRun.sl.v2137 c M0 M1 M2 M3 M4 M5 M6 M7 M8 M9 M10 M11 M12 M15 f0 f1 f2 f3 f4 f5 f6 f7 f8 f9 f10 f11 f12),
     (kernelRun.sl.v2118 c M0 M1 M2 M3 M4 M5 M6 M7 M8 M9 M10 M11 M12 M15 f0 f1 f2 f3 f4 f5 f6 f7 f8 f9 f10 f11 f12),
     (kernelRun.sl.v2099 c M0 M1 M2 M3 M4 M5 M6 M7 M8 M9 M10 M11 M12 M15 f0 f1 f2 f3 f4 f5 f6 f7 f8 f9 f10 f11 f12),
     (kernelRun.sl.v2080 c M0 M1 M2 M3 M4 M5 M6 M7 M8 M9 M10 M11 M12 M15 f0 f1 f2 f3 f4 f5 f6 f7 f8 f9 f10 f11 f12)]
    ⟨(kernelRun.sl.v2498 c M0 M1 M2 M3 M4 M5 M6 M7 M8 M9 M10 M11 M12 M15 f0 f1 f2 f3 f4 f5 f6 f7 f8 f9 f10 f11 f12), (kernelRun.sl.v2485 c M0 M1 M2 M3 M4 M5 M6 M7 M8 M9 M10 M11 M12 M15 f0 f1 f2 f3 f4 f5 f6 f7 f8 f9 f10 f11 f12),
      (kernelRun.sl.v2485 c M0 M1 M2 M3 M4 M5 M6 M7 M8 M9 M10 M11 M12 M15 f0 f1 f2 f3 f4 f5 f6 f7 f8 f9 f10 f11 f12), gates6 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, trivial⟩, rfl, rfl⟩

set_option maxRecDepth 100000 in
theorem out6 : Out (ins c M0 M1 M3 M4 M5 M6 M9 M10 M11 M12 M15 f0 f1 f3 f4 f5 f6 f9 f10 f11 f12) 6 (by decide)
    ⟨(kernelRun.sl.v2498 c M0 M1 M2 M3 M4 M5 M6 M7 M8 M9 M10 M11 M12 M15 f0 f1 f2 f3 f4 f5 f6 f7 f8 f9 f10 f11 f12), (kernelRun.sl.v2485 c M0 M1 M2 M3 M4 M5 M6 M7 M8 M9 M10 M11 M12 M15 f0 f1 f2 f3 f4 f5 f6 f7 f8 f9 f10 f11 f12),
      (kernelRun.sl.v2485 c M0 M1 M2 M3 M4 M5 M6 M7 M8 M9 M10 M11 M12 M15 f0 f1 f2 f3 f4 f5 f6 f7 f8 f9 f10 f11 f12), gates6 c M0 M1 M2 M3 M4 M5 M6 M7 M8 M9 M10 M11 M12 M15 f0 f1 f2 f3 f4 f5 f6 f7 f8 f9 f10 f11 f12⟩
    (kernelRun.sl.v2746 c M0 M1 M2 M3 M4 M5 M6 M7 M8 M9 M10 M11 M12 M15 f0 f1 f2 f3 f4 f5 f6 f7 f8 f9 f10 f11 f12)
    (kernelRun.sl.v2940 c M0 M1 M2 M3 M4 M5 M6 M7 M8 M9 M10 M11 M12 M15 f0 f1 f2 f3 f4 f5 f6 f7 f8 f9 f10 f11 f12)
    (kernelRun.sl.v2973 c M0 M1 M2 M3 M4 M5 M6 M7 M8 M9 M10 M11 M12 M15 f0 f1 f2 f3 f4 f5 f6 f7 f8 f9 f10 f11 f12)
    (kernelRun.sl.v2970 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next6 : Next (ins c M0 M1 M3 M4 M5 M6 M9 M10 M11 M12 M15 f0 f1 f3 f4 f5 f6 f9 f10 f11 f12)
    ⟨(kernelRun.sl.v2498 c M0 M1 M2 M3 M4 M5 M6 M7 M8 M9 M10 M11 M12 M15 f0 f1 f2 f3 f4 f5 f6 f7 f8 f9 f10 f11 f12), (kernelRun.sl.v2485 c M0 M1 M2 M3 M4 M5 M6 M7 M8 M9 M10 M11 M12 M15 f0 f1 f2 f3 f4 f5 f6 f7 f8 f9 f10 f11 f12),
      (kernelRun.sl.v2485 c M0 M1 M2 M3 M4 M5 M6 M7 M8 M9 M10 M11 M12 M15 f0 f1 f2 f3 f4 f5 f6 f7 f8 f9 f10 f11 f12), gates6 c M0 M1 M2 M3 M4 M5 M6 M7 M8 M9 M10 M11 M12 M15 f0 f1 f2 f3 f4 f5 f6 f7 f8 f9 f10 f11 f12⟩
    (kernelRun.sl.v2746 c M0 M1 M2 M3 M4 M5 M6 M7 M8 M9 M10 M11 M12 M15 f0 f1 f2 f3 f4 f5 f6 f7 f8 f9 f10 f11 f12)
    (kernelRun.sl.v2940 c M0 M1 M2 M3 M4 M5 M6 M7 M8 M9 M10 M11 M12 M15 f0 f1 f2 f3 f4 f5 f6 f7 f8 f9 f10 f11 f12)
    [(kernelRun.sl.v2962 c M0 M1 M2 M3 M4 M5 M6 M7 M8 M9 M10 M11 M12 M15 f0 f1 f2 f3 f4 f5 f6 f7 f8 f9 f10 f11 f12),
     (kernelRun.sl.v2633 c M0 M1 M2 M3 M4 M5 M6 M7 M8 M9 M10 M11 M12 M15 f0 f1 f2 f3 f4 f5 f6 f7 f8 f9 f10 f11 f12),
     (kernelRun.sl.v2614 c M0 M1 M2 M3 M4 M5 M6 M7 M8 M9 M10 M11 M12 M15 f0 f1 f2 f3 f4 f5 f6 f7 f8 f9 f10 f11 f12),
     (kernelRun.sl.v2595 c M0 M1 M2 M3 M4 M5 M6 M7 M8 M9 M10 M11 M12 M15 f0 f1 f2 f3 f4 f5 f6 f7 f8 f9 f10 f11 f12),
     (kernelRun.sl.v2576 c M0 M1 M2 M3 M4 M5 M6 M7 M8 M9 M10 M11 M12 M15 f0 f1 f2 f3 f4 f5 f6 f7 f8 f9 f10 f11 f12),
     (kernelRun.sl.v2557 c M0 M1 M2 M3 M4 M5 M6 M7 M8 M9 M10 M11 M12 M15 f0 f1 f2 f3 f4 f5 f6 f7 f8 f9 f10 f11 f12),
     (kernelRun.sl.v2538 c M0 M1 M2 M3 M4 M5 M6 M7 M8 M9 M10 M11 M12 M15 f0 f1 f2 f3 f4 f5 f6 f7 f8 f9 f10 f11 f12)]
    ⟨(kernelRun.sl.v2975 c M0 M1 M2 M3 M4 M5 M6 M7 M8 M9 M10 M11 M12 M15 f0 f1 f2 f3 f4 f5 f6 f7 f8 f9 f10 f11 f12), (kernelRun.sl.v2962 c M0 M1 M2 M3 M4 M5 M6 M7 M8 M9 M10 M11 M12 M15 f0 f1 f2 f3 f4 f5 f6 f7 f8 f9 f10 f11 f12),
      (kernelRun.sl.v2962 c M0 M1 M2 M3 M4 M5 M6 M7 M8 M9 M10 M11 M12 M15 f0 f1 f2 f3 f4 f5 f6 f7 f8 f9 f10 f11 f12), gates7 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, trivial⟩, rfl, rfl⟩

set_option maxRecDepth 100000 in
theorem out7 : Out (ins c M0 M1 M3 M4 M5 M6 M9 M10 M11 M12 M15 f0 f1 f3 f4 f5 f6 f9 f10 f11 f12) 7 (by decide)
    ⟨(kernelRun.sl.v2975 c M0 M1 M2 M3 M4 M5 M6 M7 M8 M9 M10 M11 M12 M15 f0 f1 f2 f3 f4 f5 f6 f7 f8 f9 f10 f11 f12), (kernelRun.sl.v2962 c M0 M1 M2 M3 M4 M5 M6 M7 M8 M9 M10 M11 M12 M15 f0 f1 f2 f3 f4 f5 f6 f7 f8 f9 f10 f11 f12),
      (kernelRun.sl.v2962 c M0 M1 M2 M3 M4 M5 M6 M7 M8 M9 M10 M11 M12 M15 f0 f1 f2 f3 f4 f5 f6 f7 f8 f9 f10 f11 f12), gates7 c M0 M1 M2 M3 M4 M5 M6 M7 M8 M9 M10 M11 M12 M15 f0 f1 f2 f3 f4 f5 f6 f7 f8 f9 f10 f11 f12⟩
    (kernelRun.sl.v3242 c M0 M1 M2 M3 M4 M5 M6 M7 M8 M9 M10 M11 M12 M15 f0 f1 f2 f3 f4 f5 f6 f7 f8 f9 f10 f11 f12)
    (kernelRun.sl.v3436 c M0 M1 M2 M3 M4 M5 M6 M7 M8 M9 M10 M11 M12 M15 f0 f1 f2 f3 f4 f5 f6 f7 f8 f9 f10 f11 f12)
    (kernelRun.sl.v3469 c M0 M1 M2 M3 M4 M5 M6 M7 M8 M9 M10 M11 M12 M15 f0 f1 f2 f3 f4 f5 f6 f7 f8 f9 f10 f11 f12)
    (kernelRun.sl.v3466 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next7 : Next (ins c M0 M1 M3 M4 M5 M6 M9 M10 M11 M12 M15 f0 f1 f3 f4 f5 f6 f9 f10 f11 f12)
    ⟨(kernelRun.sl.v2975 c M0 M1 M2 M3 M4 M5 M6 M7 M8 M9 M10 M11 M12 M15 f0 f1 f2 f3 f4 f5 f6 f7 f8 f9 f10 f11 f12), (kernelRun.sl.v2962 c M0 M1 M2 M3 M4 M5 M6 M7 M8 M9 M10 M11 M12 M15 f0 f1 f2 f3 f4 f5 f6 f7 f8 f9 f10 f11 f12),
      (kernelRun.sl.v2962 c M0 M1 M2 M3 M4 M5 M6 M7 M8 M9 M10 M11 M12 M15 f0 f1 f2 f3 f4 f5 f6 f7 f8 f9 f10 f11 f12), gates7 c M0 M1 M2 M3 M4 M5 M6 M7 M8 M9 M10 M11 M12 M15 f0 f1 f2 f3 f4 f5 f6 f7 f8 f9 f10 f11 f12⟩
    (kernelRun.sl.v3242 c M0 M1 M2 M3 M4 M5 M6 M7 M8 M9 M10 M11 M12 M15 f0 f1 f2 f3 f4 f5 f6 f7 f8 f9 f10 f11 f12)
    (kernelRun.sl.v3436 c M0 M1 M2 M3 M4 M5 M6 M7 M8 M9 M10 M11 M12 M15 f0 f1 f2 f3 f4 f5 f6 f7 f8 f9 f10 f11 f12)
    [(kernelRun.sl.v3458 c M0 M1 M2 M3 M4 M5 M6 M7 M8 M9 M10 M11 M12 M15 f0 f1 f2 f3 f4 f5 f6 f7 f8 f9 f10 f11 f12),
     (kernelRun.sl.v3129 c M0 M1 M2 M3 M4 M5 M6 M7 M8 M9 M10 M11 M12 M15 f0 f1 f2 f3 f4 f5 f6 f7 f8 f9 f10 f11 f12),
     (kernelRun.sl.v3110 c M0 M1 M2 M3 M4 M5 M6 M7 M8 M9 M10 M11 M12 M15 f0 f1 f2 f3 f4 f5 f6 f7 f8 f9 f10 f11 f12),
     (kernelRun.sl.v3091 c M0 M1 M2 M3 M4 M5 M6 M7 M8 M9 M10 M11 M12 M15 f0 f1 f2 f3 f4 f5 f6 f7 f8 f9 f10 f11 f12),
     (kernelRun.sl.v3072 c M0 M1 M2 M3 M4 M5 M6 M7 M8 M9 M10 M11 M12 M15 f0 f1 f2 f3 f4 f5 f6 f7 f8 f9 f10 f11 f12),
     (kernelRun.sl.v3053 c M0 M1 M2 M3 M4 M5 M6 M7 M8 M9 M10 M11 M12 M15 f0 f1 f2 f3 f4 f5 f6 f7 f8 f9 f10 f11 f12),
     (kernelRun.sl.v3034 c M0 M1 M2 M3 M4 M5 M6 M7 M8 M9 M10 M11 M12 M15 f0 f1 f2 f3 f4 f5 f6 f7 f8 f9 f10 f11 f12),
     (kernelRun.sl.v3015 c M0 M1 M2 M3 M4 M5 M6 M7 M8 M9 M10 M11 M12 M15 f0 f1 f2 f3 f4 f5 f6 f7 f8 f9 f10 f11 f12)]
    ⟨(kernelRun.sl.v3471 c M0 M1 M2 M3 M4 M5 M6 M7 M8 M9 M10 M11 M12 M15 f0 f1 f2 f3 f4 f5 f6 f7 f8 f9 f10 f11 f12), (kernelRun.sl.v3458 c M0 M1 M2 M3 M4 M5 M6 M7 M8 M9 M10 M11 M12 M15 f0 f1 f2 f3 f4 f5 f6 f7 f8 f9 f10 f11 f12),
      (kernelRun.sl.v3458 c M0 M1 M2 M3 M4 M5 M6 M7 M8 M9 M10 M11 M12 M15 f0 f1 f2 f3 f4 f5 f6 f7 f8 f9 f10 f11 f12), gates8 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, trivial⟩, rfl, rfl⟩

set_option maxRecDepth 100000 in
theorem out8 : Out (ins c M0 M1 M3 M4 M5 M6 M9 M10 M11 M12 M15 f0 f1 f3 f4 f5 f6 f9 f10 f11 f12) 8 (by decide)
    ⟨(kernelRun.sl.v3471 c M0 M1 M2 M3 M4 M5 M6 M7 M8 M9 M10 M11 M12 M15 f0 f1 f2 f3 f4 f5 f6 f7 f8 f9 f10 f11 f12), (kernelRun.sl.v3458 c M0 M1 M2 M3 M4 M5 M6 M7 M8 M9 M10 M11 M12 M15 f0 f1 f2 f3 f4 f5 f6 f7 f8 f9 f10 f11 f12),
      (kernelRun.sl.v3458 c M0 M1 M2 M3 M4 M5 M6 M7 M8 M9 M10 M11 M12 M15 f0 f1 f2 f3 f4 f5 f6 f7 f8 f9 f10 f11 f12), gates8 c M0 M1 M2 M3 M4 M5 M6 M7 M8 M9 M10 M11 M12 M15 f0 f1 f2 f3 f4 f5 f6 f7 f8 f9 f10 f11 f12⟩
    (kernelRun.sl.v3757 c M0 M1 M2 M3 M4 M5 M6 M7 M8 M9 M10 M11 M12 M15 f0 f1 f2 f3 f4 f5 f6 f7 f8 f9 f10 f11 f12)
    (kernelRun.sl.v3951 c M0 M1 M2 M3 M4 M5 M6 M7 M8 M9 M10 M11 M12 M15 f0 f1 f2 f3 f4 f5 f6 f7 f8 f9 f10 f11 f12)
    (kernelRun.sl.v3984 c M0 M1 M2 M3 M4 M5 M6 M7 M8 M9 M10 M11 M12 M15 f0 f1 f2 f3 f4 f5 f6 f7 f8 f9 f10 f11 f12)
    (kernelRun.sl.v3981 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next8 : Next (ins c M0 M1 M3 M4 M5 M6 M9 M10 M11 M12 M15 f0 f1 f3 f4 f5 f6 f9 f10 f11 f12)
    ⟨(kernelRun.sl.v3471 c M0 M1 M2 M3 M4 M5 M6 M7 M8 M9 M10 M11 M12 M15 f0 f1 f2 f3 f4 f5 f6 f7 f8 f9 f10 f11 f12), (kernelRun.sl.v3458 c M0 M1 M2 M3 M4 M5 M6 M7 M8 M9 M10 M11 M12 M15 f0 f1 f2 f3 f4 f5 f6 f7 f8 f9 f10 f11 f12),
      (kernelRun.sl.v3458 c M0 M1 M2 M3 M4 M5 M6 M7 M8 M9 M10 M11 M12 M15 f0 f1 f2 f3 f4 f5 f6 f7 f8 f9 f10 f11 f12), gates8 c M0 M1 M2 M3 M4 M5 M6 M7 M8 M9 M10 M11 M12 M15 f0 f1 f2 f3 f4 f5 f6 f7 f8 f9 f10 f11 f12⟩
    (kernelRun.sl.v3757 c M0 M1 M2 M3 M4 M5 M6 M7 M8 M9 M10 M11 M12 M15 f0 f1 f2 f3 f4 f5 f6 f7 f8 f9 f10 f11 f12)
    (kernelRun.sl.v3951 c M0 M1 M2 M3 M4 M5 M6 M7 M8 M9 M10 M11 M12 M15 f0 f1 f2 f3 f4 f5 f6 f7 f8 f9 f10 f11 f12)
    [(kernelRun.sl.v3973 c M0 M1 M2 M3 M4 M5 M6 M7 M8 M9 M10 M11 M12 M15 f0 f1 f2 f3 f4 f5 f6 f7 f8 f9 f10 f11 f12),
     (kernelRun.sl.v3644 c M0 M1 M2 M3 M4 M5 M6 M7 M8 M9 M10 M11 M12 M15 f0 f1 f2 f3 f4 f5 f6 f7 f8 f9 f10 f11 f12),
     (kernelRun.sl.v3625 c M0 M1 M2 M3 M4 M5 M6 M7 M8 M9 M10 M11 M12 M15 f0 f1 f2 f3 f4 f5 f6 f7 f8 f9 f10 f11 f12),
     (kernelRun.sl.v3606 c M0 M1 M2 M3 M4 M5 M6 M7 M8 M9 M10 M11 M12 M15 f0 f1 f2 f3 f4 f5 f6 f7 f8 f9 f10 f11 f12),
     (kernelRun.sl.v3587 c M0 M1 M2 M3 M4 M5 M6 M7 M8 M9 M10 M11 M12 M15 f0 f1 f2 f3 f4 f5 f6 f7 f8 f9 f10 f11 f12),
     (kernelRun.sl.v3568 c M0 M1 M2 M3 M4 M5 M6 M7 M8 M9 M10 M11 M12 M15 f0 f1 f2 f3 f4 f5 f6 f7 f8 f9 f10 f11 f12),
     (kernelRun.sl.v3549 c M0 M1 M2 M3 M4 M5 M6 M7 M8 M9 M10 M11 M12 M15 f0 f1 f2 f3 f4 f5 f6 f7 f8 f9 f10 f11 f12),
     (kernelRun.sl.v3530 c M0 M1 M2 M3 M4 M5 M6 M7 M8 M9 M10 M11 M12 M15 f0 f1 f2 f3 f4 f5 f6 f7 f8 f9 f10 f11 f12),
     (kernelRun.sl.v3511 c M0 M1 M2 M3 M4 M5 M6 M7 M8 M9 M10 M11 M12 M15 f0 f1 f2 f3 f4 f5 f6 f7 f8 f9 f10 f11 f12)]
    ⟨(kernelRun.sl.v3986 c M0 M1 M2 M3 M4 M5 M6 M7 M8 M9 M10 M11 M12 M15 f0 f1 f2 f3 f4 f5 f6 f7 f8 f9 f10 f11 f12), (kernelRun.sl.v3973 c M0 M1 M2 M3 M4 M5 M6 M7 M8 M9 M10 M11 M12 M15 f0 f1 f2 f3 f4 f5 f6 f7 f8 f9 f10 f11 f12),
      (kernelRun.sl.v3973 c M0 M1 M2 M3 M4 M5 M6 M7 M8 M9 M10 M11 M12 M15 f0 f1 f2 f3 f4 f5 f6 f7 f8 f9 f10 f11 f12), gates9 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, trivial⟩, rfl, rfl⟩

set_option maxRecDepth 100000 in
theorem out9 : Out (ins c M0 M1 M3 M4 M5 M6 M9 M10 M11 M12 M15 f0 f1 f3 f4 f5 f6 f9 f10 f11 f12) 9 (by decide)
    ⟨(kernelRun.sl.v3986 c M0 M1 M2 M3 M4 M5 M6 M7 M8 M9 M10 M11 M12 M15 f0 f1 f2 f3 f4 f5 f6 f7 f8 f9 f10 f11 f12), (kernelRun.sl.v3973 c M0 M1 M2 M3 M4 M5 M6 M7 M8 M9 M10 M11 M12 M15 f0 f1 f2 f3 f4 f5 f6 f7 f8 f9 f10 f11 f12),
      (kernelRun.sl.v3973 c M0 M1 M2 M3 M4 M5 M6 M7 M8 M9 M10 M11 M12 M15 f0 f1 f2 f3 f4 f5 f6 f7 f8 f9 f10 f11 f12), gates9 c M0 M1 M2 M3 M4 M5 M6 M7 M8 M9 M10 M11 M12 M15 f0 f1 f2 f3 f4 f5 f6 f7 f8 f9 f10 f11 f12⟩
    (kernelRun.sl.v4291 c M0 M1 M2 M3 M4 M5 M6 M7 M8 M9 M10 M11 M12 M15 f0 f1 f2 f3 f4 f5 f6 f7 f8 f9 f10 f11 f12)
    (kernelRun.sl.v4485 c M0 M1 M2 M3 M4 M5 M6 M7 M8 M9 M10 M11 M12 M15 f0 f1 f2 f3 f4 f5 f6 f7 f8 f9 f10 f11 f12)
    (kernelRun.sl.v4518 c M0 M1 M2 M3 M4 M5 M6 M7 M8 M9 M10 M11 M12 M15 f0 f1 f2 f3 f4 f5 f6 f7 f8 f9 f10 f11 f12)
    (kernelRun.sl.v4515 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next9 : Next (ins c M0 M1 M3 M4 M5 M6 M9 M10 M11 M12 M15 f0 f1 f3 f4 f5 f6 f9 f10 f11 f12)
    ⟨(kernelRun.sl.v3986 c M0 M1 M2 M3 M4 M5 M6 M7 M8 M9 M10 M11 M12 M15 f0 f1 f2 f3 f4 f5 f6 f7 f8 f9 f10 f11 f12), (kernelRun.sl.v3973 c M0 M1 M2 M3 M4 M5 M6 M7 M8 M9 M10 M11 M12 M15 f0 f1 f2 f3 f4 f5 f6 f7 f8 f9 f10 f11 f12),
      (kernelRun.sl.v3973 c M0 M1 M2 M3 M4 M5 M6 M7 M8 M9 M10 M11 M12 M15 f0 f1 f2 f3 f4 f5 f6 f7 f8 f9 f10 f11 f12), gates9 c M0 M1 M2 M3 M4 M5 M6 M7 M8 M9 M10 M11 M12 M15 f0 f1 f2 f3 f4 f5 f6 f7 f8 f9 f10 f11 f12⟩
    (kernelRun.sl.v4291 c M0 M1 M2 M3 M4 M5 M6 M7 M8 M9 M10 M11 M12 M15 f0 f1 f2 f3 f4 f5 f6 f7 f8 f9 f10 f11 f12)
    (kernelRun.sl.v4485 c M0 M1 M2 M3 M4 M5 M6 M7 M8 M9 M10 M11 M12 M15 f0 f1 f2 f3 f4 f5 f6 f7 f8 f9 f10 f11 f12)
    [(kernelRun.sl.v4507 c M0 M1 M2 M3 M4 M5 M6 M7 M8 M9 M10 M11 M12 M15 f0 f1 f2 f3 f4 f5 f6 f7 f8 f9 f10 f11 f12),
     (kernelRun.sl.v4178 c M0 M1 M2 M3 M4 M5 M6 M7 M8 M9 M10 M11 M12 M15 f0 f1 f2 f3 f4 f5 f6 f7 f8 f9 f10 f11 f12),
     (kernelRun.sl.v4159 c M0 M1 M2 M3 M4 M5 M6 M7 M8 M9 M10 M11 M12 M15 f0 f1 f2 f3 f4 f5 f6 f7 f8 f9 f10 f11 f12),
     (kernelRun.sl.v4140 c M0 M1 M2 M3 M4 M5 M6 M7 M8 M9 M10 M11 M12 M15 f0 f1 f2 f3 f4 f5 f6 f7 f8 f9 f10 f11 f12),
     (kernelRun.sl.v4121 c M0 M1 M2 M3 M4 M5 M6 M7 M8 M9 M10 M11 M12 M15 f0 f1 f2 f3 f4 f5 f6 f7 f8 f9 f10 f11 f12),
     (kernelRun.sl.v4102 c M0 M1 M2 M3 M4 M5 M6 M7 M8 M9 M10 M11 M12 M15 f0 f1 f2 f3 f4 f5 f6 f7 f8 f9 f10 f11 f12),
     (kernelRun.sl.v4083 c M0 M1 M2 M3 M4 M5 M6 M7 M8 M9 M10 M11 M12 M15 f0 f1 f2 f3 f4 f5 f6 f7 f8 f9 f10 f11 f12),
     (kernelRun.sl.v4064 c M0 M1 M2 M3 M4 M5 M6 M7 M8 M9 M10 M11 M12 M15 f0 f1 f2 f3 f4 f5 f6 f7 f8 f9 f10 f11 f12),
     (kernelRun.sl.v4045 c M0 M1 M2 M3 M4 M5 M6 M7 M8 M9 M10 M11 M12 M15 f0 f1 f2 f3 f4 f5 f6 f7 f8 f9 f10 f11 f12),
     (kernelRun.sl.v4026 c M0 M1 M2 M3 M4 M5 M6 M7 M8 M9 M10 M11 M12 M15 f0 f1 f2 f3 f4 f5 f6 f7 f8 f9 f10 f11 f12)]
    ⟨(kernelRun.sl.v4520 c M0 M1 M2 M3 M4 M5 M6 M7 M8 M9 M10 M11 M12 M15 f0 f1 f2 f3 f4 f5 f6 f7 f8 f9 f10 f11 f12), (kernelRun.sl.v4507 c M0 M1 M2 M3 M4 M5 M6 M7 M8 M9 M10 M11 M12 M15 f0 f1 f2 f3 f4 f5 f6 f7 f8 f9 f10 f11 f12),
      (kernelRun.sl.v4507 c M0 M1 M2 M3 M4 M5 M6 M7 M8 M9 M10 M11 M12 M15 f0 f1 f2 f3 f4 f5 f6 f7 f8 f9 f10 f11 f12), gates10 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, trivial⟩, rfl, rfl⟩

set_option maxRecDepth 100000 in
theorem out10 : Out (ins c M0 M1 M3 M4 M5 M6 M9 M10 M11 M12 M15 f0 f1 f3 f4 f5 f6 f9 f10 f11 f12) 10 (by decide)
    ⟨(kernelRun.sl.v4520 c M0 M1 M2 M3 M4 M5 M6 M7 M8 M9 M10 M11 M12 M15 f0 f1 f2 f3 f4 f5 f6 f7 f8 f9 f10 f11 f12), (kernelRun.sl.v4507 c M0 M1 M2 M3 M4 M5 M6 M7 M8 M9 M10 M11 M12 M15 f0 f1 f2 f3 f4 f5 f6 f7 f8 f9 f10 f11 f12),
      (kernelRun.sl.v4507 c M0 M1 M2 M3 M4 M5 M6 M7 M8 M9 M10 M11 M12 M15 f0 f1 f2 f3 f4 f5 f6 f7 f8 f9 f10 f11 f12), gates10 c M0 M1 M2 M3 M4 M5 M6 M7 M8 M9 M10 M11 M12 M15 f0 f1 f2 f3 f4 f5 f6 f7 f8 f9 f10 f11 f12⟩
    (kernelRun.sl.v4844 c M0 M1 M2 M3 M4 M5 M6 M7 M8 M9 M10 M11 M12 M15 f0 f1 f2 f3 f4 f5 f6 f7 f8 f9 f10 f11 f12)
    (kernelRun.sl.v5038 c M0 M1 M2 M3 M4 M5 M6 M7 M8 M9 M10 M11 M12 M15 f0 f1 f2 f3 f4 f5 f6 f7 f8 f9 f10 f11 f12)
    (kernelRun.sl.v5071 c M0 M1 M2 M3 M4 M5 M6 M7 M8 M9 M10 M11 M12 M15 f0 f1 f2 f3 f4 f5 f6 f7 f8 f9 f10 f11 f12)
    (kernelRun.sl.v5068 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next10 : Next (ins c M0 M1 M3 M4 M5 M6 M9 M10 M11 M12 M15 f0 f1 f3 f4 f5 f6 f9 f10 f11 f12)
    ⟨(kernelRun.sl.v4520 c M0 M1 M2 M3 M4 M5 M6 M7 M8 M9 M10 M11 M12 M15 f0 f1 f2 f3 f4 f5 f6 f7 f8 f9 f10 f11 f12), (kernelRun.sl.v4507 c M0 M1 M2 M3 M4 M5 M6 M7 M8 M9 M10 M11 M12 M15 f0 f1 f2 f3 f4 f5 f6 f7 f8 f9 f10 f11 f12),
      (kernelRun.sl.v4507 c M0 M1 M2 M3 M4 M5 M6 M7 M8 M9 M10 M11 M12 M15 f0 f1 f2 f3 f4 f5 f6 f7 f8 f9 f10 f11 f12), gates10 c M0 M1 M2 M3 M4 M5 M6 M7 M8 M9 M10 M11 M12 M15 f0 f1 f2 f3 f4 f5 f6 f7 f8 f9 f10 f11 f12⟩
    (kernelRun.sl.v4844 c M0 M1 M2 M3 M4 M5 M6 M7 M8 M9 M10 M11 M12 M15 f0 f1 f2 f3 f4 f5 f6 f7 f8 f9 f10 f11 f12)
    (kernelRun.sl.v5038 c M0 M1 M2 M3 M4 M5 M6 M7 M8 M9 M10 M11 M12 M15 f0 f1 f2 f3 f4 f5 f6 f7 f8 f9 f10 f11 f12)
    [(kernelRun.sl.v5060 c M0 M1 M2 M3 M4 M5 M6 M7 M8 M9 M10 M11 M12 M15 f0 f1 f2 f3 f4 f5 f6 f7 f8 f9 f10 f11 f12),
     (kernelRun.sl.v4731 c M0 M1 M2 M3 M4 M5 M6 M7 M8 M9 M10 M11 M12 M15 f0 f1 f2 f3 f4 f5 f6 f7 f8 f9 f10 f11 f12),
     (kernelRun.sl.v4712 c M0 M1 M2 M3 M4 M5 M6 M7 M8 M9 M10 M11 M12 M15 f0 f1 f2 f3 f4 f5 f6 f7 f8 f9 f10 f11 f12),
     (kernelRun.sl.v4693 c M0 M1 M2 M3 M4 M5 M6 M7 M8 M9 M10 M11 M12 M15 f0 f1 f2 f3 f4 f5 f6 f7 f8 f9 f10 f11 f12),
     (kernelRun.sl.v4674 c M0 M1 M2 M3 M4 M5 M6 M7 M8 M9 M10 M11 M12 M15 f0 f1 f2 f3 f4 f5 f6 f7 f8 f9 f10 f11 f12),
     (kernelRun.sl.v4655 c M0 M1 M2 M3 M4 M5 M6 M7 M8 M9 M10 M11 M12 M15 f0 f1 f2 f3 f4 f5 f6 f7 f8 f9 f10 f11 f12),
     (kernelRun.sl.v4636 c M0 M1 M2 M3 M4 M5 M6 M7 M8 M9 M10 M11 M12 M15 f0 f1 f2 f3 f4 f5 f6 f7 f8 f9 f10 f11 f12),
     (kernelRun.sl.v4617 c M0 M1 M2 M3 M4 M5 M6 M7 M8 M9 M10 M11 M12 M15 f0 f1 f2 f3 f4 f5 f6 f7 f8 f9 f10 f11 f12),
     (kernelRun.sl.v4598 c M0 M1 M2 M3 M4 M5 M6 M7 M8 M9 M10 M11 M12 M15 f0 f1 f2 f3 f4 f5 f6 f7 f8 f9 f10 f11 f12),
     (kernelRun.sl.v4579 c M0 M1 M2 M3 M4 M5 M6 M7 M8 M9 M10 M11 M12 M15 f0 f1 f2 f3 f4 f5 f6 f7 f8 f9 f10 f11 f12),
     (kernelRun.sl.v4560 c M0 M1 M2 M3 M4 M5 M6 M7 M8 M9 M10 M11 M12 M15 f0 f1 f2 f3 f4 f5 f6 f7 f8 f9 f10 f11 f12)]
    ⟨(kernelRun.sl.v5073 c M0 M1 M2 M3 M4 M5 M6 M7 M8 M9 M10 M11 M12 M15 f0 f1 f2 f3 f4 f5 f6 f7 f8 f9 f10 f11 f12), (kernelRun.sl.v5060 c M0 M1 M2 M3 M4 M5 M6 M7 M8 M9 M10 M11 M12 M15 f0 f1 f2 f3 f4 f5 f6 f7 f8 f9 f10 f11 f12),
      (kernelRun.sl.v5060 c M0 M1 M2 M3 M4 M5 M6 M7 M8 M9 M10 M11 M12 M15 f0 f1 f2 f3 f4 f5 f6 f7 f8 f9 f10 f11 f12), gates11 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, rfl, trivial⟩, rfl, rfl⟩

set_option maxRecDepth 100000 in
theorem out11 : Out (ins c M0 M1 M3 M4 M5 M6 M9 M10 M11 M12 M15 f0 f1 f3 f4 f5 f6 f9 f10 f11 f12) 11 (by decide)
    ⟨(kernelRun.sl.v5073 c M0 M1 M2 M3 M4 M5 M6 M7 M8 M9 M10 M11 M12 M15 f0 f1 f2 f3 f4 f5 f6 f7 f8 f9 f10 f11 f12), (kernelRun.sl.v5060 c M0 M1 M2 M3 M4 M5 M6 M7 M8 M9 M10 M11 M12 M15 f0 f1 f2 f3 f4 f5 f6 f7 f8 f9 f10 f11 f12),
      (kernelRun.sl.v5060 c M0 M1 M2 M3 M4 M5 M6 M7 M8 M9 M10 M11 M12 M15 f0 f1 f2 f3 f4 f5 f6 f7 f8 f9 f10 f11 f12), gates11 c M0 M1 M2 M3 M4 M5 M6 M7 M8 M9 M10 M11 M12 M15 f0 f1 f2 f3 f4 f5 f6 f7 f8 f9 f10 f11 f12⟩
    (kernelRun.sl.v5416 c M0 M1 M2 M3 M4 M5 M6 M7 M8 M9 M10 M11 M12 M15 f0 f1 f2 f3 f4 f5 f6 f7 f8 f9 f10 f11 f12)
    (kernelRun.sl.v5610 c M0 M1 M2 M3 M4 M5 M6 M7 M8 M9 M10 M11 M12 M15 f0 f1 f2 f3 f4 f5 f6 f7 f8 f9 f10 f11 f12)
    (kernelRun.sl.v5643 c M0 M1 M2 M3 M4 M5 M6 M7 M8 M9 M10 M11 M12 M15 f0 f1 f2 f3 f4 f5 f6 f7 f8 f9 f10 f11 f12)
    (kernelRun.sl.v5640 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next11 : Next (ins c M0 M1 M3 M4 M5 M6 M9 M10 M11 M12 M15 f0 f1 f3 f4 f5 f6 f9 f10 f11 f12)
    ⟨(kernelRun.sl.v5073 c M0 M1 M2 M3 M4 M5 M6 M7 M8 M9 M10 M11 M12 M15 f0 f1 f2 f3 f4 f5 f6 f7 f8 f9 f10 f11 f12), (kernelRun.sl.v5060 c M0 M1 M2 M3 M4 M5 M6 M7 M8 M9 M10 M11 M12 M15 f0 f1 f2 f3 f4 f5 f6 f7 f8 f9 f10 f11 f12),
      (kernelRun.sl.v5060 c M0 M1 M2 M3 M4 M5 M6 M7 M8 M9 M10 M11 M12 M15 f0 f1 f2 f3 f4 f5 f6 f7 f8 f9 f10 f11 f12), gates11 c M0 M1 M2 M3 M4 M5 M6 M7 M8 M9 M10 M11 M12 M15 f0 f1 f2 f3 f4 f5 f6 f7 f8 f9 f10 f11 f12⟩
    (kernelRun.sl.v5416 c M0 M1 M2 M3 M4 M5 M6 M7 M8 M9 M10 M11 M12 M15 f0 f1 f2 f3 f4 f5 f6 f7 f8 f9 f10 f11 f12)
    (kernelRun.sl.v5610 c M0 M1 M2 M3 M4 M5 M6 M7 M8 M9 M10 M11 M12 M15 f0 f1 f2 f3 f4 f5 f6 f7 f8 f9 f10 f11 f12)
    [(kernelRun.sl.v5632 c M0 M1 M2 M3 M4 M5 M6 M7 M8 M9 M10 M11 M12 M15 f0 f1 f2 f3 f4 f5 f6 f7 f8 f9 f10 f11 f12),
     (kernelRun.sl.v5303 c M0 M1 M2 M3 M4 M5 M6 M7 M8 M9 M10 M11 M12 M15 f0 f1 f2 f3 f4 f5 f6 f7 f8 f9 f10 f11 f12),
     (kernelRun.sl.v5284 c M0 M1 M2 M3 M4 M5 M6 M7 M8 M9 M10 M11 M12 M15 f0 f1 f2 f3 f4 f5 f6 f7 f8 f9 f10 f11 f12),
     (kernelRun.sl.v5265 c M0 M1 M2 M3 M4 M5 M6 M7 M8 M9 M10 M11 M12 M15 f0 f1 f2 f3 f4 f5 f6 f7 f8 f9 f10 f11 f12),
     (kernelRun.sl.v5246 c M0 M1 M2 M3 M4 M5 M6 M7 M8 M9 M10 M11 M12 M15 f0 f1 f2 f3 f4 f5 f6 f7 f8 f9 f10 f11 f12),
     (kernelRun.sl.v5227 c M0 M1 M2 M3 M4 M5 M6 M7 M8 M9 M10 M11 M12 M15 f0 f1 f2 f3 f4 f5 f6 f7 f8 f9 f10 f11 f12),
     (kernelRun.sl.v5208 c M0 M1 M2 M3 M4 M5 M6 M7 M8 M9 M10 M11 M12 M15 f0 f1 f2 f3 f4 f5 f6 f7 f8 f9 f10 f11 f12),
     (kernelRun.sl.v5189 c M0 M1 M2 M3 M4 M5 M6 M7 M8 M9 M10 M11 M12 M15 f0 f1 f2 f3 f4 f5 f6 f7 f8 f9 f10 f11 f12),
     (kernelRun.sl.v5170 c M0 M1 M2 M3 M4 M5 M6 M7 M8 M9 M10 M11 M12 M15 f0 f1 f2 f3 f4 f5 f6 f7 f8 f9 f10 f11 f12),
     (kernelRun.sl.v5151 c M0 M1 M2 M3 M4 M5 M6 M7 M8 M9 M10 M11 M12 M15 f0 f1 f2 f3 f4 f5 f6 f7 f8 f9 f10 f11 f12),
     (kernelRun.sl.v5132 c M0 M1 M2 M3 M4 M5 M6 M7 M8 M9 M10 M11 M12 M15 f0 f1 f2 f3 f4 f5 f6 f7 f8 f9 f10 f11 f12),
     (kernelRun.sl.v5113 c M0 M1 M2 M3 M4 M5 M6 M7 M8 M9 M10 M11 M12 M15 f0 f1 f2 f3 f4 f5 f6 f7 f8 f9 f10 f11 f12)]
    ⟨(kernelRun.sl.v5645 c M0 M1 M2 M3 M4 M5 M6 M7 M8 M9 M10 M11 M12 M15 f0 f1 f2 f3 f4 f5 f6 f7 f8 f9 f10 f11 f12), (kernelRun.sl.v5632 c M0 M1 M2 M3 M4 M5 M6 M7 M8 M9 M10 M11 M12 M15 f0 f1 f2 f3 f4 f5 f6 f7 f8 f9 f10 f11 f12),
      (kernelRun.sl.v5632 c M0 M1 M2 M3 M4 M5 M6 M7 M8 M9 M10 M11 M12 M15 f0 f1 f2 f3 f4 f5 f6 f7 f8 f9 f10 f11 f12), gates12 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, rfl, rfl, trivial⟩, rfl, rfl⟩

set_option maxRecDepth 100000 in
theorem out12 : Out (ins c M0 M1 M3 M4 M5 M6 M9 M10 M11 M12 M15 f0 f1 f3 f4 f5 f6 f9 f10 f11 f12) 12 (by decide)
    ⟨(kernelRun.sl.v5645 c M0 M1 M2 M3 M4 M5 M6 M7 M8 M9 M10 M11 M12 M15 f0 f1 f2 f3 f4 f5 f6 f7 f8 f9 f10 f11 f12), (kernelRun.sl.v5632 c M0 M1 M2 M3 M4 M5 M6 M7 M8 M9 M10 M11 M12 M15 f0 f1 f2 f3 f4 f5 f6 f7 f8 f9 f10 f11 f12),
      (kernelRun.sl.v5632 c M0 M1 M2 M3 M4 M5 M6 M7 M8 M9 M10 M11 M12 M15 f0 f1 f2 f3 f4 f5 f6 f7 f8 f9 f10 f11 f12), gates12 c M0 M1 M2 M3 M4 M5 M6 M7 M8 M9 M10 M11 M12 M15 f0 f1 f2 f3 f4 f5 f6 f7 f8 f9 f10 f11 f12⟩
    (kernelRun.sl.v6007 c M0 M1 M2 M3 M4 M5 M6 M7 M8 M9 M10 M11 M12 M15 f0 f1 f2 f3 f4 f5 f6 f7 f8 f9 f10 f11 f12)
    (kernelRun.sl.v6201 c M0 M1 M2 M3 M4 M5 M6 M7 M8 M9 M10 M11 M12 M15 f0 f1 f2 f3 f4 f5 f6 f7 f8 f9 f10 f11 f12)
    (kernelRun.sl.v6234 c M0 M1 M2 M3 M4 M5 M6 M7 M8 M9 M10 M11 M12 M15 f0 f1 f2 f3 f4 f5 f6 f7 f8 f9 f10 f11 f12)
    (kernelRun.sl.v6231 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next12 : Next (ins c M0 M1 M3 M4 M5 M6 M9 M10 M11 M12 M15 f0 f1 f3 f4 f5 f6 f9 f10 f11 f12)
    ⟨(kernelRun.sl.v5645 c M0 M1 M2 M3 M4 M5 M6 M7 M8 M9 M10 M11 M12 M15 f0 f1 f2 f3 f4 f5 f6 f7 f8 f9 f10 f11 f12), (kernelRun.sl.v5632 c M0 M1 M2 M3 M4 M5 M6 M7 M8 M9 M10 M11 M12 M15 f0 f1 f2 f3 f4 f5 f6 f7 f8 f9 f10 f11 f12),
      (kernelRun.sl.v5632 c M0 M1 M2 M3 M4 M5 M6 M7 M8 M9 M10 M11 M12 M15 f0 f1 f2 f3 f4 f5 f6 f7 f8 f9 f10 f11 f12), gates12 c M0 M1 M2 M3 M4 M5 M6 M7 M8 M9 M10 M11 M12 M15 f0 f1 f2 f3 f4 f5 f6 f7 f8 f9 f10 f11 f12⟩
    (kernelRun.sl.v6007 c M0 M1 M2 M3 M4 M5 M6 M7 M8 M9 M10 M11 M12 M15 f0 f1 f2 f3 f4 f5 f6 f7 f8 f9 f10 f11 f12)
    (kernelRun.sl.v6201 c M0 M1 M2 M3 M4 M5 M6 M7 M8 M9 M10 M11 M12 M15 f0 f1 f2 f3 f4 f5 f6 f7 f8 f9 f10 f11 f12)
    [(kernelRun.sl.v6223 c M0 M1 M2 M3 M4 M5 M6 M7 M8 M9 M10 M11 M12 M15 f0 f1 f2 f3 f4 f5 f6 f7 f8 f9 f10 f11 f12),
     (kernelRun.sl.v5894 c M0 M1 M2 M3 M4 M5 M6 M7 M8 M9 M10 M11 M12 M15 f0 f1 f2 f3 f4 f5 f6 f7 f8 f9 f10 f11 f12),
     (kernelRun.sl.v5875 c M0 M1 M2 M3 M4 M5 M6 M7 M8 M9 M10 M11 M12 M15 f0 f1 f2 f3 f4 f5 f6 f7 f8 f9 f10 f11 f12),
     (kernelRun.sl.v5856 c M0 M1 M2 M3 M4 M5 M6 M7 M8 M9 M10 M11 M12 M15 f0 f1 f2 f3 f4 f5 f6 f7 f8 f9 f10 f11 f12),
     (kernelRun.sl.v5837 c M0 M1 M2 M3 M4 M5 M6 M7 M8 M9 M10 M11 M12 M15 f0 f1 f2 f3 f4 f5 f6 f7 f8 f9 f10 f11 f12),
     (kernelRun.sl.v5818 c M0 M1 M2 M3 M4 M5 M6 M7 M8 M9 M10 M11 M12 M15 f0 f1 f2 f3 f4 f5 f6 f7 f8 f9 f10 f11 f12),
     (kernelRun.sl.v5799 c M0 M1 M2 M3 M4 M5 M6 M7 M8 M9 M10 M11 M12 M15 f0 f1 f2 f3 f4 f5 f6 f7 f8 f9 f10 f11 f12),
     (kernelRun.sl.v5780 c M0 M1 M2 M3 M4 M5 M6 M7 M8 M9 M10 M11 M12 M15 f0 f1 f2 f3 f4 f5 f6 f7 f8 f9 f10 f11 f12),
     (kernelRun.sl.v5761 c M0 M1 M2 M3 M4 M5 M6 M7 M8 M9 M10 M11 M12 M15 f0 f1 f2 f3 f4 f5 f6 f7 f8 f9 f10 f11 f12),
     (kernelRun.sl.v5742 c M0 M1 M2 M3 M4 M5 M6 M7 M8 M9 M10 M11 M12 M15 f0 f1 f2 f3 f4 f5 f6 f7 f8 f9 f10 f11 f12),
     (kernelRun.sl.v5723 c M0 M1 M2 M3 M4 M5 M6 M7 M8 M9 M10 M11 M12 M15 f0 f1 f2 f3 f4 f5 f6 f7 f8 f9 f10 f11 f12),
     (kernelRun.sl.v5704 c M0 M1 M2 M3 M4 M5 M6 M7 M8 M9 M10 M11 M12 M15 f0 f1 f2 f3 f4 f5 f6 f7 f8 f9 f10 f11 f12),
     (kernelRun.sl.v5685 c M0 M1 M2 M3 M4 M5 M6 M7 M8 M9 M10 M11 M12 M15 f0 f1 f2 f3 f4 f5 f6 f7 f8 f9 f10 f11 f12)]
    ⟨(kernelRun.sl.v6236 c M0 M1 M2 M3 M4 M5 M6 M7 M8 M9 M10 M11 M12 M15 f0 f1 f2 f3 f4 f5 f6 f7 f8 f9 f10 f11 f12), (kernelRun.sl.v6223 c M0 M1 M2 M3 M4 M5 M6 M7 M8 M9 M10 M11 M12 M15 f0 f1 f2 f3 f4 f5 f6 f7 f8 f9 f10 f11 f12),
      (kernelRun.sl.v6223 c M0 M1 M2 M3 M4 M5 M6 M7 M8 M9 M10 M11 M12 M15 f0 f1 f2 f3 f4 f5 f6 f7 f8 f9 f10 f11 f12), gates13 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, rfl, rfl, rfl, trivial⟩, rfl, rfl⟩

set_option maxRecDepth 100000 in
theorem out13 : Out (ins c M0 M1 M3 M4 M5 M6 M9 M10 M11 M12 M15 f0 f1 f3 f4 f5 f6 f9 f10 f11 f12) 13 (by decide)
    ⟨(kernelRun.sl.v6236 c M0 M1 M2 M3 M4 M5 M6 M7 M8 M9 M10 M11 M12 M15 f0 f1 f2 f3 f4 f5 f6 f7 f8 f9 f10 f11 f12), (kernelRun.sl.v6223 c M0 M1 M2 M3 M4 M5 M6 M7 M8 M9 M10 M11 M12 M15 f0 f1 f2 f3 f4 f5 f6 f7 f8 f9 f10 f11 f12),
      (kernelRun.sl.v6223 c M0 M1 M2 M3 M4 M5 M6 M7 M8 M9 M10 M11 M12 M15 f0 f1 f2 f3 f4 f5 f6 f7 f8 f9 f10 f11 f12), gates13 c M0 M1 M2 M3 M4 M5 M6 M7 M8 M9 M10 M11 M12 M15 f0 f1 f2 f3 f4 f5 f6 f7 f8 f9 f10 f11 f12⟩
    (kernelRun.sl.v6617 c M0 M1 M2 M3 M4 M5 M6 M7 M8 M9 M10 M11 M12 M15 f0 f1 f2 f3 f4 f5 f6 f7 f8 f9 f10 f11 f12)
    (kernelRun.sl.v6811 c M0 M1 M2 M3 M4 M5 M6 M7 M8 M9 M10 M11 M12 M15 f0 f1 f2 f3 f4 f5 f6 f7 f8 f9 f10 f11 f12)
    (kernelRun.sl.v6844 c M0 M1 M2 M3 M4 M5 M6 M7 M8 M9 M10 M11 M12 M15 f0 f1 f2 f3 f4 f5 f6 f7 f8 f9 f10 f11 f12)
    (kernelRun.sl.v6841 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next13 : Next (ins c M0 M1 M3 M4 M5 M6 M9 M10 M11 M12 M15 f0 f1 f3 f4 f5 f6 f9 f10 f11 f12)
    ⟨(kernelRun.sl.v6236 c M0 M1 M2 M3 M4 M5 M6 M7 M8 M9 M10 M11 M12 M15 f0 f1 f2 f3 f4 f5 f6 f7 f8 f9 f10 f11 f12), (kernelRun.sl.v6223 c M0 M1 M2 M3 M4 M5 M6 M7 M8 M9 M10 M11 M12 M15 f0 f1 f2 f3 f4 f5 f6 f7 f8 f9 f10 f11 f12),
      (kernelRun.sl.v6223 c M0 M1 M2 M3 M4 M5 M6 M7 M8 M9 M10 M11 M12 M15 f0 f1 f2 f3 f4 f5 f6 f7 f8 f9 f10 f11 f12), gates13 c M0 M1 M2 M3 M4 M5 M6 M7 M8 M9 M10 M11 M12 M15 f0 f1 f2 f3 f4 f5 f6 f7 f8 f9 f10 f11 f12⟩
    (kernelRun.sl.v6617 c M0 M1 M2 M3 M4 M5 M6 M7 M8 M9 M10 M11 M12 M15 f0 f1 f2 f3 f4 f5 f6 f7 f8 f9 f10 f11 f12)
    (kernelRun.sl.v6811 c M0 M1 M2 M3 M4 M5 M6 M7 M8 M9 M10 M11 M12 M15 f0 f1 f2 f3 f4 f5 f6 f7 f8 f9 f10 f11 f12)
    [(kernelRun.sl.v6833 c M0 M1 M2 M3 M4 M5 M6 M7 M8 M9 M10 M11 M12 M15 f0 f1 f2 f3 f4 f5 f6 f7 f8 f9 f10 f11 f12),
     (kernelRun.sl.v6504 c M0 M1 M2 M3 M4 M5 M6 M7 M8 M9 M10 M11 M12 M15 f0 f1 f2 f3 f4 f5 f6 f7 f8 f9 f10 f11 f12),
     (kernelRun.sl.v6485 c M0 M1 M2 M3 M4 M5 M6 M7 M8 M9 M10 M11 M12 M15 f0 f1 f2 f3 f4 f5 f6 f7 f8 f9 f10 f11 f12),
     (kernelRun.sl.v6466 c M0 M1 M2 M3 M4 M5 M6 M7 M8 M9 M10 M11 M12 M15 f0 f1 f2 f3 f4 f5 f6 f7 f8 f9 f10 f11 f12),
     (kernelRun.sl.v6447 c M0 M1 M2 M3 M4 M5 M6 M7 M8 M9 M10 M11 M12 M15 f0 f1 f2 f3 f4 f5 f6 f7 f8 f9 f10 f11 f12),
     (kernelRun.sl.v6428 c M0 M1 M2 M3 M4 M5 M6 M7 M8 M9 M10 M11 M12 M15 f0 f1 f2 f3 f4 f5 f6 f7 f8 f9 f10 f11 f12),
     (kernelRun.sl.v6409 c M0 M1 M2 M3 M4 M5 M6 M7 M8 M9 M10 M11 M12 M15 f0 f1 f2 f3 f4 f5 f6 f7 f8 f9 f10 f11 f12),
     (kernelRun.sl.v6390 c M0 M1 M2 M3 M4 M5 M6 M7 M8 M9 M10 M11 M12 M15 f0 f1 f2 f3 f4 f5 f6 f7 f8 f9 f10 f11 f12),
     (kernelRun.sl.v6371 c M0 M1 M2 M3 M4 M5 M6 M7 M8 M9 M10 M11 M12 M15 f0 f1 f2 f3 f4 f5 f6 f7 f8 f9 f10 f11 f12),
     (kernelRun.sl.v6352 c M0 M1 M2 M3 M4 M5 M6 M7 M8 M9 M10 M11 M12 M15 f0 f1 f2 f3 f4 f5 f6 f7 f8 f9 f10 f11 f12),
     (kernelRun.sl.v6333 c M0 M1 M2 M3 M4 M5 M6 M7 M8 M9 M10 M11 M12 M15 f0 f1 f2 f3 f4 f5 f6 f7 f8 f9 f10 f11 f12),
     (kernelRun.sl.v6314 c M0 M1 M2 M3 M4 M5 M6 M7 M8 M9 M10 M11 M12 M15 f0 f1 f2 f3 f4 f5 f6 f7 f8 f9 f10 f11 f12),
     (kernelRun.sl.v6295 c M0 M1 M2 M3 M4 M5 M6 M7 M8 M9 M10 M11 M12 M15 f0 f1 f2 f3 f4 f5 f6 f7 f8 f9 f10 f11 f12),
     (kernelRun.sl.v6276 c M0 M1 M2 M3 M4 M5 M6 M7 M8 M9 M10 M11 M12 M15 f0 f1 f2 f3 f4 f5 f6 f7 f8 f9 f10 f11 f12)]
    ⟨(kernelRun.sl.v6846 c M0 M1 M2 M3 M4 M5 M6 M7 M8 M9 M10 M11 M12 M15 f0 f1 f2 f3 f4 f5 f6 f7 f8 f9 f10 f11 f12), (kernelRun.sl.v6833 c M0 M1 M2 M3 M4 M5 M6 M7 M8 M9 M10 M11 M12 M15 f0 f1 f2 f3 f4 f5 f6 f7 f8 f9 f10 f11 f12),
      (kernelRun.sl.v6833 c M0 M1 M2 M3 M4 M5 M6 M7 M8 M9 M10 M11 M12 M15 f0 f1 f2 f3 f4 f5 f6 f7 f8 f9 f10 f11 f12), gates14 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, rfl, rfl, rfl, rfl, trivial⟩, rfl, rfl⟩

set_option maxRecDepth 100000 in
theorem out14 : Out (ins c M0 M1 M3 M4 M5 M6 M9 M10 M11 M12 M15 f0 f1 f3 f4 f5 f6 f9 f10 f11 f12) 14 (by decide)
    ⟨(kernelRun.sl.v6846 c M0 M1 M2 M3 M4 M5 M6 M7 M8 M9 M10 M11 M12 M15 f0 f1 f2 f3 f4 f5 f6 f7 f8 f9 f10 f11 f12), (kernelRun.sl.v6833 c M0 M1 M2 M3 M4 M5 M6 M7 M8 M9 M10 M11 M12 M15 f0 f1 f2 f3 f4 f5 f6 f7 f8 f9 f10 f11 f12),
      (kernelRun.sl.v6833 c M0 M1 M2 M3 M4 M5 M6 M7 M8 M9 M10 M11 M12 M15 f0 f1 f2 f3 f4 f5 f6 f7 f8 f9 f10 f11 f12), gates14 c M0 M1 M2 M3 M4 M5 M6 M7 M8 M9 M10 M11 M12 M15 f0 f1 f2 f3 f4 f5 f6 f7 f8 f9 f10 f11 f12⟩
    (kernelRun.sl.v7246 c M0 M1 M2 M3 M4 M5 M6 M7 M8 M9 M10 M11 M12 M15 f0 f1 f2 f3 f4 f5 f6 f7 f8 f9 f10 f11 f12)
    (kernelRun.sl.v7440 c M0 M1 M2 M3 M4 M5 M6 M7 M8 M9 M10 M11 M12 M15 f0 f1 f2 f3 f4 f5 f6 f7 f8 f9 f10 f11 f12)
    (kernelRun.sl.v7473 c M0 M1 M2 M3 M4 M5 M6 M7 M8 M9 M10 M11 M12 M15 f0 f1 f2 f3 f4 f5 f6 f7 f8 f9 f10 f11 f12)
    (kernelRun.sl.v7470 c M0 M1 M2 M3 M4 M5 M6 M7 M8 M9 M10 M11 M12 M15 f0 f1 f2 f3 f4 f5 f6 f7 f8 f9 f10 f11 f12) :=
  ⟨rfl, fun _ => rfl, rfl, rfl⟩

set_option maxRecDepth 100000 in
theorem next14 : Next (ins c M0 M1 M3 M4 M5 M6 M9 M10 M11 M12 M15 f0 f1 f3 f4 f5 f6 f9 f10 f11 f12)
    ⟨(kernelRun.sl.v6846 c M0 M1 M2 M3 M4 M5 M6 M7 M8 M9 M10 M11 M12 M15 f0 f1 f2 f3 f4 f5 f6 f7 f8 f9 f10 f11 f12), (kernelRun.sl.v6833 c M0 M1 M2 M3 M4 M5 M6 M7 M8 M9 M10 M11 M12 M15 f0 f1 f2 f3 f4 f5 f6 f7 f8 f9 f10 f11 f12),
      (kernelRun.sl.v6833 c M0 M1 M2 M3 M4 M5 M6 M7 M8 M9 M10 M11 M12 M15 f0 f1 f2 f3 f4 f5 f6 f7 f8 f9 f10 f11 f12), gates14 c M0 M1 M2 M3 M4 M5 M6 M7 M8 M9 M10 M11 M12 M15 f0 f1 f2 f3 f4 f5 f6 f7 f8 f9 f10 f11 f12⟩
    (kernelRun.sl.v7246 c M0 M1 M2 M3 M4 M5 M6 M7 M8 M9 M10 M11 M12 M15 f0 f1 f2 f3 f4 f5 f6 f7 f8 f9 f10 f11 f12)
    (kernelRun.sl.v7440 c M0 M1 M2 M3 M4 M5 M6 M7 M8 M9 M10 M11 M12 M15 f0 f1 f2 f3 f4 f5 f6 f7 f8 f9 f10 f11 f12)
    [(kernelRun.sl.v7462 c M0 M1 M2 M3 M4 M5 M6 M7 M8 M9 M10 M11 M12 M15 f0 f1 f2 f3 f4 f5 f6 f7 f8 f9 f10 f11 f12),
     (kernelRun.sl.v7133 c M0 M1 M2 M3 M4 M5 M6 M7 M8 M9 M10 M11 M12 M15 f0 f1 f2 f3 f4 f5 f6 f7 f8 f9 f10 f11 f12),
     (kernelRun.sl.v7114 c M0 M1 M2 M3 M4 M5 M6 M7 M8 M9 M10 M11 M12 M15 f0 f1 f2 f3 f4 f5 f6 f7 f8 f9 f10 f11 f12),
     (kernelRun.sl.v7095 c M0 M1 M2 M3 M4 M5 M6 M7 M8 M9 M10 M11 M12 M15 f0 f1 f2 f3 f4 f5 f6 f7 f8 f9 f10 f11 f12),
     (kernelRun.sl.v7076 c M0 M1 M2 M3 M4 M5 M6 M7 M8 M9 M10 M11 M12 M15 f0 f1 f2 f3 f4 f5 f6 f7 f8 f9 f10 f11 f12),
     (kernelRun.sl.v7057 c M0 M1 M2 M3 M4 M5 M6 M7 M8 M9 M10 M11 M12 M15 f0 f1 f2 f3 f4 f5 f6 f7 f8 f9 f10 f11 f12),
     (kernelRun.sl.v7038 c M0 M1 M2 M3 M4 M5 M6 M7 M8 M9 M10 M11 M12 M15 f0 f1 f2 f3 f4 f5 f6 f7 f8 f9 f10 f11 f12),
     (kernelRun.sl.v7019 c M0 M1 M2 M3 M4 M5 M6 M7 M8 M9 M10 M11 M12 M15 f0 f1 f2 f3 f4 f5 f6 f7 f8 f9 f10 f11 f12),
     (kernelRun.sl.v7000 c M0 M1 M2 M3 M4 M5 M6 M7 M8 M9 M10 M11 M12 M15 f0 f1 f2 f3 f4 f5 f6 f7 f8 f9 f10 f11 f12),
     (kernelRun.sl.v6981 c M0 M1 M2 M3 M4 M5 M6 M7 M8 M9 M10 M11 M12 M15 f0 f1 f2 f3 f4 f5 f6 f7 f8 f9 f10 f11 f12),
     (kernelRun.sl.v6962 c M0 M1 M2 M3 M4 M5 M6 M7 M8 M9 M10 M11 M12 M15 f0 f1 f2 f3 f4 f5 f6 f7 f8 f9 f10 f11 f12),
     (kernelRun.sl.v6943 c M0 M1 M2 M3 M4 M5 M6 M7 M8 M9 M10 M11 M12 M15 f0 f1 f2 f3 f4 f5 f6 f7 f8 f9 f10 f11 f12),
     (kernelRun.sl.v6924 c M0 M1 M2 M3 M4 M5 M6 M7 M8 M9 M10 M11 M12 M15 f0 f1 f2 f3 f4 f5 f6 f7 f8 f9 f10 f11 f12),
     (kernelRun.sl.v6905 c M0 M1 M2 M3 M4 M5 M6 M7 M8 M9 M10 M11 M12 M15 f0 f1 f2 f3 f4 f5 f6 f7 f8 f9 f10 f11 f12),
     (kernelRun.sl.v6886 c M0 M1 M2 M3 M4 M5 M6 M7 M8 M9 M10 M11 M12 M15 f0 f1 f2 f3 f4 f5 f6 f7 f8 f9 f10 f11 f12)]
    ⟨(kernelRun.sl.v7475 c M0 M1 M2 M3 M4 M5 M6 M7 M8 M9 M10 M11 M12 M15 f0 f1 f2 f3 f4 f5 f6 f7 f8 f9 f10 f11 f12), (kernelRun.sl.v7462 c M0 M1 M2 M3 M4 M5 M6 M7 M8 M9 M10 M11 M12 M15 f0 f1 f2 f3 f4 f5 f6 f7 f8 f9 f10 f11 f12),
      (kernelRun.sl.v7462 c M0 M1 M2 M3 M4 M5 M6 M7 M8 M9 M10 M11 M12 M15 f0 f1 f2 f3 f4 f5 f6 f7 f8 f9 f10 f11 f12), gates15 c M0 M1 M2 M3 M4 M5 M6 M7 M8 M9 M10 M11 M12 M15 f0 f1 f2 f3 f4 f5 f6 f7 f8 f9 f10 f11 f12⟩ :=
  ⟨rfl, rfl, ⟨rfl, rfl, rfl, rfl, rfl, rfl, rfl, rfl, rfl, rfl, rfl, rfl, rfl, rfl, rfl, trivial⟩, rfl, rfl⟩

set_option maxRecDepth 100000 in
theorem out15 : Out (ins c M0 M1 M3 M4 M5 M6 M9 M10 M11 M12 M15 f0 f1 f3 f4 f5 f6 f9 f10 f11 f12) 15 (by decide)
    ⟨(kernelRun.sl.v7475 c M0 M1 M2 M3 M4 M5 M6 M7 M8 M9 M10 M11 M12 M15 f0 f1 f2 f3 f4 f5 f6 f7 f8 f9 f10 f11 f12), (kernelRun.sl.v7462 c M0 M1 M2 M3 M4 M5 M6 M7 M8 M9 M10 M11 M12 M15 f0 f1 f2 f3 f4 f5 f6 f7 f8 f9 f10 f11 f12),
      (kernelRun.sl.v7462 c M0 M1 M2 M3 M4 M5 M6 M7 M8 M9 M10 M11 M12 M15 f0 f1 f2 f3 f4 f5 f6 f7 f8 f9 f10 f11 f12), gates15 c M0 M1 M2 M3 M4 M5 M6 M7 M8 M9 M10 M11 M12 M15 f0 f1 f2 f3 f4 f5 f6 f7 f8 f9 f10 f11 f12⟩
    (kernelRun.sl.v7609 c M0 M1 M2 M3 M4 M5 M6 M7 M8 M9 M10 M11 M12 M15 f0 f1 f2 f3 f4 f5 f6 f7 f8 f9 f10 f11 f12)
    (kernelRun.sl.v7803 c M0 M1 M2 M3 M4 M5 M6 M7 M8 M9 M10 M11 M12 M15 f0 f1 f2 f3 f4 f5 f6 f7 f8 f9 f10 f11 f12)
    (kernelRun.sl.v7814 c M0 M1 M2 M3 M4 M5 M6 M7 M8 M9 M10 M11 M12 M15 f0 f1 f2 f3 f4 f5 f6 f7 f8 f9 f10 f11 f12)
    (kernelRun.sl.v7811 c M0 M1 M2 M3 M4 M5 M6 M7 M8 M9 M10 M11 M12 M15 f0 f1 f2 f3 f4 f5 f6 f7 f8 f9 f10 f11 f12) :=
  ⟨rfl, fun _ => rfl, rfl, rfl⟩

/-- The state before the first step. -/
theorem start_eq : ⟨(kernelRun.sl.v22 c M2 f2), (kernelRun.sl.v18 c M0 M7 M8 f0 f7 f8),
      kernelRun.sl.v23 (F := F), []⟩ = (ins₀ c M0 M2 M7 M8 f0 f2 f7 f8) := rfl

set_option maxRecDepth 100000 in
/-- The writes of the run are the writes of the sixteen steps. -/
theorem writes_eq : (kernelRun.sl.H13_16 c M0 M1 M2 M3 M4 M5 M6 M7 M8 M9 M10 M11 M12 M15 f0 f1 f2 f3 f4 f5 f6 f7 f8 f9 f10 f11 f12)
      = embWrites (ins c M0 M1 M3 M4 M5 M6 M9 M10 M11 M12 M15 f0 f1 f3 f4 f5 f6 f9 f10 f11 f12) (ins₀ c M0 M2 M7 M8 f0 f2 f7 f8) 16 (le_refl 16)
    ∧ (kernelRun.sl.H14_16 c M0 M1 M2 M3 M4 M5 M6 M7 M8 M9 M10 M11 M12 M15 f0 f1 f2 f3 f4 f5 f6 f7 f8 f9 f10 f11 f12)
      = selWrites (ins c M0 M1 M3 M4 M5 M6 M9 M10 M11 M12 M15 f0 f1 f3 f4 f5 f6 f9 f10 f11 f12) (ins₀ c M0 M2 M7 M8 f0 f2 f7 f8) 16 (le_refl 16) :=
  Upto.writes
    (((((((((((((((Upto.zero _ _
    |>.next (out0 c M0 M1 M2 M3 M4 M5 M6 M7 M8 M9 M10 M11 M12 M15 f0 f1 f2 f3 f4 f5 f6 f7 f8 f9 f10 f11 f12) (next0 c M0 M1 M2 M3 M4 M5 M6 M7 M8 M9 M10 M11 M12 M15 f0 f1 f2 f3 f4 f5 f6 f7 f8 f9 f10 f11 f12))
    |>.next (out1 c M0 M1 M2 M3 M4 M5 M6 M7 M8 M9 M10 M11 M12 M15 f0 f1 f2 f3 f4 f5 f6 f7 f8 f9 f10 f11 f12) (next1 c M0 M1 M2 M3 M4 M5 M6 M7 M8 M9 M10 M11 M12 M15 f0 f1 f2 f3 f4 f5 f6 f7 f8 f9 f10 f11 f12))
    |>.next (out2 c M0 M1 M2 M3 M4 M5 M6 M7 M8 M9 M10 M11 M12 M15 f0 f1 f2 f3 f4 f5 f6 f7 f8 f9 f10 f11 f12) (next2 c M0 M1 M2 M3 M4 M5 M6 M7 M8 M9 M10 M11 M12 M15 f0 f1 f2 f3 f4 f5 f6 f7 f8 f9 f10 f11 f12))
    |>.next (out3 c M0 M1 M2 M3 M4 M5 M6 M7 M8 M9 M10 M11 M12 M15 f0 f1 f2 f3 f4 f5 f6 f7 f8 f9 f10 f11 f12) (next3 c M0 M1 M2 M3 M4 M5 M6 M7 M8 M9 M10 M11 M12 M15 f0 f1 f2 f3 f4 f5 f6 f7 f8 f9 f10 f11 f12))
    |>.next (out4 c M0 M1 M2 M3 M4 M5 M6 M7 M8 M9 M10 M11 M12 M15 f0 f1 f2 f3 f4 f5 f6 f7 f8 f9 f10 f11 f12) (next4 c M0 M1 M2 M3 M4 M5 M6 M7 M8 M9 M10 M11 M12 M15 f0 f1 f2 f3 f4 f5 f6 f7 f8 f9 f10 f11 f12))
    |>.next (out5 c M0 M1 M2 M3 M4 M5 M6 M7 M8 M9 M10 M11 M12 M15 f0 f1 f2 f3 f4 f5 f6 f7 f8 f9 f10 f11 f12) (next5 c M0 M1 M2 M3 M4 M5 M6 M7 M8 M9 M10 M11 M12 M15 f0 f1 f2 f3 f4 f5 f6 f7 f8 f9 f10 f11 f12))
    |>.next (out6 c M0 M1 M2 M3 M4 M5 M6 M7 M8 M9 M10 M11 M12 M15 f0 f1 f2 f3 f4 f5 f6 f7 f8 f9 f10 f11 f12) (next6 c M0 M1 M2 M3 M4 M5 M6 M7 M8 M9 M10 M11 M12 M15 f0 f1 f2 f3 f4 f5 f6 f7 f8 f9 f10 f11 f12))
    |>.next (out7 c M0 M1 M2 M3 M4 M5 M6 M7 M8 M9 M10 M11 M12 M15 f0 f1 f2 f3 f4 f5 f6 f7 f8 f9 f10 f11 f12) (next7 c M0 M1 M2 M3 M4 M5 M6 M7 M8 M9 M10 M11 M12 M15 f0 f1 f2 f3 f4 f5 f6 f7 f8 f9 f10 f11 f12))
    |>.next (out8 c M0 M1 M2 M3 M4 M5 M6 M7 M8 M9 M10 M11 M12 M15 f0 f1 f2 f3 f4 f5 f6 f7 f8 f9 f10 f11 f12) (next8 c M0 M1 M2 M3 M4 M5 M6 M7 M8 M9 M10 M11 M12 M15 f0 f1 f2 f3 f4 f5 f6 f7 f8 f9 f10 f11 f12))
    |>.next (out9 c M0 M1 M2 M3 M4 M5 M6 M7 M8 M9 M10 M11 M12 M15 f0 f1 f2 f3 f4 f5 f6 f7 f8 f9 f10 f11 f12) (next9 c M0 M1 M2 M3 M4 M5 M6 M7 M8 M9 M10 M11 M12 M15 f0 f1 f2 f3 f4 f5 f6 f7 f8 f9 f10 f11 f12))
    |>.next (out10 c M0 M1 M2 M3 M4 M5 M6 M7 M8 M9 M10 M11 M12 M15 f0 f1 f2 f3 f4 f5 f6 f7 f8 f9 f10 f11 f12) (next10 c M0 M1 M2 M3 M4 M5 M6 M7 M8 M9 M10 M11 M12 M15 f0 f1 f2 f3 f4 f5 f6 f7 f8 f9 f10 f11 f12))
    |>.next (out11 c M0 M1 M2 M3 M4 M5 M6 M7 M8 M9 M10 M11 M12 M15 f0 f1 f2 f3 f4 f5 f6 f7 f8 f9 f10 f11 f12) (next11 c M0 M1 M2 M3 M4 M5 M6 M7 M8 M9 M10 M11 M12 M15 f0 f1 f2 f3 f4 f5 f6 f7 f8 f9 f10 f11 f12))
    |>.next (out12 c M0 M1 M2 M3 M4 M5 M6 M7 M8 M9 M10 M11 M12 M15 f0 f1 f2 f3 f4 f5 f6 f7 f8 f9 f10 f11 f12) (next12 c M0 M1 M2 M3 M4 M5 M6 M7 M8 M9 M10 M11 M12 M15 f0 f1 f2 f3 f4 f5 f6 f7 f8 f9 f10 f11 f12))
    |>.next (out13 c M0 M1 M2 M3 M4 M5 M6 M7 M8 M9 M10 M11 M12 M15 f0 f1 f2 f3 f4 f5 f6 f7 f8 f9 f10 f11 f12) (next13 c M0 M1 M2 M3 M4 M5 M6 M7 M8 M9 M10 M11 M12 M15 f0 f1 f2 f3 f4 f5 f6 f7 f8 f9 f10 f11 f12))
    |>.next (out14 c M0 M1 M2 M3 M4 M5 M6 M7 M8 M9 M10 M11 M12 M15 f0 f1 f2 f3 f4 f5 f6 f7 f8 f9 f10 f11 f12) (next14 c M0 M1 M2 M3 M4 M5 M6 M7 M8 M9 M10 M11 M12 M15 f0 f1 f2 f3 f4 f5 f6 f7 f8 f9 f10 f11 f12)) (out15 c M0 M1 M2 M3 M4 M5 M6 M7 M8 M9 M10 M11 M12 M15 f0 f1 f2 f3 f4 f5 f6 f7 f8 f9 f10 f11 f12)

end Cert.KernelIdeal.Hand

end
-- ==== Proof.Launch.lean ====
/-
  The launch's operands and results: what the body reads is the arguments, and what its result arrays end at.
-/
module

public import proofs.«01_k».proof.Proof.KerEntry
public import proofs.«01_k».proof.Proof.Tie
public import Idealize.ShloMosaic.Lib.Pipeline.Value
public import Idealize.ShloMosaic.Lib.VecWindow
public import Idealize.ShloMosaic.Lib.Pointwise

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (c : Dev nD)

/-- What the body reads at the launch, and the state it starts from. -/
abbrev A : Ins Ideal := ins c (st0_0 t₀) (st0_1 t₀) (st0_3 t₀) (st0_4 t₀) (st0_5 t₀) (st0_6 t₀) (st0_9 t₀) (st0_10 t₀) (st0_11 t₀) (st0_12 t₀)
  (Memref.whole cc0_scratch0) (iblk m c 0 t₀) (iblk m c 1 t₀) (iblk m c 3 t₀) (iblk m c 4 t₀) (iblk m c 5 t₀) (iblk m c 6 t₀) (iblk m c 9 t₀)
  (iblk m c 10 t₀) (iblk m c 11 t₀) (iblk m c 12 t₀)
abbrev S₀ : St Ideal := ins₀ c (st0_0 t₀) (st0_2 t₀) (st0_7 t₀) (st0_8 t₀) (iblk m c 0 t₀) (iblk m c 2 t₀) (iblk m c 7 t₀) (iblk m c 8 t₀)

/-! Each operand's one block is its whole array. -/

theorem blk0 : iblk m c 0 t₀ = m ((c.tc : Thread nD τ).loc main_arg0) :=
  (Memref.read_access_unit_zero (Elt Ideal) main_arg0 (funext fun a => by fin_cases a <;> rfl) _ _).trans (V_main_arg0 m c)
theorem blk1 : iblk m c 1 t₀ = Cert.ReferenceIdeal.Step.K_main_v51 (F := Ideal) :=
  (Memref.read_access_unit_zero (Elt Ideal) main_v15 (funext fun a => by fin_cases a <;> rfl) _ _).trans (noise_entry m c)
theorem blk2 : iblk m c 2 t₀ = (uitofp .f32 (show IVec S16x1024 1 from m ((c.tc : Thread nD τ).loc main_arg2)) : FVec Ideal S16x1024 .f32) :=
  (Memref.read_access_unit_zero (Elt Ideal) main_v16 (funext fun a => by fin_cases a <;> rfl) _ _).trans (mask_entry m c)
theorem blk3 : iblk m c 3 t₀ = extractStridedSlice S128x128 ![0, 0] (show FVec Ideal S256x128 .f32 from m ((c.tc : Thread nD τ).loc main_arg3)) slices_S256x128_S128x128_0_0 :=
  (Memref.read_access_unit_zero (Elt Ideal) main_v17 (funext fun a => by fin_cases a <;> rfl) _ _).trans (up_entry m c)
theorem blk4 : iblk m c 4 t₀ = extractStridedSlice S128x128 ![128, 0] (show FVec Ideal S256x128 .f32 from m ((c.tc : Thread nD τ).loc main_arg3)) slices_S256x128_S128x128_128_0 :=
  (Memref.read_access_unit_zero (Elt Ideal) main_v18 (funext fun a => by fin_cases a <;> rfl) _ _).trans (low_entry m c)
theorem blk5 : iblk m c 5 t₀ = shapeCast S1x128 (show FVec Ideal S128 .f32 from m ((c.tc : Thread nD τ).loc main_arg4)) shapeCasts_S128_S1x128 :=
  (Memref.read_access_unit_zero (Elt Ideal) main_v19 (funext fun a => by fin_cases a <;> rfl) _ _).trans (b1_entry m c)
theorem blk6 : iblk m c 6 t₀ = m ((c.tc : Thread nD τ).loc main_arg5) :=
  (Memref.read_access_unit_zero (Elt Ideal) main_arg5 (funext fun a => by fin_cases a <;> rfl) _ _).trans (V_main_arg5 m c)
theorem blk7 : iblk m c 7 t₀ = m ((c.tc : Thread nD τ).loc main_arg7) :=
  (Memref.read_access_unit_zero (Elt Ideal) main_arg7 (funext fun a => by fin_cases a <;> rfl) _ _).trans (V_main_arg7 m c)
theorem blk8 : iblk m c 8 t₀ = shapeCast S1x128 (show FVec Ideal S128 .f32 from m ((c.tc : Thread nD τ).loc main_arg8)) shapeCasts_S128_S1x128 :=
  (Memref.read_access_unit_zero (Elt Ideal) main_v20 (funext fun a => by fin_cases a <;> rfl) _ _).trans (cb_entry m c)
theorem blk9 : iblk m c 9 t₀ = transpose S128x384 [1, 0] (show FVec Ideal S384x128 .f32 from m ((c.tc : Thread nD τ).loc main_arg9)) transposes_S384x128_S128x384_1_0 :=
  (Memref.read_access_unit_zero (Elt Ideal) main_v21 (funext fun a => by fin_cases a <;> rfl) _ _).trans (wih_entry m c)
theorem blk10 : iblk m c 10 t₀ = transpose S128x384 [1, 0] (show FVec Ideal S384x128 .f32 from m ((c.tc : Thread nD τ).loc main_arg10)) transposes_S384x128_S128x384_1_0 :=
  (Memref.read_access_unit_zero (Elt Ideal) main_v22 (funext fun a => by fin_cases a <;> rfl) _ _).trans (whh_entry m c)
theorem blk11 : iblk m c 11 t₀ = shapeCast S1x384 (show FVec Ideal S384 .f32 from m ((c.tc : Thread nD τ).loc main_arg11)) shapeCasts_S384_S1x384 :=
  (Memref.read_access_unit_zero (Elt Ideal) main_v23 (funext fun a => by fin_cases a <;> rfl) _ _).trans (bih_entry m c)
theorem blk12 : iblk m c 12 t₀ = shapeCast S1x384 (show FVec Ideal S384 .f32 from m ((c.tc : Thread nD τ).loc main_arg12)) shapeCasts_S384_S1x384 :=
  (Memref.read_access_unit_zero (Elt Ideal) main_v24 (funext fun a => by fin_cases a <;> rfl) _ _).trans (bhh_entry m c)

/-! What the body reads of them, at an index. -/

theorem rd_at (b : Fin 16) (i : Fin 1024) (f : Fin 128) (h) : (A m c).rd ![b.val, i.val, 0] h (ix3 0 0 f)
    = (show FVec Ideal S16x1024x128 .f32 from m ((c.tc : Thread nD τ).loc main_arg0)) (ix3 b i f) := by
  refine (congrFun (View.readAt_unit (Val := Elt Ideal) (st0_0 t₀).view (iblk m c 0 t₀) h rfl h) _).trans ?_
  rw [blk0]
  refine congrArg (show FVec Ideal S16x1024x128 .f32 from m ((c.tc : Thread nD τ).loc main_arg0)) (funext fun a => Fin.ext ?_)
  fin_cases a
  · show b.val + 1 * 0 = b.val; omega
  · show i.val + 1 * 0 = i.val; omega
  · show 0 + 1 * f.val = f.val; omega

theorem gum_at (g : FVec Ideal S16x16x1024 .f32) (hg : iblk m c 1 t₀ = g) (n : ℕ) (hn : n < 16) (b : Fin 16) (p : Fin 1024) :
    (A m c).gum n hn (ix3 0 b p) = g (ix3 ⟨n, hn⟩ b p) := by
  refine (congrFun (View.readAt_unit (Val := Elt Ideal) (st0_1 t₀).view (iblk m c 1 t₀) (sel_inside n hn) rfl (sel_inside n hn)) _).trans ?_
  rw [hg]
  refine congrArg g (funext fun a => Fin.ext ?_)
  fin_cases a
  · show n + 1 * 0 = n; omega
  · show 0 + 1 * b.val = b.val; omega
  · show 0 + 1 * p.val = p.val; omega

theorem w1_at (y x : Fin 128) : (A m c).w1 (ix2 y x)
    = (show FVec Ideal S256x128 .f32 from m ((c.tc : Thread nD τ).loc main_arg3)) (ix2 ⟨128 + y, by omega⟩ x) := by
  refine (congrFun (View.readAt_full (Val := Elt Ideal) (st0_4 t₀).view (iblk m c 4 t₀) inb_S128x128_S128x128_0_0) _).trans ?_
  rw [blk4]
  show extractStridedSlice S128x128 ![128, 0] (show FVec Ideal S256x128 .f32 from m ((c.tc : Thread nD τ).loc main_arg3)) slices_S256x128_S128x128_128_0 (ix2 y x) = _
  pointwise

theorem b1_at (x : Fin 128) : (A m c).b1 (ix2 0 x) = (show FVec Ideal S128 .f32 from m ((c.tc : Thread nD τ).loc main_arg4)) (ix1 x) := by
  refine (congrFun (View.readAt_full (Val := Elt Ideal) (st0_5 t₀).view (iblk m c 5 t₀) inb_S1x128_S1x128_0_0) _).trans ?_
  rw [blk5]
  show shapeCast S1x128 _ _ (ix2 0 x) = _
  pointwise

theorem w2_at (x : Fin 128) : (A m c).w2 (ix2 x 0) = (show FVec Ideal S128x1 .f32 from m ((c.tc : Thread nD τ).loc main_arg5)) (ix2 x 0) := by
  refine (congrFun (View.readAt_full (Val := Elt Ideal) (st0_6 t₀).view (iblk m c 6 t₀) inb_S128x1_S128x1_0_0) _).trans ?_
  rw [blk6]
  rfl

theorem wih_at (x : Fin 128) (k : Fin 384) : (A m c).wih (ix2 x k)
    = (show FVec Ideal S384x128 .f32 from m ((c.tc : Thread nD τ).loc main_arg9)) (ix2 k x) := by
  refine (congrFun (View.readAt_full (Val := Elt Ideal) (st0_9 t₀).view (iblk m c 9 t₀) inb_S128x384_S128x384_0_0) _).trans ?_
  rw [blk9]
  show transpose S128x384 [1, 0] _ _ (ix2 x k) = _
  pointwise

theorem whh_at (x : Fin 128) (k : Fin 384) : (A m c).whh (ix2 x k)
    = (show FVec Ideal S384x128 .f32 from m ((c.tc : Thread nD τ).loc main_arg10)) (ix2 k x) := by
  refine (congrFun (View.readAt_full (Val := Elt Ideal) (st0_10 t₀).view (iblk m c 10 t₀) inb_S128x384_S128x384_0_0) _).trans ?_
  rw [blk10]
  show transpose S128x384 [1, 0] _ _ (ix2 x k) = _
  pointwise

theorem bih_at (k : Fin 384) : (A m c).bih (ix2 0 k) = (show FVec Ideal S384 .f32 from m ((c.tc : Thread nD τ).loc main_arg11)) (ix1 k) := by
  refine (congrFun (View.readAt_full (Val := Elt Ideal) (st0_11 t₀).view (iblk m c 11 t₀) inb_S1x384_S1x384_0_0) _).trans ?_
  rw [blk11]
  show shapeCast S1x384 _ _ (ix2 0 k) = _
  pointwise

theorem bhh_at (k : Fin 384) : (A m c).bhh (ix2 0 k) = (show FVec Ideal S384 .f32 from m ((c.tc : Thread nD τ).loc main_arg12)) (ix1 k) := by
  refine (congrFun (View.readAt_full (Val := Elt Ideal) (st0_12 t₀).view (iblk m c 12 t₀) inb_S1x384_S1x384_0_0) _).trans ?_
  rw [blk12]
  show shapeCast S1x384 _ _ (ix2 0 k) = _
  pointwise

/-- The first result's buffer after the body. -/
theorem embRes : (K m c).1.1 = (st0_13 t₀).view.writes (Elt Ideal) (st0_13 t₀).view.junk (embWrites (A m c) (S₀ m c) 16 (le_refl 16)) := by
  refine Eq.trans (b := (st0_13 t₀).view.writes (Elt Ideal) (st0_13 t₀).view.junk (kernelRun.sl.H13_16 c (st0_0 t₀) (st0_1 t₀) (st0_2 t₀) (st0_3 t₀) (st0_4 t₀) (st0_5 t₀)
    (st0_6 t₀) (st0_7 t₀) (st0_8 t₀) (st0_9 t₀) (st0_10 t₀) (st0_11 t₀) (st0_12 t₀) (Memref.whole cc0_scratch0)
    (iblk m c 0 t₀) (iblk m c 1 t₀) (iblk m c 2 t₀) (iblk m c 3 t₀) (iblk m c 4 t₀) (iblk m c 5 t₀) (iblk m c 6 t₀)
    (iblk m c 7 t₀) (iblk m c 8 t₀) (iblk m c 9 t₀) (iblk m c 10 t₀) (iblk m c 11 t₀) (iblk m c 12 t₀))) (by exact rfl) ?_
  rw [(writes_eq (F := Ideal) c _ _ _ _ _ _ _ _ _ _ _ _ _ _ _ _ _ _ _ _ _ _ _ _ _ _ _).1]

end Cert.KernelIdeal.Hand

end
-- ==== Proof.Result.lean ====
/-
  The launch's result arrays, block by block.
-/
module

public import proofs.«01_k».proof.Proof.Launch

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

section
variable {sp : Space} (A : Ins Ideal) (s₀ : St Ideal)

/-- After `n` steps' writes, plane `t < n` of the first result is what step `t` gathered. -/
theorem read_embWrites (v : View sig .tc sp S16x16x128 .f32) (f : v.ty.Contents (Elt Ideal)) (t b : Fin 16) (k : Fin 128) :
    ∀ (n : ℕ) (hn : n ≤ 16) (_ : t.val < n),
      v.read (Elt Ideal) (v.writes (Elt Ideal) f (embWrites A s₀ n hn)) (ix3 t b k) = embOf A t t.isLt (states A s₀ t (le_of_lt t.isLt)) (ix2 b k)
  | n + 1, hn, ht => by
    rcases Nat.lt_succ_iff_lt_or_eq.mp ht with h | h
    · rw [← read_embWrites v f t b k n (Nat.le_of_succ_le hn) h]
      exact View.read_writes_cons_unit_of_not_mem v f (emb_inside n hn) _ _ _ rfl 0 (Or.inl h)
    · subst h
      refine (View.read_writes_cons_unit_of_mem v f (emb_inside t.val hn) _ _ (ix3 t b k) (ix3 0 b k) rfl fun a => ?_).trans ?_
      · fin_cases a
        · show t.val = t.val + 0; omega
        · show b.val = 0 + b.val; omega
        · show k.val = 0 + k.val; omega
      · show shapeCast S1x16x128 (embOf A t t.isLt (states A s₀ t (le_of_lt t.isLt))) shapeCasts_S16x128_S1x16x128 (ix3 0 b k) = _
        generalize embOf A t t.isLt (states A s₀ t (le_of_lt t.isLt)) = e
        pointwise

/-- Likewise of the second result, what step `t` chose. -/
theorem read_selWrites (v : View sig .tc sp S16x16x1024 .f32) (f : v.ty.Contents (Elt Ideal)) (t b : Fin 16) (p : Fin 1024) :
    ∀ (n : ℕ) (hn : n ≤ 16) (_ : t.val < n),
      v.read (Elt Ideal) (v.writes (Elt Ideal) f (selWrites A s₀ n hn)) (ix3 t b p) = onehot (F := Ideal) (idxOf A t t.isLt (states A s₀ t (le_of_lt t.isLt))) (ix2 b p)
  | n + 1, hn, ht => by
    rcases Nat.lt_succ_iff_lt_or_eq.mp ht with h | h
    · rw [← read_selWrites v f t b p n (Nat.le_of_succ_le hn) h]
      exact View.read_writes_cons_unit_of_not_mem v f (sel_inside n hn) _ _ _ rfl 0 (Or.inl h)
    · subst h
      refine (View.read_writes_cons_unit_of_mem v f (sel_inside t.val hn) _ _ (ix3 t b p) (ix3 0 b p) rfl fun a => ?_).trans ?_
      · fin_cases a
        · show t.val = t.val + 0; omega
        · show b.val = 0 + b.val; omega
        · show p.val = 0 + p.val; omega
      · show shapeCast S1x16x1024 (onehot (F := Ideal) (idxOf A t t.isLt (states A s₀ t (le_of_lt t.isLt)))) shapeCasts_S16x1024_S1x16x1024 (ix3 0 b p) = _
        generalize onehot (F := Ideal) (idxOf A t t.isLt (states A s₀ t (le_of_lt t.isLt))) = e
        pointwise
end

variable (m : (ℓ : Loc nD τ sig) → Buf (Elt Ideal) ℓ) (c : Dev nD)

/-- The second result's buffer after the body, as the run writes it. -/
theorem selRun : (K m c).1.2 = (st0_14 t₀).view.writes (Elt Ideal) (st0_14 t₀).view.junk (kernelRun.sl.H14_16 c (st0_0 t₀) (st0_1 t₀) (st0_2 t₀) (st0_3 t₀) (st0_4 t₀) (st0_5 t₀)
    (st0_6 t₀) (st0_7 t₀) (st0_8 t₀) (st0_9 t₀) (st0_10 t₀) (st0_11 t₀) (st0_12 t₀) (Memref.whole cc0_scratch0)
    (iblk m c 0 t₀) (iblk m c 1 t₀) (iblk m c 2 t₀) (iblk m c 3 t₀) (iblk m c 4 t₀) (iblk m c 5 t₀) (iblk m c 6 t₀)
    (iblk m c 7 t₀) (iblk m c 8 t₀) (iblk m c 9 t₀) (iblk m c 10 t₀) (iblk m c 11 t₀) (iblk m c 12 t₀)) := by
  rw [show (K m c).1.2 = Prod.snd (Subtype.val (K m c)) from rfl]; delta K kernelRun; dsimp only

/-- The second result's buffer after the body. -/
theorem selRes : (K m c).1.2 = (st0_14 t₀).view.writes (Elt Ideal) (st0_14 t₀).view.junk (selWrites (A m c) (S₀ m c) 16 (le_refl 16)) :=
  (selRun m c).trans (congrArg _ (writes_eq (F := Ideal) c (st0_0 t₀) (st0_1 t₀) (st0_2 t₀) (st0_3 t₀) (st0_4 t₀) (st0_5 t₀)
    (st0_6 t₀) (st0_7 t₀) (st0_8 t₀) (st0_9 t₀) (st0_10 t₀) (st0_11 t₀) (st0_12 t₀) (Memref.whole cc0_scratch0)
    (iblk m c 0 t₀) (iblk m c 1 t₀) (iblk m c 2 t₀) (iblk m c 3 t₀) (iblk m c 4 t₀) (iblk m c 5 t₀) (iblk m c 6 t₀)
    (iblk m c 7 t₀) (iblk m c 8 t₀) (iblk m c 9 t₀) (iblk m c 10 t₀) (iblk m c 11 t₀) (iblk m c 12 t₀)).2)

end Cert.KernelIdeal.Hand

end
-- ==== Proof.Arrays.lean ====
/-
  The launch's result arrays, index by index.
-/
module

public import proofs.«01_k».proof.Proof.Result

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (c : Dev nD)

/-- The two results of the launch. -/
def embArr : FVec Ideal S16x16x128 .f32 := (K m c).1.1
def selArr : FVec Ideal S16x16x1024 .f32 := (K m c).1.2

/-- A view of a whole buffer reads what the buffer holds. -/
theorem stage13 (f : FVec Ideal S16x16x128 .f32) : (st0_13 t₀).view.read (Elt Ideal) f = f := rfl
theorem stage14 (f : FVec Ideal S16x16x1024 .f32) : (st0_14 t₀).view.read (Elt Ideal) f = f := rfl

theorem embArr_eq : embArr m c = (st0_13 t₀).view.read (Elt Ideal) ((st0_13 t₀).view.writes (Elt Ideal) (st0_13 t₀).view.junk (embWrites (A m c) (S₀ m c) 16 (le_refl 16))) :=
  (stage13 (embArr m c)).symm.trans (congrArg ((st0_13 t₀).view.read (Elt Ideal)) (embRes m c))
theorem selArr_eq : selArr m c = (st0_14 t₀).view.read (Elt Ideal) ((st0_14 t₀).view.writes (Elt Ideal) (st0_14 t₀).view.junk (selWrites (A m c) (S₀ m c) 16 (le_refl 16))) :=
  (stage14 (selArr m c)).symm.trans (congrArg ((st0_14 t₀).view.read (Elt Ideal)) (selRes m c))

theorem embArr_at (t b : Fin 16) (k : Fin 128) : embArr m c (ix3 t b k) = embOf (A m c) t t.isLt (states (A m c) (S₀ m c) t (le_of_lt t.isLt)) (ix2 b k) :=
  (congrFun (embArr_eq m c) _).trans (read_embWrites (A m c) (S₀ m c) (st0_13 t₀).view _ t b k 16 (le_refl 16) t.isLt)

theorem selArr_at (t b : Fin 16) (p : Fin 1024) : selArr m c (ix3 t b p) = onehot (F := Ideal) (idxOf (A m c) t t.isLt (states (A m c) (S₀ m c) t (le_of_lt t.isLt))) (ix2 b p) :=
  (congrFun (selArr_eq m c) _).trans (read_selWrites (A m c) (S₀ m c) (st0_14 t₀).view _ t b p 16 (le_refl 16) t.isLt)

/-- An array its one block covers ends at what the body leaves in that block. -/
theorem arr13 (dat : Pipeline.Dat τ (Elt Ideal) Unit ℕ (UR sig nD τ) ℕ cfg0 c) (f : FVec Ideal S16x16x128 .f32) (h : dat.after 13 t₀ = f) : dat.arrAt 13 cfg0.N = f :=
  dat.arrAt_eq_of_cover 13 f
    (fun t _ => by
      obtain rfl := fin_N0 t
      show (cfg0.win 13).cut (grid0.coords t₀) (dat.after 13 t₀) = _
      rw [h]
      exact (Memref.read_access_unit_zero (Elt Ideal) main_v25_0 (funext fun a => by fin_cases a <;> rfl) _ f).symm)
    fun i => ⟨t₀, by decide, by
      show i ∈ ((View.whole main_v25_0).slice (win0_13.rect t₀)).set
      rw [View.set_slice_whole, Rect.mem_set_unit]
      intro a
      have := (i a).isLt
      fin_cases a
      · exact ⟨Nat.zero_le _, this⟩
      · exact ⟨Nat.zero_le _, this⟩
      · exact ⟨Nat.zero_le _, this⟩⟩

theorem arr14 (dat : Pipeline.Dat τ (Elt Ideal) Unit ℕ (UR sig nD τ) ℕ cfg0 c) (f : FVec Ideal S16x16x1024 .f32) (h : dat.after 14 t₀ = f) : dat.arrAt 14 cfg0.N = f :=
  dat.arrAt_eq_of_cover 14 f
    (fun t _ => by
      obtain rfl := fin_N0 t
      show (cfg0.win 14).cut (grid0.coords t₀) (dat.after 14 t₀) = _
      rw [h]
      exact (Memref.read_access_unit_zero (Elt Ideal) main_v25_1 (funext fun a => by fin_cases a <;> rfl) _ f).symm)
    fun i => ⟨t₀, by decide, by
      show i ∈ ((View.whole main_v25_1).slice (win0_14.rect t₀)).set
      rw [View.set_slice_whole, Rect.mem_set_unit]
      intro a
      have := (i a).isLt
      fin_cases a
      · exact ⟨Nat.zero_le _, this⟩
      · exact ⟨Nat.zero_le _, this⟩
      · exact ⟨Nat.zero_le _, this⟩⟩

theorem final13 : (dats m 0 c).arrAt 13 cfg0.N = embArr m c := arr13 c (dats m 0 c) (embArr m c) (by unfold embArr; delta dats K kernelRun; dsimp only)
theorem final14 : (dats m 0 c).arrAt 14 cfg0.N = selArr m c := arr14 c (dats m 0 c) (selArr m c) (by unfold selArr; delta dats K kernelRun; dsimp only)

end Cert.KernelIdeal.Hand

end
-- ==== Proof.RefChain.lean ====
/-
  The recurrent unit of one step of the reference's loop: sixteen states, of which the step's counter takes one.
-/
module

public import proofs.«01_k».proof.Proof.Gen.ReferenceIdeal.Run
public import Idealize.ShloMosaic.Lib.Pointwise
public import Idealize.ShloMosaic.Lib.DynamicIndex

@[expose] public section

set_option maxRecDepth 65536
set_option maxHeartbeats 4000000

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

theorem ofBits_ninf : Ideal.ofBits .f32 4286578688#32 = ⊥ := by
  simp [Ideal.ofBits, Ideal.ieee]

/-- A batch of rows by a gate layer. -/
def gates (e : FVec Ideal S16x128 .f32) (w : FVec Ideal S384x128 .f32) (v : FVec Ideal S384 .f32) : FVec Ideal S16x384 .f32 :=
  addf (Host.dotGeneral dot_S16x128_S128x384_S16x384_1_0_0_1_n_n none e (transpose S128x384 [1, 0] w transposes_S384x128_S128x384_1_0))
    (broadcastInDim S16x384 ![0, 1] bcast_S1x384_S16x384_0_1 (broadcastInDim S1x384 ![1] bcast_S384_S1x384_1 v))

/-- The gate `1 / (1 + exp (−x))` of the two sides, from column `o` on. -/
def gate (o : ℕ) (ho : S16x384.Slices ![0, o] S16x128) (gi gh : FVec Ideal S16x384 .f32) : FVec Ideal S16x128 .f32 :=
  Host.divf (broadcastInDim S16x128 ![] bcast_S_S16x128 (constant S_ .f32 0x3F800000#32))
    (addf (broadcastInDim S16x128 ![] bcast_S_S16x128 (constant S_ .f32 0x3F800000#32))
      (Host.exp (Host.negf (addf (extractStridedSlice S16x128 ![0, o] gi ho) (extractStridedSlice S16x128 ![0, o] gh ho)))))

/-- The recurrent unit, from the two sides' gates. -/
def unit (gi gh : FVec Ideal S16x384 .f32) (h : FVec Ideal S16x128 .f32) : FVec Ideal S16x128 .f32 :=
  addf (mulf (subf (broadcastInDim S16x128 ![] bcast_S_S16x128 (constant S_ .f32 0x3F800000#32)) (gate 128 slices_S16x384_S16x128_0_128 gi gh))
      (Host.tanh (addf (extractStridedSlice S16x128 ![0, 256] gi slices_S16x384_S16x128_0_256)
        (mulf (gate 0 slices_S16x384_S16x128_0_0 gi gh) (extractStridedSlice S16x128 ![0, 256] gh slices_S16x384_S16x128_0_256)))))
    (mulf (gate 128 slices_S16x384_S16x128_0_128 gi gh) h)

theorem plane_slices (t : Fin 16) : S16x16x128.Slices ![t.val, 0, 0] S1x16x128 := by
  refine ⟨rfl, fun a => ?_⟩
  fin_cases a
  · show t.val + 1 ≤ 16; omega
  · show 0 + 16 ≤ 16; omega
  · show 0 + 128 ≤ 128; omega

/-- Plane `t` of the gathered rows. -/
def plane (E : FVec Ideal S16x16x128 .f32) (t : Fin 16) : FVec Ideal S16x128 .f32 :=
  shapeCast S16x128 (extractStridedSlice S1x16x128 ![t.val, 0, 0] E (plane_slices t)) shapeCasts_S1x16x128_S16x128

theorem plane_at (E : FVec Ideal S16x16x128 .f32) (t b : Fin 16) (p : Fin 128) : plane E t (ix2 b p) = E (ix3 t b p) := by
  unfold plane
  pointwise

variable (V : Valuation τ sig (Elt Ideal))

/-! What the loop carries: the features, the scorer's two layers, the noise, the recurrent unit's weights, and the state. -/
abbrev X : FVec Ideal S16x1024x128 .f32 := V (Proc.devRef .tc main_v62_0)
abbrev W1 : FVec Ideal S256x128 .f32 := V (Proc.devRef .tc main_v62_1)
abbrev B1 : FVec Ideal S128 .f32 := V (Proc.devRef .tc main_v62_2)
abbrev W2 : FVec Ideal S128x1 .f32 := V (Proc.devRef .tc main_v62_3)
abbrev B2 : FVec Ideal S1 .f32 := V (Proc.devRef .tc main_v62_4)
abbrev NZ : FVec Ideal S16x16x1024 .f32 := V (Proc.devRef .tc main_v62_5)
abbrev WI : FVec Ideal S384x128 .f32 := V (Proc.devRef .tc main_v62_6)
abbrev BI : FVec Ideal S384 .f32 := V (Proc.devRef .tc main_v62_7)
abbrev WH : FVec Ideal S384x128 .f32 := V (Proc.devRef .tc main_v62_8)
abbrev BH : FVec Ideal S384 .f32 := V (Proc.devRef .tc main_v62_9)
abbrev AV : IVec S16x1024 1 := V (Proc.devRef .tc main_v62_12)
abbrev CT : FVec Ideal S16x128 .f32 := V (Proc.devRef .tc main_v62_13)
abbrev HI : FVec Ideal S16x128 .f32 := V (Proc.devRef .tc main_v62_14)
abbrev AS : FVec Ideal S16x1024x16 .f32 := V (Proc.devRef .tc main_v62_15)
abbrev EM : FVec Ideal S16x16x128 .f32 := V (Proc.devRef .tc main_v62_16)

/-- The step's scores, their softmax, and its choice. -/
abbrev score : FVec Ideal S16x1024 .f32 := res_main_while0b_v103 V
abbrev soft : FVec Ideal S16x1024 .f32 := res_main_while0b_v114 V
abbrev sel : FVec Ideal S16x1024 .f32 := res_main_while0b_v123 V
/-- The rows gathered so far, the step's own among them. -/
abbrev embs : FVec Ideal S16x16x128 .f32 := res_main_while0b_v140 V
/-- One at the step's own counter, zero elsewhere. -/
abbrev here : FVec Ideal S16 .f32 := res_main_while0b_v124 V

/-- The gates of plane `t`'s rows. -/
def gi (t : Fin 16) : FVec Ideal S16x384 .f32 := gates (plane (embs V) t) (WI V) (BI V)
/-- The unit's next state over plane `t` from the state `h`. -/
def next (t : Fin 16) (h : FVec Ideal S16x128 .f32) : FVec Ideal S16x128 .f32 :=
  unit (gi V t) (gates h (WH V) (BH V)) h

/-- The sixteen states. -/
def hids : Fin 16 → FVec Ideal S16x128 .f32 :=
  ![res_main_while0b_v180 V, res_main_while0b_v220 V, res_main_while0b_v260 V, res_main_while0b_v300 V, res_main_while0b_v340 V,
    res_main_while0b_v380 V, res_main_while0b_v420 V, res_main_while0b_v460 V, res_main_while0b_v500 V, res_main_while0b_v540 V,
    res_main_while0b_v580 V, res_main_while0b_v620 V, res_main_while0b_v660 V, res_main_while0b_v700 V, res_main_while0b_v740 V,
    next V 15 (res_main_while0b_v740 V)]

theorem hids_zero : hids V 0 = next V 0 (HI V) := by exact rfl

theorem hids_succ (t : Fin 15) : hids V t.succ = next V t.succ (hids V t.castSucc) := by
  fin_cases t <;> exact rfl

/-- The step's new state is the sum of the sixteen, each by its counter's place. -/
theorem taken (b : Fin 16) (p : Fin 128) :
    (show FVec Ideal S16x128 .f32 from res_main_while0b_v801 V) (ix2 b p) = ∑ t, here V (ix1 t) * hids V t (ix2 b p) := by
  unfold res_main_while0b_v801
  pointwise
  refine Finset.sum_congr rfl fun t _ => ?_
  refine congrArg (fun z : EReal => (here V (ix1 t) : EReal) * z) ?_
  have h15 : hids V 15 (ix2 b p) = next V 15 (res_main_while0b_v740 V) (ix2 b p) := rfl
  unfold next unit gate at h15
  revert h15
  pointwise
  intro h15
  fin_vals t with ht <;> simp only [ht, Nat.reduceSub, Nat.reduceLT, ↓reduceDIte]
  all_goals
    rcases t with ⟨k, hk⟩
    simp only at ht
    subst ht
  all_goals first
    | exact rfl
    | (refine Eq.trans ?_ h15.symm
       unfold res_main_while0b_v772
       pointwise
       exact rfl)

theorem unit_at (gi gh : FVec Ideal S16x384 .f32) (h : FVec Ideal S16x128 .f32) (b : Fin 16) (k : Fin 128) :
    unit gi gh h (ix2 b k) =
      (1 - Ideal.logistic (gi (ix2 b ⟨128 + k, by omega⟩) + gh (ix2 b ⟨128 + k, by omega⟩))) * Ideal.tanh (gi (ix2 b ⟨256 + k, by omega⟩)
        + Ideal.logistic (gi (ix2 b ⟨k, by omega⟩) + gh (ix2 b ⟨k, by omega⟩)) * gh (ix2 b ⟨256 + k, by omega⟩))
      + Ideal.logistic (gi (ix2 b ⟨128 + k, by omega⟩) + gh (ix2 b ⟨128 + k, by omega⟩)) * h (ix2 b k) := by
  unfold unit gate
  pointwise
  rfl

theorem gates_at (e : FVec Ideal S16x128 .f32) (w : FVec Ideal S384x128 .f32) (v : FVec Ideal S384 .f32) (b : Fin 16) (k : Fin 384) :
    gates e w v (ix2 b k) = ∑ x, e (ix2 b x) * w (ix2 k x) + v (ix1 k) := by
  unfold gates
  pointwise

/-- A counter's place as a number: one where the counter stands, zero elsewhere. -/
theorem uitofp_eq {n m : ℕ} (hn : n < 2 ^ 32) (hm : m < 2 ^ 32) :
    (FloatOps.uitofp (F := Ideal) .f32 (IntOp.cmpi .eq (BitVec.ofNat 32 n) (BitVec.ofNat 32 m)) : EReal) = if m = n then 1 else 0 := by
  have hiff : (BitVec.ofNat 32 n = BitVec.ofNat 32 m) ↔ m = n := by
    rw [BitVec.toNat_inj.symm, BitVec.toNat_ofNat, BitVec.toNat_ofNat, Nat.mod_eq_of_lt hn, Nat.mod_eq_of_lt hm]; exact eq_comm
  by_cases h : m = n
  · subst h
    simp only [IntOp.cmpi, beq_self_eq_true, if_true]
    show (((1#1).toNat : ℝ) : EReal) = 1
    simp
  · have h' : ¬ BitVec.ofNat 32 n = BitVec.ofNat 32 m := fun e => h (hiff.mp e)
    simp only [IntOp.cmpi, beq_eq_false_iff_ne.mpr h', h, if_false]
    show (((0#1).toNat : ℝ) : EReal) = 0
    simp

theorem here_at {n : ℕ} (hn : n < 16) (h : V (Proc.devRef .tc main_v62_11) = constantI S_ 32 (BitVec.ofNat 32 n)) (t : Fin 16) :
    here V (ix1 t) = if t.val = n then 1 else 0 := by
  unfold here res_main_while0b_v124
  rw [h]
  pointwise
  exact uitofp_eq (by omega) (by omega)

theorem embs_at (t b : Fin 16) (p : Fin 128) : embs V (ix3 t b p) = EM V (ix3 t b p) + here V (ix1 t) * ∑ x, sel V (ix2 b x) * X V (ix3 b x p) := by
  unfold embs res_main_while0b_v140
  pointwise

theorem noise_slices (n : ℕ) (hn : n < 16) : S16x16x1024.Slices ![n, 0, 0] S1x16x1024 := by
  refine ⟨rfl, fun a => ?_⟩
  fin_cases a
  · show n + 1 ≤ 16; omega
  · show 0 + 16 ≤ 16; omega
  · show 0 + 1024 ≤ 1024; omega

/-- The step's scores at a place. -/
theorem score_at {n : ℕ} (hn : n < 16) (h : V (Proc.devRef .tc main_v62_11) = constantI S_ 32 (BitVec.ofNat 32 n)) (b : Fin 16) (p : Fin 1024) :
    score V (ix2 b p) = Ideal.div (Scalar.select (AV V (ix2 b p)) (∑ x : Fin 128, max (∑ y : Fin 128, X V (ix3 b p y) * W1 V (ix2 ⟨y, by omega⟩ x)
      + ∑ y : Fin 128, CT V (ix2 b y) * W1 V (ix2 ⟨128 + y, by omega⟩ x) + B1 V (ix1 x)) 0 * W2 V (ix2 x 0) + B2 V (ix1 0)) ⊥ + NZ V (ix3 ⟨n, hn⟩ b p)) 1 := by
  unfold score res_main_while0b_v103 res_main_while0b_v89
  rw [h]
  rw [Host.dynamicSlice_eq_extractStridedSlice (s := S16x16x1024) _ _ _ ![n, 0, 0] _ (noise_slices n hn) (fun a => by
    fin_cases a
    · exact toInt_wrap_ofNat n (by omega)
    · exact toInt_wrap_ofNat (s := S_) (i := Shape.Idx.first h_S_) (d := constantI S_ 32 16#32) 0 (by omega)
    · exact toInt_wrap_ofNat (s := S_) (i := Shape.Idx.first h_S_) (d := constantI S_ 32 1024#32) 0 (by omega))]
  pointwise
  have e : (id (constant (F := Ideal) S_ .f32 4286578688#32) ix0 : EReal) = ⊥ := ofBits_ninf
  rw [e]

end Cert.ReferenceIdeal.Hand

end
-- ==== Proof.RefEntry.lean ====
/-
  What the reference's loop carries before its first step, of the arguments.
-/
module

public import proofs.«01_k».proof.Proof.RefChain
public import proofs.«01_k».proof.Proof.Gen.ReferenceIdeal.Step

@[expose] public section

set_option maxRecDepth 65536
set_option maxHeartbeats 0

noncomputable section

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo

variable (m : (ℓ : Loc nD τ sig) → Buf (Elt Ideal) ℓ) (c : Dev nD)

/-- The carried values before the first step. -/
abbrev V₀ : Valuation τ sig (Elt Ideal) := entryContents preI m c

theorem X_entry : X (V₀ m c) = m ((c.tc : Thread nD τ).loc main_arg0) := by
  (simp only [X, entryContents, afterL_cons, afterL_nil]; after_reads_simp) <;> rfl
theorem W1_entry : W1 (V₀ m c) = m ((c.tc : Thread nD τ).loc main_arg3) := by
  (simp only [W1, entryContents, afterL_cons, afterL_nil]; after_reads_simp) <;> rfl
theorem B1_entry : B1 (V₀ m c) = m ((c.tc : Thread nD τ).loc main_arg4) := by
  (simp only [B1, entryContents, afterL_cons, afterL_nil]; after_reads_simp) <;> rfl
theorem W2_entry : W2 (V₀ m c) = m ((c.tc : Thread nD τ).loc main_arg5) := by
  (simp only [W2, entryContents, afterL_cons, afterL_nil]; after_reads_simp) <;> rfl
theorem B2_entry : B2 (V₀ m c) = m ((c.tc : Thread nD τ).loc main_arg6) := by
  (simp only [B2, entryContents, afterL_cons, afterL_nil]; after_reads_simp) <;> rfl
theorem WI_entry : WI (V₀ m c) = m ((c.tc : Thread nD τ).loc main_arg9) := by
  (simp only [WI, entryContents, afterL_cons, afterL_nil]; after_reads_simp) <;> rfl
theorem BI_entry : BI (V₀ m c) = m ((c.tc : Thread nD τ).loc main_arg11) := by
  (simp only [BI, entryContents, afterL_cons, afterL_nil]; after_reads_simp) <;> rfl
theorem WH_entry : WH (V₀ m c) = m ((c.tc : Thread nD τ).loc main_arg10) := by
  (simp only [WH, entryContents, afterL_cons, afterL_nil]; after_reads_simp) <;> rfl
theorem BH_entry : BH (V₀ m c) = m ((c.tc : Thread nD τ).loc main_arg12) := by
  (simp only [BH, entryContents, afterL_cons, afterL_nil]; after_reads_simp) <;> rfl
theorem AV_entry : AV (V₀ m c) = m ((c.tc : Thread nD τ).loc main_arg2) := by
  (simp only [AV, entryContents, afterL_cons, afterL_nil]; after_reads_simp) <;> rfl
theorem counter_entry : V₀ m c (Proc.devRef .tc main_v62_11) = constantI S_ 32 (BitVec.ofNat 32 0) := by
  (simp only [entryContents, afterL_cons, afterL_nil]; after_reads_simp) <;> rfl
theorem CT_entry : CT (V₀ m c) = Step.A_main_v58 (m ((c.tc : Thread nD τ).loc main_arg0)) (m ((c.tc : Thread nD τ).loc main_arg7))
    (m ((c.tc : Thread nD τ).loc main_arg8)) := by
  (simp only [CT, entryContents, afterL_cons, afterL_nil]; after_reads_simp) <;> rfl
theorem HI_entry : HI (V₀ m c) = Step.K_main_v59 (F := Ideal) := by
  (simp only [HI, entryContents, afterL_cons, afterL_nil]; after_reads_simp) <;> rfl
theorem AS_entry : AS (V₀ m c) = Step.K_main_v60 (F := Ideal) := by
  (simp only [AS, entryContents, afterL_cons, afterL_nil]; after_reads_simp) <;> rfl
theorem EM_entry : EM (V₀ m c) = Step.K_main_v61 (F := Ideal) := by
  (simp only [EM, entryContents, afterL_cons, afterL_nil]; after_reads_simp) <;> rfl

/-- The noise: drawn from a fixed key, so the same at every run. -/
theorem NZ_entry : NZ (V₀ m c) = Step.K_main_v51 (F := Ideal) := by
  simp only [NZ, entryContents, afterL_cons, afterL_nil]
  after_reads_simp
  simp -implicitDefEqProofs only [StableHlo.TRef.ofBuf_toBuf, StableHlo.TRef.toBuf, StableHlo.TRef.ofBuf, cast_cast, cast_eq]
  exact rfl

/-! Those of the state, at an index. -/

theorem HI_at (b : Fin 16) (k : Fin 128) : HI (V₀ m c) (ix2 b k) = 0 := by
  rw [HI_entry]; unfold Step.K_main_v59 Step.K_main_cst_14; pointwise
theorem AS_at (b : Fin 16) (p : Fin 1024) (t : Fin 16) : AS (V₀ m c) (ix3 b p t) = 0 := by
  rw [AS_entry]; unfold Step.K_main_v60 Step.K_main_cst_15; pointwise
theorem EM_at (t b : Fin 16) (f : Fin 128) : EM (V₀ m c) (ix3 t b f) = 0 := by
  rw [EM_entry]; unfold Step.K_main_v61 Step.K_main_cst_16; pointwise

/-- The scorer's context at an index: the mean feature by the context's weights. -/
theorem ctx_at (x : FVec Ideal S16x1024x128 .f32) (w : FVec Ideal S128x128 .f32) (v : FVec Ideal S128 .f32) (b : Fin 16) (k : Fin 128) :
    (show FVec Ideal S16x128 .f32 from Step.A_main_v58 (F := Ideal) x w v) (ix2 b k) =
      ∑ f : Fin 128, Ideal.div (∑ p : Fin 1024, x (ix3 b p f)) (Ideal.ofBits .f32 1149239296#32) * w (ix2 f k) + v (ix1 k) := by
  unfold Step.A_main_v58 Step.A_main_v55 Step.A_main_v57 Step.A_main_v54 Step.A_main_v56 Step.A_main_v52 Step.K_main_v53 Step.K_main_cst_12 Step.K_main_cst_13
  pointwise

end Cert.ReferenceIdeal.Hand

end
-- ==== Proof.Host.lean ====
/-
  What the host makes of the launch's results.
-/
module

public import proofs.«01_k».proof.Proof.RefEntry
public import proofs.«01_k».proof.Proof.Result
public import proofs.«01_k».proof.Proof.KerEntry
public import Idealize.ShloMosaic.Lib.StableHlo.RunRead

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

section
variable (W : Valuation τ sig (Elt Ideal))

theorem host_v26 : after (hostOps1 (F := Ideal)) W (Proc.devRef .tc main_v26)
    = transpose S16x16x128 [1, 0, 2] (show FVec Ideal S16x16x128 .f32 from W (Proc.devRef .tc main_v25_0)) transposes_S16x16x128_S16x16x128_1_0_2 := by
  (simp only [hostOps1]; after_reads_simp) <;> rfl
theorem host_v27 : after (hostOps1 (F := Ideal)) W (Proc.devRef .tc main_v27)
    = transpose S16x1024x16 [1, 2, 0] (show FVec Ideal S16x16x1024 .f32 from W (Proc.devRef .tc main_v25_1)) transposes_S16x16x1024_S16x1024x16_1_2_0 := by
  (simp only [hostOps1]; after_reads_simp) <;> rfl
theorem host_v37 (V : Valuation Cert.ReferenceIdeal.τ Cert.ReferenceIdeal.sig (Elt Ideal)) :
    after (hostOps1 (F := Ideal)) W (Proc.devRef .tc main_v37) = Cert.ReferenceIdeal.Value.out_main_v73 (F := Ideal) V := by
  (simp only [hostOps1]; after_reads_simp) <;> rfl
end

end Cert.KernelIdeal.Hand

end
-- ==== Proof.Choice.lean ====
/-
  The tournament finds the first position of a row's largest score.
-/
module

public import proofs.«01_k».proof.Proof.Spec
public import Idealize.ShloMosaic.Lib.Pointwise

@[expose] public section

set_option maxRecDepth 65536

noncomputable section

namespace Cert.KernelIdeal.Choice

open Cert.KernelIdeal Cert.KernelIdeal.Gen Cert.KernelIdeal.Spec
open Idealize.ShloMosaic

/-- `i` is the first position at which the row `f` is largest. -/
def IsFirst (f : Fin 1024 → EReal) (i : Fin 1024) : Prop := ∀ q, f q ≤ f i ∧ (q < i → f q < f i)

theorem IsFirst.unique {f : Fin 1024 → EReal} {i j : Fin 1024} (hi : IsFirst f i) (hj : IsFirst f j) : i = j := by
  rcases lt_trichotomy i j with h | h | h
  · exact absurd ((hj i).2 h) (not_lt.mpr (hi j).1)
  · exact h
  · exact absurd ((hi j).2 h) (not_lt.mpr (hj i).1)

/-- The pair holds the largest score of the row among the positions in `S`, with the first position that has it. -/
def Best (f : Fin 1024 → EReal) (S : ℕ → Prop) (v : EReal) (i : BitVec 32) : Prop :=
  ∃ p : Fin 1024, S p ∧ v = f p ∧ i = BitVec.ofNat 32 p ∧ ∀ q : Fin 1024, S q → f q ≤ f p ∧ (q < p → f q < f p)

theorem slt_ofNat {p q : ℕ} (hp : p < 1024) (hq : q < 1024) : (BitVec.ofNat 32 p).slt (BitVec.ofNat 32 q) = decide (p < q) := by
  have h (n : ℕ) (hn : n < 1024) : (BitVec.ofNat 32 n).toInt = n := by
    rw [BitVec.toInt_eq_toNat_of_lt] <;> simp only [BitVec.toNat_ofNat] <;> omega
  simp only [BitVec.slt, h p hp, h q hq]
  simp

/-- Where two pairs meet, the one that stays is the best of both sets. -/
theorem Best.meet {f : Fin 1024 → EReal} {S T U : ℕ → Prop} {a b : EReal} {i j : BitVec 32} (ha : Best f S a i) (hb : Best f T b j)
    (hU : ∀ n < 1024, U n ↔ S n ∨ T n) :
    Best f U (Scalar.select (IntOp.ori (FloatOps.cmpf (F := Ideal) (φ := .f32) .ogt a b)
        (IntOp.andi (FloatOps.cmpf (F := Ideal) (φ := .f32) .oeq a b) (IntOp.cmpi .slt i j))) a b)
      (Scalar.select (IntOp.ori (FloatOps.cmpf (F := Ideal) (φ := .f32) .ogt a b)
        (IntOp.andi (FloatOps.cmpf (F := Ideal) (φ := .f32) .oeq a b) (IntOp.cmpi .slt i j))) i j) := by
  obtain ⟨p, hp, rfl, rfl, hpm⟩ := ha
  obtain ⟨q, hq, rfl, rfl, hqm⟩ := hb
  have hw : IntOp.ori (FloatOps.cmpf (F := Ideal) (φ := .f32) .ogt (f p) (f q))
        (IntOp.andi (FloatOps.cmpf (F := Ideal) (φ := .f32) .oeq (f p) (f q)) (IntOp.cmpi .slt (BitVec.ofNat 32 p) (BitVec.ofNat 32 q)))
      = BitVec.ofBool (decide (f q < f p ∨ (f p = f q ∧ p.val < q.val))) := by
    have h1 : FloatOps.cmpf (F := Ideal) (φ := .f32) .ogt (f p) (f q) = BitVec.ofBool (decide (f q < f p)) := rfl
    have h2 : FloatOps.cmpf (F := Ideal) (φ := .f32) .oeq (f p) (f q) = BitVec.ofBool (decide (f p = f q)) := rfl
    have h3 : IntOp.cmpi .slt (BitVec.ofNat 32 p.val) (BitVec.ofNat 32 q.val) = BitVec.ofBool (decide (p.val < q.val)) := by
      rw [← slt_ofNat p.isLt q.isLt]; rfl
    rw [h1, h2, h3]
    by_cases c1 : f q < f p <;> by_cases c2 : f p = f q <;> by_cases c3 : p.val < q.val <;> simp [c1, c2, c3, IntOp.ori, IntOp.andi]
  rw [hw]
  by_cases h : f q < f p ∨ (f p = f q ∧ p.val < q.val)
  · simp only [h, decide_true, Scalar.select, BitVec.ofBool_true, if_true]
    refine ⟨p, (hU _ p.isLt).mpr (.inl hp), rfl, rfl, fun r hr => ?_⟩
    rcases (hU _ r.isLt).mp hr with hr | hr
    · exact hpm r hr
    · obtain ⟨h1, h2⟩ := hqm r hr
      rcases h with h | ⟨h, hlt⟩
      · exact ⟨h1.trans h.le, fun _ => h1.trans_lt h⟩
      · exact ⟨h ▸ h1, fun hrp => h ▸ h2 (lt_trans hrp (Fin.lt_def.mpr hlt))⟩
  · have hs : Scalar.select (BitVec.ofBool (decide (f q < f p ∨ (f p = f q ∧ p.val < q.val)))) (f p) (f q) = f q := by
      rw [decide_eq_false h]; rfl
    have hs' : Scalar.select (BitVec.ofBool (decide (f q < f p ∨ (f p = f q ∧ p.val < q.val)))) (BitVec.ofNat 32 p.val) (BitVec.ofNat 32 q.val) = BitVec.ofNat 32 q.val := by
      rw [decide_eq_false h]; rfl
    rw [hs, hs']
    refine ⟨q, (hU _ q.isLt).mpr (.inr hq), rfl, rfl, fun r hr => ?_⟩
    push Not at h
    rcases (hU _ r.isLt).mp hr with hr | hr
    · obtain ⟨h1, h2⟩ := hpm r hr
      refine ⟨h1.trans h.1, fun hrq => ?_⟩
      rcases lt_or_eq_of_le h.1 with hlt | heq
      · exact h1.trans_lt hlt
      · have := h.2 heq
        exact (h2 (lt_of_lt_of_le hrq (Fin.le_def.mpr this))).trans_le h.1
    · exact hqm r hr

variable {f : Fin 16 → Fin 1024 → EReal}

/-- Every pair of the array, of `N` columns, is its row's best among the positions of its column's remainder by `N`. -/
def RowsBest (f : Fin 16 → Fin 1024 → EReal) (N : ℕ) (P : Pairs Ideal ⟨2, ![16, N]⟩) : Prop :=
  ∀ (b : Fin 16) (j : Fin N), Best (f b) (fun n => n % N = j) (P.1 (ix2 b j)) (P.2 (ix2 b j))
/-- The same of an array with the rows laid along its second axis. -/
def ColsBest (f : Fin 16 → Fin 1024 → EReal) (N : ℕ) (P : Pairs Ideal ⟨2, ![N, 16]⟩) : Prop :=
  ∀ (b : Fin 16) (j : Fin N), Best (f b) (fun n => n % N = j) (P.1 (ix2 j b)) (P.2 (ix2 j b))

theorem halves {N n : ℕ} (hN : N = n + n) (j : ℕ) (hj : j < n) (k : ℕ) : k % n = j ↔ k % N = j ∨ k % N = n + j := by
  subst hN
  have h0 : 0 < n := by omega
  have h1 : k % (n + n) % n = k % n := Nat.mod_mod_of_dvd _ ⟨2, by ring⟩
  have h2 : k % (n + n) < n + n := Nat.mod_lt _ (by omega)
  by_cases h : k % (n + n) < n
  · rw [Nat.mod_eq_of_lt h] at h1; omega
  · rw [Nat.mod_eq_sub_mod (by omega), Nat.mod_eq_of_lt (by omega)] at h1; omega

theorem RowsBest.meet {N n : ℕ} {P : Pairs Ideal ⟨2, ![16, N]⟩} (h : RowsBest f N P) (hN : N = n + n)
    (h₁ : (⟨2, ![16, N]⟩ : Shape).Slices ![0, 0] ⟨2, ![16, n]⟩) (h₂ : (⟨2, ![16, N]⟩ : Shape).Slices ![0, n] ⟨2, ![16, n]⟩) :
    RowsBest f n (Spec.meet ⟨2, ![16, n]⟩ ![0, 0] ![0, n] h₁ h₂ P) := fun b j => by
  have e₁ : (fun a => ⟨(![0, 0] : Fin 2 → ℕ) a + (ix2 b j (a.cast h₁.1.symm)).val, Nat.lt_of_lt_of_le (Nat.add_lt_add_left (ix2 b j _).isLt _) (h₁.2 a)⟩ : (⟨2, ![16, N]⟩ : Shape).Idx)
      = ix2 b ⟨j, by omega⟩ := by
    funext a; apply Fin.ext; fin_cases a <;> simp [ix2]
  have e₂ : (fun a => ⟨(![0, n] : Fin 2 → ℕ) a + (ix2 b j (a.cast h₂.1.symm)).val, Nat.lt_of_lt_of_le (Nat.add_lt_add_left (ix2 b j _).isLt _) (h₂.2 a)⟩ : (⟨2, ![16, N]⟩ : Shape).Idx)
      = ix2 b ⟨n + j, by omega⟩ := by
    funext a; apply Fin.ext; fin_cases a <;> simp [ix2]
  have A := h b ⟨j, by omega⟩
  have B := h b ⟨n + j, by omega⟩
  rw [← e₁] at A
  rw [← e₂] at B
  exact Best.meet A B fun k _ => halves hN j j.isLt k

theorem ColsBest.meet {N n : ℕ} {P : Pairs Ideal ⟨2, ![N, 16]⟩} (h : ColsBest f N P) (hN : N = n + n)
    (h₁ : (⟨2, ![N, 16]⟩ : Shape).Slices ![0, 0] ⟨2, ![n, 16]⟩) (h₂ : (⟨2, ![N, 16]⟩ : Shape).Slices ![n, 0] ⟨2, ![n, 16]⟩) :
    ColsBest f n (Spec.meet ⟨2, ![n, 16]⟩ ![0, 0] ![n, 0] h₁ h₂ P) := fun b j => by
  have e₁ : (fun a => ⟨(![0, 0] : Fin 2 → ℕ) a + (ix2 j b (a.cast h₁.1.symm)).val, Nat.lt_of_lt_of_le (Nat.add_lt_add_left (ix2 j b _).isLt _) (h₁.2 a)⟩ : (⟨2, ![N, 16]⟩ : Shape).Idx)
      = ix2 ⟨j, by omega⟩ b := by
    funext a; apply Fin.ext; fin_cases a <;> simp [ix2]
  have e₂ : (fun a => ⟨(![n, 0] : Fin 2 → ℕ) a + (ix2 j b (a.cast h₂.1.symm)).val, Nat.lt_of_lt_of_le (Nat.add_lt_add_left (ix2 j b _).isLt _) (h₂.2 a)⟩ : (⟨2, ![N, 16]⟩ : Shape).Idx)
      = ix2 ⟨n + j, by omega⟩ b := by
    funext a; apply Fin.ext; fin_cases a <;> simp [ix2]
  have A := h b ⟨j, by omega⟩
  have B := h b ⟨n + j, by omega⟩
  rw [← e₁] at A
  rw [← e₂] at B
  exact Best.meet A B fun k _ => halves hN j j.isLt k

/-- The rows laid along the second axis. -/
theorem RowsBest.transposed {P : Pairs Ideal S16x128} (h : RowsBest f 128 P) :
    ColsBest f 128 (transpose S128x16 [1, 0] P.1 transposes_S16x128_p1_0_S128x16, transpose S128x16 [1, 0] P.2 transposes_S16x128_p1_0_S128x16) := fun b j => by
  have e (α : Type) (x : S16x128.Idx → α) : transpose S128x16 [1, 0] x transposes_S16x128_p1_0_S128x16 (ix2 j b) = x (ix2 b j) := by
    refine congrArg x ?_
    funext a; apply Fin.ext; fin_cases a <;> rfl
  show Best _ _ (transpose S128x16 [1, 0] P.1 transposes_S16x128_p1_0_S128x16 (ix2 j b)) (transpose S128x16 [1, 0] P.2 transposes_S16x128_p1_0_S128x16 (ix2 j b))
  rw [e, e]
  exact h b j

/-- The tournament's winner in row `b` is the first position of the row's largest score. -/
theorem pick_first (v : FVec Ideal S16x1024 .f32) (b : Fin 16) :
    ∃ i : Fin 1024, pick v (ix1 b) = BitVec.ofNat 32 i ∧ IsFirst (fun p => v (ix2 b p)) i := by
  have h0 : RowsBest (fun b p => v (ix2 b p)) 1024 (v, iota .tc S16x1024 32 [1] iota_S16x1024_d1_w32) := fun b j =>
    ⟨j, Nat.mod_eq_of_lt j.isLt, rfl, by pointwise, fun q hq => by
      obtain rfl : q = j := Fin.ext ((Nat.mod_eq_of_lt q.isLt).symm.trans hq)
      exact ⟨le_rfl, fun h => absurd h (lt_irrefl _)⟩⟩
  have h3 := ((h0.meet (n := 512) rfl slices_S16x1024_o0_0_S16x512 slices_S16x1024_o0_512_S16x512).meet (n := 256) rfl
    slices_S16x512_o0_0_S16x256 slices_S16x512_o0_256_S16x256).meet (n := 128) rfl slices_S16x256_o0_0_S16x128 slices_S16x256_o0_128_S16x128
  have h4 := h3.transposed
  have h5 := ((((((h4.meet (n := 64) rfl slices_S128x16_o0_0_S64x16 slices_S128x16_o64_0_S64x16).meet (n := 32) rfl
    slices_S64x16_o0_0_S32x16 slices_S64x16_o32_0_S32x16).meet (n := 16) rfl slices_S32x16_o0_0_S16x16 slices_S32x16_o16_0_S16x16).meet (n := 8) rfl
    slices_S16x16_o0_0_S8x16 slices_S16x16_o8_0_S8x16).meet (n := 4) rfl slices_S8x16_o0_0_S4x16 slices_S8x16_o4_0_S4x16).meet (n := 2) rfl
    slices_S4x16_o0_0_S2x16 slices_S4x16_o2_0_S2x16).meet (n := 1) rfl slices_S2x16_o0_0_S1x16 slices_S2x16_o1_0_S1x16
  obtain ⟨i, -, -, hi, hm⟩ := h5 b 0
  refine ⟨i, Eq.trans ?_ hi, fun q => hm q (Nat.mod_one _)⟩
  unfold pick
  pointwise
  rfl

/-! The softmax of a row is largest where the row is, and the smallest position of its largest value is the row's first. -/

theorem coe_sum {ι : Type} (s : Finset ι) (E : ι → ℝ) : ((∑ q ∈ s, E q : ℝ) : EReal) = ∑ q ∈ s, (E q : EReal) := by
  classical
  induction s using Finset.induction_on with
  | empty => simp
  | insert a s h ih => rw [Finset.sum_insert h, Finset.sum_insert h, EReal.coe_add, ih]

/-- A row whose first largest value is `f i`, less that value, exponentiated and divided by the sum: its first largest value
    stands at `i` too. -/
theorem softmax_first {f : Fin 1024 → EReal} {i : Fin 1024} (hi : IsFirst f i) (ht : f i ≠ ⊤) :
    IsFirst (fun p => Ideal.div (Ideal.exp (f p - f i)) (∑ q, Ideal.exp (f q - f i))) i := by
  rcases eq_or_ne (f i) ⊥ with hb | hb
  · have h (p : Fin 1024) : f p = ⊥ := le_bot_iff.mp (hb ▸ (hi p).1)
    have h0 (q : Fin 1024) : ¬ q < i := fun hq => absurd ((hi q).2 hq) (by rw [h q, hb]; exact lt_irrefl _)
    exact fun q => ⟨by simp only [h, hb]; exact le_rfl, fun hq => absurd hq (h0 q)⟩
  · obtain ⟨M, hM⟩ : ∃ M : ℝ, f i = M := ⟨(f i).toReal, (EReal.coe_toReal ht hb).symm⟩
    let E (p : Fin 1024) : ℝ := if f p = ⊥ then 0 else Real.exp ((f p).toReal - M)
    have hlt (p : Fin 1024) : f p ≠ ⊤ := fun h => ht (top_le_iff.mp (h ▸ (hi p).1))
    have hE (p : Fin 1024) : Ideal.exp (f p - f i) = (E p : EReal) := by
      rw [hM]
      by_cases h : f p = ⊥
      · simp only [E, h, if_true, EReal.bot_sub]; rfl
      · obtain ⟨r, hr⟩ : ∃ r : ℝ, f p = r := ⟨(f p).toReal, (EReal.coe_toReal (hlt p) h).symm⟩
        simp only [E, hr, EReal.coe_ne_bot, if_false, EReal.toReal_coe, ← EReal.coe_sub]; rfl
    have hnn (p : Fin 1024) : 0 ≤ E p := by
      simp only [E]; split
      · exact le_rfl
      · exact (Real.exp_pos _).le
    have hmono {p q : Fin 1024} (h : f p < f q) : E p < E q := by
      have hq : f q ≠ ⊥ := fun e => not_lt_bot (e ▸ h)
      obtain ⟨r, hr⟩ : ∃ r : ℝ, f q = r := ⟨(f q).toReal, (EReal.coe_toReal (hlt q) hq).symm⟩
      by_cases hp : f p = ⊥
      · simp only [E, hp, hq, if_true, if_false]; exact Real.exp_pos _
      · obtain ⟨s, hs⟩ : ∃ s : ℝ, f p = s := ⟨(f p).toReal, (EReal.coe_toReal (hlt p) hp).symm⟩
        simp only [E, hr, hs, EReal.coe_ne_bot, if_false, EReal.toReal_coe]
        rw [hr, hs, EReal.coe_lt_coe_iff] at h
        exact Real.exp_lt_exp.mpr (by linarith)
    have hpos : 0 < ∑ q, E q := Finset.sum_pos' (fun q _ => hnn q) ⟨i, Finset.mem_univ _, by
      simp only [E, hb, if_false]; exact Real.exp_pos _⟩
    have hS : ∑ q, Ideal.exp (f q - f i) = ((∑ q, E q : ℝ) : EReal) := by
      simp only [hE]; exact (coe_sum _ _).symm
    have hg (p : Fin 1024) : Ideal.div (Ideal.exp (f p - f i)) (∑ q, Ideal.exp (f q - f i)) = ((E p * (∑ q, E q)⁻¹ : ℝ) : EReal) := by
      rw [hE, hS, Ideal.div, if_neg (by exact_mod_cast hpos.ne'), EReal.coe_mul, EReal.coe_inv]
    intro q
    simp only [hg]
    refine ⟨?_, fun hq => ?_⟩
    · rw [EReal.coe_le_coe_iff]
      refine mul_le_mul_of_nonneg_right ?_ (inv_pos.mpr hpos).le
      rcases lt_or_eq_of_le (hi q).1 with h | h
      · exact (hmono h).le
      · simp only [E, h]; exact le_rfl
    · rw [EReal.coe_lt_coe_iff]
      exact mul_lt_mul_of_pos_right (hmono ((hi q).2 hq)) (inv_pos.mpr hpos)

end Cert.KernelIdeal.Choice

end
-- ==== Proof.KerStep.lean ====
/-
  What one step of the kernel body computes, at an index.
-/
module

public import proofs.«01_k».proof.Proof.Choice

@[expose] public section

set_option maxRecDepth 65536
set_option maxHeartbeats 4000000

noncomputable section

namespace Cert.KernelIdeal.Spec

open Cert.KernelIdeal Cert.KernelIdeal.Gen Cert.Words
open Idealize.ShloMosaic

theorem mask_bot : (Named.named (F := Ideal) (φ := .f32) κ "mask" 3463342888#32 : EReal) = ⊥ :=
  IdealRules.named_const.ideal_named_scalar _ _ _ _ rfl

theorem noisy_at (A : Ins Ideal) (g : FVec Ideal S1x16x1024 .f32) (av : IVec S16x1024 1) (ctx : FVec Ideal S16x128 .f32) (b : Fin 16) (p : Fin 1024) :
    noisy A g av ctx (ix2 b p) = Ideal.div (Scalar.select (av (ix2 b p)) (∑ x : Fin 128, max (A.xw (ix3 b p x)
      + (∑ y : Fin 128, ctx (ix2 b y) * A.w1 (ix2 y x) + A.b1 (ix2 0 x))) 0 * A.w2 (ix2 x 0)) (⊥ : EReal) + g (ix3 0 b p)) 1 := by
  unfold noisy
  pointwise
  rw [← mask_bot]

theorem firstLayer_at (x : FVec Ideal S16x1024x128 .f32) (w : FVec Ideal S128x128 .f32) (b : Fin 16) (p : Fin 1024) (k : Fin 128) :
    firstLayer x w (ix3 b p k) = ∑ y : Fin 128, x (ix3 b p y) * w (ix2 y k) := by
  unfold firstLayer
  pointwise

theorem unit_at (gi gh : FVec Ideal S16x384 .f32) (h : FVec Ideal S16x128 .f32) (b : Fin 16) (k : Fin 128) :
    unit gi gh h (ix2 b k) =
      (1 - Ideal.logistic (gi (ix2 b ⟨128 + k, by omega⟩) + gh (ix2 b ⟨128 + k, by omega⟩))) * Ideal.tanh (gi (ix2 b ⟨256 + k, by omega⟩)
        + Ideal.logistic (gi (ix2 b ⟨k, by omega⟩) + gh (ix2 b ⟨k, by omega⟩)) * gh (ix2 b ⟨256 + k, by omega⟩))
      + Ideal.logistic (gi (ix2 b ⟨128 + k, by omega⟩) + gh (ix2 b ⟨128 + k, by omega⟩)) * h (ix2 b k) := by
  unfold unit
  pointwise

/-- The gates of the hidden side. -/
def hidGates (A : Ins Ideal) (h : FVec Ideal S16x128 .f32) : FVec Ideal S16x384 .f32 :=
  addf (matmul dot_S16x128_S128x384_S16x384_1_0_0_1_n_n none h (shapeCast S128x384 A.whh shapeCasts_S128x384_S128x384) (constant S16x384 .f32 0x00000000#32))
    (broadcastTo S16x384 (shapeCast S1x384 A.bhh shapeCasts_S1x384_S1x384) broadcasts_S1x384_S16x384)

theorem gru_eq (A : Ins Ideal) (gi : FVec Ideal S16x384 .f32) (h : FVec Ideal S16x128 .f32) : gru A gi h = unit gi (hidGates A h) h := rfl

theorem hidGates_at (A : Ins Ideal) (h : FVec Ideal S16x128 .f32) (b : Fin 16) (k : Fin 384) :
    hidGates A h (ix2 b k) = ∑ x : Fin 128, h (ix2 b x) * A.whh (ix2 x k) + A.bhh (ix2 0 k) := by
  unfold hidGates
  pointwise

theorem inGates_at (A : Ins Ideal) (e : FVec Ideal S16x128 .f32) (b : Fin 16) (k : Fin 384) :
    inGates A e (ix2 b k) = ∑ x : Fin 128, e (ix2 b x) * A.wih (ix2 x k) + A.bih (ix2 0 k) := by
  unfold inGates
  pointwise

theorem word_eq (b : ℕ) (hb : S16x1.Slices ![b, 0] S1x1) (h : b < 16) (idx : IVec S16 32) : word b hb idx = idx (ix1 ⟨b, h⟩) := by
  unfold word column
  pointwise

theorem row_at (rd : Reader Ideal) (b : ℕ) (hb : b < 16) (hs : S16x1.Slices ![b, 0] S1x1) (idx : IVec S16 32) (h : Bounded idx) (f : Fin 128) :
    row rd b hb hs idx h (ix3 0 0 f) = rd ![b, (idx (ix1 ⟨b, hb⟩)).toNat, 0] (row_inside hb (h _)) (ix3 0 0 f) := by
  have hw := word_eq b hs hb idx
  unfold row
  pointwise
  congr 2
  rw [hw]
  rfl

theorem cast_at (x : FVec Ideal S16x1x128 .f32) (b : Fin 16) (f : Fin 128) : shapeCast S16x128 x shapeCasts_S16x1x128_S16x128 (ix2 b f) = x (ix3 b 0 f) := by
  pointwise

/-- Sixteen rows laid under one another. -/
def stack (r : Fin 16 → FVec Ideal S1x1x128 .f32) : FVec Ideal S16x1x128 .f32 :=
  (concatenate S16x1x128 0 [⟨S1x1x128, r 0⟩, ⟨S1x1x128, r 1⟩, ⟨S1x1x128, r 2⟩, ⟨S1x1x128, r 3⟩, ⟨S1x1x128, r 4⟩, ⟨S1x1x128, r 5⟩, ⟨S1x1x128, r 6⟩, ⟨S1x1x128, r 7⟩, ⟨S1x1x128, r 8⟩, ⟨S1x1x128, r 9⟩, ⟨S1x1x128, r 10⟩, ⟨S1x1x128, r 11⟩, ⟨S1x1x128, r 12⟩, ⟨S1x1x128, r 13⟩, ⟨S1x1x128, r 14⟩, ⟨S1x1x128, r 15⟩]
    concatenates_S1x1x128_S1x1x128_S1x1x128_S1x1x128_S1x1x128_S1x1x128_S1x1x128_S1x1x128_S1x1x128_S1x1x128_S1x1x128_S1x1x128_S1x1x128_S1x1x128_S1x1x128_S1x1x128_S16x1x128_d0)

theorem stack_at (r : Fin 16 → FVec Ideal S1x1x128 .f32) (b : Fin 16) (f : Fin 128) : stack r (ix3 b 0 f) = r b (ix3 0 0 f) := by
  fin_cases b <;> (show stack r (ix3 _ 0 f) = _; unfold stack; pointwise)

theorem column_slices (b : Fin 16) : S16x1.Slices ![b.val, 0] S1x1 := by
  refine ⟨rfl, fun a => ?_⟩
  fin_cases a
  · show b.val + 1 ≤ 16; omega
  · show 0 + 1 ≤ 1; omega

theorem emb_at (rd : Reader Ideal) (idx : IVec S16 32) (h : Bounded idx) (b : Fin 16) (f : Fin 128) :
    emb rd idx h (ix2 b f) = rd ![b, (idx (ix1 b)).toNat, 0] (row_inside b.isLt (h _)) (ix3 0 0 f) :=
  (cast_at (stack fun b => row rd b b.isLt (column_slices b) idx h) b f).trans <|
  (stack_at (fun b => row rd b b.isLt (column_slices b) idx h) b f).trans (row_at rd b b.isLt (column_slices b) idx h f)

theorem chosen_at (idx : IVec S16 32) {b : Fin 16} {i : Fin 1024} (hi : idx (ix1 b) = BitVec.ofNat 32 i) (p : Fin 1024) :
    chosen idx (ix2 b p) = BitVec.ofBool (decide (p = i)) := by
  unfold chosen
  pointwise
  rw [hi]
  show BitVec.ofBool (BitVec.ofNat 32 p == BitVec.ofNat 32 i) = _
  congr 1
  by_cases hp : p = i
  · simp only [hp, beq_self_eq_true, decide_true]
  · have h' : ¬ BitVec.ofNat 32 p.val = BitVec.ofNat 32 i.val := fun e => hp (Fin.ext (by
      have := congrArg BitVec.toNat e
      simp only [BitVec.toNat_ofNat] at this
      omega))
    rw [beq_eq_false_iff_ne.mpr h', decide_eq_false hp]

theorem onehot_at (idx : IVec S16 32) {b : Fin 16} {i : Fin 1024} (hi : idx (ix1 b) = BitVec.ofNat 32 i) (p : Fin 1024) :
    onehot (F := Ideal) idx (ix2 b p) = if p = i then 1 else 0 := by
  have h : onehot (F := Ideal) idx (ix2 b p) = (((((chosen idx (ix2 b p)).setWidth 32 : BitVec 32).toInt : ℝ)) : EReal) := rfl
  rw [h, chosen_at idx hi]
  by_cases hp : p = i <;> simp [hp]

end Cert.KernelIdeal.Spec

end
-- ==== Proof.Start.lean ====
/-
  The state the body starts from, and the first layer it keeps, of the arguments.
-/
module

public import proofs.«01_k».proof.Proof.Launch
public import proofs.«01_k».proof.Proof.KerStep

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

/-- A bit as a number exceeds a half where it is set. -/
theorem half_lt (v : BitVec 1) : BitVec.ofBool (decide (Ideal.ofBits .f32 1056964608#32 < ((v.toNat : ℝ) : EReal))) = v := by
  have h : Ideal.ofBits .f32 1056964608#32 = ((1 / 2 : ℝ) : EReal) := by
    simp [Ideal.ofBits, Ideal.ieee, -EReal.coe_mul]; norm_num
  rw [h]
  have hv : v = 0#1 ∨ v = 1#1 := by revert v; decide
  rcases hv with rfl | rfl
  · have : ¬ (((1 / 2 : ℝ) : EReal) < (((0#1).toNat : ℝ) : EReal)) := by
      rw [EReal.coe_lt_coe_iff]; norm_num
    rw [decide_eq_false this]; rfl
  · have : (((1 / 2 : ℝ) : EReal) < (((1#1).toNat : ℝ) : EReal)) := by
      rw [EReal.coe_lt_coe_iff]; norm_num
    rw [decide_eq_true this]; rfl

theorem start_avail (x : FVec Ideal S16x1024x128 .f32) (v : IVec S16x1024 1) (cw : FVec Ideal S128x128 .f32) (cb : FVec Ideal S1x128 .f32)
    (b : Fin 16) (p : Fin 1024) : (start x (uitofp .f32 v) cw cb).avail (ix2 b p) = v (ix2 b p) := by
  unfold start
  pointwise
  exact half_lt _

theorem start_ctx (x : FVec Ideal S16x1024x128 .f32) (v : FVec Ideal S16x1024 .f32) (cw : FVec Ideal S128x128 .f32) (cb : FVec Ideal S1x128 .f32)
    (b : Fin 16) (k : Fin 128) : (start x v cw cb).ctx (ix2 b k) =
      ∑ f : Fin 128, Ideal.div (∑ p : Fin 1024, x (ix3 b p f)) (Ideal.ofBits .f32 1149239296#32) * cw (ix2 f k) + cb (ix2 0 k) := by
  unfold start
  pointwise

theorem start_hid (x : FVec Ideal S16x1024x128 .f32) (v : FVec Ideal S16x1024 .f32) (cw : FVec Ideal S128x128 .f32) (cb : FVec Ideal S1x128 .f32)
    (b : Fin 16) (k : Fin 128) : (start x v cw cb).hid (ix2 b k) = 0 := by
  unfold start
  pointwise

variable (m : (ℓ : Loc nD τ sig) → Buf (Elt Ideal) ℓ) (c : Dev nD)

/-- The state the body starts from, its operands read. -/
theorem S₀_eq : S₀ m c = start (show FVec Ideal S16x1024x128 .f32 from m ((c.tc : Thread nD τ).loc main_arg0))
    (uitofp .f32 (show IVec S16x1024 1 from m ((c.tc : Thread nD τ).loc main_arg2)))
    (show FVec Ideal S128x128 .f32 from m ((c.tc : Thread nD τ).loc main_arg7))
    (shapeCast S1x128 (show FVec Ideal S128 .f32 from m ((c.tc : Thread nD τ).loc main_arg8)) shapeCasts_S128_S1x128) := by
  rw [← blk0 m c, ← blk2 m c, ← blk7 m c, ← blk8 m c]
  have h0 := View.readAt_full (Val := Elt Ideal) (st0_0 t₀).view (iblk m c 0 t₀) inb_S16x1024x128_S16x1024x128_0_0_0
  have h2 := View.readAt_full (Val := Elt Ideal) (st0_2 t₀).view (iblk m c 2 t₀) inb_S16x1024_S16x1024_0_0
  have h7 := View.readAt_full (Val := Elt Ideal) (st0_7 t₀).view (iblk m c 7 t₀) inb_S128x128_S128x128_0_0
  have h8 := View.readAt_full (Val := Elt Ideal) (st0_8 t₀).view (iblk m c 8 t₀) inb_S1x128_S1x128_0_0
  exact congr (congr (congr (congrArg start h0) h2) h7) h8

/-- The first layer, read back whole from where the body keeps it. -/
theorem kept {M : Memref sig .tc .vmem S16x1024x128 .f32} (w : FVec Ideal S16x1024x128 .f32) :
    M.view.readCov (Val := Elt Ideal) [⟨Rect.unit ![0, 0, 0] S16x1024x128.size inb_S16x1024x128_S16x1024x128_0_0_0, w⟩]
      (Rect.unit ![0, 0, 0] S16x1024x128.size inb_S16x1024x128_S16x1024x128_0_0_0).toLoadRect = w :=
  View.readCov_full (Val := Elt Ideal) M.view inb_S16x1024x128_S16x1024x128_0_0_0 inb_S16x1024x128_S16x1024x128_0_0_0 w []

/-- The first layer the body keeps, of what it reads of its buffers. -/
theorem ins_xw (M0 : Memref sig .tc .vmem S16x1024x128 .f32) (M1 : Memref sig .tc .vmem S16x16x1024 .f32)
    (M3 : Memref sig .tc .vmem S128x128 .f32) (M4 : Memref sig .tc .vmem S128x128 .f32) (M5 : Memref sig .tc .vmem S1x128 .f32)
    (M6 : Memref sig .tc .vmem S128x1 .f32) (M9 : Memref sig .tc .vmem S128x384 .f32) (M10 : Memref sig .tc .vmem S128x384 .f32)
    (M11 : Memref sig .tc .vmem S1x384 .f32) (M12 : Memref sig .tc .vmem S1x384 .f32) (M15 : Memref sig .tc .vmem S16x1024x128 .f32)
    (f0 : Bf (F := Ideal) c M0) (f1 : Bf (F := Ideal) c M1) (f3 : Bf (F := Ideal) c M3) (f4 : Bf (F := Ideal) c M4)
    (f5 : Bf (F := Ideal) c M5) (f6 : Bf (F := Ideal) c M6) (f9 : Bf (F := Ideal) c M9) (f10 : Bf (F := Ideal) c M10)
    (f11 : Bf (F := Ideal) c M11) (f12 : Bf (F := Ideal) c M12) :
    (ins c M0 M1 M3 M4 M5 M6 M9 M10 M11 M12 M15 f0 f1 f3 f4 f5 f6 f9 f10 f11 f12).xw = firstLayer (M0.view.read (Elt Ideal) f0) (M3.view.read (Elt Ideal) f3) :=
  (kept _).trans (congr (congrArg firstLayer (View.readAt_full (Val := Elt Ideal) M0.view f0 inb_S16x1024x128_S16x1024x128_0_0_0))
    (View.readAt_full (Val := Elt Ideal) M3.view f3 inb_S128x128_S128x128_0_0))

/-- The first layer the body keeps. -/
theorem xw_eq : (A m c).xw = firstLayer (iblk m c 0 t₀) (iblk m c 3 t₀) :=
  ins_xw c _ _ _ _ _ _ _ _ _ _ _ _ _ _ _ _ _ _ _ _ _

theorem xw_at (b : Fin 16) (p : Fin 1024) (x : Fin 128) : (A m c).xw (ix3 b p x) =
    ∑ y : Fin 128, (show FVec Ideal S16x1024x128 .f32 from m ((c.tc : Thread nD τ).loc main_arg0)) (ix3 b p y)
      * (show FVec Ideal S256x128 .f32 from m ((c.tc : Thread nD τ).loc main_arg3)) (ix2 ⟨y, by omega⟩ x) := by
  rw [xw_eq, blk0, blk3]
  generalize (show FVec Ideal S256x128 .f32 from m ((c.tc : Thread nD τ).loc main_arg3)) = w
  refine (firstLayer_at _ _ b p x).trans (Finset.sum_congr rfl fun y _ => congrArg _ ?_)
  pointwise

end Cert.KernelIdeal.Hand

end
-- ==== Proof.Noise.lean ====
/-
  The noise is nowhere plus infinity.
-/
module

public import proofs.«01_k».proof.Proof.Gen.ReferenceIdeal.Step
public import Idealize.ShloMosaic.Lib.Pointwise

@[expose] public section

set_option maxRecDepth 65536
set_option maxHeartbeats 4000000

noncomputable section

namespace Cert.ReferenceIdeal.Noise

open Cert.ReferenceIdeal Cert.ReferenceIdeal.Gen Cert.ReferenceIdeal.Step
open Idealize.ShloMosaic

/-- A word below `2⁻⁹` of the range, over the exponent of one: a number from one up to `2 − 2⁻²³`. -/
theorem ofBits_one_frac (w : BitVec 32) : ∃ r : ℝ, Ideal.ofBits .f32 ((w >>> 9) ||| 1065353216#32) = r ∧ 1 ≤ r ∧ r ≤ 2 - 2 ^ (-23 : ℤ) := by
  have hm : w.toNat / 512 < 2 ^ 23 := by have := w.isLt; omega
  have hn : ((w >>> 9) ||| 1065353216#32).toNat = 2 ^ 23 * 127 + w.toNat / 512 := by
    rw [BitVec.toNat_or, BitVec.toNat_ushiftRight, Nat.shiftRight_eq_div_pow, Nat.or_comm, Nat.two_pow_add_eq_or_of_lt hm]
    rfl
  have hs : ((w >>> 9) ||| 1065353216#32).extractLsb' 31 1 = 0#1 := by
    apply BitVec.eq_of_toNat_eq
    rw [BitVec.extractLsb'_toNat, hn, Nat.shiftRight_eq_div_pow, BitVec.toNat_ofNat]
    omega
  have he : (((w >>> 9) ||| 1065353216#32).extractLsb' 23 8).toNat = 127 := by
    rw [BitVec.extractLsb'_toNat, hn, Nat.shiftRight_eq_div_pow]
    omega
  have hf : (((w >>> 9) ||| 1065353216#32).extractLsb' 0 23).toNat = w.toNat / 512 := by
    rw [BitVec.extractLsb'_toNat, hn, Nat.shiftRight_eq_div_pow]
    omega
  refine ⟨1 * ((2 ^ 23 + w.toNat / 512 : ℕ) : ℝ) * (2 : ℝ) ^ (((127 : ℕ) : ℤ) - (2 ^ (8 - 1) - 1) - (23 : ℕ)), ?_, ?_, ?_⟩
  · unfold Ideal.ofBits Ideal.ieee
    simp only [Nat.reduceAdd, hs, he, hf]
    rfl
  · have : (0 : ℝ) ≤ ((w.toNat / 512 : ℕ) : ℝ) := Nat.cast_nonneg _
    push_cast
    norm_num
    linarith
  · have h : ((w.toNat / 512 : ℕ) : ℝ) ≤ ((2 ^ 23 - 1 : ℕ) : ℝ) := Nat.cast_le.mpr (by omega)
    have h' : ((2 ^ 23 - 1 : ℕ) : ℝ) = 8388607 := by norm_num
    rw [h'] at h
    rw [Nat.cast_add]
    generalize ((w.toNat / 512 : ℕ) : ℝ) = m at h
    norm_num
    linarith

theorem lo : Ideal.ofBits .f32 841731191#32 = ((11258999 * 2 ^ (-50 : ℤ) : ℝ) : EReal) := by
  simp [Ideal.ofBits, Ideal.ieee, -EReal.coe_mul]

/-- `−log (−log u + c)` for `u ≤ 1` and `c > 0`. -/
theorem not_top {u c : EReal} (hu : u ≤ 1) (hc : 0 < c) : -Ideal.log (-Ideal.log u + c) ≠ ⊤ := by
  have h1 : 0 ≤ -Ideal.log u := by
    induction u using EReal.rec with
    | bot => exact le_top
    | top => exact absurd (lt_of_lt_of_le (EReal.coe_lt_top 1) hu) (lt_irrefl _)
    | coe r =>
      show 0 ≤ -(if r ≤ 0 then (⊥ : EReal) else ((Real.log r : ℝ) : EReal))
      split
      · exact le_top
      · have hr : r ≤ 1 := by exact_mod_cast hu
        have := Real.log_nonpos (by linarith) hr
        rw [← EReal.coe_neg, ← EReal.coe_zero, EReal.coe_le_coe_iff]
        linarith
  have h2 : 0 < -Ideal.log u + c := lt_of_lt_of_le hc (le_add_of_nonneg_left h1)
  generalize -Ideal.log u + c = w at h2
  intro h
  rw [EReal.neg_eq_top_iff] at h
  induction w using EReal.rec with
  | bot => exact absurd h2 (by simp)
  | top => exact absurd h (by show (⊤ : EReal) ≠ ⊥; simp)
  | coe r =>
    have hr : 0 < r := by exact_mod_cast h2
    have h' : (if r ≤ 0 then (⊥ : EReal) else ((Real.log r : ℝ) : EReal)) = ⊥ := h
    rw [if_neg (not_le.mpr hr)] at h'
    exact EReal.coe_ne_bot _ h'

/-- The noise of the words `w`. -/
def ofWords (w : IVec S16x16x1024 32) : FVec Ideal S16x16x1024 .f32 :=
  let z : FVec Ideal S16x16x1024 .f32 := broadcastInDim S16x16x1024 ![0, 1, 2] bcast_S1x1x1_S16x16x1024_0_1_2 (broadcastInDim S1x1x1 ![] bcast_S_S1x1x1 (constant S_ .f32 0x00000000#32))
  let o : FVec Ideal S1x1x1 .f32 := subf (broadcastInDim S1x1x1 ![] bcast_S_S1x1x1 (constant S_ .f32 0x3F800000#32)) (broadcastInDim S1x1x1 ![] bcast_S_S1x1x1 (constant S_ .f32 0x00000000#32))
  let u := subf (bitcastToFloat .f32 (ori (Host.shrui w (broadcastInDim S16x16x1024 ![] bcast_S_S16x16x1024 (constantI S_ 32 9#32)))
    (broadcastInDim S16x16x1024 ![] bcast_S_S16x16x1024 (constantI S_ 32 1065353216#32)))) (broadcastInDim S16x16x1024 ![] bcast_S_S16x16x1024 (constant S_ .f32 0x3F800000#32))
  let e : FVec Ideal S16x16x1024 .f32 := broadcastInDim S16x16x1024 ![] bcast_S_S16x16x1024 (constant S_ .f32 0x322BCC77#32)
  Host.negf (Host.log (addf (Host.negf (Host.log (addf (maximumf z (addf (mulf u (broadcastInDim S16x16x1024 ![0, 1, 2] bcast_S1x1x1_S16x16x1024_0_1_2 o)) z)) e))) e))

theorem noise_eq : K_main_v51 (F := Ideal) = ofWords (K_main_v29 (F := Ideal)) := by
  unfold K_main_v51 K_main_v50 K_main_v49 K_main_v48 K_main_cst_11 K_main_v47 K_main_v46 K_main_v45 K_main_v44 K_main_cst_10 K_main_v43 K_main_v42
    K_main_v41 K_main_v40 K_main_v39 K_main_v38 K_main_v37 K_main_v36 K_main_v35 K_main_cst_9 K_main_v34 K_main_v33 K_main_v32 K_main_c_8 K_main_v31
    K_main_v30 K_main_c_7 K_main_v8 K_main_cst_2 K_main_v7 K_main_cst
  generalize K_main_v29 (F := Ideal) = w
  rfl

theorem ofWords_ne_top (w : IVec S16x16x1024 32) (t b : Fin 16) (p : Fin 1024) : ofWords w (ix3 t b p) ≠ ⊤ := by
  unfold ofWords
  pointwise
  obtain ⟨r, hr, h1, h2⟩ := ofBits_one_frac (w (ix3 t b p))
  have hw : IntOp.ori (IntOp.shrui ArithUnit.host (w (ix3 t b p)) 9#32) 1065353216#32 = (w (ix3 t b p) >>> 9) ||| 1065353216#32 := by
    rfl
  rw [hw, hr, lo]
  refine not_top ?_ ?_
  · rw [← EReal.coe_one, ← EReal.coe_sub, max_eq_right (by rw [← EReal.coe_zero, EReal.coe_le_coe_iff]; linarith), ← EReal.coe_add, EReal.coe_le_coe_iff]
    norm_num at h2 ⊢
    linarith
  · rw [← EReal.coe_zero, EReal.coe_lt_coe_iff]; norm_num

theorem noise_ne_top (t b : Fin 16) (p : Fin 1024) : (show FVec Ideal S16x16x1024 .f32 from K_main_v51 (F := Ideal)) (ix3 t b p) ≠ ⊤ := by
  rw [noise_eq]
  exact ofWords_ne_top _ t b p

end Cert.ReferenceIdeal.Noise

end
-- ==== Proof.RefStep.lean ====
/-
  What one step of the reference's loop computes, at an index.
-/
module

public import proofs.«01_k».proof.Proof.Choice
public import proofs.«01_k».proof.Proof.RefChain

@[expose] public section

set_option maxRecDepth 65536
set_option maxHeartbeats 4000000

noncomputable section

namespace Cert.ReferenceIdeal.Hand

open Cert.ReferenceIdeal Cert.KernelIdeal.Choice
open Cert.ReferenceIdeal.Value
open Idealize.ShloMosaic Idealize.ShloMosaic.TcCoe Idealize.SL.Sem Idealize.ShloMosaic.StableHlo

/-- The largest value of a row, taken over the places in it. -/
theorem fold_max_row (v : FVec Ideal S16x1024 .f32) {b : Fin 16} {i : Fin 1024} (hi : IsFirst (fun p => v (ix2 b p)) i)
    (s : Finset S16x1024.Idx) (hs : ∀ j : S16x1024.Idx, j ∈ s ↔ j 0 = b) : Finset.fold max (⊥ : EReal) v s = v (ix2 b i) := by
  refine le_antisymm (Finset.fold_max_le _ |>.mpr ⟨bot_le, fun j hj => ?_⟩) (Finset.le_fold_max _ |>.mpr (.inr ⟨_, (hs _).mpr rfl, le_rfl⟩))
  have hb := (hs j).mp hj
  rw [eq_ix2 j, hb]
  exact (hi _).1

/-- The smallest position of the row's largest value is the first. -/
theorem fold_min_row (v : FVec Ideal S16x1024 .f32) {b : Fin 16} {i : Fin 1024} (hi : IsFirst (fun p => v (ix2 b p)) i)
    (s : Finset S16x1024.Idx) (hs : ∀ j : S16x1024.Idx, j ∈ s ↔ j 0 = b) (w : S16x1024.Idx → BitVec 32)
    (hw : ∀ p, w (ix2 b p) = if v (ix2 b p) = v (ix2 b i) then BitVec.ofNat 32 p else 1024#32) :
    Finset.fold IntOp.minsi 2147483647#32 w s = BitVec.ofNat 32 i := by
  have hn (n : ℕ) (h : n ≤ 1024) : (BitVec.ofNat 32 n).toInt = n := by
    rw [BitVec.toInt_eq_toNat_of_lt] <;> simp only [BitVec.toNat_ofNat] <;> omega
  apply BitVec.eq_of_toInt_eq
  have hm (x y : BitVec 32) : (IntOp.minsi x y).toInt = min x.toInt y.toInt := by
    unfold IntOp.minsi
    by_cases h : x.slt y
    · rw [if_pos h]; simp only [BitVec.slt, decide_eq_true_eq] at h; omega
    · rw [if_neg h]; simp only [BitVec.slt, decide_eq_true_eq] at h; omega
  rw [← Finset.fold_hom (op' := min) (m := BitVec.toInt) hm, hn _ i.isLt.le]
  refine le_antisymm (Finset.fold_min_le _ |>.mpr (.inr ⟨ix2 b i, (hs _).mpr rfl, ?_⟩)) (Finset.le_fold_min _ |>.mpr ⟨?_, fun j hj => ?_⟩)
  · rw [hw, if_pos rfl, hn _ i.isLt.le]
  · have : (2147483647#32).toInt = 2147483647 := by decide
    have := i.isLt; omega
  · obtain ⟨q, rfl⟩ : ∃ q : Fin 1024, j = ix2 b q := ⟨j 1, by rw [← (hs j).mp hj]; exact eq_ix2 j⟩
    rw [hw]
    split
    · next h =>
      rw [hn _ q.isLt.le]
      by_contra hlt
      exact absurd h ((hi q).2 (Fin.lt_def.mpr (by omega))).ne
    · rw [show (1024#32).toInt = 1024 by decide]
      have := i.isLt; omega

variable (V : Valuation Cert.ReferenceIdeal.τ Cert.ReferenceIdeal.sig (Elt Ideal))

theorem mem_row (s : Finset S16x1024.Idx) (b : Fin 16) (hs : ∀ j, j ∈ s ↔ Cert.ReferenceIdeal.Gen.reducesTo_S16x1024_S16_d1.drop j = ix1 b)
    (j : S16x1024.Idx) : j ∈ s ↔ j 0 = b := by
  rw [hs]
  exact ⟨fun h => congrFun h 0, fun h => by funext a; obtain rfl : a = 0 := Subsingleton.elim _ _; exact h⟩

theorem soft_at {b : Fin 16} {i : Fin 1024} (hi : IsFirst (fun p => score V (ix2 b p)) i) (p : Fin 1024) :
    soft V (ix2 b p) = Ideal.div (Ideal.exp (score V (ix2 b p) - score V (ix2 b i))) (∑ q, Ideal.exp (score V (ix2 b q) - score V (ix2 b i))) := by
  unfold soft score res_main_while0b_v114 res_main_while0b_v110
  pointwise
  have h := fold_max_row (score V) hi _ (mem_row {j | Cert.ReferenceIdeal.Gen.reducesTo_S16x1024_S16_d1.drop j = ix1 b} b fun j => by simp)
  rw [ofBits_ninf]
  erw [h]
  rw [max_eq_right bot_le]

theorem sel_at {b : Fin 16} {i : Fin 1024} (hi : IsFirst (fun p => score V (ix2 b p)) i) (ht : score V (ix2 b i) ≠ ⊤) (p : Fin 1024) :
    sel V (ix2 b p) = if p = i then 1 else 0 := by
  have hs : IsFirst (fun p => soft V (ix2 b p)) i := by
    have := softmax_first hi ht
    simp only [soft_at V hi]
    exact this
  unfold sel res_main_while0b_v123
  pointwise
  have hmem := mem_row {j | Cert.ReferenceIdeal.Gen.reducesTo_S16x1024_S16_d1.drop j = ix1 b} b fun j => by simp
  erw [fold_min_row (soft V) hs _ hmem _ fun p => by
    rw [ofBits_ninf]
    erw [fold_max_row (soft V) hs _ hmem]
    rfl]
  refine (uitofp_eq (by omega) (by omega)).trans ?_
  simp only [Fin.ext_iff]

/-- What the step leaves of the places. -/
theorem avail_at {b : Fin 16} {i : Fin 1024} (hi : IsFirst (fun p => score V (ix2 b p)) i) (ht : score V (ix2 b i) ≠ ⊤) (p : Fin 1024) :
    AV (STEP V) (ix2 b p) = IntOp.andi (AV V (ix2 b p)) (BitVec.ofBool (decide (p ≠ i))) := by
  have h := STEP_main_v62_12 V
  unfold step_main_v62_12 at h
  unfold AV
  rw [h]
  have hs := sel_at V hi ht p
  refine congrArg (IntOp.andi _) ?_
  show BitVec.ofBool (decide (sel V (ix2 b p) ≤ Ideal.ofBits .f32 1056964608#32)) = _
  have hh : Ideal.ofBits .f32 1056964608#32 = ((1 / 2 : ℝ) : EReal) := by
    simp [Ideal.ofBits, Ideal.ieee]
    rw [← EReal.coe_mul]
    norm_num
  rw [hs, hh]
  congr 1
  by_cases hp : p = i
  · simp only [hp, if_true, ne_eq, not_true, decide_false, decide_eq_false_iff_not, not_le]
    rw [← EReal.coe_one, EReal.coe_lt_coe_iff]; norm_num
  · simp only [hp, if_false, ne_eq, not_false_eq_true, decide_true, decide_eq_true_eq]
    rw [← EReal.coe_zero, EReal.coe_le_coe_iff]; norm_num

/-- The chosen rows, summed out of the features. -/
theorem gathered {b : Fin 16} {i : Fin 1024} (hi : IsFirst (fun p => score V (ix2 b p)) i) (ht : score V (ix2 b i) ≠ ⊤) (f : Fin 128) :
    ∑ x, sel V (ix2 b x) * X V (ix3 b x f) = X V (ix3 b i f) := by
  rw [Finset.sum_eq_single i (fun x _ hx => by rw [sel_at V hi ht, if_neg hx, zero_mul]) (fun h => absurd (Finset.mem_univ _) h),
    sel_at V hi ht, if_pos rfl, one_mul]

theorem assign_at (b : Fin 16) (p : Fin 1024) (t : Fin 16) : AS (STEP V) (ix3 b p t) = AS V (ix3 b p t) + sel V (ix2 b p) * here V (ix1 t) := by
  have h := STEP_main_v62_15 V
  unfold step_main_v62_15 at h
  unfold AS
  rw [h]
  show (addf _ _ : FVec Ideal S16x1024x16 .f32) _ = _
  pointwise

theorem embs_step : EM (STEP V) = embs V := STEP_main_v62_16 V
theorem ctx_step : CT (STEP V) = (show FVec Ideal S16x128 .f32 from res_main_while0b_v801 V) := STEP_main_v62_13 V
theorem hid_step : HI (STEP V) = (show FVec Ideal S16x128 .f32 from res_main_while0b_v801 V) := STEP_main_v62_14 V

/-- The step leaves what it only reads, and counts. -/
structure Keeps (V V' : Valuation Cert.ReferenceIdeal.τ Cert.ReferenceIdeal.sig (Elt Ideal)) : Prop where
  x : X V' = X V
  w1 : W1 V' = W1 V
  b1 : B1 V' = B1 V
  w2 : W2 V' = W2 V
  b2 : B2 V' = B2 V
  nz : NZ V' = NZ V
  wi : WI V' = WI V
  bi : BI V' = BI V
  wh : WH V' = WH V
  bh : BH V' = BH V

theorem keeps : Keeps V (STEP V) := ⟨STEP_main_v62_0 V, STEP_main_v62_1 V, STEP_main_v62_2 V, STEP_main_v62_3 V, STEP_main_v62_4 V,
  STEP_main_v62_5 V, STEP_main_v62_6 V, STEP_main_v62_7 V, STEP_main_v62_8 V, STEP_main_v62_9 V⟩

theorem counter {n : ℕ} (h : V (Proc.devRef .tc main_v62_11) = constantI S_ 32 (BitVec.ofNat 32 n)) :
    STEP V (Proc.devRef .tc main_v62_11) = constantI S_ 32 (BitVec.ofNat 32 (n + 1)) := by
  rw [STEP_main_v62_11, step_main_v62_11, h]
  funext
  show BitVec.ofNat 32 n + 1#32 = BitVec.ofNat 32 (n + 1)
  simp only [BitVec.ofNat_add]

end Cert.ReferenceIdeal.Hand

end
-- ==== Proof.Agree.lean ====
/-
  Step by step, the kernel's state and the reference's carried values are the same.
-/
module

public import proofs.«01_k».proof.Proof.KerStep
public import proofs.«01_k».proof.Proof.RefStep

@[expose] public section

set_option maxRecDepth 65536
set_option maxHeartbeats 4000000

noncomputable section

namespace Cert.Agree

open Cert.KernelIdeal.Choice
open Cert.KernelIdeal.Spec (Ins St states step embOf idxOf onehot onehot_at chosen chosen_at emb_at noisy noisy_at inGates inGates_at hidGates hidGates_at
  gru gru_eq replay pick pick_bounded)
open Cert.ReferenceIdeal Cert.ReferenceIdeal.Value Cert.ReferenceIdeal.Hand
open Idealize.ShloMosaic Idealize.ShloMosaic.TcCoe Idealize.SL.Sem Idealize.ShloMosaic.StableHlo

/-! Real values among the extended ones. -/

/-- The value is a real number. -/
def IsReal (x : EReal) : Prop := ∃ r : ℝ, x = r

theorem IsReal.add {x y : EReal} : IsReal x → IsReal y → IsReal (x + y)
  | ⟨r, hr⟩, ⟨s, hs⟩ => ⟨r + s, by rw [hr, hs, EReal.coe_add]⟩
theorem IsReal.sub {x y : EReal} : IsReal x → IsReal y → IsReal (x - y)
  | ⟨r, hr⟩, ⟨s, hs⟩ => ⟨r - s, by rw [hr, hs, EReal.coe_sub]⟩
theorem IsReal.mul {x y : EReal} : IsReal x → IsReal y → IsReal (x * y)
  | ⟨r, hr⟩, ⟨s, hs⟩ => ⟨r * s, by rw [hr, hs, EReal.coe_mul]⟩
theorem IsReal.max {x y : EReal} (hx : IsReal x) (hy : IsReal y) : IsReal (max x y) := by
  rcases le_total x y with h | h
  · rw [max_eq_right h]; exact hy
  · rw [max_eq_left h]; exact hx
theorem IsReal.zero : IsReal 0 := ⟨0, rfl⟩
theorem IsReal.one : IsReal 1 := ⟨1, rfl⟩
theorem IsReal.sum {ι : Type} (s : Finset ι) {f : ι → EReal} (h : ∀ i, IsReal (f i)) : IsReal (∑ i ∈ s, f i) := by
  choose r hr using h
  exact ⟨∑ i ∈ s, r i, by rw [coe_sum]; exact Finset.sum_congr rfl fun i _ => hr i⟩
theorem IsReal.ne_top {x : EReal} : IsReal x → x ≠ ⊤
  | ⟨r, hr⟩ => hr ▸ EReal.coe_ne_top r
theorem IsReal.inv {x : EReal} : IsReal x → IsReal x⁻¹
  | ⟨r, hr⟩ => ⟨r⁻¹, by rw [hr, EReal.coe_inv]⟩
theorem IsReal.div {x y : EReal} (hx : IsReal x) (hy : IsReal y) (h : y ≠ 0) : IsReal (Ideal.div x y) := by
  rw [Ideal.div, if_neg h]; exact hx.mul hy.inv

theorem isReal_logistic (x : EReal) : IsReal (Ideal.logistic x) := by
  unfold Ideal.logistic
  induction x using EReal.rec with
  | bot =>
    rw [EReal.neg_bot, show Ideal.exp ⊤ = ⊤ from rfl, show (1 : EReal) + ⊤ = ⊤ from rfl, Ideal.div, if_neg (by decide), EReal.inv_top, mul_zero]
    exact IsReal.zero
  | top =>
    rw [EReal.neg_top, show Ideal.exp ⊥ = 0 from rfl, add_zero]
    exact IsReal.one.div IsReal.one one_ne_zero
  | coe r =>
    have h : (1 : EReal) + Ideal.exp (-(r : EReal)) = ((1 + Real.exp (-r) : ℝ) : EReal) := by
      rw [EReal.coe_add]; rfl
    rw [h]
    refine IsReal.one.div ⟨_, rfl⟩ ?_
    have := Real.exp_pos (-r)
    exact_mod_cast (by positivity : (1 + Real.exp (-r) : ℝ) ≠ 0)

theorem isReal_tanh (x : EReal) : IsReal (Ideal.tanh x) := by
  induction x using EReal.rec with
  | bot => exact ⟨-1, rfl⟩
  | top => exact ⟨1, rfl⟩
  | coe r => exact ⟨Real.tanh r, rfl⟩

theorem div_one (x : EReal) : Ideal.div x 1 = x := by
  rw [Ideal.div, if_neg one_ne_zero, show (1 : EReal)⁻¹ = 1 from by rw [← EReal.coe_one, ← EReal.coe_inv, inv_one], mul_one]

theorem ext2 {α : Type} {n m : ℕ} {f g : (⟨2, ![n, m]⟩ : Shape).Idx → α} (h : ∀ a b, f (ix2 a b) = g (ix2 a b)) : f = g :=
  funext fun j => by rw [eq_ix2 j]; exact h _ _

/-! The two recurrent units. -/

theorem unit_eq (gi gh : FVec Ideal S16x384 .f32) (h : FVec Ideal S16x128 .f32) : unit gi gh h = Cert.KernelIdeal.Spec.unit gi gh h :=
  ext2 fun b k => (unit_at gi gh h b k).trans (Cert.KernelIdeal.Spec.unit_at gi gh h b k).symm

theorem gru_real (A : Ins Ideal) (g : FVec Ideal S16x384 .f32) (h : FVec Ideal S16x128 .f32) (hr : ∀ b k, IsReal (h (ix2 b k))) (b : Fin 16) (k : Fin 128) :
    IsReal (gru A g h (ix2 b k)) := by
  rw [gru_eq, Cert.KernelIdeal.Spec.unit_at]
  exact ((IsReal.one.sub (isReal_logistic _)).mul (isReal_tanh _)).add ((isReal_logistic _).mul (hr b k))

theorem replay_real (A : Ins Ideal) (h : FVec Ideal S16x128 .f32) (hr : ∀ b k, IsReal (h (ix2 b k))) :
    ∀ (gs : List (FVec Ideal S16x384 .f32)) (b : Fin 16) (k : Fin 128), IsReal (replay A h gs (ix2 b k))
  | [], b, k => hr b k
  | g :: gs, b, k => gru_real A g _ (replay_real A h hr gs) b k

/-- The kernel's operands are the reference's carried values before its loop, and those are finite where the scores need it. -/
structure Match (A : Ins Ideal) (s₀ : St Ideal) (V : Valuation τ sig (Elt Ideal)) : Prop where
  rd : ∀ (b : Fin 16) (i : Fin 1024) (f : Fin 128) (h), A.rd ![b.val, i.val, 0] h (ix3 0 0 f) = X V (ix3 b i f)
  gum : ∀ (n : ℕ) (hn : n < 16) (b : Fin 16) (p : Fin 1024), A.gum n hn (ix3 0 b p) = NZ V (ix3 ⟨n, hn⟩ b p)
  xw : ∀ (b : Fin 16) (p : Fin 1024) (x : Fin 128), A.xw (ix3 b p x) = ∑ y : Fin 128, X V (ix3 b p y) * W1 V (ix2 ⟨y, by omega⟩ x)
  w1 : ∀ y x : Fin 128, A.w1 (ix2 y x) = W1 V (ix2 ⟨128 + y, by omega⟩ x)
  b1 : ∀ x : Fin 128, A.b1 (ix2 0 x) = B1 V (ix1 x)
  w2 : ∀ x : Fin 128, A.w2 (ix2 x 0) = W2 V (ix2 x 0)
  wih : ∀ (x : Fin 128) (k : Fin 384), A.wih (ix2 x k) = WI V (ix2 k x)
  whh : ∀ (x : Fin 128) (k : Fin 384), A.whh (ix2 x k) = WH V (ix2 k x)
  bih : ∀ k : Fin 384, A.bih (ix2 0 k) = BI V (ix1 k)
  bhh : ∀ k : Fin 384, A.bhh (ix2 0 k) = BH V (ix1 k)
  avail : AV V = s₀.avail
  ctx : CT V = s₀.ctx
  hid : HI V = s₀.hid
  gis : s₀.gis = []
  counter : V (Proc.devRef .tc main_v62_11) = constantI S_ 32 (BitVec.ofNat 32 0)
  em : ∀ t b f, EM V (ix3 t b f) = 0
  asn : ∀ b p t, AS V (ix3 b p t) = 0
  xReal : ∀ b p f, IsReal (X V (ix3 b p f))
  w1Real : ∀ y x, IsReal (W1 V (ix2 y x))
  b1Real : ∀ x, IsReal (B1 V (ix1 x))
  w2Real : ∀ x, IsReal (W2 V (ix2 x 0))
  b2Real : IsReal (B2 V (ix1 0))
  ctxReal : ∀ b k, IsReal (s₀.ctx (ix2 b k))
  hidReal : ∀ b k, IsReal (s₀.hid (ix2 b k))
  noise : ∀ t b p, NZ V (ix3 t b p) ≠ ⊤

/-- After `n` steps the reference's values `V` are the kernel's. -/
structure Inv (A : Ins Ideal) (s₀ : St Ideal) (V₀ : Valuation τ sig (Elt Ideal)) (n : ℕ) (hn : n ≤ 16) (V : Valuation τ sig (Elt Ideal)) : Prop where
  counter : V (Proc.devRef .tc main_v62_11) = constantI S_ 32 (BitVec.ofNat 32 n)
  keeps : Keeps V₀ V
  avail : AV V = (states A s₀ n hn).avail
  ctx : CT V = (states A s₀ n hn).ctx
  hid : HI V = (states A s₀ n hn).hid
  ctxReal : ∀ b k, IsReal ((states A s₀ n hn).ctx (ix2 b k))
  hidReal : ∀ b k, IsReal ((states A s₀ n hn).hid (ix2 b k))
  em : ∀ (t b : Fin 16) (f : Fin 128), EM V (ix3 t b f) =
    if h : t.val < n then embOf A t t.isLt (states A s₀ t (le_of_lt t.isLt)) (ix2 b f) else 0
  asn : ∀ (b : Fin 16) (p : Fin 1024) (t : Fin 16), AS V (ix3 b p t) =
    if h : t.val < n then onehot (idxOf A t t.isLt (states A s₀ t (le_of_lt t.isLt))) (ix2 b p) else 0

variable {A : Ins Ideal} {s₀ : St Ideal} {V₀ V : Valuation τ sig (Elt Ideal)} {n : ℕ}

theorem Match.inv (M : Match A s₀ V₀) : Inv A s₀ V₀ 0 (Nat.zero_le _) V₀ where
  counter := M.counter
  keeps := ⟨rfl, rfl, rfl, rfl, rfl, rfl, rfl, rfl, rfl, rfl⟩
  avail := M.avail
  ctx := M.ctx
  hid := M.hid
  ctxReal := M.ctxReal
  hidReal := M.hidReal
  em t b f := by rw [dif_neg (Nat.not_lt_zero _)]; exact M.em t b f
  asn b p t := by rw [dif_neg (Nat.not_lt_zero _)]; exact M.asn b p t

/-- The scorer's output, and the scores, which differ by the output bias. -/
theorem score_eq (M : Match A s₀ V₀) (hn : n < 16) (I : Inv A s₀ V₀ n hn.le V) (b : Fin 16) (p : Fin 1024) :
    score V (ix2 b p) = noisy A (A.gum n hn) (states A s₀ n hn.le).avail (states A s₀ n hn.le).ctx (ix2 b p) + B2 V₀ (ix1 0)
    ∧ noisy A (A.gum n hn) (states A s₀ n hn.le).avail (states A s₀ n hn.le).ctx (ix2 b p) ≠ ⊤ := by
  rw [score_at V hn I.counter, noisy_at, div_one, div_one]
  simp only [I.keeps.x, I.keeps.w1, I.keeps.b1, I.keeps.w2, I.keeps.b2, I.keeps.nz, I.avail, I.ctx, M.gum, M.xw, M.w1, M.b1, M.w2]
  obtain ⟨r, hr⟩ := M.b2Real
  constructor
  · simp only [Scalar.select, ← add_assoc]
    split
    · rw [add_right_comm]
    · rw [hr, EReal.bot_add, EReal.bot_add]
  · refine (EReal.add_lt_top ?_ (M.noise _ _ _)).ne
    simp only [Scalar.select]
    split
    · exact (IsReal.sum _ fun x => ((((IsReal.sum _ fun y => (M.xReal _ _ _).mul (M.w1Real _ _)).add
        ((IsReal.sum _ fun y => (I.ctxReal _ _).mul (M.w1Real _ _)).add (M.b1Real _))).max IsReal.zero).mul (M.w2Real _))).ne_top
    · exact bot_ne_top

/-- The kernel's pick is the reference's first largest score. -/
theorem first (M : Match A s₀ V₀) (hn : n < 16) (I : Inv A s₀ V₀ n hn.le V) (b : Fin 16) :
    ∃ i : Fin 1024, idxOf A n hn (states A s₀ n hn.le) (ix1 b) = BitVec.ofNat 32 i ∧ IsFirst (fun p => score V (ix2 b p)) i ∧ score V (ix2 b i) ≠ ⊤ := by
  obtain ⟨i, hi, hf⟩ := pick_first (noisy A (A.gum n hn) (states A s₀ n hn.le).avail (states A s₀ n hn.le).ctx) b
  obtain ⟨r, hr⟩ := M.b2Real
  refine ⟨i, hi, fun q => ?_, ?_⟩
  · show score V (ix2 b q) ≤ score V (ix2 b i) ∧ (q < i → score V (ix2 b q) < score V (ix2 b i))
    rw [(score_eq M hn I b q).1, (score_eq M hn I b i).1, hr]
    exact ⟨add_le_add_left (hf q).1 _, fun h => EReal.add_lt_add_right_coe ((hf q).2 h) r⟩
  · rw [(score_eq M hn I b i).1, hr]
    exact (EReal.add_lt_top (score_eq M hn I b i).2 (EReal.coe_ne_top r)).ne

/-- The kernel's gathered row. -/
theorem row_eq (M : Match A s₀ V₀) (hn : n < 16) {s : St Ideal} {b : Fin 16} {i : Fin 1024} (hi : idxOf A n hn s (ix1 b) = BitVec.ofNat 32 i) (f : Fin 128) :
    embOf A n hn s (ix2 b f) = X V₀ (ix3 b i f) := by
  refine (emb_at A.rd (idxOf A n hn s) (pick_bounded _) b f).trans ?_
  have h (k : ℕ) (hk : k = i.val) (h) : A.rd ![b.val, k, 0] h (ix3 0 0 f) = X V₀ (ix3 b i f) := by subst hk; exact M.rd b i f h
  refine h _ ?_ _
  rw [hi, BitVec.toNat_ofNat]
  omega

theorem em_succ (M : Match A s₀ V₀) (hn : n < 16) (I : Inv A s₀ V₀ n hn.le V) (t b : Fin 16) (f : Fin 128) :
    EM (STEP V) (ix3 t b f) = if h : t.val < n + 1 then embOf A t t.isLt (states A s₀ t (le_of_lt t.isLt)) (ix2 b f) else 0 := by
  obtain ⟨i, hi, hf, ht⟩ := first M hn I b
  rw [embs_step, embs_at, here_at V hn I.counter, gathered V hf ht, I.em, I.keeps.x]
  rcases lt_trichotomy t.val n with h | h | h
  · rw [dif_pos h, dif_pos (by omega), if_neg h.ne, zero_mul, add_zero]
  · subst h
    rw [dif_neg (lt_irrefl _), dif_pos (by omega), if_pos rfl, one_mul, zero_add, row_eq M hn hi]
  · rw [dif_neg (by omega), dif_neg (by omega), if_neg h.ne', zero_mul, add_zero]

theorem as_succ (M : Match A s₀ V₀) (hn : n < 16) (I : Inv A s₀ V₀ n hn.le V) (b : Fin 16) (p : Fin 1024) (t : Fin 16) :
    AS (STEP V) (ix3 b p t) = if h : t.val < n + 1 then onehot (idxOf A t t.isLt (states A s₀ t (le_of_lt t.isLt))) (ix2 b p) else 0 := by
  obtain ⟨i, hi, hf, ht⟩ := first M hn I b
  rw [assign_at, here_at V hn I.counter, sel_at V hf ht, I.asn]
  rcases lt_trichotomy t.val n with h | h | h
  · rw [dif_pos h, dif_pos (by omega), if_neg h.ne, mul_zero, add_zero]
  · subst h
    rw [dif_neg (lt_irrefl _), dif_pos (by omega), if_pos rfl, mul_one, zero_add, onehot_at _ hi]
  · rw [dif_neg (by omega), dif_neg (by omega), if_neg h.ne', mul_zero, add_zero]

theorem avail_succ (M : Match A s₀ V₀) (hn : n < 16) (I : Inv A s₀ V₀ n hn.le V) : AV (STEP V) = (states A s₀ (n + 1) hn).avail :=
  ext2 fun b p => by
    obtain ⟨i, hi, hf, ht⟩ := first M hn I b
    rw [avail_at V hf ht, I.avail]
    refine congrArg (IntOp.andi _) ?_
    show _ = IntOp.xori (chosen (idxOf A n hn (states A s₀ n hn.le)) (ix2 b p)) 1#1
    rw [chosen_at _ hi]
    by_cases hp : p = i <;> simp [hp, IntOp.xori]

theorem next_eq (M : Match A s₀ V₀) (hn : n < 16) (I : Inv A s₀ V₀ n hn.le V) (t : Fin 16) (ht : t.val ≤ n) (h : FVec Ideal S16x128 .f32) :
    next V t h = gru A (inGates A (embOf A t t.isLt (states A s₀ t (le_of_lt t.isLt)))) h := by
  have e1 : gi V t = inGates A (embOf A t t.isLt (states A s₀ t (le_of_lt t.isLt))) := ext2 fun b k => by
    unfold gi
    rw [gates_at, inGates_at, I.keeps.wi, I.keeps.bi, M.bih]
    refine congrArg (· + _) (Finset.sum_congr rfl fun x _ => ?_)
    rw [plane_at, M.wih, ← embs_step, em_succ M hn I, dif_pos (by omega)]
  have e2 : gates h (WH V) (BH V) = hidGates A h := ext2 fun b k => by
    rw [gates_at, hidGates_at, I.keeps.wh, I.keeps.bh, M.bhh]
    refine congrArg (· + _) (Finset.sum_congr rfl fun x _ => ?_)
    rw [M.whh]
  unfold next
  rw [e1, e2, unit_eq, gru_eq]

theorem hids_eq (M : Match A s₀ V₀) (hn : n < 16) (I : Inv A s₀ V₀ n hn.le V) : ∀ (t : ℕ) (ht : t ≤ n),
    hids V ⟨t, by omega⟩ = replay A (states A s₀ n hn.le).hid (states A s₀ (t + 1) (by omega)).gis
  | 0, ht => by
    refine (hids_zero V).trans ?_
    rw [next_eq M hn I 0 ht, I.hid]
    show _ = gru A _ (replay A _ s₀.gis)
    rw [M.gis]
    rfl
  | t + 1, ht => by
    refine (hids_succ V ⟨t, by omega⟩).trans ?_
    rw [next_eq M hn I _ ht]
    show gru A _ (hids V ⟨t, _⟩) = gru A _ (replay A _ _)
    rw [hids_eq M hn I t (by omega)]
    rfl

theorem taken_eq (M : Match A s₀ V₀) (hn : n < 16) (I : Inv A s₀ V₀ n hn.le V) :
    (show FVec Ideal S16x128 .f32 from res_main_while0b_v801 V) = (states A s₀ (n + 1) hn).hid :=
  ext2 fun b k => by
    refine (taken V b k).trans ?_
    rw [Finset.sum_eq_single (⟨n, hn⟩ : Fin 16) (fun t _ ht => by
      rw [here_at V hn I.counter, if_neg (fun e => ht (Fin.ext e)), zero_mul]) (fun h => absurd (Finset.mem_univ _) h),
      here_at V hn I.counter, if_pos rfl, one_mul, hids_eq M hn I n le_rfl]
    rfl

theorem Inv.succ (M : Match A s₀ V₀) (hn : n < 16) (I : Inv A s₀ V₀ n hn.le V) : Inv A s₀ V₀ (n + 1) hn (STEP V) where
  counter := Hand.counter V I.counter
  keeps := by
    have k := Hand.keeps V
    exact ⟨k.x.trans I.keeps.x, k.w1.trans I.keeps.w1, k.b1.trans I.keeps.b1, k.w2.trans I.keeps.w2, k.b2.trans I.keeps.b2, k.nz.trans I.keeps.nz,
      k.wi.trans I.keeps.wi, k.bi.trans I.keeps.bi, k.wh.trans I.keeps.wh, k.bh.trans I.keeps.bh⟩
  avail := avail_succ M hn I
  ctx := (ctx_step V).trans (taken_eq M hn I)
  hid := (hid_step V).trans (taken_eq M hn I)
  ctxReal := replay_real A _ I.hidReal _
  hidReal := replay_real A _ I.hidReal _
  em := em_succ M hn I
  asn := as_succ M hn I

theorem inv (M : Match A s₀ V₀) : ∀ (n : ℕ) (hn : n ≤ 16), Inv A s₀ V₀ n hn (STEP^[n] V₀)
  | 0, _ => M.inv
  | n + 1, hn => by
    rw [Function.iterate_succ_apply']
    exact (inv M n (Nat.le_of_succ_le hn)).succ M hn

end Cert.Agree

end
-- ==== Proof.Finite.lean ====
/-
  The precondition says of seven argument arrays that each element is a real number.
-/
module

public import proofs.«01_k».proof.Proof.Agree
public import proofs.«01_k».proof.Proof.Gen.Pre_finite
public import Idealize.ShloMosaic.Lib.ReduceAll

@[expose] public section

set_option maxRecDepth 65536
set_option maxHeartbeats 4000000

noncomputable section

namespace Cert.Pre_finite.Hand

open Cert.Pre_finite Cert.Agree
open Idealize.ShloMosaic

/-- An element whose absolute value is below infinity is a real number. -/
theorem isReal_of_lt (x : EReal) (h : Ideal.cmp .olt (max x (-x)) (Ideal.ofBits .f32 0x7F800000#32) = 1#1) : IsReal x := by
  have htop : Ideal.ofBits .f32 0x7F800000#32 = ⊤ := by
    simp [Ideal.ofBits, Ideal.ieee, -EReal.coe_mul]
  rw [htop] at h
  induction x using EReal.rec with
  | bot => exact absurd h (by simp [Ideal.cmp])
  | top => exact absurd h (by simp [Ideal.cmp])
  | coe r => exact ⟨r, rfl⟩

instance : Subsingleton S_.Idx := ⟨fun i j => funext fun a => a.elim0⟩

/-- All of an array's bits are set where the test of the whole array came out set. -/
theorem isReal_all {s : Shape} {axes : List (Fin s.rank)} (x : FVec Ideal s .f32) (d : Fin S_.rank → Fin s.rank) (hb : S_.BroadcastsInDim s d)
    (h : s.ReducesTo axes S_) (hu : 0 < S_.numel) (j : S_.Idx)
    (e : Host.reduce IntOp.andi (cmpf .olt (Host.absf x) (broadcastInDim s d hb (constant S_ .f32 0x7F800000#32))) (constantI S_ 1 1#1) h hu j = 1#1)
    (i : s.Idx) : IsReal (x i) :=
  isReal_of_lt (x i) (Host.reduce_andi_all _ _ _ _ j e i)

theorem and_one {a b : IVec S_ 1} {j : S_.Idx} (h : andi a b j = 1#1) : a j = 1#1 ∧ b j = 1#1 := by
  have : ∀ u v : BitVec 1, u &&& v = 1#1 → u = 1#1 ∧ v = 1#1 := by decide
  exact this _ _ h

/-- What the precondition gives. -/
theorem reals [Facts] (x : FVec Ideal S16x1024x128 .f32) (a1 : FVec Ideal S16x1024x1024 .f32) (a2 : IVec S16x1024 1) (w1 : FVec Ideal S256x128 .f32)
    (b1 : FVec Ideal S128 .f32) (w2 : FVec Ideal S128x1 .f32) (b2 : FVec Ideal S1 .f32) (cw : FVec Ideal S128x128 .f32) (cb : FVec Ideal S128 .f32)
    (a9 a10 : FVec Ideal S384x128 .f32) (a11 a12 : FVec Ideal S384 .f32)
    (h : fn x a1 a2 w1 b1 w2 b2 cw cb a9 a10 a11 a12 = fun _ => 1#1) :
    (∀ i, IsReal (x i)) ∧ (∀ i, IsReal (w1 i)) ∧ (∀ i, IsReal (b1 i)) ∧ (∀ i, IsReal (w2 i)) ∧ (∀ i, IsReal (b2 i)) ∧ (∀ i, IsReal (cw i)) ∧ ∀ i, IsReal (cb i) := by
  have j : S_.Idx := fun a => a.elim0
  have h := congrFun h j
  obtain ⟨h, hcb⟩ := and_one h
  obtain ⟨h, hcw⟩ := and_one h
  obtain ⟨h, hb2⟩ := and_one h
  obtain ⟨h, hw2⟩ := and_one h
  obtain ⟨h, hb1⟩ := and_one h
  obtain ⟨hx, hw1⟩ := and_one h
  exact ⟨isReal_all x _ _ _ _ j hx, isReal_all w1 _ _ _ _ j hw1, isReal_all b1 _ _ _ _ j hb1, isReal_all w2 _ _ _ _ j hw2,
    isReal_all b2 _ _ _ _ j hb2, isReal_all cw _ _ _ _ j hcw, isReal_all cb _ _ _ _ j hcb⟩

end Cert.Pre_finite.Hand

end
-- ==== Proof.Matched.lean ====
/-
  Where the arguments agree and are finite, the kernel's launch and the reference's loop start from matching values.
-/
module

public import proofs.«01_k».proof.Proof.Start
public import proofs.«01_k».proof.Proof.RefEntry
public import proofs.«01_k».proof.Proof.Noise
public import proofs.«01_k».proof.Proof.Finite
public import proofs.«01_k».proof.Defs

@[expose] public section

set_option maxRecDepth 65536
set_option maxHeartbeats 4000000

noncomputable section

namespace Cert.Agree

open Cert.KernelIdeal Cert.KernelIdeal.Gen Cert.KernelIdeal.Spec Cert.KernelIdeal.Hand Cert.ReferenceIdeal.Hand
open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)

/-- The two programs' arguments are the same arrays. -/
structure SameArgs : Prop where
  a0 : m' ((c.tc : Thread Cert.ReferenceIdeal.nD Cert.ReferenceIdeal.τ).loc Cert.ReferenceIdeal.main_arg0) = m ((c.tc : Thread nD τ).loc main_arg0)
  a2 : m' ((c.tc : Thread Cert.ReferenceIdeal.nD Cert.ReferenceIdeal.τ).loc Cert.ReferenceIdeal.main_arg2) = m ((c.tc : Thread nD τ).loc main_arg2)
  a3 : m' ((c.tc : Thread Cert.ReferenceIdeal.nD Cert.ReferenceIdeal.τ).loc Cert.ReferenceIdeal.main_arg3) = m ((c.tc : Thread nD τ).loc main_arg3)
  a4 : m' ((c.tc : Thread Cert.ReferenceIdeal.nD Cert.ReferenceIdeal.τ).loc Cert.ReferenceIdeal.main_arg4) = m ((c.tc : Thread nD τ).loc main_arg4)
  a5 : m' ((c.tc : Thread Cert.ReferenceIdeal.nD Cert.ReferenceIdeal.τ).loc Cert.ReferenceIdeal.main_arg5) = m ((c.tc : Thread nD τ).loc main_arg5)
  a6 : m' ((c.tc : Thread Cert.ReferenceIdeal.nD Cert.ReferenceIdeal.τ).loc Cert.ReferenceIdeal.main_arg6) = m ((c.tc : Thread nD τ).loc main_arg6)
  a7 : m' ((c.tc : Thread Cert.ReferenceIdeal.nD Cert.ReferenceIdeal.τ).loc Cert.ReferenceIdeal.main_arg7) = m ((c.tc : Thread nD τ).loc main_arg7)
  a8 : m' ((c.tc : Thread Cert.ReferenceIdeal.nD Cert.ReferenceIdeal.τ).loc Cert.ReferenceIdeal.main_arg8) = m ((c.tc : Thread nD τ).loc main_arg8)
  a9 : m' ((c.tc : Thread Cert.ReferenceIdeal.nD Cert.ReferenceIdeal.τ).loc Cert.ReferenceIdeal.main_arg9) = m ((c.tc : Thread nD τ).loc main_arg9)
  a10 : m' ((c.tc : Thread Cert.ReferenceIdeal.nD Cert.ReferenceIdeal.τ).loc Cert.ReferenceIdeal.main_arg10) = m ((c.tc : Thread nD τ).loc main_arg10)
  a11 : m' ((c.tc : Thread Cert.ReferenceIdeal.nD Cert.ReferenceIdeal.τ).loc Cert.ReferenceIdeal.main_arg11) = m ((c.tc : Thread nD τ).loc main_arg11)
  a12 : m' ((c.tc : Thread Cert.ReferenceIdeal.nD Cert.ReferenceIdeal.τ).loc Cert.ReferenceIdeal.main_arg12) = m ((c.tc : Thread nD τ).loc main_arg12)

/-- The arguments the scores are made of are real numbers. -/
structure Reals : Prop where
  x : ∀ i, IsReal ((show FVec Ideal S16x1024x128 .f32 from m ((c.tc : Thread nD τ).loc main_arg0)) i)
  w1 : ∀ i, IsReal ((show FVec Ideal S256x128 .f32 from m ((c.tc : Thread nD τ).loc main_arg3)) i)
  b1 : ∀ i, IsReal ((show FVec Ideal S128 .f32 from m ((c.tc : Thread nD τ).loc main_arg4)) i)
  w2 : ∀ i, IsReal ((show FVec Ideal S128x1 .f32 from m ((c.tc : Thread nD τ).loc main_arg5)) i)
  b2 : ∀ i, IsReal ((show FVec Ideal S1 .f32 from m ((c.tc : Thread nD τ).loc main_arg6)) i)
  cw : ∀ i, IsReal ((show FVec Ideal S128x128 .f32 from m ((c.tc : Thread nD τ).loc main_arg7)) i)
  cb : ∀ i, IsReal ((show FVec Ideal S128 .f32 from m ((c.tc : Thread nD τ).loc main_arg8)) i)

theorem reals_of (h : Cert.Pre_KernelIdeal_finite m) : Reals m c :=
  have ⟨hx, hw1, hb1, hw2, hb2, hcw, hcb⟩ := Cert.Pre_finite.Hand.reals _ _ _ _ _ _ _ _ _ _ _ _ _ (h c)
  ⟨hx, hw1, hb1, hw2, hb2, hcw, hcb⟩

/-- The first context at an index, the bias as one row. -/
theorem ctx_start (b : Fin 16) (k : Fin 128) : (S₀ m c).ctx (ix2 b k) =
    ∑ f : Fin 128, Ideal.div (∑ p : Fin 1024, (show FVec Ideal S16x1024x128 .f32 from m ((c.tc : Thread nD τ).loc main_arg0)) (ix3 b p f)) (Ideal.ofBits .f32 1149239296#32)
      * (show FVec Ideal S128x128 .f32 from m ((c.tc : Thread nD τ).loc main_arg7)) (ix2 f k) + (show FVec Ideal S128 .f32 from m ((c.tc : Thread nD τ).loc main_arg8)) (ix1 k) := by
  rw [S₀_eq, start_ctx]
  refine congrArg _ ?_
  generalize (show FVec Ideal S128 .f32 from m ((c.tc : Thread nD τ).loc main_arg8)) = v
  pointwise

theorem words : Ideal.ofBits .f32 1149239296#32 = ((1024 : ℝ) : EReal) := by
  simp [Ideal.ofBits, Ideal.ieee, -EReal.coe_mul]; norm_num

variable {m m' c}

theorem SameArgs.matching (S : SameArgs m m' c) (R : Reals m c) : Match (A m c) (S₀ m c) (V₀ m' c) where
  rd b i f h := by rw [X_entry, S.a0]; exact rd_at m c b i f h
  gum n hn b p := by rw [NZ_entry]; exact gum_at m c _ (blk1 m c) n hn b p
  xw b p x := by rw [X_entry, W1_entry, S.a0, S.a3]; exact xw_at m c b p x
  w1 y x := by rw [W1_entry, S.a3]; exact w1_at m c y x
  b1 x := by rw [B1_entry, S.a4]; exact b1_at m c x
  w2 x := by rw [W2_entry, S.a5]; exact w2_at m c x
  wih x k := by rw [WI_entry, S.a9]; exact wih_at m c x k
  whh x k := by rw [WH_entry, S.a10]; exact whh_at m c x k
  bih k := by rw [BI_entry, S.a11]; exact bih_at m c k
  bhh k := by rw [BH_entry, S.a12]; exact bhh_at m c k
  avail := by
    rw [AV_entry, S.a2, S₀_eq]
    exact ext2 fun b p => (start_avail _ _ _ _ b p).symm
  ctx := by
    rw [CT_entry, S.a0, S.a7, S.a8]
    exact ext2 fun b k => (ctx_at _ _ _ b k).trans (ctx_start m c b k).symm
  hid := by
    rw [S₀_eq]
    exact ext2 fun b k => (HI_at m' c b k).trans (start_hid _ _ _ _ b k).symm
  gis := rfl
  counter := counter_entry m' c
  em t b f := EM_at m' c t b f
  asn b p t := AS_at m' c b p t
  xReal b p f := by rw [X_entry, S.a0]; exact R.x _
  w1Real y x := by rw [W1_entry, S.a3]; exact R.w1 _
  b1Real x := by rw [B1_entry, S.a4]; exact R.b1 _
  w2Real x := by rw [W2_entry, S.a5]; exact R.w2 _
  b2Real := by rw [B2_entry, S.a6]; exact R.b2 _
  ctxReal b k := by
    rw [ctx_start]
    refine IsReal.add (IsReal.sum _ fun f => IsReal.mul (IsReal.div (IsReal.sum _ fun p => R.x _) ⟨1024, words⟩ ?_) (R.cw _)) (R.cb _)
    rw [words]; exact_mod_cast (by norm_num : (1024 : ℝ) ≠ 0)
  hidReal b k := by rw [S₀_eq, start_hid]; exact IsReal.zero
  noise t b p := by rw [NZ_entry]; exact Cert.ReferenceIdeal.Noise.noise_ne_top t b p

end Cert.Agree

end
-- ==== Proof.Final.lean ====
/-
  The run of the idealized kernel leaves the reference's results.
-/
module

public import proofs.«01_k».proof.Proof.Arrays
public import proofs.«01_k».proof.Proof.Host
public import proofs.«01_k».proof.Proof.Matched
public import proofs.«01_k».proof.Proof.Gen.ReferenceIdeal.Run

@[expose] public section

set_option maxRecDepth 65536
set_option maxHeartbeats 4000000

noncomputable section

namespace Cert.KernelIdeal.Hand

open Cert.KernelIdeal Cert.KernelIdeal.Gen Cert.KernelIdeal.Spec
open Idealize.ShloMosaic Idealize.ShloMosaic.TcCoe Idealize.SL.Sem Idealize.ShloMosaic.StableHlo

variable (m : (ℓ : Loc nD τ sig) → Buf (Elt Ideal) ℓ) (c : Dev nD)

/-! The three results after the host's last operations. -/

theorem arrRef_injective : Function.Injective (Pipeline.arrRef spec0) := by
  have h : ∀ a b, Pipeline.arrRef spec0 a = Pipeline.arrRef spec0 b → a = b := by decide
  exact fun a b e => h a b e

/-- The gathered rows, samples first. -/
def res26 : FVec Ideal S16x16x128 .f32 := transpose S16x16x128 [1, 0, 2] (embArr m c) transposes_S16x16x128_S16x16x128_1_0_2
/-- The choices, samples first and steps last. -/
def res27 : FVec Ideal S16x1024x16 .f32 := transpose S16x1024x16 [1, 2, 0] (selArr m c) transposes_S16x16x1024_S16x1024x16_1_2_0

theorem tail_v26 : Pipeline.afterTail₀ cfgs (dats m) 0 (V0 m) [hostOps1] c main_v26 = res26 m c := by
  unfold Pipeline.afterTail₀ res26
  rw [List.flatten_cons, List.flatten_nil, List.append_nil, host_v26]
  exact congrArg (fun x : FVec Ideal S16x16x128 .f32 => transpose S16x16x128 [1, 0, 2] x transposes_S16x16x128_S16x16x128_1_0_2)
    ((Pipeline.withArrays_arr spec0 arrRef_injective c _ _ 13).trans (final13 m c))

theorem tail_v27 : Pipeline.afterTail₀ cfgs (dats m) 0 (V0 m) [hostOps1] c main_v27 = res27 m c := by
  unfold Pipeline.afterTail₀ res27
  rw [List.flatten_cons, List.flatten_nil, List.append_nil, host_v27]
  exact congrArg (fun x : FVec Ideal S16x16x1024 .f32 => transpose S16x1024x16 [1, 2, 0] x transposes_S16x16x1024_S16x1024x16_1_2_0)
    ((Pipeline.withArrays_arr spec0 arrRef_injective c _ _ 14).trans (final14 m c))

theorem tail_v37 (V : Valuation Cert.ReferenceIdeal.τ Cert.ReferenceIdeal.sig (Elt Ideal)) :
    Pipeline.afterTail₀ cfgs (dats m) 0 (V0 m) [hostOps1] c main_v37 = Cert.ReferenceIdeal.Value.out_main_v73 (F := Ideal) V := by
  unfold Pipeline.afterTail₀
  rw [List.flatten_cons, List.flatten_nil, List.append_nil]
  exact host_v37 _ V

/-- The run: the three results, and the arguments as they were. -/
theorem run_results (ρ : Dev nD → PrngReg) (V : Dev nD → Valuation Cert.ReferenceIdeal.τ Cert.ReferenceIdeal.sig (Elt Ideal)) :
    θ_run defs (onTc (τ := τ) (main (F := Ideal))) ⟨m, fun _ => 0, ρ⟩ (fun r => ∀ c : Dev nD,
      r.2.mem ((c.tc : Thread nD τ).loc main_v26) = res26 m c
      ∧ r.2.mem ((c.tc : Thread nD τ).loc main_v37) = Cert.ReferenceIdeal.Value.out_main_v73 (F := Ideal) (V c)
      ∧ r.2.mem ((c.tc : Thread nD τ).loc main_v27) = res27 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨
      ((h.1 c).2 main_v26 (Pipeline.mem_restRefs_of main_v26 (by decide) (by decide))).trans (tail_v26 m c),
      ((h.1 c).2 main_v37 (Pipeline.mem_restRefs_of main_v37 (by decide) (by decide))).trans (tail_v37 m c (V c)),
      ((h.1 c).2 main_v27 (Pipeline.mem_restRefs_of main_v27 (by decide) (by decide))).trans (tail_v27 m c),
      ((h.1 c).1 0).trans (((dats m 0 c).arrAt_in 0 rfl _).trans ((A_eq m c 0).trans (V_main_arg0 m c))),
        (((h.1 c).2 main_arg1 (Pipeline.mem_restRefs_of main_arg1 (by decide) (by decide))).trans (W_main_arg1 m (dats m) c)),
        (((h.1 c).2 main_arg2 (Pipeline.mem_restRefs_of main_arg2 (by decide) (by decide))).trans (W_main_arg2 m (dats m) c)),
        (((h.1 c).2 main_arg3 (Pipeline.mem_restRefs_of main_arg3 (by decide) (by decide))).trans (W_main_arg3 m (dats m) c)),
        (((h.1 c).2 main_arg4 (Pipeline.mem_restRefs_of main_arg4 (by decide) (by decide))).trans (W_main_arg4 m (dats m) c)),
        ((h.1 c).1 6).trans (((dats m 0 c).arrAt_in 6 rfl _).trans ((A_eq m c 6).trans (V_main_arg5 m c))),
        (((h.1 c).2 main_arg6 (Pipeline.mem_restRefs_of main_arg6 (by decide) (by decide))).trans (W_main_arg6 m (dats m) c)),
        ((h.1 c).1 7).trans (((dats m 0 c).arrAt_in 7 rfl _).trans ((A_eq m c 7).trans (V_main_arg7 m c))),
        (((h.1 c).2 main_arg8 (Pipeline.mem_restRefs_of main_arg8 (by decide) (by decide))).trans (W_main_arg8 m (dats m) c)),
        (((h.1 c).2 main_arg9 (Pipeline.mem_restRefs_of main_arg9 (by decide) (by decide))).trans (W_main_arg9 m (dats m) c)),
        (((h.1 c).2 main_arg10 (Pipeline.mem_restRefs_of main_arg10 (by decide) (by decide))).trans (W_main_arg10 m (dats m) c)),
        (((h.1 c).2 main_arg11 (Pipeline.mem_restRefs_of main_arg11 (by decide) (by decide))).trans (W_main_arg11 m (dats m) c)),
        (((h.1 c).2 main_arg12 (Pipeline.mem_restRefs_of main_arg12 (by decide) (by decide))).trans (W_main_arg12 m (dats m) c))⟩) (run_main m ρ)

end Cert.KernelIdeal.Hand

namespace Cert.Agree

open Cert.KernelIdeal Cert.KernelIdeal.Gen Cert.KernelIdeal.Spec Cert.KernelIdeal.Hand Cert.ReferenceIdeal.Hand
open Idealize.ShloMosaic Idealize.ShloMosaic.TcCoe Idealize.SL.Sem Idealize.ShloMosaic.StableHlo

variable {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} {c : Dev Cert.KernelIdeal.nD}

theorem ext3 {n0 n1 n2 : ℕ} {e : FTy} {f g : FVec Ideal (⟨3, ![n0, n1, n2]⟩ : Shape) e} (h : ∀ a b k, f (ix3 a b k) = g (ix3 a b k)) : f = g :=
  funext fun j => by rw [eq_ix3 j]; exact h _ _ _

/-- The reference's gathered rows are the kernel's. -/
theorem emb_eq (M : Match (A m c) (S₀ m c) (V₀ m' c)) :
    Cert.ReferenceIdeal.Value.out_main_v63 (F := Ideal) (Cert.ReferenceIdeal.Value.STEP^[16] (V₀ m' c)) = res26 m c := by
  have I := inv M 16 (le_refl 16)
  have e : EM (Cert.ReferenceIdeal.Value.STEP^[16] (V₀ m' c)) = embArr m c :=
    ext3 fun t b f => (I.em t b f).trans ((dif_pos t.isLt).trans (embArr_at m c t b f).symm)
  unfold Cert.ReferenceIdeal.Value.out_main_v63 res26
  exact congrArg (fun x : FVec Ideal S16x16x128 .f32 => transpose S16x16x128 [1, 0, 2] x transposes_S16x16x128_S16x16x128_1_0_2) e

/-- The reference's choices are the kernel's. -/
theorem sel_eq (M : Match (A m c) (S₀ m c) (V₀ m' c)) :
    AS (Cert.ReferenceIdeal.Value.STEP^[16] (V₀ m' c)) = res27 m c := by
  have I := inv M 16 (le_refl 16)
  refine ext3 fun b p t => (I.asn b p t).trans ((dif_pos t.isLt).trans ((selArr_at m c t b p).symm.trans ?_))
  unfold res27
  generalize selArr m c = x
  pointwise

/-- Where the score's arguments are real numbers the two programs' results are equal. -/
theorem algebraic : Cert.algebraic_KernelIdeal_ReferenceIdeal_pre_finite := fun m g m' g' hpre hargs =>
  have hM : ∀ c, Match (A m c) (S₀ m c) (V₀ m' c) := fun c =>
    have ⟨a0, _, a2, a3, a4, a5, a6, a7, a8, a9, a10, a11, a12⟩ := hargs c
    SameArgs.matching ⟨a0, a2, a3, a4, a5, a6, a7, a8, a9, a10, a11, a12⟩ (reals_of m c hpre)
  ⟨fun c => res26 m c, fun c => Cert.ReferenceIdeal.Value.out_main_v73 (F := Ideal) (Cert.ReferenceIdeal.Value.STEP^[16] (V₀ m' c)), fun c => res27 m c,
    run_results m g fun c => Cert.ReferenceIdeal.Value.STEP^[16] (V₀ m' c),
    (θ_run Cert.ReferenceIdeal.defs _ _).mono (fun _ h c => ⟨(h c).1.trans (emb_eq (hM c)), (h c).2.1, (h c).2.2.1.trans (sel_eq (hM c)), (h c).2.2.2⟩)
      (Cert.ReferenceIdeal.Value.run (F := Ideal) m' g')⟩

end Cert.Agree

end
-- ==== Proof.lean ====
/-
  The claims of this certificate, assembled: the frames, that the named constant of the ideal kernel stands where
  the kernel's own constant stood, and that the ideal kernel's three results are the reference's.
-/
module

public import proofs.«01_k».proof.Defs
public import proofs.«01_k».proof.Proof.KernelFrame
public import proofs.«01_k».proof.Proof.IdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Step
public import proofs.«01_k».proof.Proof.Gen.Pre_finite
public import proofs.«01_k».proof.Proof.Final

@[expose] public section

noncomputable section

namespace Cert.Proof

open Idealize.ShloMosaic Idealize.SL.Sem Cert.Kernel

/-- The reference's arguments end as they were, and every counter at zero. -/
theorem reference_frame : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- All the claims. -/
theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    reference_frame,
    fun m ρ _ => reference_frame m ρ trivial,
    IdealRules.named_const.statement Cert.KernelIdeal.κ "mask" .f32 0xCE6E6B28#32 ⊥ rfl,
    Cert.Agree.algebraic⟩

end Cert.Proof

end
